-- ==== Defs.lean ====
def Pre_Kernel [hPre_spans_in_range : Cert.Pre_spans_in_range.Facts] (m : (ℓ : Loc Cert.Kernel.nD Cert.Kernel.τ Cert.Kernel.sig) → Buf (Elt Bits) ℓ) : Prop :=
  ∀ c : Dev Cert.Kernel.nD,
    (Cert.Pre_spans_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_spans_in_range : Cert.Pre_spans_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_spans_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spans_in_range [hPre_spans_in_range : Cert.Pre_spans_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spans_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_spans_in_range : Cert.Pre_spans_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_spans_in_range : Cert.Pre_spans_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_spans_in_range [hReferenceIdeal : Cert.ReferenceIdeal.Facts] [hPre_spans_in_range : Cert.Pre_spans_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spans_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_spans_in_range : Cert.Pre_spans_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_spans_in_range : Cert.Pre_spans_in_range.Facts),
    quiescent_Kernel (hKernel := hKernel) (hPre_spans_in_range := hPre_spans_in_range)
    ∧ quiescent_KernelIdeal (hKernelIdeal := hKernelIdeal) (hPre_spans_in_range := hPre_spans_in_range)
    ∧ quiescent_ReferenceIdeal (hReferenceIdeal := hReferenceIdeal)
    ∧ quiescent_ReferenceIdeal_pre_spans_in_range (hReferenceIdeal := hReferenceIdeal) (hPre_spans_in_range := hPre_spans_in_range)
    ∧ preserves_Kernel_KernelIdeal
    ∧ algebraic_KernelIdeal_ReferenceIdeal (hKernelIdeal := hKernelIdeal) (hReferenceIdeal := hReferenceIdeal) (hPre_spans_in_range := hPre_spans_in_range)
-- ==== Pre_spans_in_range.lean ====
abbrev S8x4096x2 : Shape := ⟨3, ![8, 4096, 2]⟩
abbrev S8x4096x64 : Shape := ⟨3, ![8, 4096, 64]⟩
abbrev S15 : Shape := ⟨1, ![15]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel

variable [Facts]

def fn {F : FTy → Type} [FloatOps F] (main_arg0 : IVec S8x4096x2 32) (main_arg1 : IVec S8x4096x64 32) (main_arg2 : IVec S8x4096x64 32) (main_arg3 : FVec F S15 .f32) : IVec S_ 1 :=
  let main_c : IVec S_ 32 := constantI S_ 32 0#32
  let main_v0 : IVec S8x4096x2 32 := broadcastInDim S8x4096x2 ![] bcast_S_S8x4096x2 main_c
  let main_v1 : IVec S8x4096x2 1 := cmpi .sge main_arg0 main_v0
  let main_c_0 : IVec S_ 32 := constantI S_ 32 4096#32
  let main_v2 : IVec S8x4096x2 32 := broadcastInDim S8x4096x2 ![] bcast_S_S8x4096x2 main_c_0
  let main_v3 : IVec S8x4096x2 1 := cmpi .slt main_arg0 main_v2
  let main_v4 : IVec S8x4096x2 1 := andi main_v1 main_v3
  let main_c_1 : IVec S_ 1 := constantI S_ 1 1#1
  let main_v5 : IVec S_ 1 := (fun x v => Host.reduce IntOp.andi x v reducesTo_S8x4096x2_S_d0_1_2 h_S_) main_v4 main_c_1
  main_v5
-- ==== Kernel.lean ====
abbrev S8x4096x2 : Shape := ⟨3, ![8, 4096, 2]⟩
abbrev S8x4096x64 : Shape := ⟨3, ![8, 4096, 64]⟩
abbrev S15 : Shape := ⟨1, ![15]⟩
abbrev S8x2x4096 : Shape := ⟨3, ![8, 2, 4096]⟩
abbrev S8x2x32x128 : Shape := ⟨4, ![8, 2, 32, 128]⟩
abbrev S8x32x2x128 : Shape := ⟨4, ![8, 32, 2, 128]⟩
abbrev S8x64x4096 : Shape := ⟨3, ![8, 64, 4096]⟩
abbrev S8x8x8x32x128 : Shape := ⟨5, ![8, 8, 8, 32, 128]⟩
abbrev S8x8x32x8x128 : Shape := ⟨5, ![8, 8, 32, 8, 128]⟩
abbrev S8x128x32x1024 : Shape := ⟨4, ![8, 128, 32, 1024]⟩
abbrev S32x2x128 : Shape := ⟨3, ![32, 2, 128]⟩
abbrev S256 : Shape := ⟨1, ![256]⟩
abbrev S2x8x8x128 : Shape := ⟨4, ![2, 8, 8, 128]⟩
abbrev S2x8x1024 : Shape := ⟨3, ![2, 8, 1024]⟩
abbrev S8x1024 : Shape := ⟨2, ![8, 1024]⟩
abbrev S_ : Shape := ⟨0, ![]⟩
abbrev S1x32x2x128 : Shape := ⟨4, ![1, 32, 2, 128]⟩
abbrev S16 : Shape := ⟨1, ![16]⟩
abbrev S1x16 : Shape := ⟨2, ![1, 16]⟩
abbrev S1x8x8x128 : Shape := ⟨4, ![1, 8, 8, 128]⟩
abbrev S8x8x128 : Shape := ⟨3, ![8, 8, 128]⟩
abbrev S1x8x1x8x128 : Shape := ⟨5, ![1, 8, 1, 8, 128]⟩
abbrev S1x8x1x1024 : Shape := ⟨4, ![1, 8, 1, 1024]⟩
abbrev S1x1x16 : Shape := ⟨3, ![1, 1, 16]⟩
abbrev S1x1x1x16 : Shape := ⟨4, ![1, 1, 1, 16]⟩
abbrev S1x8x1024 : Shape := ⟨3, ![1, 8, 1024]⟩
abbrev S8x16x8x32x8x128 : Shape := ⟨6, ![8, 16, 8, 32, 8, 128]⟩
abbrev S8x32x128x16x8x8 : Shape := ⟨6, ![8, 32, 128, 16, 8, 8]⟩
abbrev S8x4096x16x64 : Shape := ⟨4, ![8, 4096, 16, 64]⟩

abbrev nBuf : Table → Nat
  | .hbm => 17
  | .local .scVector .vmem => 7
  | _ => 0

abbrev bufTy : (tb : Table) → Fin (nBuf tb) → BufTy
  | .hbm, ⟨0, _⟩ => ⟨S8x4096x2, .i32⟩
  | .hbm, ⟨1, _⟩ => ⟨S8x4096x64, .i32⟩
  | .hbm, ⟨2, _⟩ => ⟨S8x4096x64, .i32⟩
  | .hbm, ⟨3, _⟩ => ⟨S15, .f32⟩
  | .hbm, ⟨4, _⟩ => ⟨S8x2x4096, .i32⟩
  | .hbm, ⟨5, _⟩ => ⟨S8x2x32x128, .i32⟩
  | .hbm, ⟨6, _⟩ => ⟨S8x32x2x128, .i32⟩
  | .hbm, ⟨7, _⟩ => ⟨S8x64x4096, .i32⟩
  | .hbm, ⟨8, _⟩ => ⟨S8x8x8x32x128, .i32⟩
  | .hbm, ⟨9, _⟩ => ⟨S8x8x32x8x128, .i32⟩
  | .hbm, ⟨10, _⟩ => ⟨S8x64x4096, .i32⟩
  | .hbm, ⟨11, _⟩ => ⟨S8x8x8x32x128, .i32⟩
  | .hbm, ⟨12, _⟩ => ⟨S8x8x32x8x128, .i32⟩
  | .hbm, ⟨13, _⟩ => ⟨S8x128x32x1024, .f32⟩
  | .hbm, ⟨14, _⟩ => ⟨S8x16x8x32x8x128, .f32⟩
  | .hbm, ⟨15, _⟩ => ⟨S8x32x128x16x8x8, .f32⟩
  | .hbm, ⟨16, _⟩ => ⟨S8x4096x16x64, .f32⟩
  | .local .scVector .vmem, ⟨0, _⟩ => ⟨S32x2x128, .i32⟩
  | .local .scVector .vmem, ⟨1, _⟩ => ⟨S15, .f32⟩
  | .local .scVector .vmem, ⟨2, _⟩ => ⟨S256, .f32⟩
  | .local .scVector .vmem, ⟨3, _⟩ => ⟨S2x8x8x128, .i32⟩
  | .local .scVector .vmem, ⟨4, _⟩ => ⟨S2x8x8x128, .i32⟩
  | .local .scVector .vmem, ⟨5, _⟩ => ⟨S2x8x1024, .f32⟩
  | .local .scVector .vmem, ⟨6, _⟩ => ⟨S8x1024, .f32⟩
  | _, _ => ⟨S8x4096x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v2_scv : Ref sig .scVector := ⟨.hbm, 6, rfl⟩
abbrev main_v5_scv : Ref sig .scVector := ⟨.hbm, 9, rfl⟩
abbrev main_v8_scv : Ref sig .scVector := ⟨.hbm, 12, rfl⟩
abbrev main_arg3_scv : Ref sig .scVector := ⟨.hbm, 3, rfl⟩
abbrev main_v9_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1857_r0 : BitVec 32 := 0#32
  let c0_i32_1858_r0 : BitVec 32 := 0#32
  let c0_i32_1859_r0 : BitVec 32 := 0#32
  ![v18.toNat, 0, 0, 0]

def k0_chk1 (v96 : IVec S16 32) : Prop :=
  (∀ a x, ((![v96] : Fin 1 → IVec S16 32) a x).toNat < S15.size a)
theorem k0_idx1_inb : ∀ (v96 : IVec S16 32) (k0_hw1 : k0_chk1 v96), ∀ a x, ((![v96] : Fin 1 → IVec S16 32) a x).toNat < S15.size a := fun v96 k0_hw1 => k0_hw1

def k0_chk2 (v165 : IVec S16 32) : Prop :=
  (∀ a x, ((![v165] : Fin 1 → IVec S16 32) a x).toNat < S15.size a)
theorem k0_idx2_inb : ∀ (v165 : IVec S16 32) (k0_hw2 : k0_chk2 v165), ∀ a x, ((![v165] : Fin 1 → IVec S16 32) a x).toNat < S15.size a := fun v165 k0_hw2 => k0_hw2

def k0_chk3 (v234 : IVec S16 32) : Prop :=
  (∀ a x, ((![v234] : Fin 1 → IVec S16 32) a x).toNat < S15.size a)
theorem k0_idx3_inb : ∀ (v234 : IVec S16 32) (k0_hw3 : k0_chk3 v234), ∀ a x, ((![v234] : Fin 1 → IVec S16 32) a x).toNat < S15.size a := fun v234 k0_hw3 => k0_hw3

def k0_chk4 (v303 : IVec S16 32) : Prop :=
  (∀ a x, ((![v303] : Fin 1 → IVec S16 32) a x).toNat < S15.size a)
theorem k0_idx4_inb : ∀ (v303 : IVec S16 32) (k0_hw4 : k0_chk4 v303), ∀ a x, ((![v303] : Fin 1 → IVec S16 32) a x).toNat < S15.size a := fun v303 k0_hw4 => k0_hw4

def k0_chk5 (v372 : IVec S16 32) : Prop :=
  (∀ a x, ((![v372] : Fin 1 → IVec S16 32) a x).toNat < S15.size a)
theorem k0_idx5_inb : ∀ (v372 : IVec S16 32) (k0_hw5 : k0_chk5 v372), ∀ a x, ((![v372] : Fin 1 → IVec S16 32) a x).toNat < S15.size a := fun v372 k0_hw5 => k0_hw5

def k0_chk6 (v441 : IVec S16 32) : Prop :=
  (∀ a x, ((![v441] : Fin 1 → IVec S16 32) a x).toNat < S15.size a)
theorem k0_idx6_inb : ∀ (v441 : IVec S16 32) (k0_hw6 : k0_chk6 v441), ∀ a x, ((![v441] : Fin 1 → IVec S16 32) a x).toNat < S15.size a := fun v441 k0_hw6 => k0_hw6

def k0_chk7 (v510 : IVec S16 32) : Prop :=
  (∀ a x, ((![v510] : Fin 1 → IVec S16 32) a x).toNat < S15.size a)
theorem k0_idx7_inb : ∀ (v510 : IVec S16 32) (k0_hw7 : k0_chk7 v510), ∀ a x, ((![v510] : Fin 1 → IVec S16 32) a x).toNat < S15.size a := fun v510 k0_hw7 => k0_hw7

def k0_chk8 (v579 : IVec S16 32) : Prop :=
  (∀ a x, ((![v579] : Fin 1 → IVec S16 32) a x).toNat < S15.size a)
theorem k0_idx8_inb : ∀ (v579 : IVec S16 32) (k0_hw8 : k0_chk8 v579), ∀ a x, ((![v579] : Fin 1 → IVec S16 32) a x).toNat < S15.size a := fun v579 k0_hw8 => k0_hw8

def k0_chk9 (v648 : IVec S16 32) : Prop :=
  (∀ a x, ((![v648] : Fin 1 → IVec S16 32) a x).toNat < S15.size a)
theorem k0_idx9_inb : ∀ (v648 : IVec S16 32) (k0_hw9 : k0_chk9 v648), ∀ a x, ((![v648] : Fin 1 → IVec S16 32) a x).toNat < S15.size a := fun v648 k0_hw9 => k0_hw9

def k0_chk10 (v717 : IVec S16 32) : Prop :=
  (∀ a x, ((![v717] : Fin 1 → IVec S16 32) a x).toNat < S15.size a)
theorem k0_idx10_inb : ∀ (v717 : IVec S16 32) (k0_hw10 : k0_chk10 v717), ∀ a x, ((![v717] : Fin 1 → IVec S16 32) a x).toNat < S15.size a := fun v717 k0_hw10 => k0_hw10

def k0_chk11 (v786 : IVec S16 32) : Prop :=
  (∀ a x, ((![v786] : Fin 1 → IVec S16 32) a x).toNat < S15.size a)
theorem k0_idx11_inb : ∀ (v786 : IVec S16 32) (k0_hw11 : k0_chk11 v786), ∀ a x, ((![v786] : Fin 1 → IVec S16 32) a x).toNat < S15.size a := fun v786 k0_hw11 => k0_hw11

def k0_chk12 (v855 : IVec S16 32) : Prop :=
  (∀ a x, ((![v855] : Fin 1 → IVec S16 32) a x).toNat < S15.size a)
theorem k0_idx12_inb : ∀ (v855 : IVec S16 32) (k0_hw12 : k0_chk12 v855), ∀ a x, ((![v855] : Fin 1 → IVec S16 32) a x).toNat < S15.size a := fun v855 k0_hw12 => k0_hw12

def k0_chk13 (v924 : IVec S16 32) : Prop :=
  (∀ a x, ((![v924] : Fin 1 → IVec S16 32) a x).toNat < S15.size a)
theorem k0_idx13_inb : ∀ (v924 : IVec S16 32) (k0_hw13 : k0_chk13 v924), ∀ a x, ((![v924] : Fin 1 → IVec S16 32) a x).toNat < S15.size a := fun v924 k0_hw13 => k0_hw13

def k0_chk14 (v993 : IVec S16 32) : Prop :=
  (∀ a x, ((![v993] : Fin 1 → IVec S16 32) a x).toNat < S15.size a)
theorem k0_idx14_inb : ∀ (v993 : IVec S16 32) (k0_hw14 : k0_chk14 v993), ∀ a x, ((![v993] : Fin 1 → IVec S16 32) a x).toNat < S15.size a := fun v993 k0_hw14 => k0_hw14

def k0_chk15 (v1062 : IVec S16 32) : Prop :=
  (∀ a x, ((![v1062] : Fin 1 → IVec S16 32) a x).toNat < S15.size a)
theorem k0_idx15_inb : ∀ (v1062 : IVec S16 32) (k0_hw15 : k0_chk15 v1062), ∀ a x, ((![v1062] : Fin 1 → IVec S16 32) a x).toNat < S15.size a := fun v1062 k0_hw15 => k0_hw15

def k0_chk16 (v1131 : IVec S16 32) : Prop :=
  (∀ a x, ((![v1131] : Fin 1 → IVec S16 32) a x).toNat < S15.size a)
theorem k0_idx16_inb : ∀ (v1131 : IVec S16 32) (k0_hw16 : k0_chk16 v1131), ∀ a x, ((![v1131] : Fin 1 → IVec S16 32) a x).toNat < S15.size a := fun v1131 k0_hw16 => k0_hw16
@[reducible] def k0_t1_loop : Scf.Loop 32 :=
  let c0_i32_294 : BitVec 32 := 0#32
  let c512_i32 : BitVec 32 := 512#32
  let v1136 : BitVec 32 := Scalar.addi c0_i32_294 c512_i32
  let c1_i32_295 : BitVec 32 := 1#32
  ⟨c0_i32_294, v1136, c1_i32_295⟩
def k0_off2 (k0_t1 : Fin k0_t1_loop.trips) : Fin 2 → Nat :=
  let c0_i32_1858 : BitVec 32 := 0#32
  let c0_i32_294 : BitVec 32 := 0#32
  let c1_i32_295 : BitVec 32 := 1#32
  let arg19 : BitVec 32 := Scf.iv c0_i32_294 c1_i32_295 k0_t1
  let c1_i32_1857 : BitVec 32 := 1#32
  let v2505 : BitVec 32 := Scalar.muli arg19 c1_i32_1857
  let v2506 : BitVec 32 := Scalar.addi c0_i32_1858 v2505
  let c6_i32_1859 : BitVec 32 := 6#32
  let v2507 : BitVec 32 := Scalar.shrsi v2506 c6_i32_1859
  let v2510 : Index := Scalar.indexCast v2507
  let c63_i32 : BitVec 32 := 63#32
  let v2508 : BitVec 32 := Scalar.andi v2506 c63_i32
  let c16_i32_1860 : BitVec 32 := 16#32
  let v2509 : BitVec 32 := Scalar.muli v2508 c16_i32_1860
  let v2511 : Index := Scalar.indexCast v2509
  ![v2510.toNat, v2511.toNat]
def k0_off3 (i : grid0.Coords) (c0_i32_297 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_302 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1137 : BitVec 32 := Scalar.addi v29 c0_i32_297
  let c0_i32_303 : BitVec 32 := 0#32
  let c0_i32_304 : BitVec 32 := 0#32
  ![v18.toNat, 0, v1137.toNat, 0, 0]
def k0_off4 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_325 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_326 : BitVec 32 := 0#32
  ![v18.toNat, 0, v1154.toNat, 0]
def k0_off5 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32_329 : BitVec 32 := 16#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_330 : BitVec 32 := 0#32
  ![v18.toNat, 16, v1154.toNat, 0]
def k0_off6 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c24_i32_333 : BitVec 32 := 24#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_334 : BitVec 32 := 0#32
  ![v18.toNat, 24, v1154.toNat, 0]
def k0_off7 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c32_i32_337 : BitVec 32 := 32#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_338 : BitVec 32 := 0#32
  ![v18.toNat, 32, v1154.toNat, 0]
def k0_off8 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c40_i32 : BitVec 32 := 40#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_341 : BitVec 32 := 0#32
  ![v18.toNat, 40, v1154.toNat, 0]
def k0_off9 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c48_i32_344 : BitVec 32 := 48#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_345 : BitVec 32 := 0#32
  ![v18.toNat, 48, v1154.toNat, 0]
def k0_off10 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c56_i32 : BitVec 32 := 56#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_348 : BitVec 32 := 0#32
  ![v18.toNat, 56, v1154.toNat, 0]
def k0_off11 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32_351 : BitVec 32 := 64#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_352 : BitVec 32 := 0#32
  ![v18.toNat, 64, v1154.toNat, 0]
def k0_off12 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c72_i32 : BitVec 32 := 72#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_355 : BitVec 32 := 0#32
  ![v18.toNat, 72, v1154.toNat, 0]
def k0_off13 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c80_i32_358 : BitVec 32 := 80#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_359 : BitVec 32 := 0#32
  ![v18.toNat, 80, v1154.toNat, 0]
def k0_off14 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c88_i32 : BitVec 32 := 88#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_362 : BitVec 32 := 0#32
  ![v18.toNat, 88, v1154.toNat, 0]
def k0_off15 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c96_i32_365 : BitVec 32 := 96#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_366 : BitVec 32 := 0#32
  ![v18.toNat, 96, v1154.toNat, 0]
def k0_off16 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c104_i32 : BitVec 32 := 104#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_369 : BitVec 32 := 0#32
  ![v18.toNat, 104, v1154.toNat, 0]
def k0_off17 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_372 : BitVec 32 := 112#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_373 : BitVec 32 := 0#32
  ![v18.toNat, 112, v1154.toNat, 0]
def k0_off18 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c120_i32 : BitVec 32 := 120#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_376 : BitVec 32 := 0#32
  ![v18.toNat, 120, v1154.toNat, 0]
@[reducible] def k0_t2_loop : Scf.Loop 32 :=
  let c0_i32_432 : BitVec 32 := 0#32
  let c8_i32_433 : BitVec 32 := 8#32
  let v1248 : BitVec 32 := Scalar.addi c0_i32_432 c8_i32_433
  let c1_i32_434 : BitVec 32 := 1#32
  ⟨c0_i32_432, v1248, c1_i32_434⟩
def k0_off19 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c0_i32_324 : BitVec 32 := 0#32
  let v1154 : BitVec 32 := Scalar.addi v29 c0_i32_324
  let v2508 : Index := Scalar.indexCast v1154
  let c0_i32_1860 : BitVec 32 := 0#32
  let v2509 : Index := Scalar.indexCast c0_i32_1860
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1859 : BitVec 32 := 16#32
  let v2507 : BitVec 32 := Scalar.muli v2506 c16_i32_1859
  let v2510 : Index := Scalar.indexCast v2507
  ![v2508.toNat, 0, v2510.toNat]
def k0_off20 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c0_i32_324 : BitVec 32 := 0#32
  let v1154 : BitVec 32 := Scalar.addi v29 c0_i32_324
  let v2513 : Index := Scalar.indexCast v1154
  let c1_i32_1862 : BitVec 32 := 1#32
  let v2514 : Index := Scalar.indexCast c1_i32_1862
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1861 : BitVec 32 := 16#32
  let v2512 : BitVec 32 := Scalar.muli v2506 c16_i32_1861
  let v2515 : Index := Scalar.indexCast v2512
  ![v2513.toNat, 1, v2515.toNat]
@[reducible] def k0_t3_loop : Scf.Loop 32 :=
  let c0_i32_1863 : BitVec 32 := 0#32
  let c8_i32_1864 : BitVec 32 := 8#32
  let v2517 : BitVec 32 := Scalar.addi c0_i32_1863 c8_i32_1864
  let c1_i32_1865 : BitVec 32 := 1#32
  ⟨c0_i32_1863, v2517, c1_i32_1865⟩
def k0_off21 (k0_t2 : Fin k0_t2_loop.trips) (k0_t3 : Fin k0_t3_loop.trips) : Fin 4 → Nat :=
  let c0_i32_1870 : BitVec 32 := 0#32
  let v2521 : Index := Scalar.indexCast c0_i32_1870
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2522 : Index := Scalar.indexCast v2519
  let c0_i32_1871 : BitVec 32 := 0#32
  let v2523 : Index := Scalar.indexCast c0_i32_1871
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1869 : BitVec 32 := 16#32
  let v2520 : BitVec 32 := Scalar.muli v2506 c16_i32_1869
  let v2524 : Index := Scalar.indexCast v2520
  ![0, v2522.toNat, 0, v2524.toNat]

def k0_chk17 (v2531 : IVec S16 32) (v2533 : IVec S16 32) (v2534 : IVec S16 32) : Prop :=
  (∀ a x, ((![v2531, v2534, v2533] : Fin 3 → IVec S16 32) a x).toNat < S32x2x128.size a)
theorem k0_idx17_inb : ∀ (v2531 : IVec S16 32) (v2533 : IVec S16 32) (v2534 : IVec S16 32) (k0_hw17 : k0_chk17 v2531 v2533 v2534), ∀ a x, ((![v2531, v2534, v2533] : Fin 3 → IVec S16 32) a x).toNat < S32x2x128.size a := fun v2531 v2533 v2534 k0_hw17 => k0_hw17

def k0_chk18 (v2531 : IVec S16 32) (v2533 : IVec S16 32) (v2536 : IVec S16 32) : Prop :=
  (∀ a x, ((![v2531, v2536, v2533] : Fin 3 → IVec S16 32) a x).toNat < S32x2x128.size a)
theorem k0_idx18_inb : ∀ (v2531 : IVec S16 32) (v2533 : IVec S16 32) (v2536 : IVec S16 32) (k0_hw18 : k0_chk18 v2531 v2533 v2536), ∀ a x, ((![v2531, v2536, v2533] : Fin 3 → IVec S16 32) a x).toNat < S32x2x128.size a := fun v2531 v2533 v2536 k0_hw18 => k0_hw18

def k0_chk19 (v2544 : IVec S16 32) : Prop :=
  (∀ a x, ((![v2544] : Fin 1 → IVec S16 32) a x).toNat < S256.size a)
theorem k0_idx19_inb : ∀ (v2544 : IVec S16 32) (k0_hw19 : k0_chk19 v2544), ∀ a x, ((![v2544] : Fin 1 → IVec S16 32) a x).toNat < S256.size a := fun v2544 k0_hw19 => k0_hw19
def k0_off22 (k0_t2 : Fin k0_t2_loop.trips) (k0_t3 : Fin k0_t3_loop.trips) : Fin 4 → Nat :=
  let c0_i32_1877 : BitVec 32 := 0#32
  let v2547 : Index := Scalar.indexCast c0_i32_1877
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2548 : Index := Scalar.indexCast v2519
  let c0_i32_1878 : BitVec 32 := 0#32
  let v2549 : Index := Scalar.indexCast c0_i32_1878
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1876 : BitVec 32 := 16#32
  let v2546 : BitVec 32 := Scalar.muli v2506 c16_i32_1876
  let v2550 : Index := Scalar.indexCast v2546
  ![0, v2548.toNat, 0, v2550.toNat]
def k0_off23 (k0_t2 : Fin k0_t2_loop.trips) (k0_t3 : Fin k0_t3_loop.trips) : Fin 3 → Nat :=
  let c0_i32_1881 : BitVec 32 := 0#32
  let v2556 : Index := Scalar.indexCast c0_i32_1881
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2557 : Index := Scalar.indexCast v2519
  let c0_i32_1880 : BitVec 32 := 0#32
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1879 : BitVec 32 := 16#32
  let v2554 : BitVec 32 := Scalar.muli v2506 c16_i32_1879
  let v2555 : BitVec 32 := Scalar.addi c0_i32_1880 v2554
  let v2558 : Index := Scalar.indexCast v2555
  ![0, v2557.toNat, v2558.toNat]
def k0_off24 (k0_t2 : Fin k0_t2_loop.trips) (k0_t3 : Fin k0_t3_loop.trips) : Fin 4 → Nat :=
  let c0_i32_1883 : BitVec 32 := 0#32
  let v2561 : Index := Scalar.indexCast c0_i32_1883
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2562 : Index := Scalar.indexCast v2519
  let c1_i32_1884 : BitVec 32 := 1#32
  let v2563 : Index := Scalar.indexCast c1_i32_1884
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1882 : BitVec 32 := 16#32
  let v2560 : BitVec 32 := Scalar.muli v2506 c16_i32_1882
  let v2564 : Index := Scalar.indexCast v2560
  ![0, v2562.toNat, 1, v2564.toNat]

def k0_chk20 (v2571 : IVec S16 32) (v2573 : IVec S16 32) (v2574 : IVec S16 32) : Prop :=
  (∀ a x, ((![v2571, v2574, v2573] : Fin 3 → IVec S16 32) a x).toNat < S32x2x128.size a)
theorem k0_idx20_inb : ∀ (v2571 : IVec S16 32) (v2573 : IVec S16 32) (v2574 : IVec S16 32) (k0_hw20 : k0_chk20 v2571 v2573 v2574), ∀ a x, ((![v2571, v2574, v2573] : Fin 3 → IVec S16 32) a x).toNat < S32x2x128.size a := fun v2571 v2573 v2574 k0_hw20 => k0_hw20

def k0_chk21 (v2571 : IVec S16 32) (v2573 : IVec S16 32) (v2576 : IVec S16 32) : Prop :=
  (∀ a x, ((![v2571, v2576, v2573] : Fin 3 → IVec S16 32) a x).toNat < S32x2x128.size a)
theorem k0_idx21_inb : ∀ (v2571 : IVec S16 32) (v2573 : IVec S16 32) (v2576 : IVec S16 32) (k0_hw21 : k0_chk21 v2571 v2573 v2576), ∀ a x, ((![v2571, v2576, v2573] : Fin 3 → IVec S16 32) a x).toNat < S32x2x128.size a := fun v2571 v2573 v2576 k0_hw21 => k0_hw21

def k0_chk22 (v2584 : IVec S16 32) : Prop :=
  (∀ a x, ((![v2584] : Fin 1 → IVec S16 32) a x).toNat < S256.size a)
theorem k0_idx22_inb : ∀ (v2584 : IVec S16 32) (k0_hw22 : k0_chk22 v2584), ∀ a x, ((![v2584] : Fin 1 → IVec S16 32) a x).toNat < S256.size a := fun v2584 k0_hw22 => k0_hw22
def k0_off25 (k0_t2 : Fin k0_t2_loop.trips) (k0_t3 : Fin k0_t3_loop.trips) : Fin 4 → Nat :=
  let c0_i32_1893 : BitVec 32 := 0#32
  let v2587 : Index := Scalar.indexCast c0_i32_1893
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2588 : Index := Scalar.indexCast v2519
  let c1_i32_1894 : BitVec 32 := 1#32
  let v2589 : Index := Scalar.indexCast c1_i32_1894
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1892 : BitVec 32 := 16#32
  let v2586 : BitVec 32 := Scalar.muli v2506 c16_i32_1892
  let v2590 : Index := Scalar.indexCast v2586
  ![0, v2588.toNat, 1, v2590.toNat]
def k0_off26 (k0_t2 : Fin k0_t2_loop.trips) (k0_t3 : Fin k0_t3_loop.trips) : Fin 3 → Nat :=
  let c0_i32_1897 : BitVec 32 := 0#32
  let v2596 : Index := Scalar.indexCast c0_i32_1897
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2597 : Index := Scalar.indexCast v2519
  let c128_i32_1896 : BitVec 32 := 128#32
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1895 : BitVec 32 := 16#32
  let v2594 : BitVec 32 := Scalar.muli v2506 c16_i32_1895
  let v2595 : BitVec 32 := Scalar.addi c128_i32_1896 v2594
  let v2598 : Index := Scalar.indexCast v2595
  ![0, v2597.toNat, v2598.toNat]
def k0_off27 (k0_t2 : Fin k0_t2_loop.trips) (k0_t3 : Fin k0_t3_loop.trips) : Fin 4 → Nat :=
  let c0_i32_1899 : BitVec 32 := 0#32
  let v2601 : Index := Scalar.indexCast c0_i32_1899
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2602 : Index := Scalar.indexCast v2519
  let c2_i32_1900 : BitVec 32 := 2#32
  let v2603 : Index := Scalar.indexCast c2_i32_1900
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1898 : BitVec 32 := 16#32
  let v2600 : BitVec 32 := Scalar.muli v2506 c16_i32_1898
  let v2604 : Index := Scalar.indexCast v2600
  ![0, v2602.toNat, 2, v2604.toNat]

def k0_chk23 (v2611 : IVec S16 32) (v2613 : IVec S16 32) (v2614 : IVec S16 32) : Prop :=
  (∀ a x, ((![v2611, v2614, v2613] : Fin 3 → IVec S16 32) a x).toNat < S32x2x128.size a)
theorem k0_idx23_inb : ∀ (v2611 : IVec S16 32) (v2613 : IVec S16 32) (v2614 : IVec S16 32) (k0_hw23 : k0_chk23 v2611 v2613 v2614), ∀ a x, ((![v2611, v2614, v2613] : Fin 3 → IVec S16 32) a x).toNat < S32x2x128.size a := fun v2611 v2613 v2614 k0_hw23 => k0_hw23

def k0_chk24 (v2611 : IVec S16 32) (v2613 : IVec S16 32) (v2616 : IVec S16 32) : Prop :=
  (∀ a x, ((![v2611, v2616, v2613] : Fin 3 → IVec S16 32) a x).toNat < S32x2x128.size a)
theorem k0_idx24_inb : ∀ (v2611 : IVec S16 32) (v2613 : IVec S16 32) (v2616 : IVec S16 32) (k0_hw24 : k0_chk24 v2611 v2613 v2616), ∀ a x, ((![v2611, v2616, v2613] : Fin 3 → IVec S16 32) a x).toNat < S32x2x128.size a := fun v2611 v2613 v2616 k0_hw24 => k0_hw24

def k0_chk25 (v2624 : IVec S16 32) : Prop :=
  (∀ a x, ((![v2624] : Fin 1 → IVec S16 32) a x).toNat < S256.size a)
theorem k0_idx25_inb : ∀ (v2624 : IVec S16 32) (k0_hw25 : k0_chk25 v2624), ∀ a x, ((![v2624] : Fin 1 → IVec S16 32) a x).toNat < S256.size a := fun v2624 k0_hw25 => k0_hw25
def k0_off28 (k0_t2 : Fin k0_t2_loop.trips) (k0_t3 : Fin k0_t3_loop.trips) : Fin 4 → Nat :=
  let c0_i32_1909 : BitVec 32 := 0#32
  let v2627 : Index := Scalar.indexCast c0_i32_1909
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2628 : Index := Scalar.indexCast v2519
  let c2_i32_1910 : BitVec 32 := 2#32
  let v2629 : Index := Scalar.indexCast c2_i32_1910
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1908 : BitVec 32 := 16#32
  let v2626 : BitVec 32 := Scalar.muli v2506 c16_i32_1908
  let v2630 : Index := Scalar.indexCast v2626
  ![0, v2628.toNat, 2, v2630.toNat]
def k0_off29 (k0_t2 : Fin k0_t2_loop.trips) (k0_t3 : Fin k0_t3_loop.trips) : Fin 3 → Nat :=
  let c0_i32_1912 : BitVec 32 := 0#32
  let v2636 : Index := Scalar.indexCast c0_i32_1912
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2637 : Index := Scalar.indexCast v2519
  let c256_i32 : BitVec 32 := 256#32
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1911 : BitVec 32 := 16#32
  let v2634 : BitVec 32 := Scalar.muli v2506 c16_i32_1911
  let v2635 : BitVec 32 := Scalar.addi c256_i32 v2634
  let v2638 : Index := Scalar.indexCast v2635
  ![0, v2637.toNat, v2638.toNat]
def k0_off30 (k0_t2 : Fin k0_t2_loop.trips) (k0_t3 : Fin k0_t3_loop.trips) : Fin 4 → Nat :=
  let c0_i32_1914 : BitVec 32 := 0#32
  let v2641 : Index := Scalar.indexCast c0_i32_1914
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2642 : Index := Scalar.indexCast v2519
  let c3_i32_1915 : BitVec 32 := 3#32
  let v2643 : Index := Scalar.indexCast c3_i32_1915
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1913 : BitVec 32 := 16#32
  let v2640 : BitVec 32 := Scalar.muli v2506 c16_i32_1913
  let v2644 : Index := Scalar.indexCast v2640
  ![0, v2642.toNat, 3, v2644.toNat]

def k0_chk26 (v2651 : IVec S16 32) (v2653 : IVec S16 32) (v2654 : IVec S16 32) : Prop :=
  (∀ a x, ((![v2651, v2654, v2653] : Fin 3 → IVec S16 32) a x).toNat < S32x2x128.size a)
theorem k0_idx26_inb : ∀ (v2651 : IVec S16 32) (v2653 : IVec S16 32) (v2654 : IVec S16 32) (k0_hw26 : k0_chk26 v2651 v2653 v2654), ∀ a x, ((![v2651, v2654, v2653] : Fin 3 → IVec S16 32) a x).toNat < S32x2x128.size a := fun v2651 v2653 v2654 k0_hw26 => k0_hw26

def k0_chk27 (v2651 : IVec S16 32) (v2653 : IVec S16 32) (v2656 : IVec S16 32) : Prop :=
  (∀ a x, ((![v2651, v2656, v2653] : Fin 3 → IVec S16 32) a x).toNat < S32x2x128.size a)
theorem k0_idx27_inb : ∀ (v2651 : IVec S16 32) (v2653 : IVec S16 32) (v2656 : IVec S16 32) (k0_hw27 : k0_chk27 v2651 v2653 v2656), ∀ a x, ((![v2651, v2656, v2653] : Fin 3 → IVec S16 32) a x).toNat < S32x2x128.size a := fun v2651 v2653 v2656 k0_hw27 => k0_hw27

def k0_chk28 (v2664 : IVec S16 32) : Prop :=
  (∀ a x, ((![v2664] : Fin 1 → IVec S16 32) a x).toNat < S256.size a)
theorem k0_idx28_inb : ∀ (v2664 : IVec S16 32) (k0_hw28 : k0_chk28 v2664), ∀ a x, ((![v2664] : Fin 1 → IVec S16 32) a x).toNat < S256.size a := fun v2664 k0_hw28 => k0_hw28
def k0_off31 (k0_t2 : Fin k0_t2_loop.trips) (k0_t3 : Fin k0_t3_loop.trips) : Fin 4 → Nat :=
  let c0_i32_1924 : BitVec 32 := 0#32
  let v2667 : Index := Scalar.indexCast c0_i32_1924
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2668 : Index := Scalar.indexCast v2519
  let c3_i32_1925 : BitVec 32 := 3#32
  let v2669 : Index := Scalar.indexCast c3_i32_1925
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1923 : BitVec 32 := 16#32
  let v2666 : BitVec 32 := Scalar.muli v2506 c16_i32_1923
  let v2670 : Index := Scalar.indexCast v2666
  ![0, v2668.toNat, 3, v2670.toNat]
def k0_off32 (k0_t2 : Fin k0_t2_loop.trips) (k0_t3 : Fin k0_t3_loop.trips) : Fin 3 → Nat :=
  let c0_i32_1927 : BitVec 32 := 0#32
  let v2676 : Index := Scalar.indexCast c0_i32_1927
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2677 : Index := Scalar.indexCast v2519
  let c384_i32 : BitVec 32 := 384#32
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1926 : BitVec 32 := 16#32
  let v2674 : BitVec 32 := Scalar.muli v2506 c16_i32_1926
  let v2675 : BitVec 32 := Scalar.addi c384_i32 v2674
  let v2678 : Index := Scalar.indexCast v2675
  ![0, v2677.toNat, v2678.toNat]
def k0_off33 (k0_t2 : Fin k0_t2_loop.trips) (k0_t3 : Fin k0_t3_loop.trips) : Fin 4 → Nat :=
  let c0_i32_1929 : BitVec 32 := 0#32
  let v2681 : Index := Scalar.indexCast c0_i32_1929
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2682 : Index := Scalar.indexCast v2519
  let c4_i32_1930 : BitVec 32 := 4#32
  let v2683 : Index := Scalar.indexCast c4_i32_1930
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1928 : BitVec 32 := 16#32
  let v2680 : BitVec 32 := Scalar.muli v2506 c16_i32_1928
  let v2684 : Index := Scalar.indexCast v2680
  ![0, v2682.toNat, 4, v2684.toNat]

def k0_chk29 (v2691 : IVec S16 32) (v2693 : IVec S16 32) (v2694 : IVec S16 32) : Prop :=
  (∀ a x, ((![v2691, v2694, v2693] : Fin 3 → IVec S16 32) a x).toNat < S32x2x128.size a)
theorem k0_idx29_inb : ∀ (v2691 : IVec S16 32) (v2693 : IVec S16 32) (v2694 : IVec S16 32) (k0_hw29 : k0_chk29 v2691 v2693 v2694), ∀ a x, ((![v2691, v2694, v2693] : Fin 3 → IVec S16 32) a x).toNat < S32x2x128.size a := fun v2691 v2693 v2694 k0_hw29 => k0_hw29

def k0_chk30 (v2691 : IVec S16 32) (v2693 : IVec S16 32) (v2696 : IVec S16 32) : Prop :=
  (∀ a x, ((![v2691, v2696, v2693] : Fin 3 → IVec S16 32) a x).toNat < S32x2x128.size a)
theorem k0_idx30_inb : ∀ (v2691 : IVec S16 32) (v2693 : IVec S16 32) (v2696 : IVec S16 32) (k0_hw30 : k0_chk30 v2691 v2693 v2696), ∀ a x, ((![v2691, v2696, v2693] : Fin 3 → IVec S16 32) a x).toNat < S32x2x128.size a := fun v2691 v2693 v2696 k0_hw30 => k0_hw30

def k0_chk31 (v2704 : IVec S16 32) : Prop :=
  (∀ a x, ((![v2704] : Fin 1 → IVec S16 32) a x).toNat < S256.size a)
theorem k0_idx31_inb : ∀ (v2704 : IVec S16 32) (k0_hw31 : k0_chk31 v2704), ∀ a x, ((![v2704] : Fin 1 → IVec S16 32) a x).toNat < S256.size a := fun v2704 k0_hw31 => k0_hw31
def k0_off34 (k0_t2 : Fin k0_t2_loop.trips) (k0_t3 : Fin k0_t3_loop.trips) : Fin 4 → Nat :=
  let c0_i32_1939 : BitVec 32 := 0#32
  let v2707 : Index := Scalar.indexCast c0_i32_1939
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2708 : Index := Scalar.indexCast v2519
  let c4_i32_1940 : BitVec 32 := 4#32
  let v2709 : Index := Scalar.indexCast c4_i32_1940
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1938 : BitVec 32 := 16#32
  let v2706 : BitVec 32 := Scalar.muli v2506 c16_i32_1938
  let v2710 : Index := Scalar.indexCast v2706
  ![0, v2708.toNat, 4, v2710.toNat]
def k0_off35 (k0_t2 : Fin k0_t2_loop.trips) (k0_t3 : Fin k0_t3_loop.trips) : Fin 3 → Nat :=
  let c0_i32_1943 : BitVec 32 := 0#32
  let v2716 : Index := Scalar.indexCast c0_i32_1943
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2717 : Index := Scalar.indexCast v2519
  let c512_i32_1942 : BitVec 32 := 512#32
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1941 : BitVec 32 := 16#32
  let v2714 : BitVec 32 := Scalar.muli v2506 c16_i32_1941
  let v2715 : BitVec 32 := Scalar.addi c512_i32_1942 v2714
  let v2718 : Index := Scalar.indexCast v2715
  ![0, v2717.toNat, v2718.toNat]
def k0_off36 (k0_t2 : Fin k0_t2_loop.trips) (k0_t3 : Fin k0_t3_loop.trips) : Fin 4 → Nat :=
  let c0_i32_1945 : BitVec 32 := 0#32
  let v2721 : Index := Scalar.indexCast c0_i32_1945
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2722 : Index := Scalar.indexCast v2519
  let c5_i32_1946 : BitVec 32 := 5#32
  let v2723 : Index := Scalar.indexCast c5_i32_1946
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1944 : BitVec 32 := 16#32
  let v2720 : BitVec 32 := Scalar.muli v2506 c16_i32_1944
  let v2724 : Index := Scalar.indexCast v2720
  ![0, v2722.toNat, 5, v2724.toNat]

def k0_chk32 (v2731 : IVec S16 32) (v2733 : IVec S16 32) (v2734 : IVec S16 32) : Prop :=
  (∀ a x, ((![v2731, v2734, v2733] : Fin 3 → IVec S16 32) a x).toNat < S32x2x128.size a)
theorem k0_idx32_inb : ∀ (v2731 : IVec S16 32) (v2733 : IVec S16 32) (v2734 : IVec S16 32) (k0_hw32 : k0_chk32 v2731 v2733 v2734), ∀ a x, ((![v2731, v2734, v2733] : Fin 3 → IVec S16 32) a x).toNat < S32x2x128.size a := fun v2731 v2733 v2734 k0_hw32 => k0_hw32

def k0_chk33 (v2731 : IVec S16 32) (v2733 : IVec S16 32) (v2736 : IVec S16 32) : Prop :=
  (∀ a x, ((![v2731, v2736, v2733] : Fin 3 → IVec S16 32) a x).toNat < S32x2x128.size a)
theorem k0_idx33_inb : ∀ (v2731 : IVec S16 32) (v2733 : IVec S16 32) (v2736 : IVec S16 32) (k0_hw33 : k0_chk33 v2731 v2733 v2736), ∀ a x, ((![v2731, v2736, v2733] : Fin 3 → IVec S16 32) a x).toNat < S32x2x128.size a := fun v2731 v2733 v2736 k0_hw33 => k0_hw33

def k0_chk34 (v2744 : IVec S16 32) : Prop :=
  (∀ a x, ((![v2744] : Fin 1 → IVec S16 32) a x).toNat < S256.size a)
theorem k0_idx34_inb : ∀ (v2744 : IVec S16 32) (k0_hw34 : k0_chk34 v2744), ∀ a x, ((![v2744] : Fin 1 → IVec S16 32) a x).toNat < S256.size a := fun v2744 k0_hw34 => k0_hw34
def k0_off37 (k0_t2 : Fin k0_t2_loop.trips) (k0_t3 : Fin k0_t3_loop.trips) : Fin 4 → Nat :=
  let c0_i32_1955 : BitVec 32 := 0#32
  let v2747 : Index := Scalar.indexCast c0_i32_1955
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2748 : Index := Scalar.indexCast v2519
  let c5_i32_1956 : BitVec 32 := 5#32
  let v2749 : Index := Scalar.indexCast c5_i32_1956
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1954 : BitVec 32 := 16#32
  let v2746 : BitVec 32 := Scalar.muli v2506 c16_i32_1954
  let v2750 : Index := Scalar.indexCast v2746
  ![0, v2748.toNat, 5, v2750.toNat]
def k0_off38 (k0_t2 : Fin k0_t2_loop.trips) (k0_t3 : Fin k0_t3_loop.trips) : Fin 3 → Nat :=
  let c0_i32_1958 : BitVec 32 := 0#32
  let v2756 : Index := Scalar.indexCast c0_i32_1958
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2757 : Index := Scalar.indexCast v2519
  let c640_i32 : BitVec 32 := 640#32
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1957 : BitVec 32 := 16#32
  let v2754 : BitVec 32 := Scalar.muli v2506 c16_i32_1957
  let v2755 : BitVec 32 := Scalar.addi c640_i32 v2754
  let v2758 : Index := Scalar.indexCast v2755
  ![0, v2757.toNat, v2758.toNat]
def k0_off39 (k0_t2 : Fin k0_t2_loop.trips) (k0_t3 : Fin k0_t3_loop.trips) : Fin 4 → Nat :=
  let c0_i32_1960 : BitVec 32 := 0#32
  let v2761 : Index := Scalar.indexCast c0_i32_1960
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2762 : Index := Scalar.indexCast v2519
  let c6_i32_1961 : BitVec 32 := 6#32
  let v2763 : Index := Scalar.indexCast c6_i32_1961
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1959 : BitVec 32 := 16#32
  let v2760 : BitVec 32 := Scalar.muli v2506 c16_i32_1959
  let v2764 : Index := Scalar.indexCast v2760
  ![0, v2762.toNat, 6, v2764.toNat]

def k0_chk35 (v2771 : IVec S16 32) (v2773 : IVec S16 32) (v2774 : IVec S16 32) : Prop :=
  (∀ a x, ((![v2771, v2774, v2773] : Fin 3 → IVec S16 32) a x).toNat < S32x2x128.size a)
theorem k0_idx35_inb : ∀ (v2771 : IVec S16 32) (v2773 : IVec S16 32) (v2774 : IVec S16 32) (k0_hw35 : k0_chk35 v2771 v2773 v2774), ∀ a x, ((![v2771, v2774, v2773] : Fin 3 → IVec S16 32) a x).toNat < S32x2x128.size a := fun v2771 v2773 v2774 k0_hw35 => k0_hw35

def k0_chk36 (v2771 : IVec S16 32) (v2773 : IVec S16 32) (v2776 : IVec S16 32) : Prop :=
  (∀ a x, ((![v2771, v2776, v2773] : Fin 3 → IVec S16 32) a x).toNat < S32x2x128.size a)
theorem k0_idx36_inb : ∀ (v2771 : IVec S16 32) (v2773 : IVec S16 32) (v2776 : IVec S16 32) (k0_hw36 : k0_chk36 v2771 v2773 v2776), ∀ a x, ((![v2771, v2776, v2773] : Fin 3 → IVec S16 32) a x).toNat < S32x2x128.size a := fun v2771 v2773 v2776 k0_hw36 => k0_hw36

def k0_chk37 (v2784 : IVec S16 32) : Prop :=
  (∀ a x, ((![v2784] : Fin 1 → IVec S16 32) a x).toNat < S256.size a)
theorem k0_idx37_inb : ∀ (v2784 : IVec S16 32) (k0_hw37 : k0_chk37 v2784), ∀ a x, ((![v2784] : Fin 1 → IVec S16 32) a x).toNat < S256.size a := fun v2784 k0_hw37 => k0_hw37
def k0_off40 (k0_t2 : Fin k0_t2_loop.trips) (k0_t3 : Fin k0_t3_loop.trips) : Fin 4 → Nat :=
  let c0_i32_1970 : BitVec 32 := 0#32
  let v2787 : Index := Scalar.indexCast c0_i32_1970
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2788 : Index := Scalar.indexCast v2519
  let c6_i32_1971 : BitVec 32 := 6#32
  let v2789 : Index := Scalar.indexCast c6_i32_1971
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1969 : BitVec 32 := 16#32
  let v2786 : BitVec 32 := Scalar.muli v2506 c16_i32_1969
  let v2790 : Index := Scalar.indexCast v2786
  ![0, v2788.toNat, 6, v2790.toNat]
def k0_off41 (k0_t2 : Fin k0_t2_loop.trips) (k0_t3 : Fin k0_t3_loop.trips) : Fin 3 → Nat :=
  let c0_i32_1973 : BitVec 32 := 0#32
  let v2796 : Index := Scalar.indexCast c0_i32_1973
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2797 : Index := Scalar.indexCast v2519
  let c768_i32 : BitVec 32 := 768#32
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1972 : BitVec 32 := 16#32
  let v2794 : BitVec 32 := Scalar.muli v2506 c16_i32_1972
  let v2795 : BitVec 32 := Scalar.addi c768_i32 v2794
  let v2798 : Index := Scalar.indexCast v2795
  ![0, v2797.toNat, v2798.toNat]
def k0_off42 (k0_t2 : Fin k0_t2_loop.trips) (k0_t3 : Fin k0_t3_loop.trips) : Fin 4 → Nat :=
  let c0_i32_1975 : BitVec 32 := 0#32
  let v2801 : Index := Scalar.indexCast c0_i32_1975
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2802 : Index := Scalar.indexCast v2519
  let c7_i32_1976 : BitVec 32 := 7#32
  let v2803 : Index := Scalar.indexCast c7_i32_1976
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1974 : BitVec 32 := 16#32
  let v2800 : BitVec 32 := Scalar.muli v2506 c16_i32_1974
  let v2804 : Index := Scalar.indexCast v2800
  ![0, v2802.toNat, 7, v2804.toNat]

def k0_chk38 (v2811 : IVec S16 32) (v2813 : IVec S16 32) (v2814 : IVec S16 32) : Prop :=
  (∀ a x, ((![v2811, v2814, v2813] : Fin 3 → IVec S16 32) a x).toNat < S32x2x128.size a)
theorem k0_idx38_inb : ∀ (v2811 : IVec S16 32) (v2813 : IVec S16 32) (v2814 : IVec S16 32) (k0_hw38 : k0_chk38 v2811 v2813 v2814), ∀ a x, ((![v2811, v2814, v2813] : Fin 3 → IVec S16 32) a x).toNat < S32x2x128.size a := fun v2811 v2813 v2814 k0_hw38 => k0_hw38

def k0_chk39 (v2811 : IVec S16 32) (v2813 : IVec S16 32) (v2816 : IVec S16 32) : Prop :=
  (∀ a x, ((![v2811, v2816, v2813] : Fin 3 → IVec S16 32) a x).toNat < S32x2x128.size a)
theorem k0_idx39_inb : ∀ (v2811 : IVec S16 32) (v2813 : IVec S16 32) (v2816 : IVec S16 32) (k0_hw39 : k0_chk39 v2811 v2813 v2816), ∀ a x, ((![v2811, v2816, v2813] : Fin 3 → IVec S16 32) a x).toNat < S32x2x128.size a := fun v2811 v2813 v2816 k0_hw39 => k0_hw39

def k0_chk40 (v2824 : IVec S16 32) : Prop :=
  (∀ a x, ((![v2824] : Fin 1 → IVec S16 32) a x).toNat < S256.size a)
theorem k0_idx40_inb : ∀ (v2824 : IVec S16 32) (k0_hw40 : k0_chk40 v2824), ∀ a x, ((![v2824] : Fin 1 → IVec S16 32) a x).toNat < S256.size a := fun v2824 k0_hw40 => k0_hw40
def k0_off43 (k0_t2 : Fin k0_t2_loop.trips) (k0_t3 : Fin k0_t3_loop.trips) : Fin 4 → Nat :=
  let c0_i32_1985 : BitVec 32 := 0#32
  let v2827 : Index := Scalar.indexCast c0_i32_1985
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2828 : Index := Scalar.indexCast v2519
  let c7_i32_1986 : BitVec 32 := 7#32
  let v2829 : Index := Scalar.indexCast c7_i32_1986
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1984 : BitVec 32 := 16#32
  let v2826 : BitVec 32 := Scalar.muli v2506 c16_i32_1984
  let v2830 : Index := Scalar.indexCast v2826
  ![0, v2828.toNat, 7, v2830.toNat]
def k0_off44 (k0_t2 : Fin k0_t2_loop.trips) (k0_t3 : Fin k0_t3_loop.trips) : Fin 3 → Nat :=
  let c0_i32_1988 : BitVec 32 := 0#32
  let v2836 : Index := Scalar.indexCast c0_i32_1988
  let c0_i32_1868 : BitVec 32 := 0#32
  let c0_i32_1863 : BitVec 32 := 0#32
  let c1_i32_1865 : BitVec 32 := 1#32
  let arg20 : BitVec 32 := Scf.iv c0_i32_1863 c1_i32_1865 k0_t3
  let c1_i32_1867 : BitVec 32 := 1#32
  let v2518 : BitVec 32 := Scalar.muli arg20 c1_i32_1867
  let v2519 : BitVec 32 := Scalar.addi c0_i32_1868 v2518
  let v2837 : Index := Scalar.indexCast v2519
  let c896_i32 : BitVec 32 := 896#32
  let c0_i32_1858 : BitVec 32 := 0#32
  let c0_i32_432 : BitVec 32 := 0#32
  let c1_i32_434 : BitVec 32 := 1#32
  let arg19 : BitVec 32 := Scf.iv c0_i32_432 c1_i32_434 k0_t2
  let c1_i32_1857 : BitVec 32 := 1#32
  let v2505 : BitVec 32 := Scalar.muli arg19 c1_i32_1857
  let v2506 : BitVec 32 := Scalar.addi c0_i32_1858 v2505
  let c16_i32_1987 : BitVec 32 := 16#32
  let v2834 : BitVec 32 := Scalar.muli v2506 c16_i32_1987
  let v2835 : BitVec 32 := Scalar.addi c896_i32 v2834
  let v2838 : Index := Scalar.indexCast v2835
  ![0, v2837.toNat, v2838.toNat]
def k0_off45 (i : grid0.Coords) (c0_i32_324 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32_439 : BitVec 32 := 8#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v1154 : BitVec 32 := Scalar.addi v29 c0_i32_324
  let c0_i32_440 : BitVec 32 := 0#32
  ![v18.toNat, 8, v1154.toNat, 0]
@[reducible] def k0_t4_loop : Scf.Loop 32 :=
  let c0_i32_559 : BitVec 32 := 0#32
  let c8_i32_560 : BitVec 32 := 8#32
  let v1351 : BitVec 32 := Scalar.addi c0_i32_559 c8_i32_560
  let c1_i32_561 : BitVec 32 := 1#32
  ⟨c0_i32_559, v1351, c1_i32_561⟩
def k0_off46 (i : grid0.Coords) (k0_t4 : Fin k0_t4_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c1_i32_445 : BitVec 32 := 1#32
  let v1257 : BitVec 32 := Scalar.addi v29 c1_i32_445
  let v2508 : Index := Scalar.indexCast v1257
  let c0_i32_1860 : BitVec 32 := 0#32
  let v2509 : Index := Scalar.indexCast c0_i32_1860
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1859 : BitVec 32 := 16#32
  let v2507 : BitVec 32 := Scalar.muli v2506 c16_i32_1859
  let v2510 : Index := Scalar.indexCast v2507
  ![v2508.toNat, 0, v2510.toNat]
def k0_off47 (i : grid0.Coords) (k0_t4 : Fin k0_t4_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c1_i32_445 : BitVec 32 := 1#32
  let v1257 : BitVec 32 := Scalar.addi v29 c1_i32_445
  let v2513 : Index := Scalar.indexCast v1257
  let c1_i32_1862 : BitVec 32 := 1#32
  let v2514 : Index := Scalar.indexCast c1_i32_1862
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1861 : BitVec 32 := 16#32
  let v2512 : BitVec 32 := Scalar.muli v2506 c16_i32_1861
  let v2515 : Index := Scalar.indexCast v2512
  ![v2513.toNat, 1, v2515.toNat]
@[reducible] def k0_t5_loop : Scf.Loop 32 :=
  let c0_i32_1863 : BitVec 32 := 0#32
  let c8_i32_1864 : BitVec 32 := 8#32
  let v2517 : BitVec 32 := Scalar.addi c0_i32_1863 c8_i32_1864
  let c1_i32_1865 : BitVec 32 := 1#32
  ⟨c0_i32_1863, v2517, c1_i32_1865⟩
def k0_off48 (k0_t4 : Fin k0_t4_loop.trips) (k0_t5 : Fin k0_t5_loop.trips) : Fin 4 → Nat :=
  let c1_i32_1870 : BitVec 32 := 1#32
  let v2521 : Index := Scalar.indexCast c1_i32_1870
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2522 : Index := Scalar.indexCast v2519
  let c0_i32_1871 : BitVec 32 := 0#32
  let v2523 : Index := Scalar.indexCast c0_i32_1871
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1869 : BitVec 32 := 16#32
  let v2520 : BitVec 32 := Scalar.muli v2506 c16_i32_1869
  let v2524 : Index := Scalar.indexCast v2520
  ![1, v2522.toNat, 0, v2524.toNat]

def k0_chk41 (v2531 : IVec S16 32) (v2533 : IVec S16 32) (v2534 : IVec S16 32) : Prop :=
  (∀ a x, ((![v2531, v2534, v2533] : Fin 3 → IVec S16 32) a x).toNat < S32x2x128.size a)
theorem k0_idx41_inb : ∀ (v2531 : IVec S16 32) (v2533 : IVec S16 32) (v2534 : IVec S16 32) (k0_hw41 : k0_chk41 v2531 v2533 v2534), ∀ a x, ((![v2531, v2534, v2533] : Fin 3 → IVec S16 32) a x).toNat < S32x2x128.size a := fun v2531 v2533 v2534 k0_hw41 => k0_hw41

def k0_chk42 (v2531 : IVec S16 32) (v2533 : IVec S16 32) (v2536 : IVec S16 32) : Prop :=
  (∀ a x, ((![v2531, v2536, v2533] : Fin 3 → IVec S16 32) a x).toNat < S32x2x128.size a)
theorem k0_idx42_inb : ∀ (v2531 : IVec S16 32) (v2533 : IVec S16 32) (v2536 : IVec S16 32) (k0_hw42 : k0_chk42 v2531 v2533 v2536), ∀ a x, ((![v2531, v2536, v2533] : Fin 3 → IVec S16 32) a x).toNat < S32x2x128.size a := fun v2531 v2533 v2536 k0_hw42 => k0_hw42

def k0_chk43 (v2544 : IVec S16 32) : Prop :=
  (∀ a x, ((![v2544] : Fin 1 → IVec S16 32) a x).toNat < S256.size a)
theorem k0_idx43_inb : ∀ (v2544 : IVec S16 32) (k0_hw43 : k0_chk43 v2544), ∀ a x, ((![v2544] : Fin 1 → IVec S16 32) a x).toNat < S256.size a := fun v2544 k0_hw43 => k0_hw43
def k0_off49 (k0_t4 : Fin k0_t4_loop.trips) (k0_t5 : Fin k0_t5_loop.trips) : Fin 4 → Nat :=
  let c1_i32_1877 : BitVec 32 := 1#32
  let v2547 : Index := Scalar.indexCast c1_i32_1877
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2548 : Index := Scalar.indexCast v2519
  let c0_i32_1878 : BitVec 32 := 0#32
  let v2549 : Index := Scalar.indexCast c0_i32_1878
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1876 : BitVec 32 := 16#32
  let v2546 : BitVec 32 := Scalar.muli v2506 c16_i32_1876
  let v2550 : Index := Scalar.indexCast v2546
  ![1, v2548.toNat, 0, v2550.toNat]
def k0_off50 (k0_t4 : Fin k0_t4_loop.trips) (k0_t5 : Fin k0_t5_loop.trips) : Fin 3 → Nat :=
  let c1_i32_1881 : BitVec 32 := 1#32
  let v2556 : Index := Scalar.indexCast c1_i32_1881
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2557 : Index := Scalar.indexCast v2519
  let c0_i32_1880 : BitVec 32 := 0#32
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1879 : BitVec 32 := 16#32
  let v2554 : BitVec 32 := Scalar.muli v2506 c16_i32_1879
  let v2555 : BitVec 32 := Scalar.addi c0_i32_1880 v2554
  let v2558 : Index := Scalar.indexCast v2555
  ![1, v2557.toNat, v2558.toNat]
def k0_off51 (k0_t4 : Fin k0_t4_loop.trips) (k0_t5 : Fin k0_t5_loop.trips) : Fin 4 → Nat :=
  let c1_i32_1883 : BitVec 32 := 1#32
  let v2561 : Index := Scalar.indexCast c1_i32_1883
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2562 : Index := Scalar.indexCast v2519
  let c1_i32_1884 : BitVec 32 := 1#32
  let v2563 : Index := Scalar.indexCast c1_i32_1884
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1882 : BitVec 32 := 16#32
  let v2560 : BitVec 32 := Scalar.muli v2506 c16_i32_1882
  let v2564 : Index := Scalar.indexCast v2560
  ![1, v2562.toNat, 1, v2564.toNat]

def k0_chk44 (v2571 : IVec S16 32) (v2573 : IVec S16 32) (v2574 : IVec S16 32) : Prop :=
  (∀ a x, ((![v2571, v2574, v2573] : Fin 3 → IVec S16 32) a x).toNat < S32x2x128.size a)
theorem k0_idx44_inb : ∀ (v2571 : IVec S16 32) (v2573 : IVec S16 32) (v2574 : IVec S16 32) (k0_hw44 : k0_chk44 v2571 v2573 v2574), ∀ a x, ((![v2571, v2574, v2573] : Fin 3 → IVec S16 32) a x).toNat < S32x2x128.size a := fun v2571 v2573 v2574 k0_hw44 => k0_hw44

def k0_chk45 (v2571 : IVec S16 32) (v2573 : IVec S16 32) (v2576 : IVec S16 32) : Prop :=
  (∀ a x, ((![v2571, v2576, v2573] : Fin 3 → IVec S16 32) a x).toNat < S32x2x128.size a)
theorem k0_idx45_inb : ∀ (v2571 : IVec S16 32) (v2573 : IVec S16 32) (v2576 : IVec S16 32) (k0_hw45 : k0_chk45 v2571 v2573 v2576), ∀ a x, ((![v2571, v2576, v2573] : Fin 3 → IVec S16 32) a x).toNat < S32x2x128.size a := fun v2571 v2573 v2576 k0_hw45 => k0_hw45

def k0_chk46 (v2584 : IVec S16 32) : Prop :=
  (∀ a x, ((![v2584] : Fin 1 → IVec S16 32) a x).toNat < S256.size a)
theorem k0_idx46_inb : ∀ (v2584 : IVec S16 32) (k0_hw46 : k0_chk46 v2584), ∀ a x, ((![v2584] : Fin 1 → IVec S16 32) a x).toNat < S256.size a := fun v2584 k0_hw46 => k0_hw46
def k0_off52 (k0_t4 : Fin k0_t4_loop.trips) (k0_t5 : Fin k0_t5_loop.trips) : Fin 4 → Nat :=
  let c1_i32_1893 : BitVec 32 := 1#32
  let v2587 : Index := Scalar.indexCast c1_i32_1893
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2588 : Index := Scalar.indexCast v2519
  let c1_i32_1894 : BitVec 32 := 1#32
  let v2589 : Index := Scalar.indexCast c1_i32_1894
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1892 : BitVec 32 := 16#32
  let v2586 : BitVec 32 := Scalar.muli v2506 c16_i32_1892
  let v2590 : Index := Scalar.indexCast v2586
  ![1, v2588.toNat, 1, v2590.toNat]
def k0_off53 (k0_t4 : Fin k0_t4_loop.trips) (k0_t5 : Fin k0_t5_loop.trips) : Fin 3 → Nat :=
  let c1_i32_1897 : BitVec 32 := 1#32
  let v2596 : Index := Scalar.indexCast c1_i32_1897
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2597 : Index := Scalar.indexCast v2519
  let c128_i32_1896 : BitVec 32 := 128#32
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1895 : BitVec 32 := 16#32
  let v2594 : BitVec 32 := Scalar.muli v2506 c16_i32_1895
  let v2595 : BitVec 32 := Scalar.addi c128_i32_1896 v2594
  let v2598 : Index := Scalar.indexCast v2595
  ![1, v2597.toNat, v2598.toNat]
def k0_off54 (k0_t4 : Fin k0_t4_loop.trips) (k0_t5 : Fin k0_t5_loop.trips) : Fin 4 → Nat :=
  let c1_i32_1899 : BitVec 32 := 1#32
  let v2601 : Index := Scalar.indexCast c1_i32_1899
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2602 : Index := Scalar.indexCast v2519
  let c2_i32_1900 : BitVec 32 := 2#32
  let v2603 : Index := Scalar.indexCast c2_i32_1900
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1898 : BitVec 32 := 16#32
  let v2600 : BitVec 32 := Scalar.muli v2506 c16_i32_1898
  let v2604 : Index := Scalar.indexCast v2600
  ![1, v2602.toNat, 2, v2604.toNat]

def k0_chk47 (v2611 : IVec S16 32) (v2613 : IVec S16 32) (v2614 : IVec S16 32) : Prop :=
  (∀ a x, ((![v2611, v2614, v2613] : Fin 3 → IVec S16 32) a x).toNat < S32x2x128.size a)
theorem k0_idx47_inb : ∀ (v2611 : IVec S16 32) (v2613 : IVec S16 32) (v2614 : IVec S16 32) (k0_hw47 : k0_chk47 v2611 v2613 v2614), ∀ a x, ((![v2611, v2614, v2613] : Fin 3 → IVec S16 32) a x).toNat < S32x2x128.size a := fun v2611 v2613 v2614 k0_hw47 => k0_hw47

def k0_chk48 (v2611 : IVec S16 32) (v2613 : IVec S16 32) (v2616 : IVec S16 32) : Prop :=
  (∀ a x, ((![v2611, v2616, v2613] : Fin 3 → IVec S16 32) a x).toNat < S32x2x128.size a)
theorem k0_idx48_inb : ∀ (v2611 : IVec S16 32) (v2613 : IVec S16 32) (v2616 : IVec S16 32) (k0_hw48 : k0_chk48 v2611 v2613 v2616), ∀ a x, ((![v2611, v2616, v2613] : Fin 3 → IVec S16 32) a x).toNat < S32x2x128.size a := fun v2611 v2613 v2616 k0_hw48 => k0_hw48

def k0_chk49 (v2624 : IVec S16 32) : Prop :=
  (∀ a x, ((![v2624] : Fin 1 → IVec S16 32) a x).toNat < S256.size a)
theorem k0_idx49_inb : ∀ (v2624 : IVec S16 32) (k0_hw49 : k0_chk49 v2624), ∀ a x, ((![v2624] : Fin 1 → IVec S16 32) a x).toNat < S256.size a := fun v2624 k0_hw49 => k0_hw49
def k0_off55 (k0_t4 : Fin k0_t4_loop.trips) (k0_t5 : Fin k0_t5_loop.trips) : Fin 4 → Nat :=
  let c1_i32_1909 : BitVec 32 := 1#32
  let v2627 : Index := Scalar.indexCast c1_i32_1909
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2628 : Index := Scalar.indexCast v2519
  let c2_i32_1910 : BitVec 32 := 2#32
  let v2629 : Index := Scalar.indexCast c2_i32_1910
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1908 : BitVec 32 := 16#32
  let v2626 : BitVec 32 := Scalar.muli v2506 c16_i32_1908
  let v2630 : Index := Scalar.indexCast v2626
  ![1, v2628.toNat, 2, v2630.toNat]
def k0_off56 (k0_t4 : Fin k0_t4_loop.trips) (k0_t5 : Fin k0_t5_loop.trips) : Fin 3 → Nat :=
  let c1_i32_1912 : BitVec 32 := 1#32
  let v2636 : Index := Scalar.indexCast c1_i32_1912
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2637 : Index := Scalar.indexCast v2519
  let c256_i32 : BitVec 32 := 256#32
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1911 : BitVec 32 := 16#32
  let v2634 : BitVec 32 := Scalar.muli v2506 c16_i32_1911
  let v2635 : BitVec 32 := Scalar.addi c256_i32 v2634
  let v2638 : Index := Scalar.indexCast v2635
  ![1, v2637.toNat, v2638.toNat]
def k0_off57 (k0_t4 : Fin k0_t4_loop.trips) (k0_t5 : Fin k0_t5_loop.trips) : Fin 4 → Nat :=
  let c1_i32_1914 : BitVec 32 := 1#32
  let v2641 : Index := Scalar.indexCast c1_i32_1914
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2642 : Index := Scalar.indexCast v2519
  let c3_i32_1915 : BitVec 32 := 3#32
  let v2643 : Index := Scalar.indexCast c3_i32_1915
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1913 : BitVec 32 := 16#32
  let v2640 : BitVec 32 := Scalar.muli v2506 c16_i32_1913
  let v2644 : Index := Scalar.indexCast v2640
  ![1, v2642.toNat, 3, v2644.toNat]

def k0_chk50 (v2651 : IVec S16 32) (v2653 : IVec S16 32) (v2654 : IVec S16 32) : Prop :=
  (∀ a x, ((![v2651, v2654, v2653] : Fin 3 → IVec S16 32) a x).toNat < S32x2x128.size a)
theorem k0_idx50_inb : ∀ (v2651 : IVec S16 32) (v2653 : IVec S16 32) (v2654 : IVec S16 32) (k0_hw50 : k0_chk50 v2651 v2653 v2654), ∀ a x, ((![v2651, v2654, v2653] : Fin 3 → IVec S16 32) a x).toNat < S32x2x128.size a := fun v2651 v2653 v2654 k0_hw50 => k0_hw50

def k0_chk51 (v2651 : IVec S16 32) (v2653 : IVec S16 32) (v2656 : IVec S16 32) : Prop :=
  (∀ a x, ((![v2651, v2656, v2653] : Fin 3 → IVec S16 32) a x).toNat < S32x2x128.size a)
theorem k0_idx51_inb : ∀ (v2651 : IVec S16 32) (v2653 : IVec S16 32) (v2656 : IVec S16 32) (k0_hw51 : k0_chk51 v2651 v2653 v2656), ∀ a x, ((![v2651, v2656, v2653] : Fin 3 → IVec S16 32) a x).toNat < S32x2x128.size a := fun v2651 v2653 v2656 k0_hw51 => k0_hw51

def k0_chk52 (v2664 : IVec S16 32) : Prop :=
  (∀ a x, ((![v2664] : Fin 1 → IVec S16 32) a x).toNat < S256.size a)
theorem k0_idx52_inb : ∀ (v2664 : IVec S16 32) (k0_hw52 : k0_chk52 v2664), ∀ a x, ((![v2664] : Fin 1 → IVec S16 32) a x).toNat < S256.size a := fun v2664 k0_hw52 => k0_hw52
def k0_off58 (k0_t4 : Fin k0_t4_loop.trips) (k0_t5 : Fin k0_t5_loop.trips) : Fin 4 → Nat :=
  let c1_i32_1924 : BitVec 32 := 1#32
  let v2667 : Index := Scalar.indexCast c1_i32_1924
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2668 : Index := Scalar.indexCast v2519
  let c3_i32_1925 : BitVec 32 := 3#32
  let v2669 : Index := Scalar.indexCast c3_i32_1925
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1923 : BitVec 32 := 16#32
  let v2666 : BitVec 32 := Scalar.muli v2506 c16_i32_1923
  let v2670 : Index := Scalar.indexCast v2666
  ![1, v2668.toNat, 3, v2670.toNat]
def k0_off59 (k0_t4 : Fin k0_t4_loop.trips) (k0_t5 : Fin k0_t5_loop.trips) : Fin 3 → Nat :=
  let c1_i32_1927 : BitVec 32 := 1#32
  let v2676 : Index := Scalar.indexCast c1_i32_1927
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2677 : Index := Scalar.indexCast v2519
  let c384_i32 : BitVec 32 := 384#32
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1926 : BitVec 32 := 16#32
  let v2674 : BitVec 32 := Scalar.muli v2506 c16_i32_1926
  let v2675 : BitVec 32 := Scalar.addi c384_i32 v2674
  let v2678 : Index := Scalar.indexCast v2675
  ![1, v2677.toNat, v2678.toNat]
def k0_off60 (k0_t4 : Fin k0_t4_loop.trips) (k0_t5 : Fin k0_t5_loop.trips) : Fin 4 → Nat :=
  let c1_i32_1929 : BitVec 32 := 1#32
  let v2681 : Index := Scalar.indexCast c1_i32_1929
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2682 : Index := Scalar.indexCast v2519
  let c4_i32_1930 : BitVec 32 := 4#32
  let v2683 : Index := Scalar.indexCast c4_i32_1930
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1928 : BitVec 32 := 16#32
  let v2680 : BitVec 32 := Scalar.muli v2506 c16_i32_1928
  let v2684 : Index := Scalar.indexCast v2680
  ![1, v2682.toNat, 4, v2684.toNat]

def k0_chk53 (v2691 : IVec S16 32) (v2693 : IVec S16 32) (v2694 : IVec S16 32) : Prop :=
  (∀ a x, ((![v2691, v2694, v2693] : Fin 3 → IVec S16 32) a x).toNat < S32x2x128.size a)
theorem k0_idx53_inb : ∀ (v2691 : IVec S16 32) (v2693 : IVec S16 32) (v2694 : IVec S16 32) (k0_hw53 : k0_chk53 v2691 v2693 v2694), ∀ a x, ((![v2691, v2694, v2693] : Fin 3 → IVec S16 32) a x).toNat < S32x2x128.size a := fun v2691 v2693 v2694 k0_hw53 => k0_hw53

def k0_chk54 (v2691 : IVec S16 32) (v2693 : IVec S16 32) (v2696 : IVec S16 32) : Prop :=
  (∀ a x, ((![v2691, v2696, v2693] : Fin 3 → IVec S16 32) a x).toNat < S32x2x128.size a)
theorem k0_idx54_inb : ∀ (v2691 : IVec S16 32) (v2693 : IVec S16 32) (v2696 : IVec S16 32) (k0_hw54 : k0_chk54 v2691 v2693 v2696), ∀ a x, ((![v2691, v2696, v2693] : Fin 3 → IVec S16 32) a x).toNat < S32x2x128.size a := fun v2691 v2693 v2696 k0_hw54 => k0_hw54

def k0_chk55 (v2704 : IVec S16 32) : Prop :=
  (∀ a x, ((![v2704] : Fin 1 → IVec S16 32) a x).toNat < S256.size a)
theorem k0_idx55_inb : ∀ (v2704 : IVec S16 32) (k0_hw55 : k0_chk55 v2704), ∀ a x, ((![v2704] : Fin 1 → IVec S16 32) a x).toNat < S256.size a := fun v2704 k0_hw55 => k0_hw55
def k0_off61 (k0_t4 : Fin k0_t4_loop.trips) (k0_t5 : Fin k0_t5_loop.trips) : Fin 4 → Nat :=
  let c1_i32_1939 : BitVec 32 := 1#32
  let v2707 : Index := Scalar.indexCast c1_i32_1939
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2708 : Index := Scalar.indexCast v2519
  let c4_i32_1940 : BitVec 32 := 4#32
  let v2709 : Index := Scalar.indexCast c4_i32_1940
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1938 : BitVec 32 := 16#32
  let v2706 : BitVec 32 := Scalar.muli v2506 c16_i32_1938
  let v2710 : Index := Scalar.indexCast v2706
  ![1, v2708.toNat, 4, v2710.toNat]
def k0_off62 (k0_t4 : Fin k0_t4_loop.trips) (k0_t5 : Fin k0_t5_loop.trips) : Fin 3 → Nat :=
  let c1_i32_1943 : BitVec 32 := 1#32
  let v2716 : Index := Scalar.indexCast c1_i32_1943
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2717 : Index := Scalar.indexCast v2519
  let c512_i32_1942 : BitVec 32 := 512#32
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1941 : BitVec 32 := 16#32
  let v2714 : BitVec 32 := Scalar.muli v2506 c16_i32_1941
  let v2715 : BitVec 32 := Scalar.addi c512_i32_1942 v2714
  let v2718 : Index := Scalar.indexCast v2715
  ![1, v2717.toNat, v2718.toNat]
def k0_off63 (k0_t4 : Fin k0_t4_loop.trips) (k0_t5 : Fin k0_t5_loop.trips) : Fin 4 → Nat :=
  let c1_i32_1945 : BitVec 32 := 1#32
  let v2721 : Index := Scalar.indexCast c1_i32_1945
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2722 : Index := Scalar.indexCast v2519
  let c5_i32_1946 : BitVec 32 := 5#32
  let v2723 : Index := Scalar.indexCast c5_i32_1946
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1944 : BitVec 32 := 16#32
  let v2720 : BitVec 32 := Scalar.muli v2506 c16_i32_1944
  let v2724 : Index := Scalar.indexCast v2720
  ![1, v2722.toNat, 5, v2724.toNat]

def k0_chk56 (v2731 : IVec S16 32) (v2733 : IVec S16 32) (v2734 : IVec S16 32) : Prop :=
  (∀ a x, ((![v2731, v2734, v2733] : Fin 3 → IVec S16 32) a x).toNat < S32x2x128.size a)
theorem k0_idx56_inb : ∀ (v2731 : IVec S16 32) (v2733 : IVec S16 32) (v2734 : IVec S16 32) (k0_hw56 : k0_chk56 v2731 v2733 v2734), ∀ a x, ((![v2731, v2734, v2733] : Fin 3 → IVec S16 32) a x).toNat < S32x2x128.size a := fun v2731 v2733 v2734 k0_hw56 => k0_hw56

def k0_chk57 (v2731 : IVec S16 32) (v2733 : IVec S16 32) (v2736 : IVec S16 32) : Prop :=
  (∀ a x, ((![v2731, v2736, v2733] : Fin 3 → IVec S16 32) a x).toNat < S32x2x128.size a)
theorem k0_idx57_inb : ∀ (v2731 : IVec S16 32) (v2733 : IVec S16 32) (v2736 : IVec S16 32) (k0_hw57 : k0_chk57 v2731 v2733 v2736), ∀ a x, ((![v2731, v2736, v2733] : Fin 3 → IVec S16 32) a x).toNat < S32x2x128.size a := fun v2731 v2733 v2736 k0_hw57 => k0_hw57

def k0_chk58 (v2744 : IVec S16 32) : Prop :=
  (∀ a x, ((![v2744] : Fin 1 → IVec S16 32) a x).toNat < S256.size a)
theorem k0_idx58_inb : ∀ (v2744 : IVec S16 32) (k0_hw58 : k0_chk58 v2744), ∀ a x, ((![v2744] : Fin 1 → IVec S16 32) a x).toNat < S256.size a := fun v2744 k0_hw58 => k0_hw58
def k0_off64 (k0_t4 : Fin k0_t4_loop.trips) (k0_t5 : Fin k0_t5_loop.trips) : Fin 4 → Nat :=
  let c1_i32_1955 : BitVec 32 := 1#32
  let v2747 : Index := Scalar.indexCast c1_i32_1955
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2748 : Index := Scalar.indexCast v2519
  let c5_i32_1956 : BitVec 32 := 5#32
  let v2749 : Index := Scalar.indexCast c5_i32_1956
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1954 : BitVec 32 := 16#32
  let v2746 : BitVec 32 := Scalar.muli v2506 c16_i32_1954
  let v2750 : Index := Scalar.indexCast v2746
  ![1, v2748.toNat, 5, v2750.toNat]
def k0_off65 (k0_t4 : Fin k0_t4_loop.trips) (k0_t5 : Fin k0_t5_loop.trips) : Fin 3 → Nat :=
  let c1_i32_1958 : BitVec 32 := 1#32
  let v2756 : Index := Scalar.indexCast c1_i32_1958
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2757 : Index := Scalar.indexCast v2519
  let c640_i32 : BitVec 32 := 640#32
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1957 : BitVec 32 := 16#32
  let v2754 : BitVec 32 := Scalar.muli v2506 c16_i32_1957
  let v2755 : BitVec 32 := Scalar.addi c640_i32 v2754
  let v2758 : Index := Scalar.indexCast v2755
  ![1, v2757.toNat, v2758.toNat]
def k0_off66 (k0_t4 : Fin k0_t4_loop.trips) (k0_t5 : Fin k0_t5_loop.trips) : Fin 4 → Nat :=
  let c1_i32_1960 : BitVec 32 := 1#32
  let v2761 : Index := Scalar.indexCast c1_i32_1960
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2762 : Index := Scalar.indexCast v2519
  let c6_i32_1961 : BitVec 32 := 6#32
  let v2763 : Index := Scalar.indexCast c6_i32_1961
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1959 : BitVec 32 := 16#32
  let v2760 : BitVec 32 := Scalar.muli v2506 c16_i32_1959
  let v2764 : Index := Scalar.indexCast v2760
  ![1, v2762.toNat, 6, v2764.toNat]

def k0_chk59 (v2771 : IVec S16 32) (v2773 : IVec S16 32) (v2774 : IVec S16 32) : Prop :=
  (∀ a x, ((![v2771, v2774, v2773] : Fin 3 → IVec S16 32) a x).toNat < S32x2x128.size a)
theorem k0_idx59_inb : ∀ (v2771 : IVec S16 32) (v2773 : IVec S16 32) (v2774 : IVec S16 32) (k0_hw59 : k0_chk59 v2771 v2773 v2774), ∀ a x, ((![v2771, v2774, v2773] : Fin 3 → IVec S16 32) a x).toNat < S32x2x128.size a := fun v2771 v2773 v2774 k0_hw59 => k0_hw59

def k0_chk60 (v2771 : IVec S16 32) (v2773 : IVec S16 32) (v2776 : IVec S16 32) : Prop :=
  (∀ a x, ((![v2771, v2776, v2773] : Fin 3 → IVec S16 32) a x).toNat < S32x2x128.size a)
theorem k0_idx60_inb : ∀ (v2771 : IVec S16 32) (v2773 : IVec S16 32) (v2776 : IVec S16 32) (k0_hw60 : k0_chk60 v2771 v2773 v2776), ∀ a x, ((![v2771, v2776, v2773] : Fin 3 → IVec S16 32) a x).toNat < S32x2x128.size a := fun v2771 v2773 v2776 k0_hw60 => k0_hw60

def k0_chk61 (v2784 : IVec S16 32) : Prop :=
  (∀ a x, ((![v2784] : Fin 1 → IVec S16 32) a x).toNat < S256.size a)
theorem k0_idx61_inb : ∀ (v2784 : IVec S16 32) (k0_hw61 : k0_chk61 v2784), ∀ a x, ((![v2784] : Fin 1 → IVec S16 32) a x).toNat < S256.size a := fun v2784 k0_hw61 => k0_hw61
def k0_off67 (k0_t4 : Fin k0_t4_loop.trips) (k0_t5 : Fin k0_t5_loop.trips) : Fin 4 → Nat :=
  let c1_i32_1970 : BitVec 32 := 1#32
  let v2787 : Index := Scalar.indexCast c1_i32_1970
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2788 : Index := Scalar.indexCast v2519
  let c6_i32_1971 : BitVec 32 := 6#32
  let v2789 : Index := Scalar.indexCast c6_i32_1971
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1969 : BitVec 32 := 16#32
  let v2786 : BitVec 32 := Scalar.muli v2506 c16_i32_1969
  let v2790 : Index := Scalar.indexCast v2786
  ![1, v2788.toNat, 6, v2790.toNat]
def k0_off68 (k0_t4 : Fin k0_t4_loop.trips) (k0_t5 : Fin k0_t5_loop.trips) : Fin 3 → Nat :=
  let c1_i32_1973 : BitVec 32 := 1#32
  let v2796 : Index := Scalar.indexCast c1_i32_1973
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2797 : Index := Scalar.indexCast v2519
  let c768_i32 : BitVec 32 := 768#32
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1972 : BitVec 32 := 16#32
  let v2794 : BitVec 32 := Scalar.muli v2506 c16_i32_1972
  let v2795 : BitVec 32 := Scalar.addi c768_i32 v2794
  let v2798 : Index := Scalar.indexCast v2795
  ![1, v2797.toNat, v2798.toNat]
def k0_off69 (k0_t4 : Fin k0_t4_loop.trips) (k0_t5 : Fin k0_t5_loop.trips) : Fin 4 → Nat :=
  let c1_i32_1975 : BitVec 32 := 1#32
  let v2801 : Index := Scalar.indexCast c1_i32_1975
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2802 : Index := Scalar.indexCast v2519
  let c7_i32_1976 : BitVec 32 := 7#32
  let v2803 : Index := Scalar.indexCast c7_i32_1976
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1974 : BitVec 32 := 16#32
  let v2800 : BitVec 32 := Scalar.muli v2506 c16_i32_1974
  let v2804 : Index := Scalar.indexCast v2800
  ![1, v2802.toNat, 7, v2804.toNat]

def k0_chk62 (v2811 : IVec S16 32) (v2813 : IVec S16 32) (v2814 : IVec S16 32) : Prop :=
  (∀ a x, ((![v2811, v2814, v2813] : Fin 3 → IVec S16 32) a x).toNat < S32x2x128.size a)
theorem k0_idx62_inb : ∀ (v2811 : IVec S16 32) (v2813 : IVec S16 32) (v2814 : IVec S16 32) (k0_hw62 : k0_chk62 v2811 v2813 v2814), ∀ a x, ((![v2811, v2814, v2813] : Fin 3 → IVec S16 32) a x).toNat < S32x2x128.size a := fun v2811 v2813 v2814 k0_hw62 => k0_hw62

def k0_chk63 (v2811 : IVec S16 32) (v2813 : IVec S16 32) (v2816 : IVec S16 32) : Prop :=
  (∀ a x, ((![v2811, v2816, v2813] : Fin 3 → IVec S16 32) a x).toNat < S32x2x128.size a)
theorem k0_idx63_inb : ∀ (v2811 : IVec S16 32) (v2813 : IVec S16 32) (v2816 : IVec S16 32) (k0_hw63 : k0_chk63 v2811 v2813 v2816), ∀ a x, ((![v2811, v2816, v2813] : Fin 3 → IVec S16 32) a x).toNat < S32x2x128.size a := fun v2811 v2813 v2816 k0_hw63 => k0_hw63

def k0_chk64 (v2824 : IVec S16 32) : Prop :=
  (∀ a x, ((![v2824] : Fin 1 → IVec S16 32) a x).toNat < S256.size a)
theorem k0_idx64_inb : ∀ (v2824 : IVec S16 32) (k0_hw64 : k0_chk64 v2824), ∀ a x, ((![v2824] : Fin 1 → IVec S16 32) a x).toNat < S256.size a := fun v2824 k0_hw64 => k0_hw64
def k0_off70 (k0_t4 : Fin k0_t4_loop.trips) (k0_t5 : Fin k0_t5_loop.trips) : Fin 4 → Nat :=
  let c1_i32_1985 : BitVec 32 := 1#32
  let v2827 : Index := Scalar.indexCast c1_i32_1985
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2828 : Index := Scalar.indexCast v2519
  let c7_i32_1986 : BitVec 32 := 7#32
  let v2829 : Index := Scalar.indexCast c7_i32_1986
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1984 : BitVec 32 := 16#32
  let v2826 : BitVec 32 := Scalar.muli v2506 c16_i32_1984
  let v2830 : Index := Scalar.indexCast v2826
  ![1, v2828.toNat, 7, v2830.toNat]
def k0_off71 (k0_t4 : Fin k0_t4_loop.trips) (k0_t5 : Fin k0_t5_loop.trips) : Fin 3 → Nat :=
  let c1_i32_1988 : BitVec 32 := 1#32
  let v2836 : Index := Scalar.indexCast c1_i32_1988
  let c0_i32_1868 : BitVec 32 := 0#32
  let c0_i32_1863 : BitVec 32 := 0#32
  let c1_i32_1865 : BitVec 32 := 1#32
  let arg20 : BitVec 32 := Scf.iv c0_i32_1863 c1_i32_1865 k0_t5
  let c1_i32_1867 : BitVec 32 := 1#32
  let v2518 : BitVec 32 := Scalar.muli arg20 c1_i32_1867
  let v2519 : BitVec 32 := Scalar.addi c0_i32_1868 v2518
  let v2837 : Index := Scalar.indexCast v2519
  let c896_i32 : BitVec 32 := 896#32
  let c0_i32_1858 : BitVec 32 := 0#32
  let c0_i32_559 : BitVec 32 := 0#32
  let c1_i32_561 : BitVec 32 := 1#32
  let arg19 : BitVec 32 := Scf.iv c0_i32_559 c1_i32_561 k0_t4
  let c1_i32_1857 : BitVec 32 := 1#32
  let v2505 : BitVec 32 := Scalar.muli arg19 c1_i32_1857
  let v2506 : BitVec 32 := Scalar.addi c0_i32_1858 v2505
  let c16_i32_1987 : BitVec 32 := 16#32
  let v2834 : BitVec 32 := Scalar.muli v2506 c16_i32_1987
  let v2835 : BitVec 32 := Scalar.addi c896_i32 v2834
  let v2838 : Index := Scalar.indexCast v2835
  ![1, v2837.toNat, v2838.toNat]
@[reducible] def k0_t6_loop : Scf.Loop 32 :=
  let c0_i32_695 : BitVec 32 := 0#32
  let c8_i32_696 : BitVec 32 := 8#32
  let v1462 : BitVec 32 := Scalar.addi c0_i32_695 c8_i32_696
  let c1_i32_697 : BitVec 32 := 1#32
  ⟨c0_i32_695, v1462, c1_i32_697⟩
def k0_off72 (i : grid0.Coords) (k0_t6 : Fin k0_t6_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c2_i32_572 : BitVec 32 := 2#32
  let v1360 : BitVec 32 := Scalar.addi v29 c2_i32_572
  let v2508 : Index := Scalar.indexCast v1360
  let c0_i32_1860 : BitVec 32 := 0#32
  let v2509 : Index := Scalar.indexCast c0_i32_1860
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1859 : BitVec 32 := 16#32
  let v2507 : BitVec 32 := Scalar.muli v2506 c16_i32_1859
  let v2510 : Index := Scalar.indexCast v2507
  ![v2508.toNat, 0, v2510.toNat]
def k0_off73 (i : grid0.Coords) (k0_t6 : Fin k0_t6_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c2_i32_572 : BitVec 32 := 2#32
  let v1360 : BitVec 32 := Scalar.addi v29 c2_i32_572
  let v2513 : Index := Scalar.indexCast v1360
  let c1_i32_1862 : BitVec 32 := 1#32
  let v2514 : Index := Scalar.indexCast c1_i32_1862
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1861 : BitVec 32 := 16#32
  let v2512 : BitVec 32 := Scalar.muli v2506 c16_i32_1861
  let v2515 : Index := Scalar.indexCast v2512
  ![v2513.toNat, 1, v2515.toNat]
@[reducible] def k0_t7_loop : Scf.Loop 32 :=
  let c0_i32_1863 : BitVec 32 := 0#32
  let c8_i32_1864 : BitVec 32 := 8#32
  let v2517 : BitVec 32 := Scalar.addi c0_i32_1863 c8_i32_1864
  let c1_i32_1865 : BitVec 32 := 1#32
  ⟨c0_i32_1863, v2517, c1_i32_1865⟩
def k0_off74 (k0_t6 : Fin k0_t6_loop.trips) (k0_t7 : Fin k0_t7_loop.trips) : Fin 4 → Nat :=
  let c0_i32_1870 : BitVec 32 := 0#32
  let v2521 : Index := Scalar.indexCast c0_i32_1870
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2522 : Index := Scalar.indexCast v2519
  let c0_i32_1871 : BitVec 32 := 0#32
  let v2523 : Index := Scalar.indexCast c0_i32_1871
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1869 : BitVec 32 := 16#32
  let v2520 : BitVec 32 := Scalar.muli v2506 c16_i32_1869
  let v2524 : Index := Scalar.indexCast v2520
  ![0, v2522.toNat, 0, v2524.toNat]

def k0_chk65 (v2531 : IVec S16 32) (v2533 : IVec S16 32) (v2534 : IVec S16 32) : Prop :=
  (∀ a x, ((![v2531, v2534, v2533] : Fin 3 → IVec S16 32) a x).toNat < S32x2x128.size a)
theorem k0_idx65_inb : ∀ (v2531 : IVec S16 32) (v2533 : IVec S16 32) (v2534 : IVec S16 32) (k0_hw65 : k0_chk65 v2531 v2533 v2534), ∀ a x, ((![v2531, v2534, v2533] : Fin 3 → IVec S16 32) a x).toNat < S32x2x128.size a := fun v2531 v2533 v2534 k0_hw65 => k0_hw65

def k0_chk66 (v2531 : IVec S16 32) (v2533 : IVec S16 32) (v2536 : IVec S16 32) : Prop :=
  (∀ a x, ((![v2531, v2536, v2533] : Fin 3 → IVec S16 32) a x).toNat < S32x2x128.size a)
theorem k0_idx66_inb : ∀ (v2531 : IVec S16 32) (v2533 : IVec S16 32) (v2536 : IVec S16 32) (k0_hw66 : k0_chk66 v2531 v2533 v2536), ∀ a x, ((![v2531, v2536, v2533] : Fin 3 → IVec S16 32) a x).toNat < S32x2x128.size a := fun v2531 v2533 v2536 k0_hw66 => k0_hw66

def k0_chk67 (v2544 : IVec S16 32) : Prop :=
  (∀ a x, ((![v2544] : Fin 1 → IVec S16 32) a x).toNat < S256.size a)
theorem k0_idx67_inb : ∀ (v2544 : IVec S16 32) (k0_hw67 : k0_chk67 v2544), ∀ a x, ((![v2544] : Fin 1 → IVec S16 32) a x).toNat < S256.size a := fun v2544 k0_hw67 => k0_hw67
def k0_off75 (k0_t6 : Fin k0_t6_loop.trips) (k0_t7 : Fin k0_t7_loop.trips) : Fin 4 → Nat :=
  let c0_i32_1877 : BitVec 32 := 0#32
  let v2547 : Index := Scalar.indexCast c0_i32_1877
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2548 : Index := Scalar.indexCast v2519
  let c0_i32_1878 : BitVec 32 := 0#32
  let v2549 : Index := Scalar.indexCast c0_i32_1878
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1876 : BitVec 32 := 16#32
  let v2546 : BitVec 32 := Scalar.muli v2506 c16_i32_1876
  let v2550 : Index := Scalar.indexCast v2546
  ![0, v2548.toNat, 0, v2550.toNat]
def k0_off76 (k0_t6 : Fin k0_t6_loop.trips) (k0_t7 : Fin k0_t7_loop.trips) : Fin 3 → Nat :=
  let c0_i32_1881 : BitVec 32 := 0#32
  let v2556 : Index := Scalar.indexCast c0_i32_1881
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2557 : Index := Scalar.indexCast v2519
  let c0_i32_1880 : BitVec 32 := 0#32
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1879 : BitVec 32 := 16#32
  let v2554 : BitVec 32 := Scalar.muli v2506 c16_i32_1879
  let v2555 : BitVec 32 := Scalar.addi c0_i32_1880 v2554
  let v2558 : Index := Scalar.indexCast v2555
  ![0, v2557.toNat, v2558.toNat]
def k0_off77 (k0_t6 : Fin k0_t6_loop.trips) (k0_t7 : Fin k0_t7_loop.trips) : Fin 4 → Nat :=
  let c0_i32_1883 : BitVec 32 := 0#32
  let v2561 : Index := Scalar.indexCast c0_i32_1883
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2562 : Index := Scalar.indexCast v2519
  let c1_i32_1884 : BitVec 32 := 1#32
  let v2563 : Index := Scalar.indexCast c1_i32_1884
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1882 : BitVec 32 := 16#32
  let v2560 : BitVec 32 := Scalar.muli v2506 c16_i32_1882
  let v2564 : Index := Scalar.indexCast v2560
  ![0, v2562.toNat, 1, v2564.toNat]

def k0_chk68 (v2571 : IVec S16 32) (v2573 : IVec S16 32) (v2574 : IVec S16 32) : Prop :=
  (∀ a x, ((![v2571, v2574, v2573] : Fin 3 → IVec S16 32) a x).toNat < S32x2x128.size a)
theorem k0_idx68_inb : ∀ (v2571 : IVec S16 32) (v2573 : IVec S16 32) (v2574 : IVec S16 32) (k0_hw68 : k0_chk68 v2571 v2573 v2574), ∀ a x, ((![v2571, v2574, v2573] : Fin 3 → IVec S16 32) a x).toNat < S32x2x128.size a := fun v2571 v2573 v2574 k0_hw68 => k0_hw68

def k0_chk69 (v2571 : IVec S16 32) (v2573 : IVec S16 32) (v2576 : IVec S16 32) : Prop :=
  (∀ a x, ((![v2571, v2576, v2573] : Fin 3 → IVec S16 32) a x).toNat < S32x2x128.size a)
theorem k0_idx69_inb : ∀ (v2571 : IVec S16 32) (v2573 : IVec S16 32) (v2576 : IVec S16 32) (k0_hw69 : k0_chk69 v2571 v2573 v2576), ∀ a x, ((![v2571, v2576, v2573] : Fin 3 → IVec S16 32) a x).toNat < S32x2x128.size a := fun v2571 v2573 v2576 k0_hw69 => k0_hw69

def k0_chk70 (v2584 : IVec S16 32) : Prop :=
  (∀ a x, ((![v2584] : Fin 1 → IVec S16 32) a x).toNat < S256.size a)
theorem k0_idx70_inb : ∀ (v2584 : IVec S16 32) (k0_hw70 : k0_chk70 v2584), ∀ a x, ((![v2584] : Fin 1 → IVec S16 32) a x).toNat < S256.size a := fun v2584 k0_hw70 => k0_hw70
def k0_off78 (k0_t6 : Fin k0_t6_loop.trips) (k0_t7 : Fin k0_t7_loop.trips) : Fin 4 → Nat :=
  let c0_i32_1893 : BitVec 32 := 0#32
  let v2587 : Index := Scalar.indexCast c0_i32_1893
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2588 : Index := Scalar.indexCast v2519
  let c1_i32_1894 : BitVec 32 := 1#32
  let v2589 : Index := Scalar.indexCast c1_i32_1894
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1892 : BitVec 32 := 16#32
  let v2586 : BitVec 32 := Scalar.muli v2506 c16_i32_1892
  let v2590 : Index := Scalar.indexCast v2586
  ![0, v2588.toNat, 1, v2590.toNat]
def k0_off79 (k0_t6 : Fin k0_t6_loop.trips) (k0_t7 : Fin k0_t7_loop.trips) : Fin 3 → Nat :=
  let c0_i32_1897 : BitVec 32 := 0#32
  let v2596 : Index := Scalar.indexCast c0_i32_1897
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2597 : Index := Scalar.indexCast v2519
  let c128_i32_1896 : BitVec 32 := 128#32
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1895 : BitVec 32 := 16#32
  let v2594 : BitVec 32 := Scalar.muli v2506 c16_i32_1895
  let v2595 : BitVec 32 := Scalar.addi c128_i32_1896 v2594
  let v2598 : Index := Scalar.indexCast v2595
  ![0, v2597.toNat, v2598.toNat]
def k0_off80 (k0_t6 : Fin k0_t6_loop.trips) (k0_t7 : Fin k0_t7_loop.trips) : Fin 4 → Nat :=
  let c0_i32_1899 : BitVec 32 := 0#32
  let v2601 : Index := Scalar.indexCast c0_i32_1899
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2602 : Index := Scalar.indexCast v2519
  let c2_i32_1900 : BitVec 32 := 2#32
  let v2603 : Index := Scalar.indexCast c2_i32_1900
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1898 : BitVec 32 := 16#32
  let v2600 : BitVec 32 := Scalar.muli v2506 c16_i32_1898
  let v2604 : Index := Scalar.indexCast v2600
  ![0, v2602.toNat, 2, v2604.toNat]

def k0_chk71 (v2611 : IVec S16 32) (v2613 : IVec S16 32) (v2614 : IVec S16 32) : Prop :=
  (∀ a x, ((![v2611, v2614, v2613] : Fin 3 → IVec S16 32) a x).toNat < S32x2x128.size a)
theorem k0_idx71_inb : ∀ (v2611 : IVec S16 32) (v2613 : IVec S16 32) (v2614 : IVec S16 32) (k0_hw71 : k0_chk71 v2611 v2613 v2614), ∀ a x, ((![v2611, v2614, v2613] : Fin 3 → IVec S16 32) a x).toNat < S32x2x128.size a := fun v2611 v2613 v2614 k0_hw71 => k0_hw71

def k0_chk72 (v2611 : IVec S16 32) (v2613 : IVec S16 32) (v2616 : IVec S16 32) : Prop :=
  (∀ a x, ((![v2611, v2616, v2613] : Fin 3 → IVec S16 32) a x).toNat < S32x2x128.size a)
theorem k0_idx72_inb : ∀ (v2611 : IVec S16 32) (v2613 : IVec S16 32) (v2616 : IVec S16 32) (k0_hw72 : k0_chk72 v2611 v2613 v2616), ∀ a x, ((![v2611, v2616, v2613] : Fin 3 → IVec S16 32) a x).toNat < S32x2x128.size a := fun v2611 v2613 v2616 k0_hw72 => k0_hw72

def k0_chk73 (v2624 : IVec S16 32) : Prop :=
  (∀ a x, ((![v2624] : Fin 1 → IVec S16 32) a x).toNat < S256.size a)
theorem k0_idx73_inb : ∀ (v2624 : IVec S16 32) (k0_hw73 : k0_chk73 v2624), ∀ a x, ((![v2624] : Fin 1 → IVec S16 32) a x).toNat < S256.size a := fun v2624 k0_hw73 => k0_hw73
def k0_off81 (k0_t6 : Fin k0_t6_loop.trips) (k0_t7 : Fin k0_t7_loop.trips) : Fin 4 → Nat :=
  let c0_i32_1909 : BitVec 32 := 0#32
  let v2627 : Index := Scalar.indexCast c0_i32_1909
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2628 : Index := Scalar.indexCast v2519
  let c2_i32_1910 : BitVec 32 := 2#32
  let v2629 : Index := Scalar.indexCast c2_i32_1910
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1908 : BitVec 32 := 16#32
  let v2626 : BitVec 32 := Scalar.muli v2506 c16_i32_1908
  let v2630 : Index := Scalar.indexCast v2626
  ![0, v2628.toNat, 2, v2630.toNat]
def k0_off82 (k0_t6 : Fin k0_t6_loop.trips) (k0_t7 : Fin k0_t7_loop.trips) : Fin 3 → Nat :=
  let c0_i32_1912 : BitVec 32 := 0#32
  let v2636 : Index := Scalar.indexCast c0_i32_1912
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2637 : Index := Scalar.indexCast v2519
  let c256_i32 : BitVec 32 := 256#32
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1911 : BitVec 32 := 16#32
  let v2634 : BitVec 32 := Scalar.muli v2506 c16_i32_1911
  let v2635 : BitVec 32 := Scalar.addi c256_i32 v2634
  let v2638 : Index := Scalar.indexCast v2635
  ![0, v2637.toNat, v2638.toNat]
def k0_off83 (k0_t6 : Fin k0_t6_loop.trips) (k0_t7 : Fin k0_t7_loop.trips) : Fin 4 → Nat :=
  let c0_i32_1914 : BitVec 32 := 0#32
  let v2641 : Index := Scalar.indexCast c0_i32_1914
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2642 : Index := Scalar.indexCast v2519
  let c3_i32_1915 : BitVec 32 := 3#32
  let v2643 : Index := Scalar.indexCast c3_i32_1915
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1913 : BitVec 32 := 16#32
  let v2640 : BitVec 32 := Scalar.muli v2506 c16_i32_1913
  let v2644 : Index := Scalar.indexCast v2640
  ![0, v2642.toNat, 3, v2644.toNat]

def k0_chk74 (v2651 : IVec S16 32) (v2653 : IVec S16 32) (v2654 : IVec S16 32) : Prop :=
  (∀ a x, ((![v2651, v2654, v2653] : Fin 3 → IVec S16 32) a x).toNat < S32x2x128.size a)
theorem k0_idx74_inb : ∀ (v2651 : IVec S16 32) (v2653 : IVec S16 32) (v2654 : IVec S16 32) (k0_hw74 : k0_chk74 v2651 v2653 v2654), ∀ a x, ((![v2651, v2654, v2653] : Fin 3 → IVec S16 32) a x).toNat < S32x2x128.size a := fun v2651 v2653 v2654 k0_hw74 => k0_hw74

def k0_chk75 (v2651 : IVec S16 32) (v2653 : IVec S16 32) (v2656 : IVec S16 32) : Prop :=
  (∀ a x, ((![v2651, v2656, v2653] : Fin 3 → IVec S16 32) a x).toNat < S32x2x128.size a)
theorem k0_idx75_inb : ∀ (v2651 : IVec S16 32) (v2653 : IVec S16 32) (v2656 : IVec S16 32) (k0_hw75 : k0_chk75 v2651 v2653 v2656), ∀ a x, ((![v2651, v2656, v2653] : Fin 3 → IVec S16 32) a x).toNat < S32x2x128.size a := fun v2651 v2653 v2656 k0_hw75 => k0_hw75

def k0_chk76 (v2664 : IVec S16 32) : Prop :=
  (∀ a x, ((![v2664] : Fin 1 → IVec S16 32) a x).toNat < S256.size a)
theorem k0_idx76_inb : ∀ (v2664 : IVec S16 32) (k0_hw76 : k0_chk76 v2664), ∀ a x, ((![v2664] : Fin 1 → IVec S16 32) a x).toNat < S256.size a := fun v2664 k0_hw76 => k0_hw76
def k0_off84 (k0_t6 : Fin k0_t6_loop.trips) (k0_t7 : Fin k0_t7_loop.trips) : Fin 4 → Nat :=
  let c0_i32_1924 : BitVec 32 := 0#32
  let v2667 : Index := Scalar.indexCast c0_i32_1924
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2668 : Index := Scalar.indexCast v2519
  let c3_i32_1925 : BitVec 32 := 3#32
  let v2669 : Index := Scalar.indexCast c3_i32_1925
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1923 : BitVec 32 := 16#32
  let v2666 : BitVec 32 := Scalar.muli v2506 c16_i32_1923
  let v2670 : Index := Scalar.indexCast v2666
  ![0, v2668.toNat, 3, v2670.toNat]
def k0_off85 (k0_t6 : Fin k0_t6_loop.trips) (k0_t7 : Fin k0_t7_loop.trips) : Fin 3 → Nat :=
  let c0_i32_1927 : BitVec 32 := 0#32
  let v2676 : Index := Scalar.indexCast c0_i32_1927
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2677 : Index := Scalar.indexCast v2519
  let c384_i32 : BitVec 32 := 384#32
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1926 : BitVec 32 := 16#32
  let v2674 : BitVec 32 := Scalar.muli v2506 c16_i32_1926
  let v2675 : BitVec 32 := Scalar.addi c384_i32 v2674
  let v2678 : Index := Scalar.indexCast v2675
  ![0, v2677.toNat, v2678.toNat]
def k0_off86 (k0_t6 : Fin k0_t6_loop.trips) (k0_t7 : Fin k0_t7_loop.trips) : Fin 4 → Nat :=
  let c0_i32_1929 : BitVec 32 := 0#32
  let v2681 : Index := Scalar.indexCast c0_i32_1929
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2682 : Index := Scalar.indexCast v2519
  let c4_i32_1930 : BitVec 32 := 4#32
  let v2683 : Index := Scalar.indexCast c4_i32_1930
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1928 : BitVec 32 := 16#32
  let v2680 : BitVec 32 := Scalar.muli v2506 c16_i32_1928
  let v2684 : Index := Scalar.indexCast v2680
  ![0, v2682.toNat, 4, v2684.toNat]

def k0_chk77 (v2691 : IVec S16 32) (v2693 : IVec S16 32) (v2694 : IVec S16 32) : Prop :=
  (∀ a x, ((![v2691, v2694, v2693] : Fin 3 → IVec S16 32) a x).toNat < S32x2x128.size a)
theorem k0_idx77_inb : ∀ (v2691 : IVec S16 32) (v2693 : IVec S16 32) (v2694 : IVec S16 32) (k0_hw77 : k0_chk77 v2691 v2693 v2694), ∀ a x, ((![v2691, v2694, v2693] : Fin 3 → IVec S16 32) a x).toNat < S32x2x128.size a := fun v2691 v2693 v2694 k0_hw77 => k0_hw77

def k0_chk78 (v2691 : IVec S16 32) (v2693 : IVec S16 32) (v2696 : IVec S16 32) : Prop :=
  (∀ a x, ((![v2691, v2696, v2693] : Fin 3 → IVec S16 32) a x).toNat < S32x2x128.size a)
theorem k0_idx78_inb : ∀ (v2691 : IVec S16 32) (v2693 : IVec S16 32) (v2696 : IVec S16 32) (k0_hw78 : k0_chk78 v2691 v2693 v2696), ∀ a x, ((![v2691, v2696, v2693] : Fin 3 → IVec S16 32) a x).toNat < S32x2x128.size a := fun v2691 v2693 v2696 k0_hw78 => k0_hw78

def k0_chk79 (v2704 : IVec S16 32) : Prop :=
  (∀ a x, ((![v2704] : Fin 1 → IVec S16 32) a x).toNat < S256.size a)
theorem k0_idx79_inb : ∀ (v2704 : IVec S16 32) (k0_hw79 : k0_chk79 v2704), ∀ a x, ((![v2704] : Fin 1 → IVec S16 32) a x).toNat < S256.size a := fun v2704 k0_hw79 => k0_hw79
def k0_off87 (k0_t6 : Fin k0_t6_loop.trips) (k0_t7 : Fin k0_t7_loop.trips) : Fin 4 → Nat :=
  let c0_i32_1939 : BitVec 32 := 0#32
  let v2707 : Index := Scalar.indexCast c0_i32_1939
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2708 : Index := Scalar.indexCast v2519
  let c4_i32_1940 : BitVec 32 := 4#32
  let v2709 : Index := Scalar.indexCast c4_i32_1940
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1938 : BitVec 32 := 16#32
  let v2706 : BitVec 32 := Scalar.muli v2506 c16_i32_1938
  let v2710 : Index := Scalar.indexCast v2706
  ![0, v2708.toNat, 4, v2710.toNat]
def k0_off88 (k0_t6 : Fin k0_t6_loop.trips) (k0_t7 : Fin k0_t7_loop.trips) : Fin 3 → Nat :=
  let c0_i32_1943 : BitVec 32 := 0#32
  let v2716 : Index := Scalar.indexCast c0_i32_1943
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2717 : Index := Scalar.indexCast v2519
  let c512_i32_1942 : BitVec 32 := 512#32
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1941 : BitVec 32 := 16#32
  let v2714 : BitVec 32 := Scalar.muli v2506 c16_i32_1941
  let v2715 : BitVec 32 := Scalar.addi c512_i32_1942 v2714
  let v2718 : Index := Scalar.indexCast v2715
  ![0, v2717.toNat, v2718.toNat]
def k0_off89 (k0_t6 : Fin k0_t6_loop.trips) (k0_t7 : Fin k0_t7_loop.trips) : Fin 4 → Nat :=
  let c0_i32_1945 : BitVec 32 := 0#32
  let v2721 : Index := Scalar.indexCast c0_i32_1945
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2722 : Index := Scalar.indexCast v2519
  let c5_i32_1946 : BitVec 32 := 5#32
  let v2723 : Index := Scalar.indexCast c5_i32_1946
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1944 : BitVec 32 := 16#32
  let v2720 : BitVec 32 := Scalar.muli v2506 c16_i32_1944
  let v2724 : Index := Scalar.indexCast v2720
  ![0, v2722.toNat, 5, v2724.toNat]

def k0_chk80 (v2731 : IVec S16 32) (v2733 : IVec S16 32) (v2734 : IVec S16 32) : Prop :=
  (∀ a x, ((![v2731, v2734, v2733] : Fin 3 → IVec S16 32) a x).toNat < S32x2x128.size a)
theorem k0_idx80_inb : ∀ (v2731 : IVec S16 32) (v2733 : IVec S16 32) (v2734 : IVec S16 32) (k0_hw80 : k0_chk80 v2731 v2733 v2734), ∀ a x, ((![v2731, v2734, v2733] : Fin 3 → IVec S16 32) a x).toNat < S32x2x128.size a := fun v2731 v2733 v2734 k0_hw80 => k0_hw80

def k0_chk81 (v2731 : IVec S16 32) (v2733 : IVec S16 32) (v2736 : IVec S16 32) : Prop :=
  (∀ a x, ((![v2731, v2736, v2733] : Fin 3 → IVec S16 32) a x).toNat < S32x2x128.size a)
theorem k0_idx81_inb : ∀ (v2731 : IVec S16 32) (v2733 : IVec S16 32) (v2736 : IVec S16 32) (k0_hw81 : k0_chk81 v2731 v2733 v2736), ∀ a x, ((![v2731, v2736, v2733] : Fin 3 → IVec S16 32) a x).toNat < S32x2x128.size a := fun v2731 v2733 v2736 k0_hw81 => k0_hw81

def k0_chk82 (v2744 : IVec S16 32) : Prop :=
  (∀ a x, ((![v2744] : Fin 1 → IVec S16 32) a x).toNat < S256.size a)
theorem k0_idx82_inb : ∀ (v2744 : IVec S16 32) (k0_hw82 : k0_chk82 v2744), ∀ a x, ((![v2744] : Fin 1 → IVec S16 32) a x).toNat < S256.size a := fun v2744 k0_hw82 => k0_hw82
def k0_off90 (k0_t6 : Fin k0_t6_loop.trips) (k0_t7 : Fin k0_t7_loop.trips) : Fin 4 → Nat :=
  let c0_i32_1955 : BitVec 32 := 0#32
  let v2747 : Index := Scalar.indexCast c0_i32_1955
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2748 : Index := Scalar.indexCast v2519
  let c5_i32_1956 : BitVec 32 := 5#32
  let v2749 : Index := Scalar.indexCast c5_i32_1956
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1954 : BitVec 32 := 16#32
  let v2746 : BitVec 32 := Scalar.muli v2506 c16_i32_1954
  let v2750 : Index := Scalar.indexCast v2746
  ![0, v2748.toNat, 5, v2750.toNat]
def k0_off91 (k0_t6 : Fin k0_t6_loop.trips) (k0_t7 : Fin k0_t7_loop.trips) : Fin 3 → Nat :=
  let c0_i32_1958 : BitVec 32 := 0#32
  let v2756 : Index := Scalar.indexCast c0_i32_1958
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2757 : Index := Scalar.indexCast v2519
  let c640_i32 : BitVec 32 := 640#32
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1957 : BitVec 32 := 16#32
  let v2754 : BitVec 32 := Scalar.muli v2506 c16_i32_1957
  let v2755 : BitVec 32 := Scalar.addi c640_i32 v2754
  let v2758 : Index := Scalar.indexCast v2755
  ![0, v2757.toNat, v2758.toNat]
def k0_off92 (k0_t6 : Fin k0_t6_loop.trips) (k0_t7 : Fin k0_t7_loop.trips) : Fin 4 → Nat :=
  let c0_i32_1960 : BitVec 32 := 0#32
  let v2761 : Index := Scalar.indexCast c0_i32_1960
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2762 : Index := Scalar.indexCast v2519
  let c6_i32_1961 : BitVec 32 := 6#32
  let v2763 : Index := Scalar.indexCast c6_i32_1961
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1959 : BitVec 32 := 16#32
  let v2760 : BitVec 32 := Scalar.muli v2506 c16_i32_1959
  let v2764 : Index := Scalar.indexCast v2760
  ![0, v2762.toNat, 6, v2764.toNat]

def k0_chk83 (v2771 : IVec S16 32) (v2773 : IVec S16 32) (v2774 : IVec S16 32) : Prop :=
  (∀ a x, ((![v2771, v2774, v2773] : Fin 3 → IVec S16 32) a x).toNat < S32x2x128.size a)
theorem k0_idx83_inb : ∀ (v2771 : IVec S16 32) (v2773 : IVec S16 32) (v2774 : IVec S16 32) (k0_hw83 : k0_chk83 v2771 v2773 v2774), ∀ a x, ((![v2771, v2774, v2773] : Fin 3 → IVec S16 32) a x).toNat < S32x2x128.size a := fun v2771 v2773 v2774 k0_hw83 => k0_hw83

def k0_chk84 (v2771 : IVec S16 32) (v2773 : IVec S16 32) (v2776 : IVec S16 32) : Prop :=
  (∀ a x, ((![v2771, v2776, v2773] : Fin 3 → IVec S16 32) a x).toNat < S32x2x128.size a)
theorem k0_idx84_inb : ∀ (v2771 : IVec S16 32) (v2773 : IVec S16 32) (v2776 : IVec S16 32) (k0_hw84 : k0_chk84 v2771 v2773 v2776), ∀ a x, ((![v2771, v2776, v2773] : Fin 3 → IVec S16 32) a x).toNat < S32x2x128.size a := fun v2771 v2773 v2776 k0_hw84 => k0_hw84

def k0_chk85 (v2784 : IVec S16 32) : Prop :=
  (∀ a x, ((![v2784] : Fin 1 → IVec S16 32) a x).toNat < S256.size a)
theorem k0_idx85_inb : ∀ (v2784 : IVec S16 32) (k0_hw85 : k0_chk85 v2784), ∀ a x, ((![v2784] : Fin 1 → IVec S16 32) a x).toNat < S256.size a := fun v2784 k0_hw85 => k0_hw85
def k0_off93 (k0_t6 : Fin k0_t6_loop.trips) (k0_t7 : Fin k0_t7_loop.trips) : Fin 4 → Nat :=
  let c0_i32_1970 : BitVec 32 := 0#32
  let v2787 : Index := Scalar.indexCast c0_i32_1970
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2788 : Index := Scalar.indexCast v2519
  let c6_i32_1971 : BitVec 32 := 6#32
  let v2789 : Index := Scalar.indexCast c6_i32_1971
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1969 : BitVec 32 := 16#32
  let v2786 : BitVec 32 := Scalar.muli v2506 c16_i32_1969
  let v2790 : Index := Scalar.indexCast v2786
  ![0, v2788.toNat, 6, v2790.toNat]
def k0_off94 (k0_t6 : Fin k0_t6_loop.trips) (k0_t7 : Fin k0_t7_loop.trips) : Fin 3 → Nat :=
  let c0_i32_1973 : BitVec 32 := 0#32
  let v2796 : Index := Scalar.indexCast c0_i32_1973
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2797 : Index := Scalar.indexCast v2519
  let c768_i32 : BitVec 32 := 768#32
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1972 : BitVec 32 := 16#32
  let v2794 : BitVec 32 := Scalar.muli v2506 c16_i32_1972
  let v2795 : BitVec 32 := Scalar.addi c768_i32 v2794
  let v2798 : Index := Scalar.indexCast v2795
  ![0, v2797.toNat, v2798.toNat]
def k0_off95 (k0_t6 : Fin k0_t6_loop.trips) (k0_t7 : Fin k0_t7_loop.trips) : Fin 4 → Nat :=
  let c0_i32_1975 : BitVec 32 := 0#32
  let v2801 : Index := Scalar.indexCast c0_i32_1975
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2802 : Index := Scalar.indexCast v2519
  let c7_i32_1976 : BitVec 32 := 7#32
  let v2803 : Index := Scalar.indexCast c7_i32_1976
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1974 : BitVec 32 := 16#32
  let v2800 : BitVec 32 := Scalar.muli v2506 c16_i32_1974
  let v2804 : Index := Scalar.indexCast v2800
  ![0, v2802.toNat, 7, v2804.toNat]

def k0_chk86 (v2811 : IVec S16 32) (v2813 : IVec S16 32) (v2814 : IVec S16 32) : Prop :=
  (∀ a x, ((![v2811, v2814, v2813] : Fin 3 → IVec S16 32) a x).toNat < S32x2x128.size a)
theorem k0_idx86_inb : ∀ (v2811 : IVec S16 32) (v2813 : IVec S16 32) (v2814 : IVec S16 32) (k0_hw86 : k0_chk86 v2811 v2813 v2814), ∀ a x, ((![v2811, v2814, v2813] : Fin 3 → IVec S16 32) a x).toNat < S32x2x128.size a := fun v2811 v2813 v2814 k0_hw86 => k0_hw86

def k0_chk87 (v2811 : IVec S16 32) (v2813 : IVec S16 32) (v2816 : IVec S16 32) : Prop :=
  (∀ a x, ((![v2811, v2816, v2813] : Fin 3 → IVec S16 32) a x).toNat < S32x2x128.size a)
theorem k0_idx87_inb : ∀ (v2811 : IVec S16 32) (v2813 : IVec S16 32) (v2816 : IVec S16 32) (k0_hw87 : k0_chk87 v2811 v2813 v2816), ∀ a x, ((![v2811, v2816, v2813] : Fin 3 → IVec S16 32) a x).toNat < S32x2x128.size a := fun v2811 v2813 v2816 k0_hw87 => k0_hw87

def k0_chk88 (v2824 : IVec S16 32) : Prop :=
  (∀ a x, ((![v2824] : Fin 1 → IVec S16 32) a x).toNat < S256.size a)
theorem k0_idx88_inb : ∀ (v2824 : IVec S16 32) (k0_hw88 : k0_chk88 v2824), ∀ a x, ((![v2824] : Fin 1 → IVec S16 32) a x).toNat < S256.size a := fun v2824 k0_hw88 => k0_hw88
def k0_off96 (k0_t6 : Fin k0_t6_loop.trips) (k0_t7 : Fin k0_t7_loop.trips) : Fin 4 → Nat :=
  let c0_i32_1985 : BitVec 32 := 0#32
  let v2827 : Index := Scalar.indexCast c0_i32_1985
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2828 : Index := Scalar.indexCast v2519
  let c7_i32_1986 : BitVec 32 := 7#32
  let v2829 : Index := Scalar.indexCast c7_i32_1986
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1984 : BitVec 32 := 16#32
  let v2826 : BitVec 32 := Scalar.muli v2506 c16_i32_1984
  let v2830 : Index := Scalar.indexCast v2826
  ![0, v2828.toNat, 7, v2830.toNat]
def k0_off97 (k0_t6 : Fin k0_t6_loop.trips) (k0_t7 : Fin k0_t7_loop.trips) : Fin 3 → Nat :=
  let c0_i32_1988 : BitVec 32 := 0#32
  let v2836 : Index := Scalar.indexCast c0_i32_1988
  let c0_i32_1868 : BitVec 32 := 0#32
  let c0_i32_1863 : BitVec 32 := 0#32
  let c1_i32_1865 : BitVec 32 := 1#32
  let arg20 : BitVec 32 := Scf.iv c0_i32_1863 c1_i32_1865 k0_t7
  let c1_i32_1867 : BitVec 32 := 1#32
  let v2518 : BitVec 32 := Scalar.muli arg20 c1_i32_1867
  let v2519 : BitVec 32 := Scalar.addi c0_i32_1868 v2518
  let v2837 : Index := Scalar.indexCast v2519
  let c896_i32 : BitVec 32 := 896#32
  let c0_i32_1858 : BitVec 32 := 0#32
  let c0_i32_695 : BitVec 32 := 0#32
  let c1_i32_697 : BitVec 32 := 1#32
  let arg19 : BitVec 32 := Scf.iv c0_i32_695 c1_i32_697 k0_t6
  let c1_i32_1857 : BitVec 32 := 1#32
  let v2505 : BitVec 32 := Scalar.muli arg19 c1_i32_1857
  let v2506 : BitVec 32 := Scalar.addi c0_i32_1858 v2505
  let c16_i32_1987 : BitVec 32 := 16#32
  let v2834 : BitVec 32 := Scalar.muli v2506 c16_i32_1987
  let v2835 : BitVec 32 := Scalar.addi c896_i32 v2834
  let v2838 : Index := Scalar.indexCast v2835
  ![0, v2837.toNat, v2838.toNat]
@[reducible] def k0_t8_loop : Scf.Loop 32 :=
  let c0_i32_831 : BitVec 32 := 0#32
  let c8_i32_832 : BitVec 32 := 8#32
  let v1573 : BitVec 32 := Scalar.addi c0_i32_831 c8_i32_832
  let c1_i32_833 : BitVec 32 := 1#32
  ⟨c0_i32_831, v1573, c1_i32_833⟩
def k0_off98 (i : grid0.Coords) (k0_t8 : Fin k0_t8_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c3_i32_708 : BitVec 32 := 3#32
  let v1471 : BitVec 32 := Scalar.addi v29 c3_i32_708
  let v2508 : Index := Scalar.indexCast v1471
  let c0_i32_1860 : BitVec 32 := 0#32
  let v2509 : Index := Scalar.indexCast c0_i32_1860
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1859 : BitVec 32 := 16#32
  let v2507 : BitVec 32 := Scalar.muli v2506 c16_i32_1859
  let v2510 : Index := Scalar.indexCast v2507
  ![v2508.toNat, 0, v2510.toNat]
def k0_off99 (i : grid0.Coords) (k0_t8 : Fin k0_t8_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c3_i32_708 : BitVec 32 := 3#32
  let v1471 : BitVec 32 := Scalar.addi v29 c3_i32_708
  let v2513 : Index := Scalar.indexCast v1471
  let c1_i32_1862 : BitVec 32 := 1#32
  let v2514 : Index := Scalar.indexCast c1_i32_1862
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1861 : BitVec 32 := 16#32
  let v2512 : BitVec 32 := Scalar.muli v2506 c16_i32_1861
  let v2515 : Index := Scalar.indexCast v2512
  ![v2513.toNat, 1, v2515.toNat]
@[reducible] def k0_t9_loop : Scf.Loop 32 :=
  let c0_i32_1863 : BitVec 32 := 0#32
  let c8_i32_1864 : BitVec 32 := 8#32
  let v2517 : BitVec 32 := Scalar.addi c0_i32_1863 c8_i32_1864
  let c1_i32_1865 : BitVec 32 := 1#32
  ⟨c0_i32_1863, v2517, c1_i32_1865⟩
def k0_off100 (k0_t8 : Fin k0_t8_loop.trips) (k0_t9 : Fin k0_t9_loop.trips) : Fin 4 → Nat :=
  let c1_i32_1870 : BitVec 32 := 1#32
  let v2521 : Index := Scalar.indexCast c1_i32_1870
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2522 : Index := Scalar.indexCast v2519
  let c0_i32_1871 : BitVec 32 := 0#32
  let v2523 : Index := Scalar.indexCast c0_i32_1871
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1869 : BitVec 32 := 16#32
  let v2520 : BitVec 32 := Scalar.muli v2506 c16_i32_1869
  let v2524 : Index := Scalar.indexCast v2520
  ![1, v2522.toNat, 0, v2524.toNat]

def k0_chk89 (v2531 : IVec S16 32) (v2533 : IVec S16 32) (v2534 : IVec S16 32) : Prop :=
  (∀ a x, ((![v2531, v2534, v2533] : Fin 3 → IVec S16 32) a x).toNat < S32x2x128.size a)
theorem k0_idx89_inb : ∀ (v2531 : IVec S16 32) (v2533 : IVec S16 32) (v2534 : IVec S16 32) (k0_hw89 : k0_chk89 v2531 v2533 v2534), ∀ a x, ((![v2531, v2534, v2533] : Fin 3 → IVec S16 32) a x).toNat < S32x2x128.size a := fun v2531 v2533 v2534 k0_hw89 => k0_hw89

def k0_chk90 (v2531 : IVec S16 32) (v2533 : IVec S16 32) (v2536 : IVec S16 32) : Prop :=
  (∀ a x, ((![v2531, v2536, v2533] : Fin 3 → IVec S16 32) a x).toNat < S32x2x128.size a)
theorem k0_idx90_inb : ∀ (v2531 : IVec S16 32) (v2533 : IVec S16 32) (v2536 : IVec S16 32) (k0_hw90 : k0_chk90 v2531 v2533 v2536), ∀ a x, ((![v2531, v2536, v2533] : Fin 3 → IVec S16 32) a x).toNat < S32x2x128.size a := fun v2531 v2533 v2536 k0_hw90 => k0_hw90

def k0_chk91 (v2544 : IVec S16 32) : Prop :=
  (∀ a x, ((![v2544] : Fin 1 → IVec S16 32) a x).toNat < S256.size a)
theorem k0_idx91_inb : ∀ (v2544 : IVec S16 32) (k0_hw91 : k0_chk91 v2544), ∀ a x, ((![v2544] : Fin 1 → IVec S16 32) a x).toNat < S256.size a := fun v2544 k0_hw91 => k0_hw91
def k0_off101 (k0_t8 : Fin k0_t8_loop.trips) (k0_t9 : Fin k0_t9_loop.trips) : Fin 4 → Nat :=
  let c1_i32_1877 : BitVec 32 := 1#32
  let v2547 : Index := Scalar.indexCast c1_i32_1877
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2548 : Index := Scalar.indexCast v2519
  let c0_i32_1878 : BitVec 32 := 0#32
  let v2549 : Index := Scalar.indexCast c0_i32_1878
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1876 : BitVec 32 := 16#32
  let v2546 : BitVec 32 := Scalar.muli v2506 c16_i32_1876
  let v2550 : Index := Scalar.indexCast v2546
  ![1, v2548.toNat, 0, v2550.toNat]
def k0_off102 (k0_t8 : Fin k0_t8_loop.trips) (k0_t9 : Fin k0_t9_loop.trips) : Fin 3 → Nat :=
  let c1_i32_1881 : BitVec 32 := 1#32
  let v2556 : Index := Scalar.indexCast c1_i32_1881
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2557 : Index := Scalar.indexCast v2519
  let c0_i32_1880 : BitVec 32 := 0#32
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1879 : BitVec 32 := 16#32
  let v2554 : BitVec 32 := Scalar.muli v2506 c16_i32_1879
  let v2555 : BitVec 32 := Scalar.addi c0_i32_1880 v2554
  let v2558 : Index := Scalar.indexCast v2555
  ![1, v2557.toNat, v2558.toNat]
def k0_off103 (k0_t8 : Fin k0_t8_loop.trips) (k0_t9 : Fin k0_t9_loop.trips) : Fin 4 → Nat :=
  let c1_i32_1883 : BitVec 32 := 1#32
  let v2561 : Index := Scalar.indexCast c1_i32_1883
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2562 : Index := Scalar.indexCast v2519
  let c1_i32_1884 : BitVec 32 := 1#32
  let v2563 : Index := Scalar.indexCast c1_i32_1884
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1882 : BitVec 32 := 16#32
  let v2560 : BitVec 32 := Scalar.muli v2506 c16_i32_1882
  let v2564 : Index := Scalar.indexCast v2560
  ![1, v2562.toNat, 1, v2564.toNat]

def k0_chk92 (v2571 : IVec S16 32) (v2573 : IVec S16 32) (v2574 : IVec S16 32) : Prop :=
  (∀ a x, ((![v2571, v2574, v2573] : Fin 3 → IVec S16 32) a x).toNat < S32x2x128.size a)
theorem k0_idx92_inb : ∀ (v2571 : IVec S16 32) (v2573 : IVec S16 32) (v2574 : IVec S16 32) (k0_hw92 : k0_chk92 v2571 v2573 v2574), ∀ a x, ((![v2571, v2574, v2573] : Fin 3 → IVec S16 32) a x).toNat < S32x2x128.size a := fun v2571 v2573 v2574 k0_hw92 => k0_hw92

def k0_chk93 (v2571 : IVec S16 32) (v2573 : IVec S16 32) (v2576 : IVec S16 32) : Prop :=
  (∀ a x, ((![v2571, v2576, v2573] : Fin 3 → IVec S16 32) a x).toNat < S32x2x128.size a)
theorem k0_idx93_inb : ∀ (v2571 : IVec S16 32) (v2573 : IVec S16 32) (v2576 : IVec S16 32) (k0_hw93 : k0_chk93 v2571 v2573 v2576), ∀ a x, ((![v2571, v2576, v2573] : Fin 3 → IVec S16 32) a x).toNat < S32x2x128.size a := fun v2571 v2573 v2576 k0_hw93 => k0_hw93

def k0_chk94 (v2584 : IVec S16 32) : Prop :=
  (∀ a x, ((![v2584] : Fin 1 → IVec S16 32) a x).toNat < S256.size a)
theorem k0_idx94_inb : ∀ (v2584 : IVec S16 32) (k0_hw94 : k0_chk94 v2584), ∀ a x, ((![v2584] : Fin 1 → IVec S16 32) a x).toNat < S256.size a := fun v2584 k0_hw94 => k0_hw94
def k0_off104 (k0_t8 : Fin k0_t8_loop.trips) (k0_t9 : Fin k0_t9_loop.trips) : Fin 4 → Nat :=
  let c1_i32_1893 : BitVec 32 := 1#32
  let v2587 : Index := Scalar.indexCast c1_i32_1893
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2588 : Index := Scalar.indexCast v2519
  let c1_i32_1894 : BitVec 32 := 1#32
  let v2589 : Index := Scalar.indexCast c1_i32_1894
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1892 : BitVec 32 := 16#32
  let v2586 : BitVec 32 := Scalar.muli v2506 c16_i32_1892
  let v2590 : Index := Scalar.indexCast v2586
  ![1, v2588.toNat, 1, v2590.toNat]
def k0_off105 (k0_t8 : Fin k0_t8_loop.trips) (k0_t9 : Fin k0_t9_loop.trips) : Fin 3 → Nat :=
  let c1_i32_1897 : BitVec 32 := 1#32
  let v2596 : Index := Scalar.indexCast c1_i32_1897
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2597 : Index := Scalar.indexCast v2519
  let c128_i32_1896 : BitVec 32 := 128#32
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1895 : BitVec 32 := 16#32
  let v2594 : BitVec 32 := Scalar.muli v2506 c16_i32_1895
  let v2595 : BitVec 32 := Scalar.addi c128_i32_1896 v2594
  let v2598 : Index := Scalar.indexCast v2595
  ![1, v2597.toNat, v2598.toNat]
def k0_off106 (k0_t8 : Fin k0_t8_loop.trips) (k0_t9 : Fin k0_t9_loop.trips) : Fin 4 → Nat :=
  let c1_i32_1899 : BitVec 32 := 1#32
  let v2601 : Index := Scalar.indexCast c1_i32_1899
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2602 : Index := Scalar.indexCast v2519
  let c2_i32_1900 : BitVec 32 := 2#32
  let v2603 : Index := Scalar.indexCast c2_i32_1900
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1898 : BitVec 32 := 16#32
  let v2600 : BitVec 32 := Scalar.muli v2506 c16_i32_1898
  let v2604 : Index := Scalar.indexCast v2600
  ![1, v2602.toNat, 2, v2604.toNat]

def k0_chk95 (v2611 : IVec S16 32) (v2613 : IVec S16 32) (v2614 : IVec S16 32) : Prop :=
  (∀ a x, ((![v2611, v2614, v2613] : Fin 3 → IVec S16 32) a x).toNat < S32x2x128.size a)
theorem k0_idx95_inb : ∀ (v2611 : IVec S16 32) (v2613 : IVec S16 32) (v2614 : IVec S16 32) (k0_hw95 : k0_chk95 v2611 v2613 v2614), ∀ a x, ((![v2611, v2614, v2613] : Fin 3 → IVec S16 32) a x).toNat < S32x2x128.size a := fun v2611 v2613 v2614 k0_hw95 => k0_hw95

def k0_chk96 (v2611 : IVec S16 32) (v2613 : IVec S16 32) (v2616 : IVec S16 32) : Prop :=
  (∀ a x, ((![v2611, v2616, v2613] : Fin 3 → IVec S16 32) a x).toNat < S32x2x128.size a)
theorem k0_idx96_inb : ∀ (v2611 : IVec S16 32) (v2613 : IVec S16 32) (v2616 : IVec S16 32) (k0_hw96 : k0_chk96 v2611 v2613 v2616), ∀ a x, ((![v2611, v2616, v2613] : Fin 3 → IVec S16 32) a x).toNat < S32x2x128.size a := fun v2611 v2613 v2616 k0_hw96 => k0_hw96

def k0_chk97 (v2624 : IVec S16 32) : Prop :=
  (∀ a x, ((![v2624] : Fin 1 → IVec S16 32) a x).toNat < S256.size a)
theorem k0_idx97_inb : ∀ (v2624 : IVec S16 32) (k0_hw97 : k0_chk97 v2624), ∀ a x, ((![v2624] : Fin 1 → IVec S16 32) a x).toNat < S256.size a := fun v2624 k0_hw97 => k0_hw97
def k0_off107 (k0_t8 : Fin k0_t8_loop.trips) (k0_t9 : Fin k0_t9_loop.trips) : Fin 4 → Nat :=
  let c1_i32_1909 : BitVec 32 := 1#32
  let v2627 : Index := Scalar.indexCast c1_i32_1909
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2628 : Index := Scalar.indexCast v2519
  let c2_i32_1910 : BitVec 32 := 2#32
  let v2629 : Index := Scalar.indexCast c2_i32_1910
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1908 : BitVec 32 := 16#32
  let v2626 : BitVec 32 := Scalar.muli v2506 c16_i32_1908
  let v2630 : Index := Scalar.indexCast v2626
  ![1, v2628.toNat, 2, v2630.toNat]
def k0_off108 (k0_t8 : Fin k0_t8_loop.trips) (k0_t9 : Fin k0_t9_loop.trips) : Fin 3 → Nat :=
  let c1_i32_1912 : BitVec 32 := 1#32
  let v2636 : Index := Scalar.indexCast c1_i32_1912
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2637 : Index := Scalar.indexCast v2519
  let c256_i32 : BitVec 32 := 256#32
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1911 : BitVec 32 := 16#32
  let v2634 : BitVec 32 := Scalar.muli v2506 c16_i32_1911
  let v2635 : BitVec 32 := Scalar.addi c256_i32 v2634
  let v2638 : Index := Scalar.indexCast v2635
  ![1, v2637.toNat, v2638.toNat]
def k0_off109 (k0_t8 : Fin k0_t8_loop.trips) (k0_t9 : Fin k0_t9_loop.trips) : Fin 4 → Nat :=
  let c1_i32_1914 : BitVec 32 := 1#32
  let v2641 : Index := Scalar.indexCast c1_i32_1914
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2642 : Index := Scalar.indexCast v2519
  let c3_i32_1915 : BitVec 32 := 3#32
  let v2643 : Index := Scalar.indexCast c3_i32_1915
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1913 : BitVec 32 := 16#32
  let v2640 : BitVec 32 := Scalar.muli v2506 c16_i32_1913
  let v2644 : Index := Scalar.indexCast v2640
  ![1, v2642.toNat, 3, v2644.toNat]

def k0_chk98 (v2651 : IVec S16 32) (v2653 : IVec S16 32) (v2654 : IVec S16 32) : Prop :=
  (∀ a x, ((![v2651, v2654, v2653] : Fin 3 → IVec S16 32) a x).toNat < S32x2x128.size a)
theorem k0_idx98_inb : ∀ (v2651 : IVec S16 32) (v2653 : IVec S16 32) (v2654 : IVec S16 32) (k0_hw98 : k0_chk98 v2651 v2653 v2654), ∀ a x, ((![v2651, v2654, v2653] : Fin 3 → IVec S16 32) a x).toNat < S32x2x128.size a := fun v2651 v2653 v2654 k0_hw98 => k0_hw98

def k0_chk99 (v2651 : IVec S16 32) (v2653 : IVec S16 32) (v2656 : IVec S16 32) : Prop :=
  (∀ a x, ((![v2651, v2656, v2653] : Fin 3 → IVec S16 32) a x).toNat < S32x2x128.size a)
theorem k0_idx99_inb : ∀ (v2651 : IVec S16 32) (v2653 : IVec S16 32) (v2656 : IVec S16 32) (k0_hw99 : k0_chk99 v2651 v2653 v2656), ∀ a x, ((![v2651, v2656, v2653] : Fin 3 → IVec S16 32) a x).toNat < S32x2x128.size a := fun v2651 v2653 v2656 k0_hw99 => k0_hw99

def k0_chk100 (v2664 : IVec S16 32) : Prop :=
  (∀ a x, ((![v2664] : Fin 1 → IVec S16 32) a x).toNat < S256.size a)
theorem k0_idx100_inb : ∀ (v2664 : IVec S16 32) (k0_hw100 : k0_chk100 v2664), ∀ a x, ((![v2664] : Fin 1 → IVec S16 32) a x).toNat < S256.size a := fun v2664 k0_hw100 => k0_hw100
def k0_off110 (k0_t8 : Fin k0_t8_loop.trips) (k0_t9 : Fin k0_t9_loop.trips) : Fin 4 → Nat :=
  let c1_i32_1924 : BitVec 32 := 1#32
  let v2667 : Index := Scalar.indexCast c1_i32_1924
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2668 : Index := Scalar.indexCast v2519
  let c3_i32_1925 : BitVec 32 := 3#32
  let v2669 : Index := Scalar.indexCast c3_i32_1925
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1923 : BitVec 32 := 16#32
  let v2666 : BitVec 32 := Scalar.muli v2506 c16_i32_1923
  let v2670 : Index := Scalar.indexCast v2666
  ![1, v2668.toNat, 3, v2670.toNat]
def k0_off111 (k0_t8 : Fin k0_t8_loop.trips) (k0_t9 : Fin k0_t9_loop.trips) : Fin 3 → Nat :=
  let c1_i32_1927 : BitVec 32 := 1#32
  let v2676 : Index := Scalar.indexCast c1_i32_1927
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2677 : Index := Scalar.indexCast v2519
  let c384_i32 : BitVec 32 := 384#32
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1926 : BitVec 32 := 16#32
  let v2674 : BitVec 32 := Scalar.muli v2506 c16_i32_1926
  let v2675 : BitVec 32 := Scalar.addi c384_i32 v2674
  let v2678 : Index := Scalar.indexCast v2675
  ![1, v2677.toNat, v2678.toNat]
def k0_off112 (k0_t8 : Fin k0_t8_loop.trips) (k0_t9 : Fin k0_t9_loop.trips) : Fin 4 → Nat :=
  let c1_i32_1929 : BitVec 32 := 1#32
  let v2681 : Index := Scalar.indexCast c1_i32_1929
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2682 : Index := Scalar.indexCast v2519
  let c4_i32_1930 : BitVec 32 := 4#32
  let v2683 : Index := Scalar.indexCast c4_i32_1930
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1928 : BitVec 32 := 16#32
  let v2680 : BitVec 32 := Scalar.muli v2506 c16_i32_1928
  let v2684 : Index := Scalar.indexCast v2680
  ![1, v2682.toNat, 4, v2684.toNat]

def k0_chk101 (v2691 : IVec S16 32) (v2693 : IVec S16 32) (v2694 : IVec S16 32) : Prop :=
  (∀ a x, ((![v2691, v2694, v2693] : Fin 3 → IVec S16 32) a x).toNat < S32x2x128.size a)
theorem k0_idx101_inb : ∀ (v2691 : IVec S16 32) (v2693 : IVec S16 32) (v2694 : IVec S16 32) (k0_hw101 : k0_chk101 v2691 v2693 v2694), ∀ a x, ((![v2691, v2694, v2693] : Fin 3 → IVec S16 32) a x).toNat < S32x2x128.size a := fun v2691 v2693 v2694 k0_hw101 => k0_hw101

def k0_chk102 (v2691 : IVec S16 32) (v2693 : IVec S16 32) (v2696 : IVec S16 32) : Prop :=
  (∀ a x, ((![v2691, v2696, v2693] : Fin 3 → IVec S16 32) a x).toNat < S32x2x128.size a)
theorem k0_idx102_inb : ∀ (v2691 : IVec S16 32) (v2693 : IVec S16 32) (v2696 : IVec S16 32) (k0_hw102 : k0_chk102 v2691 v2693 v2696), ∀ a x, ((![v2691, v2696, v2693] : Fin 3 → IVec S16 32) a x).toNat < S32x2x128.size a := fun v2691 v2693 v2696 k0_hw102 => k0_hw102

def k0_chk103 (v2704 : IVec S16 32) : Prop :=
  (∀ a x, ((![v2704] : Fin 1 → IVec S16 32) a x).toNat < S256.size a)
theorem k0_idx103_inb : ∀ (v2704 : IVec S16 32) (k0_hw103 : k0_chk103 v2704), ∀ a x, ((![v2704] : Fin 1 → IVec S16 32) a x).toNat < S256.size a := fun v2704 k0_hw103 => k0_hw103
def k0_off113 (k0_t8 : Fin k0_t8_loop.trips) (k0_t9 : Fin k0_t9_loop.trips) : Fin 4 → Nat :=
  let c1_i32_1939 : BitVec 32 := 1#32
  let v2707 : Index := Scalar.indexCast c1_i32_1939
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2708 : Index := Scalar.indexCast v2519
  let c4_i32_1940 : BitVec 32 := 4#32
  let v2709 : Index := Scalar.indexCast c4_i32_1940
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1938 : BitVec 32 := 16#32
  let v2706 : BitVec 32 := Scalar.muli v2506 c16_i32_1938
  let v2710 : Index := Scalar.indexCast v2706
  ![1, v2708.toNat, 4, v2710.toNat]
def k0_off114 (k0_t8 : Fin k0_t8_loop.trips) (k0_t9 : Fin k0_t9_loop.trips) : Fin 3 → Nat :=
  let c1_i32_1943 : BitVec 32 := 1#32
  let v2716 : Index := Scalar.indexCast c1_i32_1943
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2717 : Index := Scalar.indexCast v2519
  let c512_i32_1942 : BitVec 32 := 512#32
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1941 : BitVec 32 := 16#32
  let v2714 : BitVec 32 := Scalar.muli v2506 c16_i32_1941
  let v2715 : BitVec 32 := Scalar.addi c512_i32_1942 v2714
  let v2718 : Index := Scalar.indexCast v2715
  ![1, v2717.toNat, v2718.toNat]
def k0_off115 (k0_t8 : Fin k0_t8_loop.trips) (k0_t9 : Fin k0_t9_loop.trips) : Fin 4 → Nat :=
  let c1_i32_1945 : BitVec 32 := 1#32
  let v2721 : Index := Scalar.indexCast c1_i32_1945
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2722 : Index := Scalar.indexCast v2519
  let c5_i32_1946 : BitVec 32 := 5#32
  let v2723 : Index := Scalar.indexCast c5_i32_1946
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1944 : BitVec 32 := 16#32
  let v2720 : BitVec 32 := Scalar.muli v2506 c16_i32_1944
  let v2724 : Index := Scalar.indexCast v2720
  ![1, v2722.toNat, 5, v2724.toNat]

def k0_chk104 (v2731 : IVec S16 32) (v2733 : IVec S16 32) (v2734 : IVec S16 32) : Prop :=
  (∀ a x, ((![v2731, v2734, v2733] : Fin 3 → IVec S16 32) a x).toNat < S32x2x128.size a)
theorem k0_idx104_inb : ∀ (v2731 : IVec S16 32) (v2733 : IVec S16 32) (v2734 : IVec S16 32) (k0_hw104 : k0_chk104 v2731 v2733 v2734), ∀ a x, ((![v2731, v2734, v2733] : Fin 3 → IVec S16 32) a x).toNat < S32x2x128.size a := fun v2731 v2733 v2734 k0_hw104 => k0_hw104

def k0_chk105 (v2731 : IVec S16 32) (v2733 : IVec S16 32) (v2736 : IVec S16 32) : Prop :=
  (∀ a x, ((![v2731, v2736, v2733] : Fin 3 → IVec S16 32) a x).toNat < S32x2x128.size a)
theorem k0_idx105_inb : ∀ (v2731 : IVec S16 32) (v2733 : IVec S16 32) (v2736 : IVec S16 32) (k0_hw105 : k0_chk105 v2731 v2733 v2736), ∀ a x, ((![v2731, v2736, v2733] : Fin 3 → IVec S16 32) a x).toNat < S32x2x128.size a := fun v2731 v2733 v2736 k0_hw105 => k0_hw105

def k0_chk106 (v2744 : IVec S16 32) : Prop :=
  (∀ a x, ((![v2744] : Fin 1 → IVec S16 32) a x).toNat < S256.size a)
theorem k0_idx106_inb : ∀ (v2744 : IVec S16 32) (k0_hw106 : k0_chk106 v2744), ∀ a x, ((![v2744] : Fin 1 → IVec S16 32) a x).toNat < S256.size a := fun v2744 k0_hw106 => k0_hw106
def k0_off116 (k0_t8 : Fin k0_t8_loop.trips) (k0_t9 : Fin k0_t9_loop.trips) : Fin 4 → Nat :=
  let c1_i32_1955 : BitVec 32 := 1#32
  let v2747 : Index := Scalar.indexCast c1_i32_1955
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2748 : Index := Scalar.indexCast v2519
  let c5_i32_1956 : BitVec 32 := 5#32
  let v2749 : Index := Scalar.indexCast c5_i32_1956
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1954 : BitVec 32 := 16#32
  let v2746 : BitVec 32 := Scalar.muli v2506 c16_i32_1954
  let v2750 : Index := Scalar.indexCast v2746
  ![1, v2748.toNat, 5, v2750.toNat]
def k0_off117 (k0_t8 : Fin k0_t8_loop.trips) (k0_t9 : Fin k0_t9_loop.trips) : Fin 3 → Nat :=
  let c1_i32_1958 : BitVec 32 := 1#32
  let v2756 : Index := Scalar.indexCast c1_i32_1958
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2757 : Index := Scalar.indexCast v2519
  let c640_i32 : BitVec 32 := 640#32
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1957 : BitVec 32 := 16#32
  let v2754 : BitVec 32 := Scalar.muli v2506 c16_i32_1957
  let v2755 : BitVec 32 := Scalar.addi c640_i32 v2754
  let v2758 : Index := Scalar.indexCast v2755
  ![1, v2757.toNat, v2758.toNat]
def k0_off118 (k0_t8 : Fin k0_t8_loop.trips) (k0_t9 : Fin k0_t9_loop.trips) : Fin 4 → Nat :=
  let c1_i32_1960 : BitVec 32 := 1#32
  let v2761 : Index := Scalar.indexCast c1_i32_1960
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2762 : Index := Scalar.indexCast v2519
  let c6_i32_1961 : BitVec 32 := 6#32
  let v2763 : Index := Scalar.indexCast c6_i32_1961
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1959 : BitVec 32 := 16#32
  let v2760 : BitVec 32 := Scalar.muli v2506 c16_i32_1959
  let v2764 : Index := Scalar.indexCast v2760
  ![1, v2762.toNat, 6, v2764.toNat]

def k0_chk107 (v2771 : IVec S16 32) (v2773 : IVec S16 32) (v2774 : IVec S16 32) : Prop :=
  (∀ a x, ((![v2771, v2774, v2773] : Fin 3 → IVec S16 32) a x).toNat < S32x2x128.size a)
theorem k0_idx107_inb : ∀ (v2771 : IVec S16 32) (v2773 : IVec S16 32) (v2774 : IVec S16 32) (k0_hw107 : k0_chk107 v2771 v2773 v2774), ∀ a x, ((![v2771, v2774, v2773] : Fin 3 → IVec S16 32) a x).toNat < S32x2x128.size a := fun v2771 v2773 v2774 k0_hw107 => k0_hw107

def k0_chk108 (v2771 : IVec S16 32) (v2773 : IVec S16 32) (v2776 : IVec S16 32) : Prop :=
  (∀ a x, ((![v2771, v2776, v2773] : Fin 3 → IVec S16 32) a x).toNat < S32x2x128.size a)
theorem k0_idx108_inb : ∀ (v2771 : IVec S16 32) (v2773 : IVec S16 32) (v2776 : IVec S16 32) (k0_hw108 : k0_chk108 v2771 v2773 v2776), ∀ a x, ((![v2771, v2776, v2773] : Fin 3 → IVec S16 32) a x).toNat < S32x2x128.size a := fun v2771 v2773 v2776 k0_hw108 => k0_hw108

def k0_chk109 (v2784 : IVec S16 32) : Prop :=
  (∀ a x, ((![v2784] : Fin 1 → IVec S16 32) a x).toNat < S256.size a)
theorem k0_idx109_inb : ∀ (v2784 : IVec S16 32) (k0_hw109 : k0_chk109 v2784), ∀ a x, ((![v2784] : Fin 1 → IVec S16 32) a x).toNat < S256.size a := fun v2784 k0_hw109 => k0_hw109
def k0_off119 (k0_t8 : Fin k0_t8_loop.trips) (k0_t9 : Fin k0_t9_loop.trips) : Fin 4 → Nat :=
  let c1_i32_1970 : BitVec 32 := 1#32
  let v2787 : Index := Scalar.indexCast c1_i32_1970
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2788 : Index := Scalar.indexCast v2519
  let c6_i32_1971 : BitVec 32 := 6#32
  let v2789 : Index := Scalar.indexCast c6_i32_1971
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1969 : BitVec 32 := 16#32
  let v2786 : BitVec 32 := Scalar.muli v2506 c16_i32_1969
  let v2790 : Index := Scalar.indexCast v2786
  ![1, v2788.toNat, 6, v2790.toNat]
def k0_off120 (k0_t8 : Fin k0_t8_loop.trips) (k0_t9 : Fin k0_t9_loop.trips) : Fin 3 → Nat :=
  let c1_i32_1973 : BitVec 32 := 1#32
  let v2796 : Index := Scalar.indexCast c1_i32_1973
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2797 : Index := Scalar.indexCast v2519
  let c768_i32 : BitVec 32 := 768#32
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1972 : BitVec 32 := 16#32
  let v2794 : BitVec 32 := Scalar.muli v2506 c16_i32_1972
  let v2795 : BitVec 32 := Scalar.addi c768_i32 v2794
  let v2798 : Index := Scalar.indexCast v2795
  ![1, v2797.toNat, v2798.toNat]
def k0_off121 (k0_t8 : Fin k0_t8_loop.trips) (k0_t9 : Fin k0_t9_loop.trips) : Fin 4 → Nat :=
  let c1_i32_1975 : BitVec 32 := 1#32
  let v2801 : Index := Scalar.indexCast c1_i32_1975
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2802 : Index := Scalar.indexCast v2519
  let c7_i32_1976 : BitVec 32 := 7#32
  let v2803 : Index := Scalar.indexCast c7_i32_1976
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1974 : BitVec 32 := 16#32
  let v2800 : BitVec 32 := Scalar.muli v2506 c16_i32_1974
  let v2804 : Index := Scalar.indexCast v2800
  ![1, v2802.toNat, 7, v2804.toNat]

def k0_chk110 (v2811 : IVec S16 32) (v2813 : IVec S16 32) (v2814 : IVec S16 32) : Prop :=
  (∀ a x, ((![v2811, v2814, v2813] : Fin 3 → IVec S16 32) a x).toNat < S32x2x128.size a)
theorem k0_idx110_inb : ∀ (v2811 : IVec S16 32) (v2813 : IVec S16 32) (v2814 : IVec S16 32) (k0_hw110 : k0_chk110 v2811 v2813 v2814), ∀ a x, ((![v2811, v2814, v2813] : Fin 3 → IVec S16 32) a x).toNat < S32x2x128.size a := fun v2811 v2813 v2814 k0_hw110 => k0_hw110

def k0_chk111 (v2811 : IVec S16 32) (v2813 : IVec S16 32) (v2816 : IVec S16 32) : Prop :=
  (∀ a x, ((![v2811, v2816, v2813] : Fin 3 → IVec S16 32) a x).toNat < S32x2x128.size a)
theorem k0_idx111_inb : ∀ (v2811 : IVec S16 32) (v2813 : IVec S16 32) (v2816 : IVec S16 32) (k0_hw111 : k0_chk111 v2811 v2813 v2816), ∀ a x, ((![v2811, v2816, v2813] : Fin 3 → IVec S16 32) a x).toNat < S32x2x128.size a := fun v2811 v2813 v2816 k0_hw111 => k0_hw111

def k0_chk112 (v2824 : IVec S16 32) : Prop :=
  (∀ a x, ((![v2824] : Fin 1 → IVec S16 32) a x).toNat < S256.size a)
theorem k0_idx112_inb : ∀ (v2824 : IVec S16 32) (k0_hw112 : k0_chk112 v2824), ∀ a x, ((![v2824] : Fin 1 → IVec S16 32) a x).toNat < S256.size a := fun v2824 k0_hw112 => k0_hw112
def k0_off122 (k0_t8 : Fin k0_t8_loop.trips) (k0_t9 : Fin k0_t9_loop.trips) : Fin 4 → Nat :=
  let c1_i32_1985 : BitVec 32 := 1#32
  let v2827 : Index := Scalar.indexCast c1_i32_1985
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2828 : Index := Scalar.indexCast v2519
  let c7_i32_1986 : BitVec 32 := 7#32
  let v2829 : Index := Scalar.indexCast c7_i32_1986
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1984 : BitVec 32 := 16#32
  let v2826 : BitVec 32 := Scalar.muli v2506 c16_i32_1984
  let v2830 : Index := Scalar.indexCast v2826
  ![1, v2828.toNat, 7, v2830.toNat]
def k0_off123 (k0_t8 : Fin k0_t8_loop.trips) (k0_t9 : Fin k0_t9_loop.trips) : Fin 3 → Nat :=
  let c1_i32_1988 : BitVec 32 := 1#32
  let v2836 : Index := Scalar.indexCast c1_i32_1988
  let c0_i32_1868 : BitVec 32 := 0#32
  let c0_i32_1863 : BitVec 32 := 0#32
  let c1_i32_1865 : BitVec 32 := 1#32
  let arg20 : BitVec 32 := Scf.iv c0_i32_1863 c1_i32_1865 k0_t9
  let c1_i32_1867 : BitVec 32 := 1#32
  let v2518 : BitVec 32 := Scalar.muli arg20 c1_i32_1867
  let v2519 : BitVec 32 := Scalar.addi c0_i32_1868 v2518
  let v2837 : Index := Scalar.indexCast v2519
  let c896_i32 : BitVec 32 := 896#32
  let c0_i32_1858 : BitVec 32 := 0#32
  let c0_i32_831 : BitVec 32 := 0#32
  let c1_i32_833 : BitVec 32 := 1#32
  let arg19 : BitVec 32 := Scf.iv c0_i32_831 c1_i32_833 k0_t8
  let c1_i32_1857 : BitVec 32 := 1#32
  let v2505 : BitVec 32 := Scalar.muli arg19 c1_i32_1857
  let v2506 : BitVec 32 := Scalar.addi c0_i32_1858 v2505
  let c16_i32_1987 : BitVec 32 := 16#32
  let v2834 : BitVec 32 := Scalar.muli v2506 c16_i32_1987
  let v2835 : BitVec 32 := Scalar.addi c896_i32 v2834
  let v2838 : Index := Scalar.indexCast v2835
  ![1, v2837.toNat, v2838.toNat]
@[reducible] def k0_t10_loop : Scf.Loop 32 :=
  let c0_i32_966 : BitVec 32 := 0#32
  let c8_i32_967 : BitVec 32 := 8#32
  let v1684 : BitVec 32 := Scalar.addi c0_i32_966 c8_i32_967
  let c1_i32_968 : BitVec 32 := 1#32
  ⟨c0_i32_966, v1684, c1_i32_968⟩
def k0_off124 (i : grid0.Coords) (k0_t10 : Fin k0_t10_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c4_i32_844 : BitVec 32 := 4#32
  let v1582 : BitVec 32 := Scalar.addi v29 c4_i32_844
  let v2508 : Index := Scalar.indexCast v1582
  let c0_i32_1860 : BitVec 32 := 0#32
  let v2509 : Index := Scalar.indexCast c0_i32_1860
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1859 : BitVec 32 := 16#32
  let v2507 : BitVec 32 := Scalar.muli v2506 c16_i32_1859
  let v2510 : Index := Scalar.indexCast v2507
  ![v2508.toNat, 0, v2510.toNat]
def k0_off125 (i : grid0.Coords) (k0_t10 : Fin k0_t10_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c4_i32_844 : BitVec 32 := 4#32
  let v1582 : BitVec 32 := Scalar.addi v29 c4_i32_844
  let v2513 : Index := Scalar.indexCast v1582
  let c1_i32_1862 : BitVec 32 := 1#32
  let v2514 : Index := Scalar.indexCast c1_i32_1862
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1861 : BitVec 32 := 16#32
  let v2512 : BitVec 32 := Scalar.muli v2506 c16_i32_1861
  let v2515 : Index := Scalar.indexCast v2512
  ![v2513.toNat, 1, v2515.toNat]
@[reducible] def k0_t11_loop : Scf.Loop 32 :=
  let c0_i32_1863 : BitVec 32 := 0#32
  let c8_i32_1864 : BitVec 32 := 8#32
  let v2517 : BitVec 32 := Scalar.addi c0_i32_1863 c8_i32_1864
  let c1_i32_1865 : BitVec 32 := 1#32
  ⟨c0_i32_1863, v2517, c1_i32_1865⟩
def k0_off126 (k0_t10 : Fin k0_t10_loop.trips) (k0_t11 : Fin k0_t11_loop.trips) : Fin 4 → Nat :=
  let c0_i32_1870 : BitVec 32 := 0#32
  let v2521 : Index := Scalar.indexCast c0_i32_1870
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2522 : Index := Scalar.indexCast v2519
  let c0_i32_1871 : BitVec 32 := 0#32
  let v2523 : Index := Scalar.indexCast c0_i32_1871
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1869 : BitVec 32 := 16#32
  let v2520 : BitVec 32 := Scalar.muli v2506 c16_i32_1869
  let v2524 : Index := Scalar.indexCast v2520
  ![0, v2522.toNat, 0, v2524.toNat]

def k0_chk113 (v2531 : IVec S16 32) (v2533 : IVec S16 32) (v2534 : IVec S16 32) : Prop :=
  (∀ a x, ((![v2531, v2534, v2533] : Fin 3 → IVec S16 32) a x).toNat < S32x2x128.size a)
theorem k0_idx113_inb : ∀ (v2531 : IVec S16 32) (v2533 : IVec S16 32) (v2534 : IVec S16 32) (k0_hw113 : k0_chk113 v2531 v2533 v2534), ∀ a x, ((![v2531, v2534, v2533] : Fin 3 → IVec S16 32) a x).toNat < S32x2x128.size a := fun v2531 v2533 v2534 k0_hw113 => k0_hw113

def k0_chk114 (v2531 : IVec S16 32) (v2533 : IVec S16 32) (v2536 : IVec S16 32) : Prop :=
  (∀ a x, ((![v2531, v2536, v2533] : Fin 3 → IVec S16 32) a x).toNat < S32x2x128.size a)
theorem k0_idx114_inb : ∀ (v2531 : IVec S16 32) (v2533 : IVec S16 32) (v2536 : IVec S16 32) (k0_hw114 : k0_chk114 v2531 v2533 v2536), ∀ a x, ((![v2531, v2536, v2533] : Fin 3 → IVec S16 32) a x).toNat < S32x2x128.size a := fun v2531 v2533 v2536 k0_hw114 => k0_hw114

def k0_chk115 (v2544 : IVec S16 32) : Prop :=
  (∀ a x, ((![v2544] : Fin 1 → IVec S16 32) a x).toNat < S256.size a)
theorem k0_idx115_inb : ∀ (v2544 : IVec S16 32) (k0_hw115 : k0_chk115 v2544), ∀ a x, ((![v2544] : Fin 1 → IVec S16 32) a x).toNat < S256.size a := fun v2544 k0_hw115 => k0_hw115
def k0_off127 (k0_t10 : Fin k0_t10_loop.trips) (k0_t11 : Fin k0_t11_loop.trips) : Fin 4 → Nat :=
  let c0_i32_1877 : BitVec 32 := 0#32
  let v2547 : Index := Scalar.indexCast c0_i32_1877
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2548 : Index := Scalar.indexCast v2519
  let c0_i32_1878 : BitVec 32 := 0#32
  let v2549 : Index := Scalar.indexCast c0_i32_1878
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1876 : BitVec 32 := 16#32
  let v2546 : BitVec 32 := Scalar.muli v2506 c16_i32_1876
  let v2550 : Index := Scalar.indexCast v2546
  ![0, v2548.toNat, 0, v2550.toNat]
def k0_off128 (k0_t10 : Fin k0_t10_loop.trips) (k0_t11 : Fin k0_t11_loop.trips) : Fin 3 → Nat :=
  let c0_i32_1881 : BitVec 32 := 0#32
  let v2556 : Index := Scalar.indexCast c0_i32_1881
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2557 : Index := Scalar.indexCast v2519
  let c0_i32_1880 : BitVec 32 := 0#32
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1879 : BitVec 32 := 16#32
  let v2554 : BitVec 32 := Scalar.muli v2506 c16_i32_1879
  let v2555 : BitVec 32 := Scalar.addi c0_i32_1880 v2554
  let v2558 : Index := Scalar.indexCast v2555
  ![0, v2557.toNat, v2558.toNat]
def k0_off129 (k0_t10 : Fin k0_t10_loop.trips) (k0_t11 : Fin k0_t11_loop.trips) : Fin 4 → Nat :=
  let c0_i32_1883 : BitVec 32 := 0#32
  let v2561 : Index := Scalar.indexCast c0_i32_1883
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2562 : Index := Scalar.indexCast v2519
  let c1_i32_1884 : BitVec 32 := 1#32
  let v2563 : Index := Scalar.indexCast c1_i32_1884
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1882 : BitVec 32 := 16#32
  let v2560 : BitVec 32 := Scalar.muli v2506 c16_i32_1882
  let v2564 : Index := Scalar.indexCast v2560
  ![0, v2562.toNat, 1, v2564.toNat]

def k0_chk116 (v2571 : IVec S16 32) (v2573 : IVec S16 32) (v2574 : IVec S16 32) : Prop :=
  (∀ a x, ((![v2571, v2574, v2573] : Fin 3 → IVec S16 32) a x).toNat < S32x2x128.size a)
theorem k0_idx116_inb : ∀ (v2571 : IVec S16 32) (v2573 : IVec S16 32) (v2574 : IVec S16 32) (k0_hw116 : k0_chk116 v2571 v2573 v2574), ∀ a x, ((![v2571, v2574, v2573] : Fin 3 → IVec S16 32) a x).toNat < S32x2x128.size a := fun v2571 v2573 v2574 k0_hw116 => k0_hw116

def k0_chk117 (v2571 : IVec S16 32) (v2573 : IVec S16 32) (v2576 : IVec S16 32) : Prop :=
  (∀ a x, ((![v2571, v2576, v2573] : Fin 3 → IVec S16 32) a x).toNat < S32x2x128.size a)
theorem k0_idx117_inb : ∀ (v2571 : IVec S16 32) (v2573 : IVec S16 32) (v2576 : IVec S16 32) (k0_hw117 : k0_chk117 v2571 v2573 v2576), ∀ a x, ((![v2571, v2576, v2573] : Fin 3 → IVec S16 32) a x).toNat < S32x2x128.size a := fun v2571 v2573 v2576 k0_hw117 => k0_hw117

def k0_chk118 (v2584 : IVec S16 32) : Prop :=
  (∀ a x, ((![v2584] : Fin 1 → IVec S16 32) a x).toNat < S256.size a)
theorem k0_idx118_inb : ∀ (v2584 : IVec S16 32) (k0_hw118 : k0_chk118 v2584), ∀ a x, ((![v2584] : Fin 1 → IVec S16 32) a x).toNat < S256.size a := fun v2584 k0_hw118 => k0_hw118
def k0_off130 (k0_t10 : Fin k0_t10_loop.trips) (k0_t11 : Fin k0_t11_loop.trips) : Fin 4 → Nat :=
  let c0_i32_1893 : BitVec 32 := 0#32
  let v2587 : Index := Scalar.indexCast c0_i32_1893
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2588 : Index := Scalar.indexCast v2519
  let c1_i32_1894 : BitVec 32 := 1#32
  let v2589 : Index := Scalar.indexCast c1_i32_1894
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1892 : BitVec 32 := 16#32
  let v2586 : BitVec 32 := Scalar.muli v2506 c16_i32_1892
  let v2590 : Index := Scalar.indexCast v2586
  ![0, v2588.toNat, 1, v2590.toNat]
def k0_off131 (k0_t10 : Fin k0_t10_loop.trips) (k0_t11 : Fin k0_t11_loop.trips) : Fin 3 → Nat :=
  let c0_i32_1897 : BitVec 32 := 0#32
  let v2596 : Index := Scalar.indexCast c0_i32_1897
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2597 : Index := Scalar.indexCast v2519
  let c128_i32_1896 : BitVec 32 := 128#32
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1895 : BitVec 32 := 16#32
  let v2594 : BitVec 32 := Scalar.muli v2506 c16_i32_1895
  let v2595 : BitVec 32 := Scalar.addi c128_i32_1896 v2594
  let v2598 : Index := Scalar.indexCast v2595
  ![0, v2597.toNat, v2598.toNat]
def k0_off132 (k0_t10 : Fin k0_t10_loop.trips) (k0_t11 : Fin k0_t11_loop.trips) : Fin 4 → Nat :=
  let c0_i32_1899 : BitVec 32 := 0#32
  let v2601 : Index := Scalar.indexCast c0_i32_1899
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2602 : Index := Scalar.indexCast v2519
  let c2_i32_1900 : BitVec 32 := 2#32
  let v2603 : Index := Scalar.indexCast c2_i32_1900
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1898 : BitVec 32 := 16#32
  let v2600 : BitVec 32 := Scalar.muli v2506 c16_i32_1898
  let v2604 : Index := Scalar.indexCast v2600
  ![0, v2602.toNat, 2, v2604.toNat]

def k0_chk119 (v2611 : IVec S16 32) (v2613 : IVec S16 32) (v2614 : IVec S16 32) : Prop :=
  (∀ a x, ((![v2611, v2614, v2613] : Fin 3 → IVec S16 32) a x).toNat < S32x2x128.size a)
theorem k0_idx119_inb : ∀ (v2611 : IVec S16 32) (v2613 : IVec S16 32) (v2614 : IVec S16 32) (k0_hw119 : k0_chk119 v2611 v2613 v2614), ∀ a x, ((![v2611, v2614, v2613] : Fin 3 → IVec S16 32) a x).toNat < S32x2x128.size a := fun v2611 v2613 v2614 k0_hw119 => k0_hw119

def k0_chk120 (v2611 : IVec S16 32) (v2613 : IVec S16 32) (v2616 : IVec S16 32) : Prop :=
  (∀ a x, ((![v2611, v2616, v2613] : Fin 3 → IVec S16 32) a x).toNat < S32x2x128.size a)
theorem k0_idx120_inb : ∀ (v2611 : IVec S16 32) (v2613 : IVec S16 32) (v2616 : IVec S16 32) (k0_hw120 : k0_chk120 v2611 v2613 v2616), ∀ a x, ((![v2611, v2616, v2613] : Fin 3 → IVec S16 32) a x).toNat < S32x2x128.size a := fun v2611 v2613 v2616 k0_hw120 => k0_hw120

def k0_chk121 (v2624 : IVec S16 32) : Prop :=
  (∀ a x, ((![v2624] : Fin 1 → IVec S16 32) a x).toNat < S256.size a)
theorem k0_idx121_inb : ∀ (v2624 : IVec S16 32) (k0_hw121 : k0_chk121 v2624), ∀ a x, ((![v2624] : Fin 1 → IVec S16 32) a x).toNat < S256.size a := fun v2624 k0_hw121 => k0_hw121
def k0_off133 (k0_t10 : Fin k0_t10_loop.trips) (k0_t11 : Fin k0_t11_loop.trips) : Fin 4 → Nat :=
  let c0_i32_1909 : BitVec 32 := 0#32
  let v2627 : Index := Scalar.indexCast c0_i32_1909
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2628 : Index := Scalar.indexCast v2519
  let c2_i32_1910 : BitVec 32 := 2#32
  let v2629 : Index := Scalar.indexCast c2_i32_1910
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1908 : BitVec 32 := 16#32
  let v2626 : BitVec 32 := Scalar.muli v2506 c16_i32_1908
  let v2630 : Index := Scalar.indexCast v2626
  ![0, v2628.toNat, 2, v2630.toNat]
def k0_off134 (k0_t10 : Fin k0_t10_loop.trips) (k0_t11 : Fin k0_t11_loop.trips) : Fin 3 → Nat :=
  let c0_i32_1912 : BitVec 32 := 0#32
  let v2636 : Index := Scalar.indexCast c0_i32_1912
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2637 : Index := Scalar.indexCast v2519
  let c256_i32 : BitVec 32 := 256#32
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1911 : BitVec 32 := 16#32
  let v2634 : BitVec 32 := Scalar.muli v2506 c16_i32_1911
  let v2635 : BitVec 32 := Scalar.addi c256_i32 v2634
  let v2638 : Index := Scalar.indexCast v2635
  ![0, v2637.toNat, v2638.toNat]
def k0_off135 (k0_t10 : Fin k0_t10_loop.trips) (k0_t11 : Fin k0_t11_loop.trips) : Fin 4 → Nat :=
  let c0_i32_1914 : BitVec 32 := 0#32
  let v2641 : Index := Scalar.indexCast c0_i32_1914
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2642 : Index := Scalar.indexCast v2519
  let c3_i32_1915 : BitVec 32 := 3#32
  let v2643 : Index := Scalar.indexCast c3_i32_1915
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1913 : BitVec 32 := 16#32
  let v2640 : BitVec 32 := Scalar.muli v2506 c16_i32_1913
  let v2644 : Index := Scalar.indexCast v2640
  ![0, v2642.toNat, 3, v2644.toNat]

def k0_chk122 (v2651 : IVec S16 32) (v2653 : IVec S16 32) (v2654 : IVec S16 32) : Prop :=
  (∀ a x, ((![v2651, v2654, v2653] : Fin 3 → IVec S16 32) a x).toNat < S32x2x128.size a)
theorem k0_idx122_inb : ∀ (v2651 : IVec S16 32) (v2653 : IVec S16 32) (v2654 : IVec S16 32) (k0_hw122 : k0_chk122 v2651 v2653 v2654), ∀ a x, ((![v2651, v2654, v2653] : Fin 3 → IVec S16 32) a x).toNat < S32x2x128.size a := fun v2651 v2653 v2654 k0_hw122 => k0_hw122

def k0_chk123 (v2651 : IVec S16 32) (v2653 : IVec S16 32) (v2656 : IVec S16 32) : Prop :=
  (∀ a x, ((![v2651, v2656, v2653] : Fin 3 → IVec S16 32) a x).toNat < S32x2x128.size a)
theorem k0_idx123_inb : ∀ (v2651 : IVec S16 32) (v2653 : IVec S16 32) (v2656 : IVec S16 32) (k0_hw123 : k0_chk123 v2651 v2653 v2656), ∀ a x, ((![v2651, v2656, v2653] : Fin 3 → IVec S16 32) a x).toNat < S32x2x128.size a := fun v2651 v2653 v2656 k0_hw123 => k0_hw123

def k0_chk124 (v2664 : IVec S16 32) : Prop :=
  (∀ a x, ((![v2664] : Fin 1 → IVec S16 32) a x).toNat < S256.size a)
theorem k0_idx124_inb : ∀ (v2664 : IVec S16 32) (k0_hw124 : k0_chk124 v2664), ∀ a x, ((![v2664] : Fin 1 → IVec S16 32) a x).toNat < S256.size a := fun v2664 k0_hw124 => k0_hw124
def k0_off136 (k0_t10 : Fin k0_t10_loop.trips) (k0_t11 : Fin k0_t11_loop.trips) : Fin 4 → Nat :=
  let c0_i32_1924 : BitVec 32 := 0#32
  let v2667 : Index := Scalar.indexCast c0_i32_1924
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2668 : Index := Scalar.indexCast v2519
  let c3_i32_1925 : BitVec 32 := 3#32
  let v2669 : Index := Scalar.indexCast c3_i32_1925
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1923 : BitVec 32 := 16#32
  let v2666 : BitVec 32 := Scalar.muli v2506 c16_i32_1923
  let v2670 : Index := Scalar.indexCast v2666
  ![0, v2668.toNat, 3, v2670.toNat]
def k0_off137 (k0_t10 : Fin k0_t10_loop.trips) (k0_t11 : Fin k0_t11_loop.trips) : Fin 3 → Nat :=
  let c0_i32_1927 : BitVec 32 := 0#32
  let v2676 : Index := Scalar.indexCast c0_i32_1927
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2677 : Index := Scalar.indexCast v2519
  let c384_i32 : BitVec 32 := 384#32
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1926 : BitVec 32 := 16#32
  let v2674 : BitVec 32 := Scalar.muli v2506 c16_i32_1926
  let v2675 : BitVec 32 := Scalar.addi c384_i32 v2674
  let v2678 : Index := Scalar.indexCast v2675
  ![0, v2677.toNat, v2678.toNat]
def k0_off138 (k0_t10 : Fin k0_t10_loop.trips) (k0_t11 : Fin k0_t11_loop.trips) : Fin 4 → Nat :=
  let c0_i32_1929 : BitVec 32 := 0#32
  let v2681 : Index := Scalar.indexCast c0_i32_1929
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2682 : Index := Scalar.indexCast v2519
  let c4_i32_1930 : BitVec 32 := 4#32
  let v2683 : Index := Scalar.indexCast c4_i32_1930
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1928 : BitVec 32 := 16#32
  let v2680 : BitVec 32 := Scalar.muli v2506 c16_i32_1928
  let v2684 : Index := Scalar.indexCast v2680
  ![0, v2682.toNat, 4, v2684.toNat]

def k0_chk125 (v2691 : IVec S16 32) (v2693 : IVec S16 32) (v2694 : IVec S16 32) : Prop :=
  (∀ a x, ((![v2691, v2694, v2693] : Fin 3 → IVec S16 32) a x).toNat < S32x2x128.size a)
theorem k0_idx125_inb : ∀ (v2691 : IVec S16 32) (v2693 : IVec S16 32) (v2694 : IVec S16 32) (k0_hw125 : k0_chk125 v2691 v2693 v2694), ∀ a x, ((![v2691, v2694, v2693] : Fin 3 → IVec S16 32) a x).toNat < S32x2x128.size a := fun v2691 v2693 v2694 k0_hw125 => k0_hw125

def k0_chk126 (v2691 : IVec S16 32) (v2693 : IVec S16 32) (v2696 : IVec S16 32) : Prop :=
  (∀ a x, ((![v2691, v2696, v2693] : Fin 3 → IVec S16 32) a x).toNat < S32x2x128.size a)
theorem k0_idx126_inb : ∀ (v2691 : IVec S16 32) (v2693 : IVec S16 32) (v2696 : IVec S16 32) (k0_hw126 : k0_chk126 v2691 v2693 v2696), ∀ a x, ((![v2691, v2696, v2693] : Fin 3 → IVec S16 32) a x).toNat < S32x2x128.size a := fun v2691 v2693 v2696 k0_hw126 => k0_hw126

def k0_chk127 (v2704 : IVec S16 32) : Prop :=
  (∀ a x, ((![v2704] : Fin 1 → IVec S16 32) a x).toNat < S256.size a)
theorem k0_idx127_inb : ∀ (v2704 : IVec S16 32) (k0_hw127 : k0_chk127 v2704), ∀ a x, ((![v2704] : Fin 1 → IVec S16 32) a x).toNat < S256.size a := fun v2704 k0_hw127 => k0_hw127
def k0_off139 (k0_t10 : Fin k0_t10_loop.trips) (k0_t11 : Fin k0_t11_loop.trips) : Fin 4 → Nat :=
  let c0_i32_1939 : BitVec 32 := 0#32
  let v2707 : Index := Scalar.indexCast c0_i32_1939
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2708 : Index := Scalar.indexCast v2519
  let c4_i32_1940 : BitVec 32 := 4#32
  let v2709 : Index := Scalar.indexCast c4_i32_1940
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1938 : BitVec 32 := 16#32
  let v2706 : BitVec 32 := Scalar.muli v2506 c16_i32_1938
  let v2710 : Index := Scalar.indexCast v2706
  ![0, v2708.toNat, 4, v2710.toNat]
def k0_off140 (k0_t10 : Fin k0_t10_loop.trips) (k0_t11 : Fin k0_t11_loop.trips) : Fin 3 → Nat :=
  let c0_i32_1943 : BitVec 32 := 0#32
  let v2716 : Index := Scalar.indexCast c0_i32_1943
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2717 : Index := Scalar.indexCast v2519
  let c512_i32_1942 : BitVec 32 := 512#32
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1941 : BitVec 32 := 16#32
  let v2714 : BitVec 32 := Scalar.muli v2506 c16_i32_1941
  let v2715 : BitVec 32 := Scalar.addi c512_i32_1942 v2714
  let v2718 : Index := Scalar.indexCast v2715
  ![0, v2717.toNat, v2718.toNat]
def k0_off141 (k0_t10 : Fin k0_t10_loop.trips) (k0_t11 : Fin k0_t11_loop.trips) : Fin 4 → Nat :=
  let c0_i32_1945 : BitVec 32 := 0#32
  let v2721 : Index := Scalar.indexCast c0_i32_1945
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2722 : Index := Scalar.indexCast v2519
  let c5_i32_1946 : BitVec 32 := 5#32
  let v2723 : Index := Scalar.indexCast c5_i32_1946
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1944 : BitVec 32 := 16#32
  let v2720 : BitVec 32 := Scalar.muli v2506 c16_i32_1944
  let v2724 : Index := Scalar.indexCast v2720
  ![0, v2722.toNat, 5, v2724.toNat]

def k0_chk128 (v2731 : IVec S16 32) (v2733 : IVec S16 32) (v2734 : IVec S16 32) : Prop :=
  (∀ a x, ((![v2731, v2734, v2733] : Fin 3 → IVec S16 32) a x).toNat < S32x2x128.size a)
theorem k0_idx128_inb : ∀ (v2731 : IVec S16 32) (v2733 : IVec S16 32) (v2734 : IVec S16 32) (k0_hw128 : k0_chk128 v2731 v2733 v2734), ∀ a x, ((![v2731, v2734, v2733] : Fin 3 → IVec S16 32) a x).toNat < S32x2x128.size a := fun v2731 v2733 v2734 k0_hw128 => k0_hw128

def k0_chk129 (v2731 : IVec S16 32) (v2733 : IVec S16 32) (v2736 : IVec S16 32) : Prop :=
  (∀ a x, ((![v2731, v2736, v2733] : Fin 3 → IVec S16 32) a x).toNat < S32x2x128.size a)
theorem k0_idx129_inb : ∀ (v2731 : IVec S16 32) (v2733 : IVec S16 32) (v2736 : IVec S16 32) (k0_hw129 : k0_chk129 v2731 v2733 v2736), ∀ a x, ((![v2731, v2736, v2733] : Fin 3 → IVec S16 32) a x).toNat < S32x2x128.size a := fun v2731 v2733 v2736 k0_hw129 => k0_hw129

def k0_chk130 (v2744 : IVec S16 32) : Prop :=
  (∀ a x, ((![v2744] : Fin 1 → IVec S16 32) a x).toNat < S256.size a)
theorem k0_idx130_inb : ∀ (v2744 : IVec S16 32) (k0_hw130 : k0_chk130 v2744), ∀ a x, ((![v2744] : Fin 1 → IVec S16 32) a x).toNat < S256.size a := fun v2744 k0_hw130 => k0_hw130
def k0_off142 (k0_t10 : Fin k0_t10_loop.trips) (k0_t11 : Fin k0_t11_loop.trips) : Fin 4 → Nat :=
  let c0_i32_1955 : BitVec 32 := 0#32
  let v2747 : Index := Scalar.indexCast c0_i32_1955
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2748 : Index := Scalar.indexCast v2519
  let c5_i32_1956 : BitVec 32 := 5#32
  let v2749 : Index := Scalar.indexCast c5_i32_1956
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1954 : BitVec 32 := 16#32
  let v2746 : BitVec 32 := Scalar.muli v2506 c16_i32_1954
  let v2750 : Index := Scalar.indexCast v2746
  ![0, v2748.toNat, 5, v2750.toNat]
def k0_off143 (k0_t10 : Fin k0_t10_loop.trips) (k0_t11 : Fin k0_t11_loop.trips) : Fin 3 → Nat :=
  let c0_i32_1958 : BitVec 32 := 0#32
  let v2756 : Index := Scalar.indexCast c0_i32_1958
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2757 : Index := Scalar.indexCast v2519
  let c640_i32 : BitVec 32 := 640#32
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1957 : BitVec 32 := 16#32
  let v2754 : BitVec 32 := Scalar.muli v2506 c16_i32_1957
  let v2755 : BitVec 32 := Scalar.addi c640_i32 v2754
  let v2758 : Index := Scalar.indexCast v2755
  ![0, v2757.toNat, v2758.toNat]
def k0_off144 (k0_t10 : Fin k0_t10_loop.trips) (k0_t11 : Fin k0_t11_loop.trips) : Fin 4 → Nat :=
  let c0_i32_1960 : BitVec 32 := 0#32
  let v2761 : Index := Scalar.indexCast c0_i32_1960
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2762 : Index := Scalar.indexCast v2519
  let c6_i32_1961 : BitVec 32 := 6#32
  let v2763 : Index := Scalar.indexCast c6_i32_1961
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1959 : BitVec 32 := 16#32
  let v2760 : BitVec 32 := Scalar.muli v2506 c16_i32_1959
  let v2764 : Index := Scalar.indexCast v2760
  ![0, v2762.toNat, 6, v2764.toNat]

def k0_chk131 (v2771 : IVec S16 32) (v2773 : IVec S16 32) (v2774 : IVec S16 32) : Prop :=
  (∀ a x, ((![v2771, v2774, v2773] : Fin 3 → IVec S16 32) a x).toNat < S32x2x128.size a)
theorem k0_idx131_inb : ∀ (v2771 : IVec S16 32) (v2773 : IVec S16 32) (v2774 : IVec S16 32) (k0_hw131 : k0_chk131 v2771 v2773 v2774), ∀ a x, ((![v2771, v2774, v2773] : Fin 3 → IVec S16 32) a x).toNat < S32x2x128.size a := fun v2771 v2773 v2774 k0_hw131 => k0_hw131

def k0_chk132 (v2771 : IVec S16 32) (v2773 : IVec S16 32) (v2776 : IVec S16 32) : Prop :=
  (∀ a x, ((![v2771, v2776, v2773] : Fin 3 → IVec S16 32) a x).toNat < S32x2x128.size a)
theorem k0_idx132_inb : ∀ (v2771 : IVec S16 32) (v2773 : IVec S16 32) (v2776 : IVec S16 32) (k0_hw132 : k0_chk132 v2771 v2773 v2776), ∀ a x, ((![v2771, v2776, v2773] : Fin 3 → IVec S16 32) a x).toNat < S32x2x128.size a := fun v2771 v2773 v2776 k0_hw132 => k0_hw132

def k0_chk133 (v2784 : IVec S16 32) : Prop :=
  (∀ a x, ((![v2784] : Fin 1 → IVec S16 32) a x).toNat < S256.size a)
theorem k0_idx133_inb : ∀ (v2784 : IVec S16 32) (k0_hw133 : k0_chk133 v2784), ∀ a x, ((![v2784] : Fin 1 → IVec S16 32) a x).toNat < S256.size a := fun v2784 k0_hw133 => k0_hw133
def k0_off145 (k0_t10 : Fin k0_t10_loop.trips) (k0_t11 : Fin k0_t11_loop.trips) : Fin 4 → Nat :=
  let c0_i32_1970 : BitVec 32 := 0#32
  let v2787 : Index := Scalar.indexCast c0_i32_1970
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2788 : Index := Scalar.indexCast v2519
  let c6_i32_1971 : BitVec 32 := 6#32
  let v2789 : Index := Scalar.indexCast c6_i32_1971
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1969 : BitVec 32 := 16#32
  let v2786 : BitVec 32 := Scalar.muli v2506 c16_i32_1969
  let v2790 : Index := Scalar.indexCast v2786
  ![0, v2788.toNat, 6, v2790.toNat]
def k0_off146 (k0_t10 : Fin k0_t10_loop.trips) (k0_t11 : Fin k0_t11_loop.trips) : Fin 3 → Nat :=
  let c0_i32_1973 : BitVec 32 := 0#32
  let v2796 : Index := Scalar.indexCast c0_i32_1973
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2797 : Index := Scalar.indexCast v2519
  let c768_i32 : BitVec 32 := 768#32
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1972 : BitVec 32 := 16#32
  let v2794 : BitVec 32 := Scalar.muli v2506 c16_i32_1972
  let v2795 : BitVec 32 := Scalar.addi c768_i32 v2794
  let v2798 : Index := Scalar.indexCast v2795
  ![0, v2797.toNat, v2798.toNat]
def k0_off147 (k0_t10 : Fin k0_t10_loop.trips) (k0_t11 : Fin k0_t11_loop.trips) : Fin 4 → Nat :=
  let c0_i32_1975 : BitVec 32 := 0#32
  let v2801 : Index := Scalar.indexCast c0_i32_1975
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2802 : Index := Scalar.indexCast v2519
  let c7_i32_1976 : BitVec 32 := 7#32
  let v2803 : Index := Scalar.indexCast c7_i32_1976
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1974 : BitVec 32 := 16#32
  let v2800 : BitVec 32 := Scalar.muli v2506 c16_i32_1974
  let v2804 : Index := Scalar.indexCast v2800
  ![0, v2802.toNat, 7, v2804.toNat]

def k0_chk134 (v2811 : IVec S16 32) (v2813 : IVec S16 32) (v2814 : IVec S16 32) : Prop :=
  (∀ a x, ((![v2811, v2814, v2813] : Fin 3 → IVec S16 32) a x).toNat < S32x2x128.size a)
theorem k0_idx134_inb : ∀ (v2811 : IVec S16 32) (v2813 : IVec S16 32) (v2814 : IVec S16 32) (k0_hw134 : k0_chk134 v2811 v2813 v2814), ∀ a x, ((![v2811, v2814, v2813] : Fin 3 → IVec S16 32) a x).toNat < S32x2x128.size a := fun v2811 v2813 v2814 k0_hw134 => k0_hw134

def k0_chk135 (v2811 : IVec S16 32) (v2813 : IVec S16 32) (v2816 : IVec S16 32) : Prop :=
  (∀ a x, ((![v2811, v2816, v2813] : Fin 3 → IVec S16 32) a x).toNat < S32x2x128.size a)
theorem k0_idx135_inb : ∀ (v2811 : IVec S16 32) (v2813 : IVec S16 32) (v2816 : IVec S16 32) (k0_hw135 : k0_chk135 v2811 v2813 v2816), ∀ a x, ((![v2811, v2816, v2813] : Fin 3 → IVec S16 32) a x).toNat < S32x2x128.size a := fun v2811 v2813 v2816 k0_hw135 => k0_hw135

def k0_chk136 (v2824 : IVec S16 32) : Prop :=
  (∀ a x, ((![v2824] : Fin 1 → IVec S16 32) a x).toNat < S256.size a)
theorem k0_idx136_inb : ∀ (v2824 : IVec S16 32) (k0_hw136 : k0_chk136 v2824), ∀ a x, ((![v2824] : Fin 1 → IVec S16 32) a x).toNat < S256.size a := fun v2824 k0_hw136 => k0_hw136
def k0_off148 (k0_t10 : Fin k0_t10_loop.trips) (k0_t11 : Fin k0_t11_loop.trips) : Fin 4 → Nat :=
  let c0_i32_1985 : BitVec 32 := 0#32
  let v2827 : Index := Scalar.indexCast c0_i32_1985
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2828 : Index := Scalar.indexCast v2519
  let c7_i32_1986 : BitVec 32 := 7#32
  let v2829 : Index := Scalar.indexCast c7_i32_1986
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1984 : BitVec 32 := 16#32
  let v2826 : BitVec 32 := Scalar.muli v2506 c16_i32_1984
  let v2830 : Index := Scalar.indexCast v2826
  ![0, v2828.toNat, 7, v2830.toNat]
def k0_off149 (k0_t10 : Fin k0_t10_loop.trips) (k0_t11 : Fin k0_t11_loop.trips) : Fin 3 → Nat :=
  let c0_i32_1988 : BitVec 32 := 0#32
  let v2836 : Index := Scalar.indexCast c0_i32_1988
  let c0_i32_1868 : BitVec 32 := 0#32
  let c0_i32_1863 : BitVec 32 := 0#32
  let c1_i32_1865 : BitVec 32 := 1#32
  let arg20 : BitVec 32 := Scf.iv c0_i32_1863 c1_i32_1865 k0_t11
  let c1_i32_1867 : BitVec 32 := 1#32
  let v2518 : BitVec 32 := Scalar.muli arg20 c1_i32_1867
  let v2519 : BitVec 32 := Scalar.addi c0_i32_1868 v2518
  let v2837 : Index := Scalar.indexCast v2519
  let c896_i32 : BitVec 32 := 896#32
  let c0_i32_1858 : BitVec 32 := 0#32
  let c0_i32_966 : BitVec 32 := 0#32
  let c1_i32_968 : BitVec 32 := 1#32
  let arg19 : BitVec 32 := Scf.iv c0_i32_966 c1_i32_968 k0_t10
  let c1_i32_1857 : BitVec 32 := 1#32
  let v2505 : BitVec 32 := Scalar.muli arg19 c1_i32_1857
  let v2506 : BitVec 32 := Scalar.addi c0_i32_1858 v2505
  let c16_i32_1987 : BitVec 32 := 16#32
  let v2834 : BitVec 32 := Scalar.muli v2506 c16_i32_1987
  let v2835 : BitVec 32 := Scalar.addi c896_i32 v2834
  let v2838 : Index := Scalar.indexCast v2835
  ![0, v2837.toNat, v2838.toNat]
@[reducible] def k0_t12_loop : Scf.Loop 32 :=
  let c0_i32_1102 : BitVec 32 := 0#32
  let c8_i32_1103 : BitVec 32 := 8#32
  let v1795 : BitVec 32 := Scalar.addi c0_i32_1102 c8_i32_1103
  let c1_i32_1104 : BitVec 32 := 1#32
  ⟨c0_i32_1102, v1795, c1_i32_1104⟩
def k0_off150 (i : grid0.Coords) (k0_t12 : Fin k0_t12_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c5_i32_979 : BitVec 32 := 5#32
  let v1693 : BitVec 32 := Scalar.addi v29 c5_i32_979
  let v2508 : Index := Scalar.indexCast v1693
  let c0_i32_1860 : BitVec 32 := 0#32
  let v2509 : Index := Scalar.indexCast c0_i32_1860
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1859 : BitVec 32 := 16#32
  let v2507 : BitVec 32 := Scalar.muli v2506 c16_i32_1859
  let v2510 : Index := Scalar.indexCast v2507
  ![v2508.toNat, 0, v2510.toNat]
def k0_off151 (i : grid0.Coords) (k0_t12 : Fin k0_t12_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c5_i32_979 : BitVec 32 := 5#32
  let v1693 : BitVec 32 := Scalar.addi v29 c5_i32_979
  let v2513 : Index := Scalar.indexCast v1693
  let c1_i32_1862 : BitVec 32 := 1#32
  let v2514 : Index := Scalar.indexCast c1_i32_1862
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1861 : BitVec 32 := 16#32
  let v2512 : BitVec 32 := Scalar.muli v2506 c16_i32_1861
  let v2515 : Index := Scalar.indexCast v2512
  ![v2513.toNat, 1, v2515.toNat]
@[reducible] def k0_t13_loop : Scf.Loop 32 :=
  let c0_i32_1863 : BitVec 32 := 0#32
  let c8_i32_1864 : BitVec 32 := 8#32
  let v2517 : BitVec 32 := Scalar.addi c0_i32_1863 c8_i32_1864
  let c1_i32_1865 : BitVec 32 := 1#32
  ⟨c0_i32_1863, v2517, c1_i32_1865⟩
def k0_off152 (k0_t12 : Fin k0_t12_loop.trips) (k0_t13 : Fin k0_t13_loop.trips) : Fin 4 → Nat :=
  let c1_i32_1870 : BitVec 32 := 1#32
  let v2521 : Index := Scalar.indexCast c1_i32_1870
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2522 : Index := Scalar.indexCast v2519
  let c0_i32_1871 : BitVec 32 := 0#32
  let v2523 : Index := Scalar.indexCast c0_i32_1871
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1869 : BitVec 32 := 16#32
  let v2520 : BitVec 32 := Scalar.muli v2506 c16_i32_1869
  let v2524 : Index := Scalar.indexCast v2520
  ![1, v2522.toNat, 0, v2524.toNat]

def k0_chk137 (v2531 : IVec S16 32) (v2533 : IVec S16 32) (v2534 : IVec S16 32) : Prop :=
  (∀ a x, ((![v2531, v2534, v2533] : Fin 3 → IVec S16 32) a x).toNat < S32x2x128.size a)
theorem k0_idx137_inb : ∀ (v2531 : IVec S16 32) (v2533 : IVec S16 32) (v2534 : IVec S16 32) (k0_hw137 : k0_chk137 v2531 v2533 v2534), ∀ a x, ((![v2531, v2534, v2533] : Fin 3 → IVec S16 32) a x).toNat < S32x2x128.size a := fun v2531 v2533 v2534 k0_hw137 => k0_hw137

def k0_chk138 (v2531 : IVec S16 32) (v2533 : IVec S16 32) (v2536 : IVec S16 32) : Prop :=
  (∀ a x, ((![v2531, v2536, v2533] : Fin 3 → IVec S16 32) a x).toNat < S32x2x128.size a)
theorem k0_idx138_inb : ∀ (v2531 : IVec S16 32) (v2533 : IVec S16 32) (v2536 : IVec S16 32) (k0_hw138 : k0_chk138 v2531 v2533 v2536), ∀ a x, ((![v2531, v2536, v2533] : Fin 3 → IVec S16 32) a x).toNat < S32x2x128.size a := fun v2531 v2533 v2536 k0_hw138 => k0_hw138

def k0_chk139 (v2544 : IVec S16 32) : Prop :=
  (∀ a x, ((![v2544] : Fin 1 → IVec S16 32) a x).toNat < S256.size a)
theorem k0_idx139_inb : ∀ (v2544 : IVec S16 32) (k0_hw139 : k0_chk139 v2544), ∀ a x, ((![v2544] : Fin 1 → IVec S16 32) a x).toNat < S256.size a := fun v2544 k0_hw139 => k0_hw139
def k0_off153 (k0_t12 : Fin k0_t12_loop.trips) (k0_t13 : Fin k0_t13_loop.trips) : Fin 4 → Nat :=
  let c1_i32_1877 : BitVec 32 := 1#32
  let v2547 : Index := Scalar.indexCast c1_i32_1877
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2548 : Index := Scalar.indexCast v2519
  let c0_i32_1878 : BitVec 32 := 0#32
  let v2549 : Index := Scalar.indexCast c0_i32_1878
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1876 : BitVec 32 := 16#32
  let v2546 : BitVec 32 := Scalar.muli v2506 c16_i32_1876
  let v2550 : Index := Scalar.indexCast v2546
  ![1, v2548.toNat, 0, v2550.toNat]
def k0_off154 (k0_t12 : Fin k0_t12_loop.trips) (k0_t13 : Fin k0_t13_loop.trips) : Fin 3 → Nat :=
  let c1_i32_1881 : BitVec 32 := 1#32
  let v2556 : Index := Scalar.indexCast c1_i32_1881
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2557 : Index := Scalar.indexCast v2519
  let c0_i32_1880 : BitVec 32 := 0#32
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1879 : BitVec 32 := 16#32
  let v2554 : BitVec 32 := Scalar.muli v2506 c16_i32_1879
  let v2555 : BitVec 32 := Scalar.addi c0_i32_1880 v2554
  let v2558 : Index := Scalar.indexCast v2555
  ![1, v2557.toNat, v2558.toNat]
def k0_off155 (k0_t12 : Fin k0_t12_loop.trips) (k0_t13 : Fin k0_t13_loop.trips) : Fin 4 → Nat :=
  let c1_i32_1883 : BitVec 32 := 1#32
  let v2561 : Index := Scalar.indexCast c1_i32_1883
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2562 : Index := Scalar.indexCast v2519
  let c1_i32_1884 : BitVec 32 := 1#32
  let v2563 : Index := Scalar.indexCast c1_i32_1884
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1882 : BitVec 32 := 16#32
  let v2560 : BitVec 32 := Scalar.muli v2506 c16_i32_1882
  let v2564 : Index := Scalar.indexCast v2560
  ![1, v2562.toNat, 1, v2564.toNat]

def k0_chk140 (v2571 : IVec S16 32) (v2573 : IVec S16 32) (v2574 : IVec S16 32) : Prop :=
  (∀ a x, ((![v2571, v2574, v2573] : Fin 3 → IVec S16 32) a x).toNat < S32x2x128.size a)
theorem k0_idx140_inb : ∀ (v2571 : IVec S16 32) (v2573 : IVec S16 32) (v2574 : IVec S16 32) (k0_hw140 : k0_chk140 v2571 v2573 v2574), ∀ a x, ((![v2571, v2574, v2573] : Fin 3 → IVec S16 32) a x).toNat < S32x2x128.size a := fun v2571 v2573 v2574 k0_hw140 => k0_hw140

def k0_chk141 (v2571 : IVec S16 32) (v2573 : IVec S16 32) (v2576 : IVec S16 32) : Prop :=
  (∀ a x, ((![v2571, v2576, v2573] : Fin 3 → IVec S16 32) a x).toNat < S32x2x128.size a)
theorem k0_idx141_inb : ∀ (v2571 : IVec S16 32) (v2573 : IVec S16 32) (v2576 : IVec S16 32) (k0_hw141 : k0_chk141 v2571 v2573 v2576), ∀ a x, ((![v2571, v2576, v2573] : Fin 3 → IVec S16 32) a x).toNat < S32x2x128.size a := fun v2571 v2573 v2576 k0_hw141 => k0_hw141

def k0_chk142 (v2584 : IVec S16 32) : Prop :=
  (∀ a x, ((![v2584] : Fin 1 → IVec S16 32) a x).toNat < S256.size a)
theorem k0_idx142_inb : ∀ (v2584 : IVec S16 32) (k0_hw142 : k0_chk142 v2584), ∀ a x, ((![v2584] : Fin 1 → IVec S16 32) a x).toNat < S256.size a := fun v2584 k0_hw142 => k0_hw142
def k0_off156 (k0_t12 : Fin k0_t12_loop.trips) (k0_t13 : Fin k0_t13_loop.trips) : Fin 4 → Nat :=
  let c1_i32_1893 : BitVec 32 := 1#32
  let v2587 : Index := Scalar.indexCast c1_i32_1893
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2588 : Index := Scalar.indexCast v2519
  let c1_i32_1894 : BitVec 32 := 1#32
  let v2589 : Index := Scalar.indexCast c1_i32_1894
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1892 : BitVec 32 := 16#32
  let v2586 : BitVec 32 := Scalar.muli v2506 c16_i32_1892
  let v2590 : Index := Scalar.indexCast v2586
  ![1, v2588.toNat, 1, v2590.toNat]
def k0_off157 (k0_t12 : Fin k0_t12_loop.trips) (k0_t13 : Fin k0_t13_loop.trips) : Fin 3 → Nat :=
  let c1_i32_1897 : BitVec 32 := 1#32
  let v2596 : Index := Scalar.indexCast c1_i32_1897
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2597 : Index := Scalar.indexCast v2519
  let c128_i32_1896 : BitVec 32 := 128#32
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1895 : BitVec 32 := 16#32
  let v2594 : BitVec 32 := Scalar.muli v2506 c16_i32_1895
  let v2595 : BitVec 32 := Scalar.addi c128_i32_1896 v2594
  let v2598 : Index := Scalar.indexCast v2595
  ![1, v2597.toNat, v2598.toNat]
def k0_off158 (k0_t12 : Fin k0_t12_loop.trips) (k0_t13 : Fin k0_t13_loop.trips) : Fin 4 → Nat :=
  let c1_i32_1899 : BitVec 32 := 1#32
  let v2601 : Index := Scalar.indexCast c1_i32_1899
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2602 : Index := Scalar.indexCast v2519
  let c2_i32_1900 : BitVec 32 := 2#32
  let v2603 : Index := Scalar.indexCast c2_i32_1900
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1898 : BitVec 32 := 16#32
  let v2600 : BitVec 32 := Scalar.muli v2506 c16_i32_1898
  let v2604 : Index := Scalar.indexCast v2600
  ![1, v2602.toNat, 2, v2604.toNat]

def k0_chk143 (v2611 : IVec S16 32) (v2613 : IVec S16 32) (v2614 : IVec S16 32) : Prop :=
  (∀ a x, ((![v2611, v2614, v2613] : Fin 3 → IVec S16 32) a x).toNat < S32x2x128.size a)
theorem k0_idx143_inb : ∀ (v2611 : IVec S16 32) (v2613 : IVec S16 32) (v2614 : IVec S16 32) (k0_hw143 : k0_chk143 v2611 v2613 v2614), ∀ a x, ((![v2611, v2614, v2613] : Fin 3 → IVec S16 32) a x).toNat < S32x2x128.size a := fun v2611 v2613 v2614 k0_hw143 => k0_hw143

def k0_chk144 (v2611 : IVec S16 32) (v2613 : IVec S16 32) (v2616 : IVec S16 32) : Prop :=
  (∀ a x, ((![v2611, v2616, v2613] : Fin 3 → IVec S16 32) a x).toNat < S32x2x128.size a)
theorem k0_idx144_inb : ∀ (v2611 : IVec S16 32) (v2613 : IVec S16 32) (v2616 : IVec S16 32) (k0_hw144 : k0_chk144 v2611 v2613 v2616), ∀ a x, ((![v2611, v2616, v2613] : Fin 3 → IVec S16 32) a x).toNat < S32x2x128.size a := fun v2611 v2613 v2616 k0_hw144 => k0_hw144

def k0_chk145 (v2624 : IVec S16 32) : Prop :=
  (∀ a x, ((![v2624] : Fin 1 → IVec S16 32) a x).toNat < S256.size a)
theorem k0_idx145_inb : ∀ (v2624 : IVec S16 32) (k0_hw145 : k0_chk145 v2624), ∀ a x, ((![v2624] : Fin 1 → IVec S16 32) a x).toNat < S256.size a := fun v2624 k0_hw145 => k0_hw145
def k0_off159 (k0_t12 : Fin k0_t12_loop.trips) (k0_t13 : Fin k0_t13_loop.trips) : Fin 4 → Nat :=
  let c1_i32_1909 : BitVec 32 := 1#32
  let v2627 : Index := Scalar.indexCast c1_i32_1909
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2628 : Index := Scalar.indexCast v2519
  let c2_i32_1910 : BitVec 32 := 2#32
  let v2629 : Index := Scalar.indexCast c2_i32_1910
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1908 : BitVec 32 := 16#32
  let v2626 : BitVec 32 := Scalar.muli v2506 c16_i32_1908
  let v2630 : Index := Scalar.indexCast v2626
  ![1, v2628.toNat, 2, v2630.toNat]
def k0_off160 (k0_t12 : Fin k0_t12_loop.trips) (k0_t13 : Fin k0_t13_loop.trips) : Fin 3 → Nat :=
  let c1_i32_1912 : BitVec 32 := 1#32
  let v2636 : Index := Scalar.indexCast c1_i32_1912
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2637 : Index := Scalar.indexCast v2519
  let c256_i32 : BitVec 32 := 256#32
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1911 : BitVec 32 := 16#32
  let v2634 : BitVec 32 := Scalar.muli v2506 c16_i32_1911
  let v2635 : BitVec 32 := Scalar.addi c256_i32 v2634
  let v2638 : Index := Scalar.indexCast v2635
  ![1, v2637.toNat, v2638.toNat]
def k0_off161 (k0_t12 : Fin k0_t12_loop.trips) (k0_t13 : Fin k0_t13_loop.trips) : Fin 4 → Nat :=
  let c1_i32_1914 : BitVec 32 := 1#32
  let v2641 : Index := Scalar.indexCast c1_i32_1914
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2642 : Index := Scalar.indexCast v2519
  let c3_i32_1915 : BitVec 32 := 3#32
  let v2643 : Index := Scalar.indexCast c3_i32_1915
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1913 : BitVec 32 := 16#32
  let v2640 : BitVec 32 := Scalar.muli v2506 c16_i32_1913
  let v2644 : Index := Scalar.indexCast v2640
  ![1, v2642.toNat, 3, v2644.toNat]

def k0_chk146 (v2651 : IVec S16 32) (v2653 : IVec S16 32) (v2654 : IVec S16 32) : Prop :=
  (∀ a x, ((![v2651, v2654, v2653] : Fin 3 → IVec S16 32) a x).toNat < S32x2x128.size a)
theorem k0_idx146_inb : ∀ (v2651 : IVec S16 32) (v2653 : IVec S16 32) (v2654 : IVec S16 32) (k0_hw146 : k0_chk146 v2651 v2653 v2654), ∀ a x, ((![v2651, v2654, v2653] : Fin 3 → IVec S16 32) a x).toNat < S32x2x128.size a := fun v2651 v2653 v2654 k0_hw146 => k0_hw146

def k0_chk147 (v2651 : IVec S16 32) (v2653 : IVec S16 32) (v2656 : IVec S16 32) : Prop :=
  (∀ a x, ((![v2651, v2656, v2653] : Fin 3 → IVec S16 32) a x).toNat < S32x2x128.size a)
theorem k0_idx147_inb : ∀ (v2651 : IVec S16 32) (v2653 : IVec S16 32) (v2656 : IVec S16 32) (k0_hw147 : k0_chk147 v2651 v2653 v2656), ∀ a x, ((![v2651, v2656, v2653] : Fin 3 → IVec S16 32) a x).toNat < S32x2x128.size a := fun v2651 v2653 v2656 k0_hw147 => k0_hw147

def k0_chk148 (v2664 : IVec S16 32) : Prop :=
  (∀ a x, ((![v2664] : Fin 1 → IVec S16 32) a x).toNat < S256.size a)
theorem k0_idx148_inb : ∀ (v2664 : IVec S16 32) (k0_hw148 : k0_chk148 v2664), ∀ a x, ((![v2664] : Fin 1 → IVec S16 32) a x).toNat < S256.size a := fun v2664 k0_hw148 => k0_hw148
def k0_off162 (k0_t12 : Fin k0_t12_loop.trips) (k0_t13 : Fin k0_t13_loop.trips) : Fin 4 → Nat :=
  let c1_i32_1924 : BitVec 32 := 1#32
  let v2667 : Index := Scalar.indexCast c1_i32_1924
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2668 : Index := Scalar.indexCast v2519
  let c3_i32_1925 : BitVec 32 := 3#32
  let v2669 : Index := Scalar.indexCast c3_i32_1925
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1923 : BitVec 32 := 16#32
  let v2666 : BitVec 32 := Scalar.muli v2506 c16_i32_1923
  let v2670 : Index := Scalar.indexCast v2666
  ![1, v2668.toNat, 3, v2670.toNat]
def k0_off163 (k0_t12 : Fin k0_t12_loop.trips) (k0_t13 : Fin k0_t13_loop.trips) : Fin 3 → Nat :=
  let c1_i32_1927 : BitVec 32 := 1#32
  let v2676 : Index := Scalar.indexCast c1_i32_1927
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2677 : Index := Scalar.indexCast v2519
  let c384_i32 : BitVec 32 := 384#32
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1926 : BitVec 32 := 16#32
  let v2674 : BitVec 32 := Scalar.muli v2506 c16_i32_1926
  let v2675 : BitVec 32 := Scalar.addi c384_i32 v2674
  let v2678 : Index := Scalar.indexCast v2675
  ![1, v2677.toNat, v2678.toNat]
def k0_off164 (k0_t12 : Fin k0_t12_loop.trips) (k0_t13 : Fin k0_t13_loop.trips) : Fin 4 → Nat :=
  let c1_i32_1929 : BitVec 32 := 1#32
  let v2681 : Index := Scalar.indexCast c1_i32_1929
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2682 : Index := Scalar.indexCast v2519
  let c4_i32_1930 : BitVec 32 := 4#32
  let v2683 : Index := Scalar.indexCast c4_i32_1930
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1928 : BitVec 32 := 16#32
  let v2680 : BitVec 32 := Scalar.muli v2506 c16_i32_1928
  let v2684 : Index := Scalar.indexCast v2680
  ![1, v2682.toNat, 4, v2684.toNat]

def k0_chk149 (v2691 : IVec S16 32) (v2693 : IVec S16 32) (v2694 : IVec S16 32) : Prop :=
  (∀ a x, ((![v2691, v2694, v2693] : Fin 3 → IVec S16 32) a x).toNat < S32x2x128.size a)
theorem k0_idx149_inb : ∀ (v2691 : IVec S16 32) (v2693 : IVec S16 32) (v2694 : IVec S16 32) (k0_hw149 : k0_chk149 v2691 v2693 v2694), ∀ a x, ((![v2691, v2694, v2693] : Fin 3 → IVec S16 32) a x).toNat < S32x2x128.size a := fun v2691 v2693 v2694 k0_hw149 => k0_hw149

def k0_chk150 (v2691 : IVec S16 32) (v2693 : IVec S16 32) (v2696 : IVec S16 32) : Prop :=
  (∀ a x, ((![v2691, v2696, v2693] : Fin 3 → IVec S16 32) a x).toNat < S32x2x128.size a)
theorem k0_idx150_inb : ∀ (v2691 : IVec S16 32) (v2693 : IVec S16 32) (v2696 : IVec S16 32) (k0_hw150 : k0_chk150 v2691 v2693 v2696), ∀ a x, ((![v2691, v2696, v2693] : Fin 3 → IVec S16 32) a x).toNat < S32x2x128.size a := fun v2691 v2693 v2696 k0_hw150 => k0_hw150

def k0_chk151 (v2704 : IVec S16 32) : Prop :=
  (∀ a x, ((![v2704] : Fin 1 → IVec S16 32) a x).toNat < S256.size a)
theorem k0_idx151_inb : ∀ (v2704 : IVec S16 32) (k0_hw151 : k0_chk151 v2704), ∀ a x, ((![v2704] : Fin 1 → IVec S16 32) a x).toNat < S256.size a := fun v2704 k0_hw151 => k0_hw151
def k0_off165 (k0_t12 : Fin k0_t12_loop.trips) (k0_t13 : Fin k0_t13_loop.trips) : Fin 4 → Nat :=
  let c1_i32_1939 : BitVec 32 := 1#32
  let v2707 : Index := Scalar.indexCast c1_i32_1939
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2708 : Index := Scalar.indexCast v2519
  let c4_i32_1940 : BitVec 32 := 4#32
  let v2709 : Index := Scalar.indexCast c4_i32_1940
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1938 : BitVec 32 := 16#32
  let v2706 : BitVec 32 := Scalar.muli v2506 c16_i32_1938
  let v2710 : Index := Scalar.indexCast v2706
  ![1, v2708.toNat, 4, v2710.toNat]
def k0_off166 (k0_t12 : Fin k0_t12_loop.trips) (k0_t13 : Fin k0_t13_loop.trips) : Fin 3 → Nat :=
  let c1_i32_1943 : BitVec 32 := 1#32
  let v2716 : Index := Scalar.indexCast c1_i32_1943
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2717 : Index := Scalar.indexCast v2519
  let c512_i32_1942 : BitVec 32 := 512#32
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1941 : BitVec 32 := 16#32
  let v2714 : BitVec 32 := Scalar.muli v2506 c16_i32_1941
  let v2715 : BitVec 32 := Scalar.addi c512_i32_1942 v2714
  let v2718 : Index := Scalar.indexCast v2715
  ![1, v2717.toNat, v2718.toNat]
def k0_off167 (k0_t12 : Fin k0_t12_loop.trips) (k0_t13 : Fin k0_t13_loop.trips) : Fin 4 → Nat :=
  let c1_i32_1945 : BitVec 32 := 1#32
  let v2721 : Index := Scalar.indexCast c1_i32_1945
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2722 : Index := Scalar.indexCast v2519
  let c5_i32_1946 : BitVec 32 := 5#32
  let v2723 : Index := Scalar.indexCast c5_i32_1946
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1944 : BitVec 32 := 16#32
  let v2720 : BitVec 32 := Scalar.muli v2506 c16_i32_1944
  let v2724 : Index := Scalar.indexCast v2720
  ![1, v2722.toNat, 5, v2724.toNat]

def k0_chk152 (v2731 : IVec S16 32) (v2733 : IVec S16 32) (v2734 : IVec S16 32) : Prop :=
  (∀ a x, ((![v2731, v2734, v2733] : Fin 3 → IVec S16 32) a x).toNat < S32x2x128.size a)
theorem k0_idx152_inb : ∀ (v2731 : IVec S16 32) (v2733 : IVec S16 32) (v2734 : IVec S16 32) (k0_hw152 : k0_chk152 v2731 v2733 v2734), ∀ a x, ((![v2731, v2734, v2733] : Fin 3 → IVec S16 32) a x).toNat < S32x2x128.size a := fun v2731 v2733 v2734 k0_hw152 => k0_hw152

def k0_chk153 (v2731 : IVec S16 32) (v2733 : IVec S16 32) (v2736 : IVec S16 32) : Prop :=
  (∀ a x, ((![v2731, v2736, v2733] : Fin 3 → IVec S16 32) a x).toNat < S32x2x128.size a)
theorem k0_idx153_inb : ∀ (v2731 : IVec S16 32) (v2733 : IVec S16 32) (v2736 : IVec S16 32) (k0_hw153 : k0_chk153 v2731 v2733 v2736), ∀ a x, ((![v2731, v2736, v2733] : Fin 3 → IVec S16 32) a x).toNat < S32x2x128.size a := fun v2731 v2733 v2736 k0_hw153 => k0_hw153

def k0_chk154 (v2744 : IVec S16 32) : Prop :=
  (∀ a x, ((![v2744] : Fin 1 → IVec S16 32) a x).toNat < S256.size a)
theorem k0_idx154_inb : ∀ (v2744 : IVec S16 32) (k0_hw154 : k0_chk154 v2744), ∀ a x, ((![v2744] : Fin 1 → IVec S16 32) a x).toNat < S256.size a := fun v2744 k0_hw154 => k0_hw154
def k0_off168 (k0_t12 : Fin k0_t12_loop.trips) (k0_t13 : Fin k0_t13_loop.trips) : Fin 4 → Nat :=
  let c1_i32_1955 : BitVec 32 := 1#32
  let v2747 : Index := Scalar.indexCast c1_i32_1955
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2748 : Index := Scalar.indexCast v2519
  let c5_i32_1956 : BitVec 32 := 5#32
  let v2749 : Index := Scalar.indexCast c5_i32_1956
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1954 : BitVec 32 := 16#32
  let v2746 : BitVec 32 := Scalar.muli v2506 c16_i32_1954
  let v2750 : Index := Scalar.indexCast v2746
  ![1, v2748.toNat, 5, v2750.toNat]
def k0_off169 (k0_t12 : Fin k0_t12_loop.trips) (k0_t13 : Fin k0_t13_loop.trips) : Fin 3 → Nat :=
  let c1_i32_1958 : BitVec 32 := 1#32
  let v2756 : Index := Scalar.indexCast c1_i32_1958
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2757 : Index := Scalar.indexCast v2519
  let c640_i32 : BitVec 32 := 640#32
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1957 : BitVec 32 := 16#32
  let v2754 : BitVec 32 := Scalar.muli v2506 c16_i32_1957
  let v2755 : BitVec 32 := Scalar.addi c640_i32 v2754
  let v2758 : Index := Scalar.indexCast v2755
  ![1, v2757.toNat, v2758.toNat]
def k0_off170 (k0_t12 : Fin k0_t12_loop.trips) (k0_t13 : Fin k0_t13_loop.trips) : Fin 4 → Nat :=
  let c1_i32_1960 : BitVec 32 := 1#32
  let v2761 : Index := Scalar.indexCast c1_i32_1960
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2762 : Index := Scalar.indexCast v2519
  let c6_i32_1961 : BitVec 32 := 6#32
  let v2763 : Index := Scalar.indexCast c6_i32_1961
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1959 : BitVec 32 := 16#32
  let v2760 : BitVec 32 := Scalar.muli v2506 c16_i32_1959
  let v2764 : Index := Scalar.indexCast v2760
  ![1, v2762.toNat, 6, v2764.toNat]

def k0_chk155 (v2771 : IVec S16 32) (v2773 : IVec S16 32) (v2774 : IVec S16 32) : Prop :=
  (∀ a x, ((![v2771, v2774, v2773] : Fin 3 → IVec S16 32) a x).toNat < S32x2x128.size a)
theorem k0_idx155_inb : ∀ (v2771 : IVec S16 32) (v2773 : IVec S16 32) (v2774 : IVec S16 32) (k0_hw155 : k0_chk155 v2771 v2773 v2774), ∀ a x, ((![v2771, v2774, v2773] : Fin 3 → IVec S16 32) a x).toNat < S32x2x128.size a := fun v2771 v2773 v2774 k0_hw155 => k0_hw155

def k0_chk156 (v2771 : IVec S16 32) (v2773 : IVec S16 32) (v2776 : IVec S16 32) : Prop :=
  (∀ a x, ((![v2771, v2776, v2773] : Fin 3 → IVec S16 32) a x).toNat < S32x2x128.size a)
theorem k0_idx156_inb : ∀ (v2771 : IVec S16 32) (v2773 : IVec S16 32) (v2776 : IVec S16 32) (k0_hw156 : k0_chk156 v2771 v2773 v2776), ∀ a x, ((![v2771, v2776, v2773] : Fin 3 → IVec S16 32) a x).toNat < S32x2x128.size a := fun v2771 v2773 v2776 k0_hw156 => k0_hw156

def k0_chk157 (v2784 : IVec S16 32) : Prop :=
  (∀ a x, ((![v2784] : Fin 1 → IVec S16 32) a x).toNat < S256.size a)
theorem k0_idx157_inb : ∀ (v2784 : IVec S16 32) (k0_hw157 : k0_chk157 v2784), ∀ a x, ((![v2784] : Fin 1 → IVec S16 32) a x).toNat < S256.size a := fun v2784 k0_hw157 => k0_hw157
def k0_off171 (k0_t12 : Fin k0_t12_loop.trips) (k0_t13 : Fin k0_t13_loop.trips) : Fin 4 → Nat :=
  let c1_i32_1970 : BitVec 32 := 1#32
  let v2787 : Index := Scalar.indexCast c1_i32_1970
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2788 : Index := Scalar.indexCast v2519
  let c6_i32_1971 : BitVec 32 := 6#32
  let v2789 : Index := Scalar.indexCast c6_i32_1971
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1969 : BitVec 32 := 16#32
  let v2786 : BitVec 32 := Scalar.muli v2506 c16_i32_1969
  let v2790 : Index := Scalar.indexCast v2786
  ![1, v2788.toNat, 6, v2790.toNat]
def k0_off172 (k0_t12 : Fin k0_t12_loop.trips) (k0_t13 : Fin k0_t13_loop.trips) : Fin 3 → Nat :=
  let c1_i32_1973 : BitVec 32 := 1#32
  let v2796 : Index := Scalar.indexCast c1_i32_1973
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2797 : Index := Scalar.indexCast v2519
  let c768_i32 : BitVec 32 := 768#32
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1972 : BitVec 32 := 16#32
  let v2794 : BitVec 32 := Scalar.muli v2506 c16_i32_1972
  let v2795 : BitVec 32 := Scalar.addi c768_i32 v2794
  let v2798 : Index := Scalar.indexCast v2795
  ![1, v2797.toNat, v2798.toNat]
def k0_off173 (k0_t12 : Fin k0_t12_loop.trips) (k0_t13 : Fin k0_t13_loop.trips) : Fin 4 → Nat :=
  let c1_i32_1975 : BitVec 32 := 1#32
  let v2801 : Index := Scalar.indexCast c1_i32_1975
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2802 : Index := Scalar.indexCast v2519
  let c7_i32_1976 : BitVec 32 := 7#32
  let v2803 : Index := Scalar.indexCast c7_i32_1976
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1974 : BitVec 32 := 16#32
  let v2800 : BitVec 32 := Scalar.muli v2506 c16_i32_1974
  let v2804 : Index := Scalar.indexCast v2800
  ![1, v2802.toNat, 7, v2804.toNat]

def k0_chk158 (v2811 : IVec S16 32) (v2813 : IVec S16 32) (v2814 : IVec S16 32) : Prop :=
  (∀ a x, ((![v2811, v2814, v2813] : Fin 3 → IVec S16 32) a x).toNat < S32x2x128.size a)
theorem k0_idx158_inb : ∀ (v2811 : IVec S16 32) (v2813 : IVec S16 32) (v2814 : IVec S16 32) (k0_hw158 : k0_chk158 v2811 v2813 v2814), ∀ a x, ((![v2811, v2814, v2813] : Fin 3 → IVec S16 32) a x).toNat < S32x2x128.size a := fun v2811 v2813 v2814 k0_hw158 => k0_hw158

def k0_chk159 (v2811 : IVec S16 32) (v2813 : IVec S16 32) (v2816 : IVec S16 32) : Prop :=
  (∀ a x, ((![v2811, v2816, v2813] : Fin 3 → IVec S16 32) a x).toNat < S32x2x128.size a)
theorem k0_idx159_inb : ∀ (v2811 : IVec S16 32) (v2813 : IVec S16 32) (v2816 : IVec S16 32) (k0_hw159 : k0_chk159 v2811 v2813 v2816), ∀ a x, ((![v2811, v2816, v2813] : Fin 3 → IVec S16 32) a x).toNat < S32x2x128.size a := fun v2811 v2813 v2816 k0_hw159 => k0_hw159

def k0_chk160 (v2824 : IVec S16 32) : Prop :=
  (∀ a x, ((![v2824] : Fin 1 → IVec S16 32) a x).toNat < S256.size a)
theorem k0_idx160_inb : ∀ (v2824 : IVec S16 32) (k0_hw160 : k0_chk160 v2824), ∀ a x, ((![v2824] : Fin 1 → IVec S16 32) a x).toNat < S256.size a := fun v2824 k0_hw160 => k0_hw160
def k0_off174 (k0_t12 : Fin k0_t12_loop.trips) (k0_t13 : Fin k0_t13_loop.trips) : Fin 4 → Nat :=
  let c1_i32_1985 : BitVec 32 := 1#32
  let v2827 : Index := Scalar.indexCast c1_i32_1985
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2828 : Index := Scalar.indexCast v2519
  let c7_i32_1986 : BitVec 32 := 7#32
  let v2829 : Index := Scalar.indexCast c7_i32_1986
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1984 : BitVec 32 := 16#32
  let v2826 : BitVec 32 := Scalar.muli v2506 c16_i32_1984
  let v2830 : Index := Scalar.indexCast v2826
  ![1, v2828.toNat, 7, v2830.toNat]
def k0_off175 (k0_t12 : Fin k0_t12_loop.trips) (k0_t13 : Fin k0_t13_loop.trips) : Fin 3 → Nat :=
  let c1_i32_1988 : BitVec 32 := 1#32
  let v2836 : Index := Scalar.indexCast c1_i32_1988
  let c0_i32_1868 : BitVec 32 := 0#32
  let c0_i32_1863 : BitVec 32 := 0#32
  let c1_i32_1865 : BitVec 32 := 1#32
  let arg20 : BitVec 32 := Scf.iv c0_i32_1863 c1_i32_1865 k0_t13
  let c1_i32_1867 : BitVec 32 := 1#32
  let v2518 : BitVec 32 := Scalar.muli arg20 c1_i32_1867
  let v2519 : BitVec 32 := Scalar.addi c0_i32_1868 v2518
  let v2837 : Index := Scalar.indexCast v2519
  let c896_i32 : BitVec 32 := 896#32
  let c0_i32_1858 : BitVec 32 := 0#32
  let c0_i32_1102 : BitVec 32 := 0#32
  let c1_i32_1104 : BitVec 32 := 1#32
  let arg19 : BitVec 32 := Scf.iv c0_i32_1102 c1_i32_1104 k0_t12
  let c1_i32_1857 : BitVec 32 := 1#32
  let v2505 : BitVec 32 := Scalar.muli arg19 c1_i32_1857
  let v2506 : BitVec 32 := Scalar.addi c0_i32_1858 v2505
  let c16_i32_1987 : BitVec 32 := 16#32
  let v2834 : BitVec 32 := Scalar.muli v2506 c16_i32_1987
  let v2835 : BitVec 32 := Scalar.addi c896_i32 v2834
  let v2838 : Index := Scalar.indexCast v2835
  ![1, v2837.toNat, v2838.toNat]
@[reducible] def k0_t14_loop : Scf.Loop 32 :=
  let c0_i32_1237 : BitVec 32 := 0#32
  let c8_i32_1238 : BitVec 32 := 8#32
  let v1906 : BitVec 32 := Scalar.addi c0_i32_1237 c8_i32_1238
  let c1_i32_1239 : BitVec 32 := 1#32
  ⟨c0_i32_1237, v1906, c1_i32_1239⟩
def k0_off176 (i : grid0.Coords) (k0_t14 : Fin k0_t14_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c6_i32_1115 : BitVec 32 := 6#32
  let v1804 : BitVec 32 := Scalar.addi v29 c6_i32_1115
  let v2508 : Index := Scalar.indexCast v1804
  let c0_i32_1860 : BitVec 32 := 0#32
  let v2509 : Index := Scalar.indexCast c0_i32_1860
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1859 : BitVec 32 := 16#32
  let v2507 : BitVec 32 := Scalar.muli v2506 c16_i32_1859
  let v2510 : Index := Scalar.indexCast v2507
  ![v2508.toNat, 0, v2510.toNat]
def k0_off177 (i : grid0.Coords) (k0_t14 : Fin k0_t14_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c6_i32_1115 : BitVec 32 := 6#32
  let v1804 : BitVec 32 := Scalar.addi v29 c6_i32_1115
  let v2513 : Index := Scalar.indexCast v1804
  let c1_i32_1862 : BitVec 32 := 1#32
  let v2514 : Index := Scalar.indexCast c1_i32_1862
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1861 : BitVec 32 := 16#32
  let v2512 : BitVec 32 := Scalar.muli v2506 c16_i32_1861
  let v2515 : Index := Scalar.indexCast v2512
  ![v2513.toNat, 1, v2515.toNat]
@[reducible] def k0_t15_loop : Scf.Loop 32 :=
  let c0_i32_1863 : BitVec 32 := 0#32
  let c8_i32_1864 : BitVec 32 := 8#32
  let v2517 : BitVec 32 := Scalar.addi c0_i32_1863 c8_i32_1864
  let c1_i32_1865 : BitVec 32 := 1#32
  ⟨c0_i32_1863, v2517, c1_i32_1865⟩
def k0_off178 (k0_t14 : Fin k0_t14_loop.trips) (k0_t15 : Fin k0_t15_loop.trips) : Fin 4 → Nat :=
  let c0_i32_1870 : BitVec 32 := 0#32
  let v2521 : Index := Scalar.indexCast c0_i32_1870
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2522 : Index := Scalar.indexCast v2519
  let c0_i32_1871 : BitVec 32 := 0#32
  let v2523 : Index := Scalar.indexCast c0_i32_1871
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1869 : BitVec 32 := 16#32
  let v2520 : BitVec 32 := Scalar.muli v2506 c16_i32_1869
  let v2524 : Index := Scalar.indexCast v2520
  ![0, v2522.toNat, 0, v2524.toNat]

def k0_chk161 (v2531 : IVec S16 32) (v2533 : IVec S16 32) (v2534 : IVec S16 32) : Prop :=
  (∀ a x, ((![v2531, v2534, v2533] : Fin 3 → IVec S16 32) a x).toNat < S32x2x128.size a)
theorem k0_idx161_inb : ∀ (v2531 : IVec S16 32) (v2533 : IVec S16 32) (v2534 : IVec S16 32) (k0_hw161 : k0_chk161 v2531 v2533 v2534), ∀ a x, ((![v2531, v2534, v2533] : Fin 3 → IVec S16 32) a x).toNat < S32x2x128.size a := fun v2531 v2533 v2534 k0_hw161 => k0_hw161

def k0_chk162 (v2531 : IVec S16 32) (v2533 : IVec S16 32) (v2536 : IVec S16 32) : Prop :=
  (∀ a x, ((![v2531, v2536, v2533] : Fin 3 → IVec S16 32) a x).toNat < S32x2x128.size a)
theorem k0_idx162_inb : ∀ (v2531 : IVec S16 32) (v2533 : IVec S16 32) (v2536 : IVec S16 32) (k0_hw162 : k0_chk162 v2531 v2533 v2536), ∀ a x, ((![v2531, v2536, v2533] : Fin 3 → IVec S16 32) a x).toNat < S32x2x128.size a := fun v2531 v2533 v2536 k0_hw162 => k0_hw162

def k0_chk163 (v2544 : IVec S16 32) : Prop :=
  (∀ a x, ((![v2544] : Fin 1 → IVec S16 32) a x).toNat < S256.size a)
theorem k0_idx163_inb : ∀ (v2544 : IVec S16 32) (k0_hw163 : k0_chk163 v2544), ∀ a x, ((![v2544] : Fin 1 → IVec S16 32) a x).toNat < S256.size a := fun v2544 k0_hw163 => k0_hw163
def k0_off179 (k0_t14 : Fin k0_t14_loop.trips) (k0_t15 : Fin k0_t15_loop.trips) : Fin 4 → Nat :=
  let c0_i32_1877 : BitVec 32 := 0#32
  let v2547 : Index := Scalar.indexCast c0_i32_1877
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2548 : Index := Scalar.indexCast v2519
  let c0_i32_1878 : BitVec 32 := 0#32
  let v2549 : Index := Scalar.indexCast c0_i32_1878
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1876 : BitVec 32 := 16#32
  let v2546 : BitVec 32 := Scalar.muli v2506 c16_i32_1876
  let v2550 : Index := Scalar.indexCast v2546
  ![0, v2548.toNat, 0, v2550.toNat]
def k0_off180 (k0_t14 : Fin k0_t14_loop.trips) (k0_t15 : Fin k0_t15_loop.trips) : Fin 3 → Nat :=
  let c0_i32_1881 : BitVec 32 := 0#32
  let v2556 : Index := Scalar.indexCast c0_i32_1881
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2557 : Index := Scalar.indexCast v2519
  let c0_i32_1880 : BitVec 32 := 0#32
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1879 : BitVec 32 := 16#32
  let v2554 : BitVec 32 := Scalar.muli v2506 c16_i32_1879
  let v2555 : BitVec 32 := Scalar.addi c0_i32_1880 v2554
  let v2558 : Index := Scalar.indexCast v2555
  ![0, v2557.toNat, v2558.toNat]
def k0_off181 (k0_t14 : Fin k0_t14_loop.trips) (k0_t15 : Fin k0_t15_loop.trips) : Fin 4 → Nat :=
  let c0_i32_1883 : BitVec 32 := 0#32
  let v2561 : Index := Scalar.indexCast c0_i32_1883
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2562 : Index := Scalar.indexCast v2519
  let c1_i32_1884 : BitVec 32 := 1#32
  let v2563 : Index := Scalar.indexCast c1_i32_1884
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1882 : BitVec 32 := 16#32
  let v2560 : BitVec 32 := Scalar.muli v2506 c16_i32_1882
  let v2564 : Index := Scalar.indexCast v2560
  ![0, v2562.toNat, 1, v2564.toNat]

def k0_chk164 (v2571 : IVec S16 32) (v2573 : IVec S16 32) (v2574 : IVec S16 32) : Prop :=
  (∀ a x, ((![v2571, v2574, v2573] : Fin 3 → IVec S16 32) a x).toNat < S32x2x128.size a)
theorem k0_idx164_inb : ∀ (v2571 : IVec S16 32) (v2573 : IVec S16 32) (v2574 : IVec S16 32) (k0_hw164 : k0_chk164 v2571 v2573 v2574), ∀ a x, ((![v2571, v2574, v2573] : Fin 3 → IVec S16 32) a x).toNat < S32x2x128.size a := fun v2571 v2573 v2574 k0_hw164 => k0_hw164

def k0_chk165 (v2571 : IVec S16 32) (v2573 : IVec S16 32) (v2576 : IVec S16 32) : Prop :=
  (∀ a x, ((![v2571, v2576, v2573] : Fin 3 → IVec S16 32) a x).toNat < S32x2x128.size a)
theorem k0_idx165_inb : ∀ (v2571 : IVec S16 32) (v2573 : IVec S16 32) (v2576 : IVec S16 32) (k0_hw165 : k0_chk165 v2571 v2573 v2576), ∀ a x, ((![v2571, v2576, v2573] : Fin 3 → IVec S16 32) a x).toNat < S32x2x128.size a := fun v2571 v2573 v2576 k0_hw165 => k0_hw165

def k0_chk166 (v2584 : IVec S16 32) : Prop :=
  (∀ a x, ((![v2584] : Fin 1 → IVec S16 32) a x).toNat < S256.size a)
theorem k0_idx166_inb : ∀ (v2584 : IVec S16 32) (k0_hw166 : k0_chk166 v2584), ∀ a x, ((![v2584] : Fin 1 → IVec S16 32) a x).toNat < S256.size a := fun v2584 k0_hw166 => k0_hw166
def k0_off182 (k0_t14 : Fin k0_t14_loop.trips) (k0_t15 : Fin k0_t15_loop.trips) : Fin 4 → Nat :=
  let c0_i32_1893 : BitVec 32 := 0#32
  let v2587 : Index := Scalar.indexCast c0_i32_1893
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2588 : Index := Scalar.indexCast v2519
  let c1_i32_1894 : BitVec 32 := 1#32
  let v2589 : Index := Scalar.indexCast c1_i32_1894
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1892 : BitVec 32 := 16#32
  let v2586 : BitVec 32 := Scalar.muli v2506 c16_i32_1892
  let v2590 : Index := Scalar.indexCast v2586
  ![0, v2588.toNat, 1, v2590.toNat]
def k0_off183 (k0_t14 : Fin k0_t14_loop.trips) (k0_t15 : Fin k0_t15_loop.trips) : Fin 3 → Nat :=
  let c0_i32_1897 : BitVec 32 := 0#32
  let v2596 : Index := Scalar.indexCast c0_i32_1897
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2597 : Index := Scalar.indexCast v2519
  let c128_i32_1896 : BitVec 32 := 128#32
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1895 : BitVec 32 := 16#32
  let v2594 : BitVec 32 := Scalar.muli v2506 c16_i32_1895
  let v2595 : BitVec 32 := Scalar.addi c128_i32_1896 v2594
  let v2598 : Index := Scalar.indexCast v2595
  ![0, v2597.toNat, v2598.toNat]
def k0_off184 (k0_t14 : Fin k0_t14_loop.trips) (k0_t15 : Fin k0_t15_loop.trips) : Fin 4 → Nat :=
  let c0_i32_1899 : BitVec 32 := 0#32
  let v2601 : Index := Scalar.indexCast c0_i32_1899
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2602 : Index := Scalar.indexCast v2519
  let c2_i32_1900 : BitVec 32 := 2#32
  let v2603 : Index := Scalar.indexCast c2_i32_1900
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1898 : BitVec 32 := 16#32
  let v2600 : BitVec 32 := Scalar.muli v2506 c16_i32_1898
  let v2604 : Index := Scalar.indexCast v2600
  ![0, v2602.toNat, 2, v2604.toNat]

def k0_chk167 (v2611 : IVec S16 32) (v2613 : IVec S16 32) (v2614 : IVec S16 32) : Prop :=
  (∀ a x, ((![v2611, v2614, v2613] : Fin 3 → IVec S16 32) a x).toNat < S32x2x128.size a)
theorem k0_idx167_inb : ∀ (v2611 : IVec S16 32) (v2613 : IVec S16 32) (v2614 : IVec S16 32) (k0_hw167 : k0_chk167 v2611 v2613 v2614), ∀ a x, ((![v2611, v2614, v2613] : Fin 3 → IVec S16 32) a x).toNat < S32x2x128.size a := fun v2611 v2613 v2614 k0_hw167 => k0_hw167

def k0_chk168 (v2611 : IVec S16 32) (v2613 : IVec S16 32) (v2616 : IVec S16 32) : Prop :=
  (∀ a x, ((![v2611, v2616, v2613] : Fin 3 → IVec S16 32) a x).toNat < S32x2x128.size a)
theorem k0_idx168_inb : ∀ (v2611 : IVec S16 32) (v2613 : IVec S16 32) (v2616 : IVec S16 32) (k0_hw168 : k0_chk168 v2611 v2613 v2616), ∀ a x, ((![v2611, v2616, v2613] : Fin 3 → IVec S16 32) a x).toNat < S32x2x128.size a := fun v2611 v2613 v2616 k0_hw168 => k0_hw168

def k0_chk169 (v2624 : IVec S16 32) : Prop :=
  (∀ a x, ((![v2624] : Fin 1 → IVec S16 32) a x).toNat < S256.size a)
theorem k0_idx169_inb : ∀ (v2624 : IVec S16 32) (k0_hw169 : k0_chk169 v2624), ∀ a x, ((![v2624] : Fin 1 → IVec S16 32) a x).toNat < S256.size a := fun v2624 k0_hw169 => k0_hw169
def k0_off185 (k0_t14 : Fin k0_t14_loop.trips) (k0_t15 : Fin k0_t15_loop.trips) : Fin 4 → Nat :=
  let c0_i32_1909 : BitVec 32 := 0#32
  let v2627 : Index := Scalar.indexCast c0_i32_1909
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2628 : Index := Scalar.indexCast v2519
  let c2_i32_1910 : BitVec 32 := 2#32
  let v2629 : Index := Scalar.indexCast c2_i32_1910
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1908 : BitVec 32 := 16#32
  let v2626 : BitVec 32 := Scalar.muli v2506 c16_i32_1908
  let v2630 : Index := Scalar.indexCast v2626
  ![0, v2628.toNat, 2, v2630.toNat]
def k0_off186 (k0_t14 : Fin k0_t14_loop.trips) (k0_t15 : Fin k0_t15_loop.trips) : Fin 3 → Nat :=
  let c0_i32_1912 : BitVec 32 := 0#32
  let v2636 : Index := Scalar.indexCast c0_i32_1912
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2637 : Index := Scalar.indexCast v2519
  let c256_i32 : BitVec 32 := 256#32
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1911 : BitVec 32 := 16#32
  let v2634 : BitVec 32 := Scalar.muli v2506 c16_i32_1911
  let v2635 : BitVec 32 := Scalar.addi c256_i32 v2634
  let v2638 : Index := Scalar.indexCast v2635
  ![0, v2637.toNat, v2638.toNat]
def k0_off187 (k0_t14 : Fin k0_t14_loop.trips) (k0_t15 : Fin k0_t15_loop.trips) : Fin 4 → Nat :=
  let c0_i32_1914 : BitVec 32 := 0#32
  let v2641 : Index := Scalar.indexCast c0_i32_1914
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2642 : Index := Scalar.indexCast v2519
  let c3_i32_1915 : BitVec 32 := 3#32
  let v2643 : Index := Scalar.indexCast c3_i32_1915
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1913 : BitVec 32 := 16#32
  let v2640 : BitVec 32 := Scalar.muli v2506 c16_i32_1913
  let v2644 : Index := Scalar.indexCast v2640
  ![0, v2642.toNat, 3, v2644.toNat]

def k0_chk170 (v2651 : IVec S16 32) (v2653 : IVec S16 32) (v2654 : IVec S16 32) : Prop :=
  (∀ a x, ((![v2651, v2654, v2653] : Fin 3 → IVec S16 32) a x).toNat < S32x2x128.size a)
theorem k0_idx170_inb : ∀ (v2651 : IVec S16 32) (v2653 : IVec S16 32) (v2654 : IVec S16 32) (k0_hw170 : k0_chk170 v2651 v2653 v2654), ∀ a x, ((![v2651, v2654, v2653] : Fin 3 → IVec S16 32) a x).toNat < S32x2x128.size a := fun v2651 v2653 v2654 k0_hw170 => k0_hw170

def k0_chk171 (v2651 : IVec S16 32) (v2653 : IVec S16 32) (v2656 : IVec S16 32) : Prop :=
  (∀ a x, ((![v2651, v2656, v2653] : Fin 3 → IVec S16 32) a x).toNat < S32x2x128.size a)
theorem k0_idx171_inb : ∀ (v2651 : IVec S16 32) (v2653 : IVec S16 32) (v2656 : IVec S16 32) (k0_hw171 : k0_chk171 v2651 v2653 v2656), ∀ a x, ((![v2651, v2656, v2653] : Fin 3 → IVec S16 32) a x).toNat < S32x2x128.size a := fun v2651 v2653 v2656 k0_hw171 => k0_hw171

def k0_chk172 (v2664 : IVec S16 32) : Prop :=
  (∀ a x, ((![v2664] : Fin 1 → IVec S16 32) a x).toNat < S256.size a)
theorem k0_idx172_inb : ∀ (v2664 : IVec S16 32) (k0_hw172 : k0_chk172 v2664), ∀ a x, ((![v2664] : Fin 1 → IVec S16 32) a x).toNat < S256.size a := fun v2664 k0_hw172 => k0_hw172
def k0_off188 (k0_t14 : Fin k0_t14_loop.trips) (k0_t15 : Fin k0_t15_loop.trips) : Fin 4 → Nat :=
  let c0_i32_1924 : BitVec 32 := 0#32
  let v2667 : Index := Scalar.indexCast c0_i32_1924
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2668 : Index := Scalar.indexCast v2519
  let c3_i32_1925 : BitVec 32 := 3#32
  let v2669 : Index := Scalar.indexCast c3_i32_1925
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1923 : BitVec 32 := 16#32
  let v2666 : BitVec 32 := Scalar.muli v2506 c16_i32_1923
  let v2670 : Index := Scalar.indexCast v2666
  ![0, v2668.toNat, 3, v2670.toNat]
def k0_off189 (k0_t14 : Fin k0_t14_loop.trips) (k0_t15 : Fin k0_t15_loop.trips) : Fin 3 → Nat :=
  let c0_i32_1927 : BitVec 32 := 0#32
  let v2676 : Index := Scalar.indexCast c0_i32_1927
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2677 : Index := Scalar.indexCast v2519
  let c384_i32 : BitVec 32 := 384#32
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1926 : BitVec 32 := 16#32
  let v2674 : BitVec 32 := Scalar.muli v2506 c16_i32_1926
  let v2675 : BitVec 32 := Scalar.addi c384_i32 v2674
  let v2678 : Index := Scalar.indexCast v2675
  ![0, v2677.toNat, v2678.toNat]
def k0_off190 (k0_t14 : Fin k0_t14_loop.trips) (k0_t15 : Fin k0_t15_loop.trips) : Fin 4 → Nat :=
  let c0_i32_1929 : BitVec 32 := 0#32
  let v2681 : Index := Scalar.indexCast c0_i32_1929
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2682 : Index := Scalar.indexCast v2519
  let c4_i32_1930 : BitVec 32 := 4#32
  let v2683 : Index := Scalar.indexCast c4_i32_1930
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1928 : BitVec 32 := 16#32
  let v2680 : BitVec 32 := Scalar.muli v2506 c16_i32_1928
  let v2684 : Index := Scalar.indexCast v2680
  ![0, v2682.toNat, 4, v2684.toNat]

def k0_chk173 (v2691 : IVec S16 32) (v2693 : IVec S16 32) (v2694 : IVec S16 32) : Prop :=
  (∀ a x, ((![v2691, v2694, v2693] : Fin 3 → IVec S16 32) a x).toNat < S32x2x128.size a)
theorem k0_idx173_inb : ∀ (v2691 : IVec S16 32) (v2693 : IVec S16 32) (v2694 : IVec S16 32) (k0_hw173 : k0_chk173 v2691 v2693 v2694), ∀ a x, ((![v2691, v2694, v2693] : Fin 3 → IVec S16 32) a x).toNat < S32x2x128.size a := fun v2691 v2693 v2694 k0_hw173 => k0_hw173

def k0_chk174 (v2691 : IVec S16 32) (v2693 : IVec S16 32) (v2696 : IVec S16 32) : Prop :=
  (∀ a x, ((![v2691, v2696, v2693] : Fin 3 → IVec S16 32) a x).toNat < S32x2x128.size a)
theorem k0_idx174_inb : ∀ (v2691 : IVec S16 32) (v2693 : IVec S16 32) (v2696 : IVec S16 32) (k0_hw174 : k0_chk174 v2691 v2693 v2696), ∀ a x, ((![v2691, v2696, v2693] : Fin 3 → IVec S16 32) a x).toNat < S32x2x128.size a := fun v2691 v2693 v2696 k0_hw174 => k0_hw174

def k0_chk175 (v2704 : IVec S16 32) : Prop :=
  (∀ a x, ((![v2704] : Fin 1 → IVec S16 32) a x).toNat < S256.size a)
theorem k0_idx175_inb : ∀ (v2704 : IVec S16 32) (k0_hw175 : k0_chk175 v2704), ∀ a x, ((![v2704] : Fin 1 → IVec S16 32) a x).toNat < S256.size a := fun v2704 k0_hw175 => k0_hw175
def k0_off191 (k0_t14 : Fin k0_t14_loop.trips) (k0_t15 : Fin k0_t15_loop.trips) : Fin 4 → Nat :=
  let c0_i32_1939 : BitVec 32 := 0#32
  let v2707 : Index := Scalar.indexCast c0_i32_1939
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2708 : Index := Scalar.indexCast v2519
  let c4_i32_1940 : BitVec 32 := 4#32
  let v2709 : Index := Scalar.indexCast c4_i32_1940
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1938 : BitVec 32 := 16#32
  let v2706 : BitVec 32 := Scalar.muli v2506 c16_i32_1938
  let v2710 : Index := Scalar.indexCast v2706
  ![0, v2708.toNat, 4, v2710.toNat]
def k0_off192 (k0_t14 : Fin k0_t14_loop.trips) (k0_t15 : Fin k0_t15_loop.trips) : Fin 3 → Nat :=
  let c0_i32_1943 : BitVec 32 := 0#32
  let v2716 : Index := Scalar.indexCast c0_i32_1943
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2717 : Index := Scalar.indexCast v2519
  let c512_i32_1942 : BitVec 32 := 512#32
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1941 : BitVec 32 := 16#32
  let v2714 : BitVec 32 := Scalar.muli v2506 c16_i32_1941
  let v2715 : BitVec 32 := Scalar.addi c512_i32_1942 v2714
  let v2718 : Index := Scalar.indexCast v2715
  ![0, v2717.toNat, v2718.toNat]
def k0_off193 (k0_t14 : Fin k0_t14_loop.trips) (k0_t15 : Fin k0_t15_loop.trips) : Fin 4 → Nat :=
  let c0_i32_1945 : BitVec 32 := 0#32
  let v2721 : Index := Scalar.indexCast c0_i32_1945
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2722 : Index := Scalar.indexCast v2519
  let c5_i32_1946 : BitVec 32 := 5#32
  let v2723 : Index := Scalar.indexCast c5_i32_1946
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1944 : BitVec 32 := 16#32
  let v2720 : BitVec 32 := Scalar.muli v2506 c16_i32_1944
  let v2724 : Index := Scalar.indexCast v2720
  ![0, v2722.toNat, 5, v2724.toNat]

def k0_chk176 (v2731 : IVec S16 32) (v2733 : IVec S16 32) (v2734 : IVec S16 32) : Prop :=
  (∀ a x, ((![v2731, v2734, v2733] : Fin 3 → IVec S16 32) a x).toNat < S32x2x128.size a)
theorem k0_idx176_inb : ∀ (v2731 : IVec S16 32) (v2733 : IVec S16 32) (v2734 : IVec S16 32) (k0_hw176 : k0_chk176 v2731 v2733 v2734), ∀ a x, ((![v2731, v2734, v2733] : Fin 3 → IVec S16 32) a x).toNat < S32x2x128.size a := fun v2731 v2733 v2734 k0_hw176 => k0_hw176

def k0_chk177 (v2731 : IVec S16 32) (v2733 : IVec S16 32) (v2736 : IVec S16 32) : Prop :=
  (∀ a x, ((![v2731, v2736, v2733] : Fin 3 → IVec S16 32) a x).toNat < S32x2x128.size a)
theorem k0_idx177_inb : ∀ (v2731 : IVec S16 32) (v2733 : IVec S16 32) (v2736 : IVec S16 32) (k0_hw177 : k0_chk177 v2731 v2733 v2736), ∀ a x, ((![v2731, v2736, v2733] : Fin 3 → IVec S16 32) a x).toNat < S32x2x128.size a := fun v2731 v2733 v2736 k0_hw177 => k0_hw177

def k0_chk178 (v2744 : IVec S16 32) : Prop :=
  (∀ a x, ((![v2744] : Fin 1 → IVec S16 32) a x).toNat < S256.size a)
theorem k0_idx178_inb : ∀ (v2744 : IVec S16 32) (k0_hw178 : k0_chk178 v2744), ∀ a x, ((![v2744] : Fin 1 → IVec S16 32) a x).toNat < S256.size a := fun v2744 k0_hw178 => k0_hw178
def k0_off194 (k0_t14 : Fin k0_t14_loop.trips) (k0_t15 : Fin k0_t15_loop.trips) : Fin 4 → Nat :=
  let c0_i32_1955 : BitVec 32 := 0#32
  let v2747 : Index := Scalar.indexCast c0_i32_1955
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2748 : Index := Scalar.indexCast v2519
  let c5_i32_1956 : BitVec 32 := 5#32
  let v2749 : Index := Scalar.indexCast c5_i32_1956
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1954 : BitVec 32 := 16#32
  let v2746 : BitVec 32 := Scalar.muli v2506 c16_i32_1954
  let v2750 : Index := Scalar.indexCast v2746
  ![0, v2748.toNat, 5, v2750.toNat]
def k0_off195 (k0_t14 : Fin k0_t14_loop.trips) (k0_t15 : Fin k0_t15_loop.trips) : Fin 3 → Nat :=
  let c0_i32_1958 : BitVec 32 := 0#32
  let v2756 : Index := Scalar.indexCast c0_i32_1958
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2757 : Index := Scalar.indexCast v2519
  let c640_i32 : BitVec 32 := 640#32
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1957 : BitVec 32 := 16#32
  let v2754 : BitVec 32 := Scalar.muli v2506 c16_i32_1957
  let v2755 : BitVec 32 := Scalar.addi c640_i32 v2754
  let v2758 : Index := Scalar.indexCast v2755
  ![0, v2757.toNat, v2758.toNat]
def k0_off196 (k0_t14 : Fin k0_t14_loop.trips) (k0_t15 : Fin k0_t15_loop.trips) : Fin 4 → Nat :=
  let c0_i32_1960 : BitVec 32 := 0#32
  let v2761 : Index := Scalar.indexCast c0_i32_1960
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2762 : Index := Scalar.indexCast v2519
  let c6_i32_1961 : BitVec 32 := 6#32
  let v2763 : Index := Scalar.indexCast c6_i32_1961
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1959 : BitVec 32 := 16#32
  let v2760 : BitVec 32 := Scalar.muli v2506 c16_i32_1959
  let v2764 : Index := Scalar.indexCast v2760
  ![0, v2762.toNat, 6, v2764.toNat]

def k0_chk179 (v2771 : IVec S16 32) (v2773 : IVec S16 32) (v2774 : IVec S16 32) : Prop :=
  (∀ a x, ((![v2771, v2774, v2773] : Fin 3 → IVec S16 32) a x).toNat < S32x2x128.size a)
theorem k0_idx179_inb : ∀ (v2771 : IVec S16 32) (v2773 : IVec S16 32) (v2774 : IVec S16 32) (k0_hw179 : k0_chk179 v2771 v2773 v2774), ∀ a x, ((![v2771, v2774, v2773] : Fin 3 → IVec S16 32) a x).toNat < S32x2x128.size a := fun v2771 v2773 v2774 k0_hw179 => k0_hw179

def k0_chk180 (v2771 : IVec S16 32) (v2773 : IVec S16 32) (v2776 : IVec S16 32) : Prop :=
  (∀ a x, ((![v2771, v2776, v2773] : Fin 3 → IVec S16 32) a x).toNat < S32x2x128.size a)
theorem k0_idx180_inb : ∀ (v2771 : IVec S16 32) (v2773 : IVec S16 32) (v2776 : IVec S16 32) (k0_hw180 : k0_chk180 v2771 v2773 v2776), ∀ a x, ((![v2771, v2776, v2773] : Fin 3 → IVec S16 32) a x).toNat < S32x2x128.size a := fun v2771 v2773 v2776 k0_hw180 => k0_hw180

def k0_chk181 (v2784 : IVec S16 32) : Prop :=
  (∀ a x, ((![v2784] : Fin 1 → IVec S16 32) a x).toNat < S256.size a)
theorem k0_idx181_inb : ∀ (v2784 : IVec S16 32) (k0_hw181 : k0_chk181 v2784), ∀ a x, ((![v2784] : Fin 1 → IVec S16 32) a x).toNat < S256.size a := fun v2784 k0_hw181 => k0_hw181
def k0_off197 (k0_t14 : Fin k0_t14_loop.trips) (k0_t15 : Fin k0_t15_loop.trips) : Fin 4 → Nat :=
  let c0_i32_1970 : BitVec 32 := 0#32
  let v2787 : Index := Scalar.indexCast c0_i32_1970
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2788 : Index := Scalar.indexCast v2519
  let c6_i32_1971 : BitVec 32 := 6#32
  let v2789 : Index := Scalar.indexCast c6_i32_1971
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1969 : BitVec 32 := 16#32
  let v2786 : BitVec 32 := Scalar.muli v2506 c16_i32_1969
  let v2790 : Index := Scalar.indexCast v2786
  ![0, v2788.toNat, 6, v2790.toNat]
def k0_off198 (k0_t14 : Fin k0_t14_loop.trips) (k0_t15 : Fin k0_t15_loop.trips) : Fin 3 → Nat :=
  let c0_i32_1973 : BitVec 32 := 0#32
  let v2796 : Index := Scalar.indexCast c0_i32_1973
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2797 : Index := Scalar.indexCast v2519
  let c768_i32 : BitVec 32 := 768#32
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1972 : BitVec 32 := 16#32
  let v2794 : BitVec 32 := Scalar.muli v2506 c16_i32_1972
  let v2795 : BitVec 32 := Scalar.addi c768_i32 v2794
  let v2798 : Index := Scalar.indexCast v2795
  ![0, v2797.toNat, v2798.toNat]
def k0_off199 (k0_t14 : Fin k0_t14_loop.trips) (k0_t15 : Fin k0_t15_loop.trips) : Fin 4 → Nat :=
  let c0_i32_1975 : BitVec 32 := 0#32
  let v2801 : Index := Scalar.indexCast c0_i32_1975
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2802 : Index := Scalar.indexCast v2519
  let c7_i32_1976 : BitVec 32 := 7#32
  let v2803 : Index := Scalar.indexCast c7_i32_1976
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1974 : BitVec 32 := 16#32
  let v2800 : BitVec 32 := Scalar.muli v2506 c16_i32_1974
  let v2804 : Index := Scalar.indexCast v2800
  ![0, v2802.toNat, 7, v2804.toNat]

def k0_chk182 (v2811 : IVec S16 32) (v2813 : IVec S16 32) (v2814 : IVec S16 32) : Prop :=
  (∀ a x, ((![v2811, v2814, v2813] : Fin 3 → IVec S16 32) a x).toNat < S32x2x128.size a)
theorem k0_idx182_inb : ∀ (v2811 : IVec S16 32) (v2813 : IVec S16 32) (v2814 : IVec S16 32) (k0_hw182 : k0_chk182 v2811 v2813 v2814), ∀ a x, ((![v2811, v2814, v2813] : Fin 3 → IVec S16 32) a x).toNat < S32x2x128.size a := fun v2811 v2813 v2814 k0_hw182 => k0_hw182

def k0_chk183 (v2811 : IVec S16 32) (v2813 : IVec S16 32) (v2816 : IVec S16 32) : Prop :=
  (∀ a x, ((![v2811, v2816, v2813] : Fin 3 → IVec S16 32) a x).toNat < S32x2x128.size a)
theorem k0_idx183_inb : ∀ (v2811 : IVec S16 32) (v2813 : IVec S16 32) (v2816 : IVec S16 32) (k0_hw183 : k0_chk183 v2811 v2813 v2816), ∀ a x, ((![v2811, v2816, v2813] : Fin 3 → IVec S16 32) a x).toNat < S32x2x128.size a := fun v2811 v2813 v2816 k0_hw183 => k0_hw183

def k0_chk184 (v2824 : IVec S16 32) : Prop :=
  (∀ a x, ((![v2824] : Fin 1 → IVec S16 32) a x).toNat < S256.size a)
theorem k0_idx184_inb : ∀ (v2824 : IVec S16 32) (k0_hw184 : k0_chk184 v2824), ∀ a x, ((![v2824] : Fin 1 → IVec S16 32) a x).toNat < S256.size a := fun v2824 k0_hw184 => k0_hw184
def k0_off200 (k0_t14 : Fin k0_t14_loop.trips) (k0_t15 : Fin k0_t15_loop.trips) : Fin 4 → Nat :=
  let c0_i32_1985 : BitVec 32 := 0#32
  let v2827 : Index := Scalar.indexCast c0_i32_1985
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2828 : Index := Scalar.indexCast v2519
  let c7_i32_1986 : BitVec 32 := 7#32
  let v2829 : Index := Scalar.indexCast c7_i32_1986
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1984 : BitVec 32 := 16#32
  let v2826 : BitVec 32 := Scalar.muli v2506 c16_i32_1984
  let v2830 : Index := Scalar.indexCast v2826
  ![0, v2828.toNat, 7, v2830.toNat]
def k0_off201 (k0_t14 : Fin k0_t14_loop.trips) (k0_t15 : Fin k0_t15_loop.trips) : Fin 3 → Nat :=
  let c0_i32_1988 : BitVec 32 := 0#32
  let v2836 : Index := Scalar.indexCast c0_i32_1988
  let c0_i32_1868 : BitVec 32 := 0#32
  let c0_i32_1863 : BitVec 32 := 0#32
  let c1_i32_1865 : BitVec 32 := 1#32
  let arg20 : BitVec 32 := Scf.iv c0_i32_1863 c1_i32_1865 k0_t15
  let c1_i32_1867 : BitVec 32 := 1#32
  let v2518 : BitVec 32 := Scalar.muli arg20 c1_i32_1867
  let v2519 : BitVec 32 := Scalar.addi c0_i32_1868 v2518
  let v2837 : Index := Scalar.indexCast v2519
  let c896_i32 : BitVec 32 := 896#32
  let c0_i32_1858 : BitVec 32 := 0#32
  let c0_i32_1237 : BitVec 32 := 0#32
  let c1_i32_1239 : BitVec 32 := 1#32
  let arg19 : BitVec 32 := Scf.iv c0_i32_1237 c1_i32_1239 k0_t14
  let c1_i32_1857 : BitVec 32 := 1#32
  let v2505 : BitVec 32 := Scalar.muli arg19 c1_i32_1857
  let v2506 : BitVec 32 := Scalar.addi c0_i32_1858 v2505
  let c16_i32_1987 : BitVec 32 := 16#32
  let v2834 : BitVec 32 := Scalar.muli v2506 c16_i32_1987
  let v2835 : BitVec 32 := Scalar.addi c896_i32 v2834
  let v2838 : Index := Scalar.indexCast v2835
  ![0, v2837.toNat, v2838.toNat]
@[reducible] def k0_t16_loop : Scf.Loop 32 :=
  let c0_i32_1346 : BitVec 32 := 0#32
  let c8_i32_1347 : BitVec 32 := 8#32
  let v2000 : BitVec 32 := Scalar.addi c0_i32_1346 c8_i32_1347
  let c1_i32_1348 : BitVec 32 := 1#32
  ⟨c0_i32_1346, v2000, c1_i32_1348⟩
def k0_off202 (i : grid0.Coords) (k0_t16 : Fin k0_t16_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c7_i32_1250 : BitVec 32 := 7#32
  let v1915 : BitVec 32 := Scalar.addi v29 c7_i32_1250
  let v2508 : Index := Scalar.indexCast v1915
  let c0_i32_1860 : BitVec 32 := 0#32
  let v2509 : Index := Scalar.indexCast c0_i32_1860
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1859 : BitVec 32 := 16#32
  let v2507 : BitVec 32 := Scalar.muli v2506 c16_i32_1859
  let v2510 : Index := Scalar.indexCast v2507
  ![v2508.toNat, 0, v2510.toNat]
def k0_off203 (i : grid0.Coords) (k0_t16 : Fin k0_t16_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let c7_i32_1250 : BitVec 32 := 7#32
  let v1915 : BitVec 32 := Scalar.addi v29 c7_i32_1250
  let v2513 : Index := Scalar.indexCast v1915
  let c1_i32_1862 : BitVec 32 := 1#32
  let v2514 : Index := Scalar.indexCast c1_i32_1862
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1861 : BitVec 32 := 16#32
  let v2512 : BitVec 32 := Scalar.muli v2506 c16_i32_1861
  let v2515 : Index := Scalar.indexCast v2512
  ![v2513.toNat, 1, v2515.toNat]
@[reducible] def k0_t17_loop : Scf.Loop 32 :=
  let c0_i32_1863 : BitVec 32 := 0#32
  let c8_i32_1864 : BitVec 32 := 8#32
  let v2517 : BitVec 32 := Scalar.addi c0_i32_1863 c8_i32_1864
  let c1_i32_1865 : BitVec 32 := 1#32
  ⟨c0_i32_1863, v2517, c1_i32_1865⟩
def k0_off204 (k0_t16 : Fin k0_t16_loop.trips) (k0_t17 : Fin k0_t17_loop.trips) : Fin 4 → Nat :=
  let c1_i32_1870 : BitVec 32 := 1#32
  let v2521 : Index := Scalar.indexCast c1_i32_1870
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2522 : Index := Scalar.indexCast v2519
  let c0_i32_1871 : BitVec 32 := 0#32
  let v2523 : Index := Scalar.indexCast c0_i32_1871
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1869 : BitVec 32 := 16#32
  let v2520 : BitVec 32 := Scalar.muli v2506 c16_i32_1869
  let v2524 : Index := Scalar.indexCast v2520
  ![1, v2522.toNat, 0, v2524.toNat]

def k0_chk185 (v2531 : IVec S16 32) (v2533 : IVec S16 32) (v2534 : IVec S16 32) : Prop :=
  (∀ a x, ((![v2531, v2534, v2533] : Fin 3 → IVec S16 32) a x).toNat < S32x2x128.size a)
theorem k0_idx185_inb : ∀ (v2531 : IVec S16 32) (v2533 : IVec S16 32) (v2534 : IVec S16 32) (k0_hw185 : k0_chk185 v2531 v2533 v2534), ∀ a x, ((![v2531, v2534, v2533] : Fin 3 → IVec S16 32) a x).toNat < S32x2x128.size a := fun v2531 v2533 v2534 k0_hw185 => k0_hw185

def k0_chk186 (v2531 : IVec S16 32) (v2533 : IVec S16 32) (v2536 : IVec S16 32) : Prop :=
  (∀ a x, ((![v2531, v2536, v2533] : Fin 3 → IVec S16 32) a x).toNat < S32x2x128.size a)
theorem k0_idx186_inb : ∀ (v2531 : IVec S16 32) (v2533 : IVec S16 32) (v2536 : IVec S16 32) (k0_hw186 : k0_chk186 v2531 v2533 v2536), ∀ a x, ((![v2531, v2536, v2533] : Fin 3 → IVec S16 32) a x).toNat < S32x2x128.size a := fun v2531 v2533 v2536 k0_hw186 => k0_hw186

def k0_chk187 (v2544 : IVec S16 32) : Prop :=
  (∀ a x, ((![v2544] : Fin 1 → IVec S16 32) a x).toNat < S256.size a)
theorem k0_idx187_inb : ∀ (v2544 : IVec S16 32) (k0_hw187 : k0_chk187 v2544), ∀ a x, ((![v2544] : Fin 1 → IVec S16 32) a x).toNat < S256.size a := fun v2544 k0_hw187 => k0_hw187
def k0_off205 (k0_t16 : Fin k0_t16_loop.trips) (k0_t17 : Fin k0_t17_loop.trips) : Fin 4 → Nat :=
  let c1_i32_1877 : BitVec 32 := 1#32
  let v2547 : Index := Scalar.indexCast c1_i32_1877
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2548 : Index := Scalar.indexCast v2519
  let c0_i32_1878 : BitVec 32 := 0#32
  let v2549 : Index := Scalar.indexCast c0_i32_1878
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1876 : BitVec 32 := 16#32
  let v2546 : BitVec 32 := Scalar.muli v2506 c16_i32_1876
  let v2550 : Index := Scalar.indexCast v2546
  ![1, v2548.toNat, 0, v2550.toNat]
def k0_off206 (k0_t16 : Fin k0_t16_loop.trips) (k0_t17 : Fin k0_t17_loop.trips) : Fin 3 → Nat :=
  let c1_i32_1881 : BitVec 32 := 1#32
  let v2556 : Index := Scalar.indexCast c1_i32_1881
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2557 : Index := Scalar.indexCast v2519
  let c0_i32_1880 : BitVec 32 := 0#32
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1879 : BitVec 32 := 16#32
  let v2554 : BitVec 32 := Scalar.muli v2506 c16_i32_1879
  let v2555 : BitVec 32 := Scalar.addi c0_i32_1880 v2554
  let v2558 : Index := Scalar.indexCast v2555
  ![1, v2557.toNat, v2558.toNat]
def k0_off207 (k0_t16 : Fin k0_t16_loop.trips) (k0_t17 : Fin k0_t17_loop.trips) : Fin 4 → Nat :=
  let c1_i32_1883 : BitVec 32 := 1#32
  let v2561 : Index := Scalar.indexCast c1_i32_1883
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2562 : Index := Scalar.indexCast v2519
  let c1_i32_1884 : BitVec 32 := 1#32
  let v2563 : Index := Scalar.indexCast c1_i32_1884
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1882 : BitVec 32 := 16#32
  let v2560 : BitVec 32 := Scalar.muli v2506 c16_i32_1882
  let v2564 : Index := Scalar.indexCast v2560
  ![1, v2562.toNat, 1, v2564.toNat]

def k0_chk188 (v2571 : IVec S16 32) (v2573 : IVec S16 32) (v2574 : IVec S16 32) : Prop :=
  (∀ a x, ((![v2571, v2574, v2573] : Fin 3 → IVec S16 32) a x).toNat < S32x2x128.size a)
theorem k0_idx188_inb : ∀ (v2571 : IVec S16 32) (v2573 : IVec S16 32) (v2574 : IVec S16 32) (k0_hw188 : k0_chk188 v2571 v2573 v2574), ∀ a x, ((![v2571, v2574, v2573] : Fin 3 → IVec S16 32) a x).toNat < S32x2x128.size a := fun v2571 v2573 v2574 k0_hw188 => k0_hw188

def k0_chk189 (v2571 : IVec S16 32) (v2573 : IVec S16 32) (v2576 : IVec S16 32) : Prop :=
  (∀ a x, ((![v2571, v2576, v2573] : Fin 3 → IVec S16 32) a x).toNat < S32x2x128.size a)
theorem k0_idx189_inb : ∀ (v2571 : IVec S16 32) (v2573 : IVec S16 32) (v2576 : IVec S16 32) (k0_hw189 : k0_chk189 v2571 v2573 v2576), ∀ a x, ((![v2571, v2576, v2573] : Fin 3 → IVec S16 32) a x).toNat < S32x2x128.size a := fun v2571 v2573 v2576 k0_hw189 => k0_hw189

def k0_chk190 (v2584 : IVec S16 32) : Prop :=
  (∀ a x, ((![v2584] : Fin 1 → IVec S16 32) a x).toNat < S256.size a)
theorem k0_idx190_inb : ∀ (v2584 : IVec S16 32) (k0_hw190 : k0_chk190 v2584), ∀ a x, ((![v2584] : Fin 1 → IVec S16 32) a x).toNat < S256.size a := fun v2584 k0_hw190 => k0_hw190
def k0_off208 (k0_t16 : Fin k0_t16_loop.trips) (k0_t17 : Fin k0_t17_loop.trips) : Fin 4 → Nat :=
  let c1_i32_1893 : BitVec 32 := 1#32
  let v2587 : Index := Scalar.indexCast c1_i32_1893
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2588 : Index := Scalar.indexCast v2519
  let c1_i32_1894 : BitVec 32 := 1#32
  let v2589 : Index := Scalar.indexCast c1_i32_1894
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1892 : BitVec 32 := 16#32
  let v2586 : BitVec 32 := Scalar.muli v2506 c16_i32_1892
  let v2590 : Index := Scalar.indexCast v2586
  ![1, v2588.toNat, 1, v2590.toNat]
def k0_off209 (k0_t16 : Fin k0_t16_loop.trips) (k0_t17 : Fin k0_t17_loop.trips) : Fin 3 → Nat :=
  let c1_i32_1897 : BitVec 32 := 1#32
  let v2596 : Index := Scalar.indexCast c1_i32_1897
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2597 : Index := Scalar.indexCast v2519
  let c128_i32_1896 : BitVec 32 := 128#32
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1895 : BitVec 32 := 16#32
  let v2594 : BitVec 32 := Scalar.muli v2506 c16_i32_1895
  let v2595 : BitVec 32 := Scalar.addi c128_i32_1896 v2594
  let v2598 : Index := Scalar.indexCast v2595
  ![1, v2597.toNat, v2598.toNat]
def k0_off210 (k0_t16 : Fin k0_t16_loop.trips) (k0_t17 : Fin k0_t17_loop.trips) : Fin 4 → Nat :=
  let c1_i32_1899 : BitVec 32 := 1#32
  let v2601 : Index := Scalar.indexCast c1_i32_1899
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2602 : Index := Scalar.indexCast v2519
  let c2_i32_1900 : BitVec 32 := 2#32
  let v2603 : Index := Scalar.indexCast c2_i32_1900
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1898 : BitVec 32 := 16#32
  let v2600 : BitVec 32 := Scalar.muli v2506 c16_i32_1898
  let v2604 : Index := Scalar.indexCast v2600
  ![1, v2602.toNat, 2, v2604.toNat]

def k0_chk191 (v2611 : IVec S16 32) (v2613 : IVec S16 32) (v2614 : IVec S16 32) : Prop :=
  (∀ a x, ((![v2611, v2614, v2613] : Fin 3 → IVec S16 32) a x).toNat < S32x2x128.size a)
theorem k0_idx191_inb : ∀ (v2611 : IVec S16 32) (v2613 : IVec S16 32) (v2614 : IVec S16 32) (k0_hw191 : k0_chk191 v2611 v2613 v2614), ∀ a x, ((![v2611, v2614, v2613] : Fin 3 → IVec S16 32) a x).toNat < S32x2x128.size a := fun v2611 v2613 v2614 k0_hw191 => k0_hw191

def k0_chk192 (v2611 : IVec S16 32) (v2613 : IVec S16 32) (v2616 : IVec S16 32) : Prop :=
  (∀ a x, ((![v2611, v2616, v2613] : Fin 3 → IVec S16 32) a x).toNat < S32x2x128.size a)
theorem k0_idx192_inb : ∀ (v2611 : IVec S16 32) (v2613 : IVec S16 32) (v2616 : IVec S16 32) (k0_hw192 : k0_chk192 v2611 v2613 v2616), ∀ a x, ((![v2611, v2616, v2613] : Fin 3 → IVec S16 32) a x).toNat < S32x2x128.size a := fun v2611 v2613 v2616 k0_hw192 => k0_hw192

def k0_chk193 (v2624 : IVec S16 32) : Prop :=
  (∀ a x, ((![v2624] : Fin 1 → IVec S16 32) a x).toNat < S256.size a)
theorem k0_idx193_inb : ∀ (v2624 : IVec S16 32) (k0_hw193 : k0_chk193 v2624), ∀ a x, ((![v2624] : Fin 1 → IVec S16 32) a x).toNat < S256.size a := fun v2624 k0_hw193 => k0_hw193
def k0_off211 (k0_t16 : Fin k0_t16_loop.trips) (k0_t17 : Fin k0_t17_loop.trips) : Fin 4 → Nat :=
  let c1_i32_1909 : BitVec 32 := 1#32
  let v2627 : Index := Scalar.indexCast c1_i32_1909
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2628 : Index := Scalar.indexCast v2519
  let c2_i32_1910 : BitVec 32 := 2#32
  let v2629 : Index := Scalar.indexCast c2_i32_1910
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1908 : BitVec 32 := 16#32
  let v2626 : BitVec 32 := Scalar.muli v2506 c16_i32_1908
  let v2630 : Index := Scalar.indexCast v2626
  ![1, v2628.toNat, 2, v2630.toNat]
def k0_off212 (k0_t16 : Fin k0_t16_loop.trips) (k0_t17 : Fin k0_t17_loop.trips) : Fin 3 → Nat :=
  let c1_i32_1912 : BitVec 32 := 1#32
  let v2636 : Index := Scalar.indexCast c1_i32_1912
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2637 : Index := Scalar.indexCast v2519
  let c256_i32 : BitVec 32 := 256#32
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1911 : BitVec 32 := 16#32
  let v2634 : BitVec 32 := Scalar.muli v2506 c16_i32_1911
  let v2635 : BitVec 32 := Scalar.addi c256_i32 v2634
  let v2638 : Index := Scalar.indexCast v2635
  ![1, v2637.toNat, v2638.toNat]
def k0_off213 (k0_t16 : Fin k0_t16_loop.trips) (k0_t17 : Fin k0_t17_loop.trips) : Fin 4 → Nat :=
  let c1_i32_1914 : BitVec 32 := 1#32
  let v2641 : Index := Scalar.indexCast c1_i32_1914
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2642 : Index := Scalar.indexCast v2519
  let c3_i32_1915 : BitVec 32 := 3#32
  let v2643 : Index := Scalar.indexCast c3_i32_1915
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1913 : BitVec 32 := 16#32
  let v2640 : BitVec 32 := Scalar.muli v2506 c16_i32_1913
  let v2644 : Index := Scalar.indexCast v2640
  ![1, v2642.toNat, 3, v2644.toNat]

def k0_chk194 (v2651 : IVec S16 32) (v2653 : IVec S16 32) (v2654 : IVec S16 32) : Prop :=
  (∀ a x, ((![v2651, v2654, v2653] : Fin 3 → IVec S16 32) a x).toNat < S32x2x128.size a)
theorem k0_idx194_inb : ∀ (v2651 : IVec S16 32) (v2653 : IVec S16 32) (v2654 : IVec S16 32) (k0_hw194 : k0_chk194 v2651 v2653 v2654), ∀ a x, ((![v2651, v2654, v2653] : Fin 3 → IVec S16 32) a x).toNat < S32x2x128.size a := fun v2651 v2653 v2654 k0_hw194 => k0_hw194

def k0_chk195 (v2651 : IVec S16 32) (v2653 : IVec S16 32) (v2656 : IVec S16 32) : Prop :=
  (∀ a x, ((![v2651, v2656, v2653] : Fin 3 → IVec S16 32) a x).toNat < S32x2x128.size a)
theorem k0_idx195_inb : ∀ (v2651 : IVec S16 32) (v2653 : IVec S16 32) (v2656 : IVec S16 32) (k0_hw195 : k0_chk195 v2651 v2653 v2656), ∀ a x, ((![v2651, v2656, v2653] : Fin 3 → IVec S16 32) a x).toNat < S32x2x128.size a := fun v2651 v2653 v2656 k0_hw195 => k0_hw195

def k0_chk196 (v2664 : IVec S16 32) : Prop :=
  (∀ a x, ((![v2664] : Fin 1 → IVec S16 32) a x).toNat < S256.size a)
theorem k0_idx196_inb : ∀ (v2664 : IVec S16 32) (k0_hw196 : k0_chk196 v2664), ∀ a x, ((![v2664] : Fin 1 → IVec S16 32) a x).toNat < S256.size a := fun v2664 k0_hw196 => k0_hw196
def k0_off214 (k0_t16 : Fin k0_t16_loop.trips) (k0_t17 : Fin k0_t17_loop.trips) : Fin 4 → Nat :=
  let c1_i32_1924 : BitVec 32 := 1#32
  let v2667 : Index := Scalar.indexCast c1_i32_1924
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2668 : Index := Scalar.indexCast v2519
  let c3_i32_1925 : BitVec 32 := 3#32
  let v2669 : Index := Scalar.indexCast c3_i32_1925
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1923 : BitVec 32 := 16#32
  let v2666 : BitVec 32 := Scalar.muli v2506 c16_i32_1923
  let v2670 : Index := Scalar.indexCast v2666
  ![1, v2668.toNat, 3, v2670.toNat]
def k0_off215 (k0_t16 : Fin k0_t16_loop.trips) (k0_t17 : Fin k0_t17_loop.trips) : Fin 3 → Nat :=
  let c1_i32_1927 : BitVec 32 := 1#32
  let v2676 : Index := Scalar.indexCast c1_i32_1927
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2677 : Index := Scalar.indexCast v2519
  let c384_i32 : BitVec 32 := 384#32
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1926 : BitVec 32 := 16#32
  let v2674 : BitVec 32 := Scalar.muli v2506 c16_i32_1926
  let v2675 : BitVec 32 := Scalar.addi c384_i32 v2674
  let v2678 : Index := Scalar.indexCast v2675
  ![1, v2677.toNat, v2678.toNat]
def k0_off216 (k0_t16 : Fin k0_t16_loop.trips) (k0_t17 : Fin k0_t17_loop.trips) : Fin 4 → Nat :=
  let c1_i32_1929 : BitVec 32 := 1#32
  let v2681 : Index := Scalar.indexCast c1_i32_1929
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2682 : Index := Scalar.indexCast v2519
  let c4_i32_1930 : BitVec 32 := 4#32
  let v2683 : Index := Scalar.indexCast c4_i32_1930
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1928 : BitVec 32 := 16#32
  let v2680 : BitVec 32 := Scalar.muli v2506 c16_i32_1928
  let v2684 : Index := Scalar.indexCast v2680
  ![1, v2682.toNat, 4, v2684.toNat]

def k0_chk197 (v2691 : IVec S16 32) (v2693 : IVec S16 32) (v2694 : IVec S16 32) : Prop :=
  (∀ a x, ((![v2691, v2694, v2693] : Fin 3 → IVec S16 32) a x).toNat < S32x2x128.size a)
theorem k0_idx197_inb : ∀ (v2691 : IVec S16 32) (v2693 : IVec S16 32) (v2694 : IVec S16 32) (k0_hw197 : k0_chk197 v2691 v2693 v2694), ∀ a x, ((![v2691, v2694, v2693] : Fin 3 → IVec S16 32) a x).toNat < S32x2x128.size a := fun v2691 v2693 v2694 k0_hw197 => k0_hw197

def k0_chk198 (v2691 : IVec S16 32) (v2693 : IVec S16 32) (v2696 : IVec S16 32) : Prop :=
  (∀ a x, ((![v2691, v2696, v2693] : Fin 3 → IVec S16 32) a x).toNat < S32x2x128.size a)
theorem k0_idx198_inb : ∀ (v2691 : IVec S16 32) (v2693 : IVec S16 32) (v2696 : IVec S16 32) (k0_hw198 : k0_chk198 v2691 v2693 v2696), ∀ a x, ((![v2691, v2696, v2693] : Fin 3 → IVec S16 32) a x).toNat < S32x2x128.size a := fun v2691 v2693 v2696 k0_hw198 => k0_hw198

def k0_chk199 (v2704 : IVec S16 32) : Prop :=
  (∀ a x, ((![v2704] : Fin 1 → IVec S16 32) a x).toNat < S256.size a)
theorem k0_idx199_inb : ∀ (v2704 : IVec S16 32) (k0_hw199 : k0_chk199 v2704), ∀ a x, ((![v2704] : Fin 1 → IVec S16 32) a x).toNat < S256.size a := fun v2704 k0_hw199 => k0_hw199
def k0_off217 (k0_t16 : Fin k0_t16_loop.trips) (k0_t17 : Fin k0_t17_loop.trips) : Fin 4 → Nat :=
  let c1_i32_1939 : BitVec 32 := 1#32
  let v2707 : Index := Scalar.indexCast c1_i32_1939
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2708 : Index := Scalar.indexCast v2519
  let c4_i32_1940 : BitVec 32 := 4#32
  let v2709 : Index := Scalar.indexCast c4_i32_1940
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1938 : BitVec 32 := 16#32
  let v2706 : BitVec 32 := Scalar.muli v2506 c16_i32_1938
  let v2710 : Index := Scalar.indexCast v2706
  ![1, v2708.toNat, 4, v2710.toNat]
def k0_off218 (k0_t16 : Fin k0_t16_loop.trips) (k0_t17 : Fin k0_t17_loop.trips) : Fin 3 → Nat :=
  let c1_i32_1943 : BitVec 32 := 1#32
  let v2716 : Index := Scalar.indexCast c1_i32_1943
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2717 : Index := Scalar.indexCast v2519
  let c512_i32_1942 : BitVec 32 := 512#32
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1941 : BitVec 32 := 16#32
  let v2714 : BitVec 32 := Scalar.muli v2506 c16_i32_1941
  let v2715 : BitVec 32 := Scalar.addi c512_i32_1942 v2714
  let v2718 : Index := Scalar.indexCast v2715
  ![1, v2717.toNat, v2718.toNat]
def k0_off219 (k0_t16 : Fin k0_t16_loop.trips) (k0_t17 : Fin k0_t17_loop.trips) : Fin 4 → Nat :=
  let c1_i32_1945 : BitVec 32 := 1#32
  let v2721 : Index := Scalar.indexCast c1_i32_1945
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2722 : Index := Scalar.indexCast v2519
  let c5_i32_1946 : BitVec 32 := 5#32
  let v2723 : Index := Scalar.indexCast c5_i32_1946
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1944 : BitVec 32 := 16#32
  let v2720 : BitVec 32 := Scalar.muli v2506 c16_i32_1944
  let v2724 : Index := Scalar.indexCast v2720
  ![1, v2722.toNat, 5, v2724.toNat]

def k0_chk200 (v2731 : IVec S16 32) (v2733 : IVec S16 32) (v2734 : IVec S16 32) : Prop :=
  (∀ a x, ((![v2731, v2734, v2733] : Fin 3 → IVec S16 32) a x).toNat < S32x2x128.size a)
theorem k0_idx200_inb : ∀ (v2731 : IVec S16 32) (v2733 : IVec S16 32) (v2734 : IVec S16 32) (k0_hw200 : k0_chk200 v2731 v2733 v2734), ∀ a x, ((![v2731, v2734, v2733] : Fin 3 → IVec S16 32) a x).toNat < S32x2x128.size a := fun v2731 v2733 v2734 k0_hw200 => k0_hw200

def k0_chk201 (v2731 : IVec S16 32) (v2733 : IVec S16 32) (v2736 : IVec S16 32) : Prop :=
  (∀ a x, ((![v2731, v2736, v2733] : Fin 3 → IVec S16 32) a x).toNat < S32x2x128.size a)
theorem k0_idx201_inb : ∀ (v2731 : IVec S16 32) (v2733 : IVec S16 32) (v2736 : IVec S16 32) (k0_hw201 : k0_chk201 v2731 v2733 v2736), ∀ a x, ((![v2731, v2736, v2733] : Fin 3 → IVec S16 32) a x).toNat < S32x2x128.size a := fun v2731 v2733 v2736 k0_hw201 => k0_hw201

def k0_chk202 (v2744 : IVec S16 32) : Prop :=
  (∀ a x, ((![v2744] : Fin 1 → IVec S16 32) a x).toNat < S256.size a)
theorem k0_idx202_inb : ∀ (v2744 : IVec S16 32) (k0_hw202 : k0_chk202 v2744), ∀ a x, ((![v2744] : Fin 1 → IVec S16 32) a x).toNat < S256.size a := fun v2744 k0_hw202 => k0_hw202
def k0_off220 (k0_t16 : Fin k0_t16_loop.trips) (k0_t17 : Fin k0_t17_loop.trips) : Fin 4 → Nat :=
  let c1_i32_1955 : BitVec 32 := 1#32
  let v2747 : Index := Scalar.indexCast c1_i32_1955
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2748 : Index := Scalar.indexCast v2519
  let c5_i32_1956 : BitVec 32 := 5#32
  let v2749 : Index := Scalar.indexCast c5_i32_1956
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1954 : BitVec 32 := 16#32
  let v2746 : BitVec 32 := Scalar.muli v2506 c16_i32_1954
  let v2750 : Index := Scalar.indexCast v2746
  ![1, v2748.toNat, 5, v2750.toNat]
def k0_off221 (k0_t16 : Fin k0_t16_loop.trips) (k0_t17 : Fin k0_t17_loop.trips) : Fin 3 → Nat :=
  let c1_i32_1958 : BitVec 32 := 1#32
  let v2756 : Index := Scalar.indexCast c1_i32_1958
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2757 : Index := Scalar.indexCast v2519
  let c640_i32 : BitVec 32 := 640#32
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1957 : BitVec 32 := 16#32
  let v2754 : BitVec 32 := Scalar.muli v2506 c16_i32_1957
  let v2755 : BitVec 32 := Scalar.addi c640_i32 v2754
  let v2758 : Index := Scalar.indexCast v2755
  ![1, v2757.toNat, v2758.toNat]
def k0_off222 (k0_t16 : Fin k0_t16_loop.trips) (k0_t17 : Fin k0_t17_loop.trips) : Fin 4 → Nat :=
  let c1_i32_1960 : BitVec 32 := 1#32
  let v2761 : Index := Scalar.indexCast c1_i32_1960
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2762 : Index := Scalar.indexCast v2519
  let c6_i32_1961 : BitVec 32 := 6#32
  let v2763 : Index := Scalar.indexCast c6_i32_1961
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1959 : BitVec 32 := 16#32
  let v2760 : BitVec 32 := Scalar.muli v2506 c16_i32_1959
  let v2764 : Index := Scalar.indexCast v2760
  ![1, v2762.toNat, 6, v2764.toNat]

def k0_chk203 (v2771 : IVec S16 32) (v2773 : IVec S16 32) (v2774 : IVec S16 32) : Prop :=
  (∀ a x, ((![v2771, v2774, v2773] : Fin 3 → IVec S16 32) a x).toNat < S32x2x128.size a)
theorem k0_idx203_inb : ∀ (v2771 : IVec S16 32) (v2773 : IVec S16 32) (v2774 : IVec S16 32) (k0_hw203 : k0_chk203 v2771 v2773 v2774), ∀ a x, ((![v2771, v2774, v2773] : Fin 3 → IVec S16 32) a x).toNat < S32x2x128.size a := fun v2771 v2773 v2774 k0_hw203 => k0_hw203

def k0_chk204 (v2771 : IVec S16 32) (v2773 : IVec S16 32) (v2776 : IVec S16 32) : Prop :=
  (∀ a x, ((![v2771, v2776, v2773] : Fin 3 → IVec S16 32) a x).toNat < S32x2x128.size a)
theorem k0_idx204_inb : ∀ (v2771 : IVec S16 32) (v2773 : IVec S16 32) (v2776 : IVec S16 32) (k0_hw204 : k0_chk204 v2771 v2773 v2776), ∀ a x, ((![v2771, v2776, v2773] : Fin 3 → IVec S16 32) a x).toNat < S32x2x128.size a := fun v2771 v2773 v2776 k0_hw204 => k0_hw204

def k0_chk205 (v2784 : IVec S16 32) : Prop :=
  (∀ a x, ((![v2784] : Fin 1 → IVec S16 32) a x).toNat < S256.size a)
theorem k0_idx205_inb : ∀ (v2784 : IVec S16 32) (k0_hw205 : k0_chk205 v2784), ∀ a x, ((![v2784] : Fin 1 → IVec S16 32) a x).toNat < S256.size a := fun v2784 k0_hw205 => k0_hw205
def k0_off223 (k0_t16 : Fin k0_t16_loop.trips) (k0_t17 : Fin k0_t17_loop.trips) : Fin 4 → Nat :=
  let c1_i32_1970 : BitVec 32 := 1#32
  let v2787 : Index := Scalar.indexCast c1_i32_1970
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2788 : Index := Scalar.indexCast v2519
  let c6_i32_1971 : BitVec 32 := 6#32
  let v2789 : Index := Scalar.indexCast c6_i32_1971
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1969 : BitVec 32 := 16#32
  let v2786 : BitVec 32 := Scalar.muli v2506 c16_i32_1969
  let v2790 : Index := Scalar.indexCast v2786
  ![1, v2788.toNat, 6, v2790.toNat]
def k0_off224 (k0_t16 : Fin k0_t16_loop.trips) (k0_t17 : Fin k0_t17_loop.trips) : Fin 3 → Nat :=
  let c1_i32_1973 : BitVec 32 := 1#32
  let v2796 : Index := Scalar.indexCast c1_i32_1973
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2797 : Index := Scalar.indexCast v2519
  let c768_i32 : BitVec 32 := 768#32
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1972 : BitVec 32 := 16#32
  let v2794 : BitVec 32 := Scalar.muli v2506 c16_i32_1972
  let v2795 : BitVec 32 := Scalar.addi c768_i32 v2794
  let v2798 : Index := Scalar.indexCast v2795
  ![1, v2797.toNat, v2798.toNat]
def k0_off225 (k0_t16 : Fin k0_t16_loop.trips) (k0_t17 : Fin k0_t17_loop.trips) : Fin 4 → Nat :=
  let c1_i32_1975 : BitVec 32 := 1#32
  let v2801 : Index := Scalar.indexCast c1_i32_1975
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2802 : Index := Scalar.indexCast v2519
  let c7_i32_1976 : BitVec 32 := 7#32
  let v2803 : Index := Scalar.indexCast c7_i32_1976
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1974 : BitVec 32 := 16#32
  let v2800 : BitVec 32 := Scalar.muli v2506 c16_i32_1974
  let v2804 : Index := Scalar.indexCast v2800
  ![1, v2802.toNat, 7, v2804.toNat]

def k0_chk206 (v2811 : IVec S16 32) (v2813 : IVec S16 32) (v2814 : IVec S16 32) : Prop :=
  (∀ a x, ((![v2811, v2814, v2813] : Fin 3 → IVec S16 32) a x).toNat < S32x2x128.size a)
theorem k0_idx206_inb : ∀ (v2811 : IVec S16 32) (v2813 : IVec S16 32) (v2814 : IVec S16 32) (k0_hw206 : k0_chk206 v2811 v2813 v2814), ∀ a x, ((![v2811, v2814, v2813] : Fin 3 → IVec S16 32) a x).toNat < S32x2x128.size a := fun v2811 v2813 v2814 k0_hw206 => k0_hw206

def k0_chk207 (v2811 : IVec S16 32) (v2813 : IVec S16 32) (v2816 : IVec S16 32) : Prop :=
  (∀ a x, ((![v2811, v2816, v2813] : Fin 3 → IVec S16 32) a x).toNat < S32x2x128.size a)
theorem k0_idx207_inb : ∀ (v2811 : IVec S16 32) (v2813 : IVec S16 32) (v2816 : IVec S16 32) (k0_hw207 : k0_chk207 v2811 v2813 v2816), ∀ a x, ((![v2811, v2816, v2813] : Fin 3 → IVec S16 32) a x).toNat < S32x2x128.size a := fun v2811 v2813 v2816 k0_hw207 => k0_hw207

def k0_chk208 (v2824 : IVec S16 32) : Prop :=
  (∀ a x, ((![v2824] : Fin 1 → IVec S16 32) a x).toNat < S256.size a)
theorem k0_idx208_inb : ∀ (v2824 : IVec S16 32) (k0_hw208 : k0_chk208 v2824), ∀ a x, ((![v2824] : Fin 1 → IVec S16 32) a x).toNat < S256.size a := fun v2824 k0_hw208 => k0_hw208
def k0_off226 (k0_t16 : Fin k0_t16_loop.trips) (k0_t17 : Fin k0_t17_loop.trips) : Fin 4 → Nat :=
  let c1_i32_1985 : BitVec 32 := 1#32
  let v2827 : Index := Scalar.indexCast c1_i32_1985
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2828 : Index := Scalar.indexCast v2519
  let c7_i32_1986 : BitVec 32 := 7#32
  let v2829 : Index := Scalar.indexCast c7_i32_1986
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1984 : BitVec 32 := 16#32
  let v2826 : BitVec 32 := Scalar.muli v2506 c16_i32_1984
  let v2830 : Index := Scalar.indexCast v2826
  ![1, v2828.toNat, 7, v2830.toNat]
def k0_off227 (k0_t16 : Fin k0_t16_loop.trips) (k0_t17 : Fin k0_t17_loop.trips) : Fin 3 → Nat :=
  let c1_i32_1988 : BitVec 32 := 1#32
  let v2836 : Index := Scalar.indexCast c1_i32_1988
  let c0_i32_1868 : BitVec 32 := 0#32
  let c0_i32_1863 : BitVec 32 := 0#32
  let c1_i32_1865 : BitVec 32 := 1#32
  let arg20 : BitVec 32 := Scf.iv c0_i32_1863 c1_i32_1865 k0_t17
  let c1_i32_1867 : BitVec 32 := 1#32
  let v2518 : BitVec 32 := Scalar.muli arg20 c1_i32_1867
  let v2519 : BitVec 32 := Scalar.addi c0_i32_1868 v2518
  let v2837 : Index := Scalar.indexCast v2519
  let c896_i32 : BitVec 32 := 896#32
  let c0_i32_1858 : BitVec 32 := 0#32
  let c0_i32_1346 : BitVec 32 := 0#32
  let c1_i32_1348 : BitVec 32 := 1#32
  let arg19 : BitVec 32 := Scf.iv c0_i32_1346 c1_i32_1348 k0_t16
  let c1_i32_1857 : BitVec 32 := 1#32
  let v2505 : BitVec 32 := Scalar.muli arg19 c1_i32_1857
  let v2506 : BitVec 32 := Scalar.addi c0_i32_1858 v2505
  let c16_i32_1987 : BitVec 32 := 16#32
  let v2834 : BitVec 32 := Scalar.muli v2506 c16_i32_1987
  let v2835 : BitVec 32 := Scalar.addi c896_i32 v2834
  let v2838 : Index := Scalar.indexCast v2835
  ![1, v2837.toNat, v2838.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x4096x2 : Shape := ⟨3, ![8, 4096, 2]⟩
abbrev S8x4096x64 : Shape := ⟨3, ![8, 4096, 64]⟩
abbrev S15 : Shape := ⟨1, ![15]⟩
abbrev S8x4096x1 : Shape := ⟨3, ![8, 4096, 1]⟩
abbrev S8x4096 : Shape := ⟨2, ![8, 4096]⟩
abbrev S_ : Shape := ⟨0, ![]⟩
abbrev S8x4096x64x1 : Shape := ⟨4, ![8, 4096, 64, 1]⟩
abbrev S1 : Shape := ⟨1, ![1]⟩
abbrev S1x1x1x1 : Shape := ⟨4, ![1, 1, 1, 1]⟩
abbrev S1x1x1x15 : Shape := ⟨4, ![1, 1, 1, 15]⟩
abbrev S8x4096x64x15 : Shape := ⟨4, ![8, 4096, 64, 15]⟩
abbrev S8x4096x16x64 : Shape := ⟨4, ![8, 4096, 16, 64]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x2, .i32⟩
  | .hbm, ⟨1, _⟩ => ⟨S8x4096x64, .i32⟩
  | .hbm, ⟨2, _⟩ => ⟨S8x4096x64, .i32⟩
  | .hbm, ⟨3, _⟩ => ⟨S15, .f32⟩
  | .hbm, ⟨4, _⟩ => ⟨S15, .i32⟩
  | .hbm, ⟨5, _⟩ => ⟨S8x4096x1, .i32⟩
  | .hbm, ⟨6, _⟩ => ⟨S8x4096, .i32⟩
  | .hbm, ⟨7, _⟩ => ⟨S8x4096x1, .i32⟩
  | .hbm, ⟨8, _⟩ => ⟨S8x4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8x4096x64, .i32⟩
  | .hbm, ⟨13, _⟩ => ⟨S8x4096x64, .i32⟩
  | .hbm, ⟨14, _⟩ => ⟨S_, .i32⟩
  | .hbm, ⟨15, _⟩ => ⟨S8x4096x64, .i32⟩
  | .hbm, ⟨16, _⟩ => ⟨S8x4096x64, .i32⟩
  | .hbm, ⟨17, _⟩ => ⟨S8x4096x1, .i32⟩
  | .hbm, ⟨18, _⟩ => ⟨S8x4096x64, .i32⟩
  | .hbm, ⟨19, _⟩ => ⟨S8x4096x1, .i32⟩
  | .hbm, ⟨20, _⟩ => ⟨S8x4096x64, .i32⟩
  | .hbm, ⟨21, _⟩ => ⟨S_, .i32⟩
  | .hbm, ⟨22, _⟩ => ⟨S8x4096x64, .i32⟩
  | .hbm, ⟨23, _⟩ => ⟨S8x4096x64, .i1⟩
  | .hbm, ⟨24, _⟩ => ⟨S_, .i32⟩
  | .hbm, ⟨25, _⟩ => ⟨S8x4096x64, .i32⟩
  | .hbm, ⟨26, _⟩ => ⟨S8x4096x64, .i32⟩
  | .hbm, ⟨27, _⟩ => ⟨S8x4096x64, .i32⟩
  | .hbm, ⟨28, _⟩ => ⟨S8x4096x64x1, .i32⟩
  | .hbm, ⟨29, _⟩ => ⟨S1, .i32⟩
  | .hbm, ⟨30, _⟩ => ⟨S_, .i32⟩
  | .hbm, ⟨31, _⟩ => ⟨S8x4096x64x1, .i32⟩
  | .hbm, ⟨32, _⟩ => ⟨S8x4096x64x1, .i1⟩
  | .hbm, ⟨33, _⟩ => ⟨S1x1x1x1, .i32⟩
  | .hbm, ⟨34, _⟩ => ⟨S8x4096x64x1, .i32⟩
  | .hbm, ⟨35, _⟩ => ⟨S8x4096x64x1, .i1⟩
  | .hbm, ⟨36, _⟩ => ⟨S8x4096x64x1, .i1⟩
  | .hbm, ⟨37, _⟩ => ⟨S_, .i1⟩
  | .hbm, ⟨38, _⟩ => ⟨S8x4096x64, .i1⟩
  | .hbm, ⟨39, _⟩ => ⟨S8x4096x64, .i32⟩
  | .hbm, ⟨40, _⟩ => ⟨S_, .i32⟩
  | .hbm, ⟨41, _⟩ => ⟨S8x4096x64, .i32⟩
  | .hbm, ⟨42, _⟩ => ⟨S8x4096x64, .i32⟩
  | .hbm, ⟨43, _⟩ => ⟨S_, .i32⟩
  | .hbm, ⟨44, _⟩ => ⟨S8x4096x64, .i32⟩
  | .hbm, ⟨45, _⟩ => ⟨S8x4096x64, .i1⟩
  | .hbm, ⟨46, _⟩ => ⟨S_, .i32⟩
  | .hbm, ⟨47, _⟩ => ⟨S8x4096x64, .i32⟩
  | .hbm, ⟨48, _⟩ => ⟨S8x4096x64, .i32⟩
  | .hbm, ⟨49, _⟩ => ⟨S8x4096x64, .i32⟩
  | .hbm, ⟨50, _⟩ => ⟨S8x4096x64x1, .i32⟩
  | .hbm, ⟨51, _⟩ => ⟨S1, .i32⟩
  | .hbm, ⟨52, _⟩ => ⟨S_, .i32⟩
  | .hbm, ⟨53, _⟩ => ⟨S8x4096x64x1, .i32⟩
  | .hbm, ⟨54, _⟩ => ⟨S8x4096x64x1, .i1⟩
  | .hbm, ⟨55, _⟩ => ⟨S1x1x1x1, .i32⟩
  | .hbm, ⟨56, _⟩ => ⟨S8x4096x64x1, .i32⟩
  | .hbm, ⟨57, _⟩ => ⟨S8x4096x64x1, .i1⟩
  | .hbm, ⟨58, _⟩ => ⟨S8x4096x64x1, .i1⟩
  | .hbm, ⟨59, _⟩ => ⟨S_, .i1⟩
  | .hbm, ⟨60, _⟩ => ⟨S8x4096x64, .i1⟩
  | .hbm, ⟨61, _⟩ => ⟨S8x4096x64, .i32⟩
  | .hbm, ⟨62, _⟩ => ⟨S_, .i32⟩
  | .hbm, ⟨63, _⟩ => ⟨S8x4096x64, .i32⟩
  | .hbm, ⟨64, _⟩ => ⟨S8x4096x64, .i32⟩
  | .hbm, ⟨65, _⟩ => ⟨S8x4096x1, .i32⟩
  | .hbm, ⟨66, _⟩ => ⟨S8x4096x64, .i32⟩
  | .hbm, ⟨67, _⟩ => ⟨S8x4096x64, .i32⟩
  | .hbm, ⟨68, _⟩ => ⟨S8x4096x64, .i32⟩
  | .hbm, ⟨69, _⟩ => ⟨S8x4096x1, .i32⟩
  | .hbm, ⟨70, _⟩ => ⟨S8x4096x64, .i32⟩
  | .hbm, ⟨71, _⟩ => ⟨S8x4096x64, .i32⟩
  | .hbm, ⟨72, _⟩ => ⟨S8x4096x64, .i32⟩
  | .hbm, ⟨73, _⟩ => ⟨S8x4096x64, .i32⟩
  | .hbm, ⟨74, _⟩ => ⟨S8x4096x64x1, .i32⟩
  | .hbm, ⟨75, _⟩ => ⟨S1x1x1x15, .i32⟩
  | .hbm, ⟨76, _⟩ => ⟨S8x4096x64x15, .i32⟩
  | .hbm, ⟨77, _⟩ => ⟨S8x4096x64x15, .i32⟩
  | .hbm, ⟨78, _⟩ => ⟨S8x4096x64x15, .i1⟩
  | .hbm, ⟨79, _⟩ => ⟨S8x4096x64x15, .i32⟩
  | .hbm, ⟨80, _⟩ => ⟨S_, .i32⟩
  | .hbm, ⟨81, _⟩ => ⟨S8x4096x64, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S8x4096x64, .i32⟩
  | .hbm, ⟨86, _⟩ => ⟨S8x4096x64, .i32⟩
  | .hbm, ⟨87, _⟩ => ⟨S_, .i32⟩
  | .hbm, ⟨88, _⟩ => ⟨S8x4096x64, .i32⟩
  | .hbm, ⟨89, _⟩ => ⟨S8x4096x64, .i32⟩
  | .hbm, ⟨90, _⟩ => ⟨S_, .i32⟩
  | .hbm, ⟨91, _⟩ => ⟨S8x4096x64, .i32⟩
  | .hbm, ⟨92, _⟩ => ⟨S8x4096x64, .i1⟩
  | .hbm, ⟨93, _⟩ => ⟨S_, .i32⟩
  | .hbm, ⟨94, _⟩ => ⟨S8x4096x64, .i32⟩
  | .hbm, ⟨95, _⟩ => ⟨S8x4096x64, .i32⟩
  | .hbm, ⟨96, _⟩ => ⟨S8x4096x64, .i32⟩
  | .hbm, ⟨97, _⟩ => ⟨S8x4096x64x1, .i32⟩
  | .hbm, ⟨98, _⟩ => ⟨S8x4096x64, .f32⟩
  | .hbm, ⟨99, _⟩ => ⟨S_, .f32⟩
  | .hbm, ⟨100, _⟩ => ⟨S8x4096x64, .f32⟩
  | .hbm, ⟨101, _⟩ => ⟨S8x4096x64, .f32⟩
  | .hbm, ⟨102, _⟩ => ⟨S8x4096x64, .f32⟩
  | .hbm, ⟨103, _⟩ => ⟨S8x4096x64, .f32⟩
  | .hbm, ⟨104, _⟩ => ⟨S_, .f32⟩
  | .hbm, ⟨105, _⟩ => ⟨S8x4096x16x64, .f32⟩
  | .hbm, ⟨106, _⟩ => ⟨S_, .i32⟩
  | .hbm, ⟨107, _⟩ => ⟨S1, .i32⟩
  | .hbm, ⟨108, _⟩ => ⟨S8x4096x16x64, .f32⟩
  | _, _ => ⟨S8x4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_c_4 : Ref sig .tc := ⟨.hbm, 40, rfl⟩
abbrev main_call1_v14 : Ref sig .tc := ⟨.hbm, 41, rfl⟩
abbrev main_v9 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_c_4 : Ref sig .tc := ⟨.hbm, 62, rfl⟩
abbrev main_call2_v14 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_c_2 : Ref sig .tc := ⟨.hbm, 80, rfl⟩
abbrev main_v26 : Ref sig .tc := ⟨.hbm, 81, rfl⟩
abbrev main_c_3 : Ref sig .tc := ⟨.hbm, 82, rfl⟩
abbrev main_c_4 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v27 : Ref sig .tc := ⟨.hbm, 89, rfl⟩
abbrev main_c_5 : Ref sig .tc := ⟨.hbm, 90, rfl⟩
abbrev main_v28 : Ref sig .tc := ⟨.hbm, 91, rfl⟩
abbrev main_v29 : Ref sig .tc := ⟨.hbm, 92, rfl⟩
abbrev main_c_6 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_cst : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_7 : Ref sig .tc := ⟨.hbm, 104, rfl⟩
abbrev main_v39 : Ref sig .tc := ⟨.hbm, 105, rfl⟩
abbrev main_c_8 : Ref sig .tc := ⟨.hbm, 106, rfl⟩
abbrev main_v40 : Ref sig .tc := ⟨.hbm, 107, rfl⟩
abbrev main_v41 : Ref sig .tc := ⟨.hbm, 108, rfl⟩

abbrev nD : Nat := 1
abbrev τ : Topo := Topo.v7x

variable {F : FTy → Type} [FloatOps F]
-- ==== Proof.Span.Model.lean ====
/-
  The tile program of the span-bias kernel, written once as loops.

  The printed program is unrolled: sixteen lookup-table steps, eight tasks, fifteen zero copies per task, eight lane
  groups per trip, each with its own names. Here every one of these is a single fragment with its parameters, and
  `tile_eq` says that the printed tile program is their composition.
-/
module

public import proofs.«01_k».proof.Defs
public import proofs.«01_k».proof.Proof.Gen.Kernel
public import proofs.«01_k».proof.Proof.Gen.Kernel.Skeleton

@[expose] public section

noncomputable section

namespace Cert.Proof.Span

open Cert.Kernel Cert.Kernel.Gen Idealize.ShloMosaic Idealize.SL.Sem

attribute [local instance] Cert.Kernel.Gen.facts

variable {F : FTy → Type} [FloatOps F]

/-- The programs of the tile at grid point `i`. -/
abbrev TP (F : FTy → Type) (i : grid0.Coords) (α : Type) : Type 1 :=
  Prog (TpuEff nD τ sig (Elt F) Λ₀ (.scVector ((i 0).castLE hcore0) ((i 1).castLE hsub0))) α

/-! ## The arrays and the tile's scratch -/

abbrev lrH : Memref sig .scVector .hbm S8x32x2x128 .i32 := Memref.whole main_v2_scv
abbrev niH : Memref sig .scVector .hbm S8x8x32x8x128 .i32 := Memref.whole main_v5_scv
abbrev nmH : Memref sig .scVector .hbm S8x8x32x8x128 .i32 := Memref.whole main_v8_scv
abbrev tabH : Memref sig .scVector .hbm S15 .f32 := Memref.whole main_arg3_scv
abbrev outH : Memref sig .scVector .hbm S8x128x32x1024 .f32 := Memref.whole main_v9_scv
abbrev lrV : Memref sig .scVector .vmem S32x2x128 .i32 := Memref.whole cc0_scratch0
abbrev tabV : Memref sig .scVector .vmem S15 .f32 := Memref.whole cc0_scratch1
abbrev lutV : Memref sig .scVector .vmem S256 .f32 := Memref.whole cc0_scratch2
abbrev idxV : Memref sig .scVector .vmem S2x8x8x128 .i32 := Memref.whole cc0_scratch3
abbrev mskV : Memref sig .scVector .vmem S2x8x8x128 .i32 := Memref.whole cc0_scratch4
abbrev stgV : Memref sig .scVector .vmem S2x8x1024 .f32 := Memref.whole cc0_scratch5
abbrev zeroV : Memref sig .scVector .vmem S8x1024 .f32 := Memref.whole cc0_scratch6

/-! ## Offsets, as the kernel computes them -/

/-- The tile's number. -/
def wid (i : grid0.Coords) : BitVec 32 :=
  Scalar.addi (Scalar.muli (BitVec.ofNat 32 (i 1).val) 2#32) (BitVec.ofNat 32 (i 0).val)

/-- The batch the tile works on: its number divided by 4, rounded down. -/
def batchW (i : grid0.Coords) : BitVec 32 :=
  Scalar.select
    (Scalar.andi
      (Scalar.cmpi .ne
        (Scalar.subi (Scalar.extui (Scalar.cmpi .sgt (wid i) 0#32)) (Scalar.extui (Scalar.cmpi .slt (wid i) 0#32)))
        (Scalar.subi (Scalar.extui (Scalar.cmpi .sgt 4#32 0#32)) (Scalar.extui (Scalar.cmpi .slt 4#32 0#32))))
      (Scalar.cmpi .ne (Scalar.remsi (wid i) 4#32) 0#32))
    (Scalar.subi (Scalar.divsi (wid i) 4#32) 1#32) (Scalar.divsi (wid i) 4#32)

/-- The divisor the remainder is taken by: 4. -/
def fourW : BitVec 32 := Scalar.select (Scalar.cmpi .eq 4#32 0#32) 1#32 4#32

/-- The column of 128 positions that the tile's task `t` fills: 8 times the tile's number modulo 4, plus `t`. -/
def colW (i : grid0.Coords) (t : BitVec 32) : BitVec 32 :=
  Scalar.addi
    (Scalar.muli
      (Scalar.select
        (Scalar.andi
          (Scalar.xori (Scalar.cmpi .slt (Scalar.remsi (wid i) fourW) 0#32) (Scalar.cmpi .slt fourW 0#32))
          (Scalar.cmpi .ne (Scalar.remsi (wid i) fourW) 0#32))
        (Scalar.addi (Scalar.remsi (wid i) fourW) fourW) (Scalar.remsi (wid i) fourW)) 8#32) t

/-- A loop's counter as the body recomputes it. -/
def ctr (k : Nat) : BitVec 32 := Scalar.addi 0#32 (Scalar.muli (Scf.iv 0#32 1#32 k) 1#32)

/-- The first lane of group `k`: `16 * k`. -/
def laneW (k : Nat) : BitVec 32 := Scalar.muli (ctr k) 16#32

/-- Where the left (`a = 0`) or right (`a = 1`) ends of the positions of lane group `t2` of task `t` lie in the tile's copy of the spans. -/
def endOff (i : grid0.Coords) (t : Nat) (a : Nat) (t2 : Nat) : Fin 3 → Nat :=
  ![(Scalar.indexCast (colW i (BitVec.ofNat 32 t))).toNat, a, (Scalar.indexCast (laneW t2)).toNat]

/-- Where the sixteen neighbour words of lane group `t2`, row `t3`, neighbour `kr` lie in an input buffer. -/
def laneOff (slot kr : Nat) (t2 t3 : Nat) : Fin 4 → Nat :=
  ![slot, (Scalar.indexCast (ctr t3)).toNat, kr, (Scalar.indexCast (laneW t2)).toNat]

/-- Where the sixteen results of that group lie in the staging buffer. -/
def stgOff (slot kr : Nat) (t2 t3 : Nat) : Fin 3 → Nat :=
  ![slot, (Scalar.indexCast (ctr t3)).toNat, (Scalar.indexCast (Scalar.addi (BitVec.ofNat 32 (128 * kr)) (laneW t2))).toNat]

/-- The window of an input array that task `t` copies in. -/
def inOff (i : grid0.Coords) (t : Nat) : Fin 5 → Nat :=
  ![(batchW i).toNat, 0, (colW i (BitVec.ofNat 32 t)).toNat, 0, 0]

/-- The window of the result, from row `row`, that task `t` fills. -/
def outOff (i : grid0.Coords) (row t : Nat) : Fin 4 → Nat :=
  ![(batchW i).toNat, row, (colW i (BitVec.ofNat 32 t)).toNat, 0]

/-- The tile's batch in the span array. -/
def lrOff (i : grid0.Coords) : Fin 4 → Nat := ![(batchW i).toNat, 0, 0, 0]

/-- The rows of heads other than head 1, by their number among the fifteen. -/
def zRow (h : Nat) : Nat := match h with
  | 0 => 0
  | n + 1 => 8 * (n + 2)

/-! ### The offsets in closed form, and inside their arrays -/

/-- Batch of tile `i`. -/
def bat (i : grid0.Coords) : Nat := (2 * (i 1).val + (i 0).val) / 4
/-- First column of tile `i`. -/
def col0 (i : grid0.Coords) : Nat := 8 * ((2 * (i 1).val + (i 0).val) % 4)

/-- The grid point with coordinates `c` and `s`. -/
def pt (c : Fin 2) (s : Fin 16) : grid0.Coords := fun
  | 0 => c
  | 1 => s
  | ⟨_ + 2, h⟩ => absurd h (Nat.not_lt.2 (Nat.le_add_left _ _))

theorem pt_eta (i : grid0.Coords) : pt (i 0) (i 1) = i := by
  funext a; match a with
  | 0 => rfl
  | 1 => rfl

theorem batchW_pt : ∀ (c : Fin 2) (s : Fin 16), (batchW (pt c s)).toNat = (2 * s.val + c.val) / 4 := by decide +kernel
theorem colW_pt : ∀ (c : Fin 2) (s : Fin 16) (t : Fin 8),
    (colW (pt c s) (BitVec.ofNat 32 t.val)).toNat = 8 * ((2 * s.val + c.val) % 4) + t.val := by decide +kernel
theorem colIx_pt : ∀ (c : Fin 2) (s : Fin 16) (t : Fin 8),
    (Scalar.indexCast (colW (pt c s) (BitVec.ofNat 32 t.val))).toNat = 8 * ((2 * s.val + c.val) % 4) + t.val := by decide +kernel
theorem ctr_val : ∀ k : Fin 8, (Scalar.indexCast (ctr k.val)).toNat = k.val := by decide +kernel
theorem laneW_val : ∀ k : Fin 8, (Scalar.indexCast (laneW k.val)).toNat = 16 * k.val := by decide +kernel
theorem stgW_val : ∀ k r : Fin 8,
    (Scalar.indexCast (Scalar.addi (BitVec.ofNat 32 (128 * r.val)) (laneW k.val))).toNat = 128 * r.val + 16 * k.val := by decide +kernel

theorem batchW_eq (i : grid0.Coords) : (batchW i).toNat = bat i := by
  have h := batchW_pt (i 0) (i 1); rw [pt_eta] at h; exact h
theorem colW_eq (i : grid0.Coords) (t : Fin 8) : (colW i (BitVec.ofNat 32 t.val)).toNat = col0 i + t.val := by
  have h := colW_pt (i 0) (i 1) t; rw [pt_eta] at h; exact h
theorem colIx_eq (i : grid0.Coords) (t : Fin 8) :
    (Scalar.indexCast (colW i (BitVec.ofNat 32 t.val))).toNat = col0 i + t.val := by
  have h := colIx_pt (i 0) (i 1) t; rw [pt_eta] at h; exact h

theorem bat_lt (i : grid0.Coords) : bat i < 8 := by
  have h0 : (i 0).val < 2 := (i 0).isLt
  have h1 : (i 1).val < 16 := (i 1).isLt
  unfold bat; omega
theorem col0_le (i : grid0.Coords) : col0 i ≤ 24 := by unfold col0; omega

theorem endOff_eq (i : grid0.Coords) (t : Fin 8) (a : Nat) (t2 : Fin 8) :
    endOff i t.val a t2.val = ![col0 i + t.val, a, 16 * t2.val] := by
  unfold endOff; rw [colIx_eq, laneW_val]
theorem laneOff_eq (slot kr : Nat) (t2 t3 : Fin 8) : laneOff slot kr t2.val t3.val = ![slot, t3.val, kr, 16 * t2.val] := by
  unfold laneOff; rw [ctr_val, laneW_val]
theorem stgOff_eq (slot : Nat) (kr t2 t3 : Fin 8) :
    stgOff slot kr.val t2.val t3.val = ![slot, t3.val, 128 * kr.val + 16 * t2.val] := by
  unfold stgOff; rw [ctr_val, stgW_val]
theorem inOff_eq (i : grid0.Coords) (t : Fin 8) : inOff i t.val = ![bat i, 0, col0 i + t.val, 0, 0] := by
  unfold inOff; rw [batchW_eq, colW_eq]
theorem outOff_eq (i : grid0.Coords) (row : Nat) (t : Fin 8) : outOff i row t.val = ![bat i, row, col0 i + t.val, 0] := by
  unfold outOff; rw [batchW_eq, colW_eq]
theorem lrOff_eq (i : grid0.Coords) : lrOff i = ![bat i, 0, 0, 0] := by unfold lrOff; rw [batchW_eq]

theorem endOff_inb (i : grid0.Coords) (t : Fin 8) (a : Fin 2) (t2 : Fin 8) :
    ∀ x, endOff i t.val a.val t2.val x + S1x1x16.size x ≤ S32x2x128.size x := by
  rw [endOff_eq]; have := col0_le i; have := t.isLt; have := a.isLt; have := t2.isLt
  intro x; fin_cases x <;> simp [S1x1x16, S32x2x128] <;> omega
theorem laneOff_inb (slot : Fin 2) (kr t2 t3 : Fin 8) :
    ∀ x, laneOff slot.val kr.val t2.val t3.val x + S1x1x1x16.size x ≤ S2x8x8x128.size x := by
  rw [laneOff_eq]; have := slot.isLt; have := kr.isLt; have := t2.isLt; have := t3.isLt
  intro x; fin_cases x <;> simp [S1x1x1x16, S2x8x8x128] <;> omega
theorem stgOff_inb (slot : Fin 2) (kr t2 t3 : Fin 8) :
    ∀ x, stgOff slot.val kr.val t2.val t3.val x + S1x1x16.size x ≤ S2x8x1024.size x := by
  rw [stgOff_eq]; have := slot.isLt; have := kr.isLt; have := t2.isLt; have := t3.isLt
  intro x; fin_cases x <;> simp [S1x1x16, S2x8x1024] <;> omega
theorem inOff_inb (i : grid0.Coords) (t : Fin 8) : ∀ x, inOff i t.val x + S1x8x1x8x128.size x ≤ S8x8x32x8x128.size x := by
  rw [inOff_eq]; have := bat_lt i; have := col0_le i; have := t.isLt
  intro x; fin_cases x <;> simp [S1x8x1x8x128, S8x8x32x8x128] <;> omega
theorem outOff_inb (i : grid0.Coords) (row : Nat) (hr : row + 8 ≤ 128) (t : Fin 8) :
    ∀ x, outOff i row t.val x + S1x8x1x1024.size x ≤ S8x128x32x1024.size x := by
  rw [outOff_eq]; have := bat_lt i; have := col0_le i; have := t.isLt
  intro x; fin_cases x <;> simp [S1x8x1x1024, S8x128x32x1024] <;> omega
theorem lrOff_inb (i : grid0.Coords) : ∀ x, lrOff i x + S1x32x2x128.size x ≤ S8x32x2x128.size x := by
  rw [lrOff_eq]; have := bat_lt i
  intro x; fin_cases x <;> simp [S1x32x2x128, S8x32x2x128] <;> omega
theorem zRow_le (h : Fin 15) : zRow h.val + 8 ≤ 128 := by revert h; decide
theorem slot4_inb (s : Fin 2) : ∀ x, (![s.val, 0, 0, 0] : Fin 4 → Nat) x + S1x8x8x128.size x ≤ S2x8x8x128.size x := by
  revert s; decide
theorem slot3_inb (s : Fin 2) : ∀ x, (![s.val, 0, 0] : Fin 3 → Nat) x + S1x8x1024.size x ≤ S2x8x1024.size x := by
  revert s; decide
theorem lut_inb (g : Fin 16) : ∀ x, (![16 * g.val] : Fin 1 → Nat) x + S16.size x ≤ S256.size x := by
  revert g; decide

/-! ## Fragments -/

/-- Run `f 0`, …, `f (n - 1)` in order. -/
def run {i : grid0.Coords} : (n : Nat) → (Fin n → TP F i PUnit) → TP F i PUnit
  | 0, _ => .ret ⟨⟩
  | n + 1, f => f 0 >>= fun _ => run n fun k => f k.succ

/-- The slot of task `t`. -/
abbrev slot (t : Fin 8) : Fin 2 := ⟨t.val % 2, Nat.mod_lt _ (by decide)⟩

/-- The boundaries of the distance buckets. -/
def bounds : List (BitVec 32) := [0#32, 1#32, 2#32, 3#32, 4#32, 6#32, 8#32, 12#32, 16#32, 24#32, 32#32, 48#32, 64#32, 96#32, 128#32]

/-- The bucket of each of the distances `16 * g`, …, `16 * g + 15`: how many boundaries lie below it, at most 14. -/
def bucketVec (g : Nat) : IVec S16 32 :=
  let d := addi (iota .scVector S16 32 [0] iota_S16_d0_w32_scVector) (broadcast S16 (BitVec.ofNat 32 (16 * g)))
  minsi (bounds.foldl (fun n b => addi n (extui 32 (cmpi .sgt d (broadcast S16 b)) natLt_1_32)) (broadcast S16 0#32)) (broadcast S16 14#32)

/-- Sixteen table entries times 0.2. -/
def scaled (v : Vec F S16 .f32) : FVec F S16 .f32 := mulf v (broadcast S16 (Scalar.ofBits .f32 0x3E4CCCCD#32))

/-- One step of building the lookup table: the entries at the buckets of sixteen distances, scaled. -/
def lutStep (i : grid0.Coords) (g : Fin 16) : TP F i PUnit := do
  have hw : k0_chk1 (bucketVec g.val) := (← Prog.lift (TpuEff.assume (k0_chk1 (bucketVec g.val)) (k0_chk1.dec (bucketVec g.val)))).down
  let v : Vec F S16 .f32 ← SparseCore.vectorLoadIdx tabV ![bucketVec g.val] (k0_idx1_inb _ hw) (View.loads_vmem h_S15)
  let _ : Vec F S16 .f32 ← Prog.lift (.load lutV (Rect.unit (s := S256) ![16 * g.val] S16.size (lut_inb g)).toLoadRect (View.loadsAt_vmem h_S16))
  Prog.lift (.store lutV (Rect.unit (s := S256) ![16 * g.val] S16.size (lut_inb g)) (scaled v) Finset.univ (View.stores_vmem_bits_univ h_S16 rfl) (.inl rfl))

/-- Sixteen zeros. -/
def zeros16 : FVec F S16 .f32 := broadcast S16 (Scalar.ofBits .f32 0x00000000#32)

/-- One step of filling the buffer of zeros. -/
def zeroStep (i : grid0.Coords) (k : Fin k0_t1_loop.trips) (_ : PUnit) : TP F i PUnit := do
  let _ : Vec F S1x16 .f32 ← Prog.lift (.load zeroV (Rect.unit (s := S8x1024) (k0_off2 k) S1x16.size (k0_off2_inb k)).toLoadRect (View.loadsAt_vmem h_S1x16))
  Prog.lift (.store zeroV (Rect.unit (s := S8x1024) (k0_off2 k) S1x16.size (k0_off2_inb k)) (shapeCast S1x16 zeros16 shapeCasts_S16_S1x16) Finset.univ (View.stores_vmem_bits_univ h_S1x16 rfl) (.inl rfl))

/-- Task `t`'s window of an input array. -/
abbrev inWin (i : grid0.Coords) (m : Memref sig .scVector .hbm S8x8x32x8x128 .i32) (t : Fin 8) : Memref sig .scVector .hbm S8x8x128 .i32 :=
  (m.slice (Rect.unit (s := S8x8x32x8x128) (inOff i t.val) S1x8x1x8x128.size (inOff_inb i t)) (fun _ => rfl)).squeeze S8x8x128 squeezes_S1x8x1x8x128_S8x8x128

/-- Slot `s` of an input buffer. -/
abbrev inSlot (m : Memref sig .scVector .vmem S2x8x8x128 .i32) (s : Fin 2) : Memref sig .scVector .vmem S8x8x128 .i32 :=
  (m.slice (Rect.unit (s := S2x8x8x128) ![s.val, 0, 0, 0] S1x8x8x128.size (slot4_inb s)) (fun _ => rfl)).squeeze S8x8x128 squeezes_S1x8x8x128_S8x8x128

/-- Eight rows of the result from `row`, at task `t`'s column. -/
abbrev outWin (i : grid0.Coords) (row : Nat) (hr : row + 8 ≤ 128) (t : Fin 8) : Memref sig .scVector .hbm S8x1024 .f32 :=
  (outH.slice (Rect.unit (s := S8x128x32x1024) (outOff i row t.val) S1x8x1x1024.size (outOff_inb i row hr t)) (fun _ => rfl)).squeeze S8x1024 squeezes_S1x8x1x1024_S8x1024

/-- Slot `s` of the staging buffer. -/
abbrev stgSlot (s : Fin 2) : Memref sig .scVector .vmem S8x1024 .f32 :=
  (stgV.slice (Rect.unit (s := S2x8x1024) ![s.val, 0, 0] S1x8x1024.size (slot3_inb s)) (fun _ => rfl)).squeeze S8x1024 squeezes_S1x8x1024_S8x1024

/-- The semaphore of slot `s`'s input copies. -/
abbrev isem (s : Fin 2) : DmaSems sig S_ := match s with
  | 0 => cc0_scratch7
  | 1 => cc0_scratch8
/-- The semaphore of slot `s`'s output copy. -/
abbrev osem (s : Fin 2) : DmaSems sig S_ := match s with
  | 0 => cc0_scratch9
  | 1 => cc0_scratch10
/-- The semaphore of the copies of zeros. -/
abbrev zsem : DmaSems sig S_ := cc0_scratch11

/-- Copy the batch's spans and the table into the tile's memory, each waited for at once. -/
def syncIn (i : grid0.Coords) : TP F i PUnit := do
  Prog.lift (.enqueueDma ((lrH.slice (Rect.unit (s := S8x32x2x128) (lrOff i) S1x32x2x128.size (lrOff_inb i)) (fun _ => rfl)).squeeze S32x2x128 squeezes_S1x32x2x128_S32x2x128)
    (.here lrV) (.dma cc0_scoped0.sem) ((View.wordExact_bits rfl).reshape _ _) (Memref.isWhole_whole _).wordExact ⟨Or.inl rfl, trivial⟩)
  Prog.lift (.waitDma2 cc0_scoped0.sem ((lrH.slice (Rect.unit (s := S8x32x2x128) (lrOff i) S1x32x2x128.size (lrOff_inb i)) (fun _ => rfl)).squeeze S32x2x128 squeezes_S1x32x2x128_S32x2x128)
    lrV ((View.wordExact_bits rfl).reshape _ _) (Memref.isWhole_whole _).wordExact)
  Prog.lift (.enqueueDma tabH (.here tabV) (.dma cc0_scoped1.sem) (Memref.isWhole_whole _).wordExact (Memref.isWhole_whole _).wordExact ⟨Or.inl rfl, trivial⟩)
  Prog.lift (.waitDma2 cc0_scoped1.sem tabH tabV (Memref.isWhole_whole _).wordExact (Memref.isWhole_whole _).wordExact)

/-- Start copying task `t`'s indices, then its mask, into their slot. -/
def issueIn (i : grid0.Coords) (t : Fin 8) : TP F i PUnit := do
  Prog.lift (.enqueueDma (inWin i niH t) (.here (inSlot idxV (slot t))) (.dma (isem (slot t)).sem) ((View.wordExact_bits rfl).reshape _ _) ((View.wordExact_bits rfl).reshape _ _) ⟨Or.inl rfl, trivial⟩)
  Prog.lift (.enqueueDma (inWin i nmH t) (.here (inSlot mskV (slot t))) (.dma (isem (slot t)).sem) ((View.wordExact_bits rfl).reshape _ _) ((View.wordExact_bits rfl).reshape _ _) ⟨Or.inl rfl, trivial⟩)

/-- Wait for both of task `t`'s input copies. -/
def waitIn (i : grid0.Coords) (t : Fin 8) : TP F i PUnit := do
  Prog.lift (.waitDma2 (isem (slot t)).sem (inWin i niH t) (inSlot idxV (slot t)) ((View.wordExact_bits rfl).reshape _ _) ((View.wordExact_bits rfl).reshape _ _))
  Prog.lift (.waitDma2 (isem (slot t)).sem (inWin i nmH t) (inSlot mskV (slot t)) ((View.wordExact_bits rfl).reshape _ _) ((View.wordExact_bits rfl).reshape _ _))

/-- Start copying task `t`'s results from their slot to head 1's rows. -/
def issueOut (i : grid0.Coords) (t : Fin 8) : TP F i PUnit :=
  Prog.lift (.enqueueDma (stgSlot (slot t)) (.here (outWin i 8 (by decide) t)) (.dma (osem (slot t)).sem) ((View.wordExact_bits rfl).reshape _ _) ((View.wordExact_bits rfl).reshape _ _) ⟨Or.inl rfl, trivial⟩)

/-- Wait for task `t`'s output copy. -/
def waitOut (i : grid0.Coords) (t : Fin 8) : TP F i PUnit :=
  Prog.lift (.waitDma2 (osem (slot t)).sem (stgSlot (slot t)) (outWin i 8 (by decide) t) ((View.wordExact_bits rfl).reshape _ _) ((View.wordExact_bits rfl).reshape _ _))

/-- Start one copy of zeros: head number `h` among the fifteen, task `t`. -/
def issueZero (i : grid0.Coords) (t : Fin 8) (h : Fin 15) : TP F i PUnit :=
  Prog.lift (.enqueueDma zeroV (.here (outWin i (zRow h.val) (zRow_le h) t)) (.dma zsem.sem) (Memref.isWhole_whole _).wordExact ((View.wordExact_bits rfl).reshape _ _) ⟨Or.inl rfl, trivial⟩)

/-- Wait for one copy of zeros. -/
def waitZero (i : grid0.Coords) (t : Fin 8) (h : Fin 15) : TP F i PUnit :=
  Prog.lift (.waitDma2 zsem.sem zeroV (outWin i (zRow h.val) (zRow_le h) t) (Memref.isWhole_whole _).wordExact ((View.wordExact_bits rfl).reshape _ _))

/-! ### The lanes -/

/-- Sixteen neighbour words, kept within 0 and 4095. -/
def clipped (v : Vec F S1x1x1x16 .i32) : IVec S16 32 :=
  minsi (broadcast S16 4095#32) (maxsi (broadcast S16 0#32) (shapeCast S16 v shapeCasts_S1x1x1x16_S16))
/-- Their columns of 128 positions, -/
def nbCol (v : Vec F S1x1x1x16 .i32) : IVec S16 32 := shrsi (clipped v) (broadcast S16 7#32)
/-- and their places in the column. -/
def nbLane (v : Vec F S1x1x1x16 .i32) : IVec S16 32 := andi (clipped v) (broadcast S16 127#32)
/-- The larger of the two ends' distances, at most 255. -/
def distVec (l r lj rj : Vec F S16 .i32) : IVec S16 32 :=
  minsi (maxsi (absi (subi l lj)) (absi (subi r rj))) (broadcast S16 255#32)
/-- The scaled table entries times the mask words as floats. -/
def masked (u : Vec F S16 .f32) (k : Vec F S1x1x1x16 .i32) : FVec F S16 .f32 :=
  mulf u (sitofp .f32 (shapeCast S16 k shapeCasts_S1x1x1x16_S16))

/-- One lane group: the sixteen results of lane group `t2`, row `t3`, neighbour `kr`, given the ends of the group's own positions. -/
def group (i : grid0.Coords) (s : Fin 2) (l r : Vec F S16 .i32) (t2 t3 : Fin 8) (kr : Fin 8) : TP F i PUnit := do
  let v : Vec F S1x1x1x16 .i32 ← Prog.lift (.load idxV (Rect.unit (s := S2x8x8x128) (laneOff s.val kr.val t2.val t3.val) S1x1x1x16.size (laneOff_inb s kr t2 t3)).toLoadRect (View.loadsAt_vmem h_S1x1x1x16))
  have h0 : k0_chk17 (nbCol v) (nbLane v) (broadcast S16 0#32) := (← Prog.lift (TpuEff.assume (k0_chk17 (nbCol v) (nbLane v) (broadcast S16 0#32)) (k0_chk17.dec (nbCol v) (nbLane v) (broadcast S16 0#32)))).down
  let lj : Vec F S16 .i32 ← SparseCore.vectorLoadIdx lrV ![nbCol v, broadcast S16 0#32, nbLane v] (k0_idx17_inb _ _ _ h0) (View.loads_vmem h_S32x2x128)
  have h1 : k0_chk18 (nbCol v) (nbLane v) (broadcast S16 1#32) := (← Prog.lift (TpuEff.assume (k0_chk18 (nbCol v) (nbLane v) (broadcast S16 1#32)) (k0_chk18.dec (nbCol v) (nbLane v) (broadcast S16 1#32)))).down
  let rj : Vec F S16 .i32 ← SparseCore.vectorLoadIdx lrV ![nbCol v, broadcast S16 1#32, nbLane v] (k0_idx18_inb _ _ _ h1) (View.loads_vmem h_S32x2x128)
  have h2 : k0_chk19 (distVec (F := F) l r lj rj) := (← Prog.lift (TpuEff.assume (k0_chk19 (distVec (F := F) l r lj rj)) (k0_chk19.dec (distVec (F := F) l r lj rj)))).down
  let u : Vec F S16 .f32 ← SparseCore.vectorLoadIdx lutV ![distVec (F := F) l r lj rj] (k0_idx19_inb _ h2) (View.loads_vmem h_S256)
  let k : Vec F S1x1x1x16 .i32 ← Prog.lift (.load mskV (Rect.unit (s := S2x8x8x128) (laneOff s.val kr.val t2.val t3.val) S1x1x1x16.size (laneOff_inb s kr t2 t3)).toLoadRect (View.loadsAt_vmem h_S1x1x1x16))
  let _ : Vec F S1x1x16 .f32 ← Prog.lift (.load stgV (Rect.unit (s := S2x8x1024) (stgOff s.val kr.val t2.val t3.val) S1x1x16.size (stgOff_inb s kr t2 t3)).toLoadRect (View.loadsAt_vmem h_S1x1x16))
  Prog.lift (.store stgV (Rect.unit (s := S2x8x1024) (stgOff s.val kr.val t2.val t3.val) S1x1x16.size (stgOff_inb s kr t2 t3)) (shapeCast S1x1x16 (masked u k) shapeCasts_S16_S1x1x16) Finset.univ (View.stores_vmem_bits_univ h_S1x1x16 rfl) (.inl rfl))

/-- One row of a lane group: its eight neighbours in turn. -/
def rowBody (i : grid0.Coords) (s : Fin 2) (l r : Vec F S1x1x16 .i32) (t2 t3 : Fin 8) (_ : PUnit) : TP F i PUnit :=
  run 8 (group i s (shapeCast S16 l shapeCasts_S1x1x16_S16) (shapeCast S16 r shapeCasts_S1x1x16_S16) t2 t3)

/-- One lane group of task `t`: its positions' own ends, then the eight rows. -/
def laneBody (i : grid0.Coords) (t : Fin 8) (t2 : Fin 8) (_ : PUnit) : TP F i PUnit := do
  let l : Vec F S1x1x16 .i32 ← Prog.lift (.load lrV (Rect.unit (s := S32x2x128) (endOff i t.val 0 t2.val) S1x1x16.size (endOff_inb i t 0 t2)).toLoadRect (View.loadsAt_vmem h_S1x1x16))
  let r : Vec F S1x1x16 .i32 ← Prog.lift (.load lrV (Rect.unit (s := S32x2x128) (endOff i t.val 1 t2.val) S1x1x16.size (endOff_inb i t 1 t2)).toLoadRect (View.loadsAt_vmem h_S1x1x16))
  Scf.Loop.for k0_t3_loop k0_t3_ok ⟨⟩ (rowBody i (slot t) l r t2)
  pure ⟨⟩

/-- Task `t`'s results. -/
def lanes (i : grid0.Coords) (t : Fin 8) : TP F i PUnit := Scf.Loop.for k0_t2_loop k0_t2_ok ⟨⟩ (laneBody i t)

/-- Start the next task's input copies, if there is a next task. -/
def ahead (i : grid0.Coords) (t : Fin 8) : TP F i PUnit := if h : t.val + 1 < 8 then issueIn i ⟨t.val + 1, h⟩ else .ret ⟨⟩

/-- Wait for the output copy of the task two before, if there is one. -/
def behind (i : grid0.Coords) (t : Fin 8) : TP F i PUnit := if h : 2 ≤ t.val then waitOut i ⟨t.val - 2, by omega⟩ else .ret ⟨⟩

/-- Task `t`: its copies of zeros started, the next task's inputs started, its own inputs and its staging slot waited for, its results
    computed and their copy started. -/
def step (i : grid0.Coords) (t : Fin 8) : TP F i PUnit := do
  run 15 (issueZero i t)
  ahead i t
  waitIn i t
  behind i t
  lanes i t
  issueOut i t

/-- The whole tile program. -/
def tile (i : grid0.Coords) : TP F i PUnit := do
  syncIn i
  run 16 (lutStep i)
  Scf.Loop.for k0_t1_loop k0_t1_ok ⟨⟩ (zeroStep i)
  issueIn i 0
  run 8 (step i)
  waitOut i 6
  waitOut i 7
  run 8 fun t => run 15 (waitZero i t)

/-- The printed tile program, on the launch's arrays and scratch. -/
abbrev printed (i : grid0.Coords) : TP F i PUnit :=
  cc0__sc_span_bias i lrH (Memref.isWhole_whole _) niH (Memref.isWhole_whole _) nmH (Memref.isWhole_whole _) tabH (Memref.isWhole_whole _) outH (Memref.isWhole_whole _)
    lrV (Memref.isWhole_whole _) tabV (Memref.isWhole_whole _) lutV (Memref.isWhole_whole _) idxV (Memref.isWhole_whole _) mskV (Memref.isWhole_whole _) stgV (Memref.isWhole_whole _)
    zeroV (Memref.isWhole_whole _) cc0_scratch7 cc0_scratch8 cc0_scratch9 cc0_scratch10 cc0_scratch11 cc0_scoped0 cc0_scoped1

end Cert.Proof.Span

end
-- ==== Proof.Span.Value.lean ====
/-
  What the span-bias kernel computes, entry by entry.

  `result` is the array the tiles leave in the kernel's output, as a function of the arrays they read. The lemmas below
  read the kernel's vector operations at one lane and show that a lane group stores exactly `result`'s entries.
-/
module

public import proofs.«01_k».proof.Proof.Span.Model
public import Idealize.ShloMosaic.Lib.ValueIdxCoords
public import Idealize.ShloMosaic.Lib.Pointwise.Reshape

@[expose] public section

noncomputable section

namespace Cert.Proof.Span

open Cert.Kernel Cert.Kernel.Gen Idealize.SL.Sem Idealize.ShloMosaic.ValueIdx
open Idealize.ShloMosaic hiding ix1 ix2 ix3 ix4 ix5

attribute [local instance] Cert.Kernel.Gen.facts

variable {F : FTy → Type} [FloatOps F]

/-! ## Words -/

/-- A neighbour word kept within 0 and 4095. -/
def clip (n : BitVec 32) : BitVec 32 := IntOp.minsi 4095#32 (IntOp.maxsi 0#32 n)

theorem clip_lt (n : BitVec 32) : (clip n).toNat < 4096 := by
  unfold clip IntOp.minsi IntOp.maxsi
  simp only [BitVec.slt_eq_decide, decide_eq_true_eq, BitVec.toInt_eq_toNat_cond]
  split_ifs <;> simp_all <;> omega

/-- The neighbour's column of 128 positions, -/
def colOf (n : BitVec 32) : Fin 32 := ⟨(clip n).toNat / 128, by have := clip_lt n; omega⟩
/-- and its place in the column. -/
def laneOf (n : BitVec 32) : Fin 128 := ⟨(clip n).toNat % 128, by omega⟩

theorem shr_val (n : BitVec 32) : (IntOp.shrsi .vector (clip n) 7#32).toNat = (colOf n).val := by
  have h := clip_lt n
  have hm : (clip n).msb = false := by rw [BitVec.msb_eq_false_iff_two_mul_lt]; omega
  have e : IntOp.shrsi .vector (clip n) 7#32 = clip n >>> 7 := by
    unfold IntOp.shrsi
    rw [if_pos (by decide), BitVec.sshiftRight_eq', BitVec.sshiftRight_eq_of_msb_false hm]; rfl
  rw [e, BitVec.toNat_ushiftRight, Nat.shiftRight_eq_div_pow]; rfl

theorem and_val (n : BitVec 32) : (IntOp.andi (clip n) 127#32).toNat = (laneOf n).val := by
  show (clip n &&& 127#32).toNat = _
  rw [BitVec.toNat_and]
  exact Nat.and_two_pow_sub_one_eq_mod (n := 7) _

/-- The larger of the two ends' distances, at most 255. -/
def dist (l r lj rj : BitVec 32) : BitVec 32 :=
  IntOp.minsi (IntOp.maxsi (IntOp.absi (IntOp.subi l lj)) (IntOp.absi (IntOp.subi r rj))) 255#32

theorem abs_lt {a b : BitVec 32} (ha : a.toNat < 4096) (hb : b.toNat < 4096) : (IntOp.absi (IntOp.subi a b)).toNat < 4096 := by
  unfold IntOp.absi IntOp.subi
  split_ifs with h
  · rw [BitVec.msb_eq_true_iff_two_mul_ge] at h
    simp only [BitVec.toNat_neg, BitVec.toNat_sub] at *; omega
  · rw [Bool.not_eq_true, BitVec.msb_eq_false_iff_two_mul_lt] at h
    simp only [BitVec.toNat_sub] at *; omega

theorem dist_lt {l r lj rj : BitVec 32} (hl : l.toNat < 4096) (hr : r.toNat < 4096) (hlj : lj.toNat < 4096) (hrj : rj.toNat < 4096) :
    (dist l r lj rj).toNat < 256 := by
  have h1 := abs_lt hl hlj
  have h2 := abs_lt hr hrj
  unfold dist
  generalize IntOp.absi (IntOp.subi l lj) = a at *
  generalize IntOp.absi (IntOp.subi r rj) = b at *
  unfold IntOp.minsi IntOp.maxsi
  simp only [BitVec.slt_eq_decide, decide_eq_true_eq, BitVec.toInt_eq_toNat_cond]
  split_ifs <;> simp_all <;> omega

/-- The bucket of a distance: how many boundaries lie below it, at most 14. -/
def bucket (d : BitVec 32) : BitVec 32 :=
  IntOp.minsi (bounds.foldl (fun n b => IntOp.addi n ((IntOp.cmpi .sgt d b).setWidth 32)) 0#32) 14#32

theorem bucket_lt : ∀ k : Fin 256, (bucket (BitVec.ofNat 32 k.val)).toNat < 15 := by decide +kernel

theorem bucketVec_apply (g : Fin 16) (x : S16.Idx) : bucketVec g.val x = bucket (BitVec.ofNat 32 (16 * g.val + (x 0).val)) := by
  have e : (addi (iota .scVector S16 32 [0] iota_S16_d0_w32_scVector) (broadcast S16 (BitVec.ofNat 32 (16 * g.val))) : IVec S16 32) x
      = BitVec.ofNat 32 (16 * g.val + (x 0).val) := by
    show BitVec.ofNat 32 (0 * 16 + (x 0).val) + BitVec.ofNat 32 (16 * g.val) = _
    rw [← BitVec.ofNat_add]; congr 1; omega
  rw [← e]; rfl

/-! ## The arrays -/

/-- A scaled table entry, by the distance it is looked up at. -/
def lutAt (TAB : Vec F S15 .f32) (n : Nat) : Elt F .f32 :=
  FloatOps.mulf (TAB (ix1 (Fin.ofNat 15 (bucket (BitVec.ofNat 32 n)).toNat))) (Scalar.ofBits .f32 0x3E4CCCCD#32)

/-- The lookup table. -/
def lut (TAB : Vec F S15 .f32) : Vec F S256 .f32 := fun j => lutAt TAB (j 0).val

/-- The zero the kernel writes. -/
def zeroF : Elt F .f32 := Scalar.ofBits (F := F) .f32 0x00000000#32

/-- Head 1's entry for batch `b`, neighbour `8 * kb + kr` and position `128 * tc + ln`. -/
def headOne (LR : Vec F S8x32x2x128 .i32) (NI NM : Vec F S8x8x32x8x128 .i32) (TAB : Vec F S15 .f32)
    (b kb : Fin 8) (tc : Fin 32) (kr : Fin 8) (ln : Fin 128) : Elt F .f32 :=
  let n : BitVec 32 := NI (ix5 b kb tc kr ln)
  FloatOps.mulf
    (lutAt TAB (dist (LR (ix4 b tc 0 ln)) (LR (ix4 b tc 1 ln)) (LR (ix4 b (colOf n) 0 (laneOf n))) (LR (ix4 b (colOf n) 1 (laneOf n)))).toNat)
    (FloatOps.sitofp .f32 (NM (ix5 b kb tc kr ln) : BitVec 32))

/-- The array the tiles leave: head 1's entries in its eight rows, zero in the others. -/
def result (LR : Vec F S8x32x2x128 .i32) (NI NM : Vec F S8x8x32x8x128 .i32) (TAB : Vec F S15 .f32) : Vec F S8x128x32x1024 .f32 := fun j =>
  if (j 1).val / 8 = 1 then
    headOne LR NI NM TAB (j 0) (Fin.ofNat 8 (j 1).val) (j 2) (Fin.ofNat 8 ((j 3).val / 128)) (Fin.ofNat 128 (j 3).val)
  else zeroF

/-- A batch of the spans. -/
def lrOf (LR : Vec F S8x32x2x128 .i32) (b : Fin 8) : Vec F S32x2x128 .i32 := fun j => LR (ix4 b (j 0) (j 1) (j 2))

/-- Slot `s` of an input buffer holds column `tc` of batch `b` of an input array. -/
def InHolds (A : Vec F S8x8x32x8x128 .i32) (b : Fin 8) (tc : Fin 32) (s : Fin 2) (f : Vec F S2x8x8x128 .i32) : Prop :=
  ∀ (kb kr : Fin 8) (ln : Fin 128), f (ix4 s kb kr ln) = A (ix5 b kb tc kr ln)

/-- When a lane group reaches the entry: groups of 16 positions first, then rows, then neighbours. -/
def ord (kb kr : Fin 8) (ln : Fin 128) : Nat := 64 * (ln.val / 16) + 8 * kb.val + kr.val

/-- The place in a staging row of neighbour `kr`, position `ln`. -/
def place (kr : Fin 8) (ln : Fin 128) : Fin 1024 := ⟨128 * kr.val + ln.val, by omega⟩

/-- Slot `s` of the staging buffer holds the first `n` lane groups' results of column `tc` of batch `b`. -/
def StgDone (LR : Vec F S8x32x2x128 .i32) (NI NM : Vec F S8x8x32x8x128 .i32) (TAB : Vec F S15 .f32) (b : Fin 8) (tc : Fin 32) (s : Fin 2)
    (n : Nat) (f : Vec F S2x8x1024 .f32) : Prop :=
  ∀ (kb kr : Fin 8) (ln : Fin 128), ord kb kr ln < n → f (ix3 s kb (place kr ln)) = headOne LR NI NM TAB b kb tc kr ln

/-! ## Vector operations at a lane -/

theorem cast4_apply {α : Type} (v : S1x1x1x16.Idx → α) (h : S1x1x1x16.ShapeCasts S16) (x : S16.Idx) :
    shapeCast S16 v h x = v (ix4 0 0 0 (x 0)) :=
  congrArg v (Shape.reshapeEquiv_eq_of_vals _ _ _ _ _ (rowMajor_val4 _ 16 16 16 rfl rfl rfl) (rowMajor_val1 _) (by simp))
theorem cast3_apply {α : Type} (v : S1x1x16.Idx → α) (h : S1x1x16.ShapeCasts S16) (x : S16.Idx) :
    shapeCast S16 v h x = v (ix3 0 0 (x 0)) :=
  congrArg v (Shape.reshapeEquiv_eq_of_vals _ _ _ _ _ (rowMajor_val3 _ 16 16 rfl rfl) (rowMajor_val1 _) (by simp))
theorem uncast3_apply {α : Type} (v : S16.Idx → α) (h : S16.ShapeCasts S1x1x16) (y : S1x1x16.Idx) :
    shapeCast S1x1x16 v h y = v (ix1 (y 2)) :=
  congrArg v (Shape.reshapeEquiv_eq_of_vals _ _ _ _ _ (rowMajor_val1 _) (rowMajor_val3 _ 16 16 rfl rfl) (by
    have h0 : (y 0).val = 0 := Nat.lt_one_iff.mp (y 0).isLt
    have h1 : (y 1).val = 0 := Nat.lt_one_iff.mp (y 1).isLt
    simp [h0, h1]))

theorem clipped_apply (v : Vec F S1x1x1x16 .i32) (x : S16.Idx) : clipped v x = clip (v (ix4 0 0 0 (x 0))) := by
  unfold clipped clip
  show IntOp.minsi _ (IntOp.maxsi _ (shapeCast S16 v _ x)) = _
  rw [cast4_apply]; rfl
theorem nbCol_apply (v : Vec F S1x1x1x16 .i32) (x : S16.Idx) : (nbCol v x).toNat = (colOf (v (ix4 0 0 0 (x 0)))).val := by
  unfold nbCol; show (IntOp.shrsi .vector (clipped v x) 7#32).toNat = _
  rw [clipped_apply]; exact shr_val _
theorem nbLane_apply (v : Vec F S1x1x1x16 .i32) (x : S16.Idx) : (nbLane v x).toNat = (laneOf (v (ix4 0 0 0 (x 0)))).val := by
  unfold nbLane; show (IntOp.andi (clipped v x) 127#32).toNat = _
  rw [clipped_apply]; exact and_val _

end Cert.Proof.Span

end
-- ==== Proof.Span.Places.lean ====
/-
  Where the tile's loads, stores and copies lie: the places of each rectangle and window, and what a store of sixteen
  results makes of a slot of the staging buffer.
-/
module

public import proofs.«01_k».proof.Proof.Span.Value

@[expose] public section

noncomputable section

namespace Cert.Proof.Span

open Cert.Kernel Cert.Kernel.Gen Idealize.SL.Sem Idealize.ShloMosaic.ValueIdx
open Idealize.ShloMosaic hiding ix1 ix2 ix3 ix4 ix5

attribute [local instance] Cert.Kernel.Gen.facts

variable {F : FTy → Type} [FloatOps F]

/-- The tile's batch and its column at task `t`, as coordinates. -/
abbrev batF (i : grid0.Coords) : Fin 8 := ⟨bat i, bat_lt i⟩
abbrev colF (i : grid0.Coords) (t : Fin 8) : Fin 32 := ⟨col0 i + t.val, by have := col0_le i; omega⟩
/-- Lane `x` of lane group `t2`, among the 128 positions of a column. -/
abbrev lane (t2 : Fin 8) (x : Fin 16) : Fin 128 := ⟨16 * t2.val + x.val, by omega⟩

/-! ## Rectangles -/

abbrev laneRect (s : Fin 2) (kr t2 t3 : Fin 8) : Rect S2x8x8x128 :=
  Rect.unit (s := S2x8x8x128) (laneOff s.val kr.val t2.val t3.val) S1x1x1x16.size (laneOff_inb s kr t2 t3)
abbrev stgRect (s : Fin 2) (kr t2 t3 : Fin 8) : Rect S2x8x1024 :=
  Rect.unit (s := S2x8x1024) (stgOff s.val kr.val t2.val t3.val) S1x1x16.size (stgOff_inb s kr t2 t3)
abbrev endRect (i : grid0.Coords) (t : Fin 8) (a : Fin 2) (t2 : Fin 8) : Rect S32x2x128 :=
  Rect.unit (s := S32x2x128) (endOff i t.val a.val t2.val) S1x1x16.size (endOff_inb i t a t2)
abbrev lutRect (g : Fin 16) : Rect S256 := Rect.unit (s := S256) ![16 * g.val] S16.size (lut_inb g)

theorem laneRect_emb (s : Fin 2) (kr t2 t3 : Fin 8) (x : Fin 16) : (laneRect s kr t2 t3).emb (ix4 0 0 0 x) = ix4 s t3 kr (lane t2 x) := by
  funext a; apply Fin.ext; rw [Rect.emb_apply]
  show laneOff s.val kr.val t2.val t3.val a + 1 * _ = _
  rw [laneOff_eq]; fin_cases a <;> simp [lane]
theorem stgRect_emb (s : Fin 2) (kr t2 t3 : Fin 8) (x : Fin 16) : (stgRect s kr t2 t3).emb (ix3 0 0 x) = ix3 s t3 (place kr (lane t2 x)) := by
  funext a; apply Fin.ext; rw [Rect.emb_apply]
  show stgOff s.val kr.val t2.val t3.val a + 1 * _ = _
  rw [stgOff_eq]; fin_cases a
  · simp
  · simp
  · show 128 * kr.val + 16 * t2.val + 1 * x.val = 128 * kr.val + (16 * t2.val + x.val)
    omega
theorem endRect_emb (i : grid0.Coords) (t : Fin 8) (a : Fin 2) (t2 : Fin 8) (x : Fin 16) :
    (endRect i t a t2).emb (ix3 0 0 x) = ix3 (colF i t) a (lane t2 x) := by
  funext b; apply Fin.ext; rw [Rect.emb_apply]
  show endOff i t.val a.val t2.val b + 1 * _ = _
  rw [endOff_eq]; fin_cases b <;> simp [lane]
theorem lutRect_emb (g : Fin 16) (x : Fin 16) : (lutRect g).emb (ix1 x) = ix1 ⟨16 * g.val + x.val, by omega⟩ := by
  funext b; apply Fin.ext; rw [Rect.emb_apply]
  obtain rfl : b = 0 := Fin.fin_one_eq_zero b
  show 16 * g.val + 1 * x.val = 16 * g.val + x.val
  omega

/-! ## Slots -/

/-- Slot `s` of an input buffer, and of the staging buffer. -/
def slot4 (s : Fin 2) : Finset S2x8x8x128.Idx := Finset.univ.filter fun j => (j 0).val = s.val
def slot3 (s : Fin 2) : Finset S2x8x1024.Idx := Finset.univ.filter fun j => (j 0).val = s.val

theorem mem_slot4 {s : Fin 2} {j : S2x8x8x128.Idx} : j ∈ slot4 s ↔ (j 0).val = s.val := by simp [slot4]
theorem mem_slot3 {s : Fin 2} {j : S2x8x1024.Idx} : j ∈ slot3 s ↔ (j 0).val = s.val := by simp [slot3]

theorem slotRect4_set (s : Fin 2) : (Rect.unit (s := S2x8x8x128) ![s.val, 0, 0, 0] S1x8x8x128.size (slot4_inb s)).set = slot4 s := by
  ext j; rw [mem_slot4, Rect.mem_set_unit]
  have h1 := (j 1).isLt; have h2 := (j 2).isLt; have h3 := (j 3).isLt
  constructor
  · intro h; have := h 0; simp [S1x8x8x128] at this; omega
  · intro h a; fin_cases a
    · simp [S1x8x8x128]; omega
    all_goals simp [S1x8x8x128]; simpa using ‹_›
theorem slotRect3_set (s : Fin 2) : (Rect.unit (s := S2x8x1024) ![s.val, 0, 0] S1x8x1024.size (slot3_inb s)).set = slot3 s := by
  ext j; rw [mem_slot3, Rect.mem_set_unit]
  have h1 := (j 1).isLt; have h2 := (j 2).isLt
  constructor
  · intro h; have := h 0; simp [S1x8x1024] at this; omega
  · intro h a; fin_cases a
    · simp [S1x8x1024]; omega
    all_goals simp [S1x8x1024]; simpa using ‹_›

theorem inSlot_set_idx (s : Fin 2) : (inSlot idxV s).view.set = slot4 s := by
  show ((idxV.view.slice (Rect.unit (s := S2x8x8x128) ![s.val, 0, 0, 0] S1x8x8x128.size (slot4_inb s))).reshape S8x8x128 squeezes_S1x8x8x128_S8x8x128.numel_eq).set = _
  rw [View.set_reshape, View.set_slice, slotRect4_set]; exact Finset.map_refl
theorem inSlot_set_msk (s : Fin 2) : (inSlot mskV s).view.set = slot4 s := by
  show ((mskV.view.slice (Rect.unit (s := S2x8x8x128) ![s.val, 0, 0, 0] S1x8x8x128.size (slot4_inb s))).reshape S8x8x128 squeezes_S1x8x8x128_S8x8x128.numel_eq).set = _
  rw [View.set_reshape, View.set_slice, slotRect4_set]; exact Finset.map_refl
theorem stgSlot_set (s : Fin 2) : (stgSlot s).view.set = slot3 s := by
  show ((stgV.view.slice (Rect.unit (s := S2x8x1024) ![s.val, 0, 0] S1x8x1024.size (slot3_inb s))).reshape S8x1024 squeezes_S1x8x1024_S8x1024.numel_eq).set = _
  rw [View.set_reshape, View.set_slice, slotRect3_set]; exact Finset.map_refl

theorem laneRect_sub (s : Fin 2) (kr t2 t3 : Fin 8) : (laneRect s kr t2 t3).set ⊆ slot4 s := by
  intro j h; rw [Rect.mem_set_unit] at h
  have := h 0; rw [laneOff_eq] at this; rw [mem_slot4]; simp [S1x1x1x16] at this; omega
theorem stgRect_sub (s : Fin 2) (kr t2 t3 : Fin 8) : (stgRect s kr t2 t3).set ⊆ slot3 s := by
  intro j h; rw [Rect.mem_set_unit] at h
  have := h 0; rw [stgOff_eq] at this; rw [mem_slot3]; simp [S1x1x16] at this; omega

/-- A whole buffer's view places an index at itself. -/
theorem setOn_sub {b : Ref sig .scVector} {A B : Finset b.ty.shape.Idx} (h : A ⊆ B) : (View.whole b).setOn A ⊆ B := by
  show A.map (Function.Embedding.refl _) ⊆ B
  rw [Finset.map_refl]; exact h
theorem access_sub {b : Ref sig .scVector} {r : Rect b.ty.shape} {B : Finset b.ty.shape.Idx} (h : r.set ⊆ B) :
    ((View.whole b).slice r).setOn Finset.univ ⊆ B := by
  rw [View.setOn_univ, View.set_slice]
  show r.set.map (Function.Embedding.refl _) ⊆ B
  rw [Finset.map_refl]; exact h

/-! ## The staging buffer -/

/-- Storing a lane group's sixteen results makes one more lane group done. -/
theorem StgDone.step {LR : Vec F S8x32x2x128 .i32} {NI NM : Vec F S8x8x32x8x128 .i32} {TAB : Vec F S15 .f32} {b : Fin 8} {tc : Fin 32} {s : Fin 2}
    {kr t2 t3 : Fin 8} {f : Vec F S2x8x1024 .f32} (hf : StgDone LR NI NM TAB b tc s (64 * t2.val + 8 * t3.val + kr.val) f) {w : Vec F S1x1x16 .f32}
    (hw : ∀ x : Fin 16, w (ix3 0 0 x) = headOne LR NI NM TAB b t3 tc kr (lane t2 x)) :
    StgDone LR NI NM TAB b tc s (64 * t2.val + 8 * t3.val + kr.val + 1) ((stgV.access (stgRect s kr t2 t3)).write (Elt F) f w Finset.univ) := by
  intro kb kr' ln h
  by_cases e : ord kb kr' ln = 64 * t2.val + 8 * t3.val + kr.val
  · have hkb : kb = t3 := by apply Fin.ext; unfold ord at e; omega
    have hkr : kr' = kr := by apply Fin.ext; unfold ord at e; omega
    have hln : ln = lane t2 ⟨ln.val % 16, Nat.mod_lt _ (by decide)⟩ := by apply Fin.ext; unfold ord at e; simp; omega
    subst hkb hkr; rw [hln, ← stgRect_emb, ← hw]
    exact View.write_emb_of_mem (v := stgV.access (stgRect s kr' t2 kb)) (Val := Elt F) f w (Finset.mem_univ _)
  · rw [← hf kb kr' ln (by omega)]
    refine View.write_of_not_mem (v := stgV.access (stgRect s kr t2 t3)) (Val := Elt F) f w Finset.univ fun hm => e ?_
    have hm : ix3 s kb (place kr' ln) ∈ (stgRect s kr t2 t3).set := by
      have h' : (stgV.access (stgRect s kr t2 t3)).set = (stgRect s kr t2 t3).set := by
        show (stgV.view.slice _).set = _
        rw [View.set_slice]; exact Finset.map_refl
      rw [← h']; exact hm
    rw [Rect.mem_set_unit, stgOff_eq] at hm
    have h1 := hm 1; have h2 := hm 2
    simp [S1x1x16, place] at h1 h2
    unfold ord; omega

/-- The lookup table, its first `16 * g` entries built. -/
def LutDone (TAB : Vec F S15 .f32) (g : Nat) (f : Vec F S256 .f32) : Prop := ∀ x : Fin 256, x.val < 16 * g → f (ix1 x) = lutAt TAB x.val

/-- Storing sixteen entries makes one more lane group of the lookup table done. -/
theorem LutDone.step {TAB : Vec F S15 .f32} {g : Fin 16} {f : Vec F S256 .f32} (hf : LutDone TAB g.val f) {w : Vec F S16 .f32}
    (hw : ∀ x : Fin 16, w (ix1 x) = lutAt TAB (16 * g.val + x.val)) :
    LutDone TAB (g.val + 1) ((lutV.access (lutRect g)).write (Elt F) f w Finset.univ) := by
  intro x h
  by_cases e : x.val < 16 * g.val
  · rw [← hf x e]
    refine View.write_of_not_mem (v := lutV.access (lutRect g)) (Val := Elt F) f w Finset.univ fun hm => ?_
    have hm : ix1 x ∈ (lutRect g).set := by
      have h' : (lutV.access (lutRect g)).set = (lutRect g).set := by
        show (lutV.view.slice _).set = _
        rw [View.set_slice]; exact Finset.map_refl
      rw [← h']; exact hm
    rw [Rect.mem_set_unit] at hm
    have h0 : 16 * g.val ≤ x.val := (hm 0).1
    omega
  · have hx : ix1 x = (lutRect g).emb (ix1 ⟨x.val - 16 * g.val, by omega⟩) := by
      rw [lutRect_emb]; congr 1; apply Fin.ext; simp; omega
    rw [hx]
    refine (View.write_emb_of_mem (v := lutV.access (lutRect g)) (Val := Elt F) f w (Finset.mem_univ _)).trans ?_
    refine (hw _).trans ?_
    congr 1; simp; omega

end Cert.Proof.Span

end
-- ==== Proof.Span.Logic.lean ====
/-
  The program as the launch theorem sees it, the ghost state its proof uses, and what a tile's memory is called.
-/
module

public import proofs.«01_k».proof.Proof.Span.Places
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Batch
public import Idealize.ShloMosaic.Lib.Tactic

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type}

/-! ## The program as the launch theorem sees it -/

abbrev ΛP [FloatOps F] : Labels := Pipeline.Sig Λ₀ (Fin 0) fun p => (pcfgs (F := F) p).Adm
abbrev K [FloatOps F] : SparseCore.Cfg τ sig (ΛP (F := F)) 1 := sc (F := F)
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds, and the copies' counters -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
instance EH_landsIn : (EH : Emb UH 𝕄).LandsIn (upEmb : UEmb _ 𝕄) := by unfold EH; infer_instance

abbrev EC : UEmb Counters 𝕄 := countersEmb (U := UU)

/-! ## Tiles and their memory -/

abbrev cV (i : grid0.Coords) : Fin τ.nSC := (i 0).castLE hcore0
abbrev jV (i : grid0.Coords) : Fin τ.nSub := (i 1).castLE hsub0
/-- The tile at grid point `i` of device `d`. -/
abbrev tl (d : Dev nD) (i : grid0.Coords) : Thread nD τ := V d (cV i) (jV i)

variable [FloatOps F]

/-- What a tile's program is proved to do: the weakest precondition of program `p` of the tile at `i` of device `d`. -/
abbrev wpT (d : Dev nD) (i : grid0.Coords) {α : Type} (p : TP F i α) (Q : α → sProp 𝕄) : sProp 𝕄 :=
  wp frame (wpE (defs₀ (F := F)) 𝒱₀ (tl d i) none) Set.univ p Q

/-- A run of `n` fragments, by an invariant. -/
theorem wp_run (d : Dev nD) (i : grid0.Coords) : ∀ (n : Nat) (f : Fin n → TP F i PUnit) (I : Nat → sProp 𝕄)
    (_ : ∀ k : Fin n, I k.val ⊢ wpT d i (f k) fun _ => I (k.val + 1)), I 0 ⊢ wpT d i (run n f) fun _ => I n
  | 0, _, I, _ => by
    show I 0 ⊢ wpT d i (Prog.ret PUnit.unit : TP F i PUnit) fun _ => I 0
    iintro H; rw [wpT, wp_ret]; imodintro; iexact H
  | n + 1, f, I, h => by
    show I 0 ⊢ wpT d i (f 0 >>= fun _ => run n fun k => f k.succ) fun _ => I (n + 1)
    rw [wpT, wp_bind]
    refine (h 0).trans (wp_mono frame _ _ fun _ => ?_)
    exact wp_run d i n (fun k => f k.succ) (fun k => I (k + 1)) fun k => h k.succ

/-- A counted loop, by an invariant. -/
theorem wp_loop (d : Dev nD) (i : grid0.Coords) (l : Scf.Loop 32) (ok : l.OK) (body : Fin l.trips → PUnit → TP F i PUnit) (I : Nat → sProp 𝕄)
    (h : ∀ (k : Fin l.trips) (a : PUnit), I k.val ⊢ wpT d i (body k a) fun _ => I (k.val + 1)) {A B : sProp 𝕄} (hA : A ⊢ I 0) (hB : I l.trips ⊢ B) :
    A ⊢ wpT d i (Scf.Loop.for l ok ⟨⟩ body) fun _ => B := by
  iintro H
  iapply (Scf.wp_for frame (wpE (defs₀ (F := F)) 𝒱₀ (tl d i) none) Set.univ l.lb l.ub l.st ok ⟨⟩ body (fun k _ => I k) h)
  isplitl [H]; · iapply hA; iexact H
  iintro %b H; iapply hB; iexact H

/-- Two fragments in turn. -/
theorem wp_seq (d : Dev nD) (i : grid0.Coords) {p : TP F i PUnit} {q : PUnit → TP F i PUnit} {A B C : sProp 𝕄}
    (hp : A ⊢ wpT d i p fun _ => B) (hq : B ⊢ wpT d i (q ⟨⟩) fun _ => C) : A ⊢ wpT d i (p >>= q) fun _ => C := by
  rw [wpT, wp_bind]
  exact hp.trans (wp_mono frame _ _ fun _ => hq)

end Cert.Proof.Span

end
-- ==== Proof.Span.Lanes.lean ====
/-
  The lane groups: each group's sixteen results are the specification's, and a task's lanes fill its slot of the staging
  buffer with head 1's entries of the task's column.
-/
module

public import proofs.«01_k».proof.Proof.Span.Logic

@[expose] public section

set_option pp.maxSteps 200

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

variable (d : Dev nD) (i : grid0.Coords)
  (LR : Vec F S8x32x2x128 .i32) (NI NM : Vec F S8x8x32x8x128 .i32) (TAB : Vec F S15 .f32)

/-! ## A lane group's words -/

/-- The span words: every one is a position below 4096. -/
def Spans (LR : Vec F S8x32x2x128 .i32) : Prop := ∀ j, (LR j : BitVec 32).toNat < 4096

theorem nb_inb (v : Vec F S1x1x1x16 .i32) {e : BitVec 32} (he : e.toNat < 2) :
    ∀ a x, ((![nbCol v, broadcast S16 e, nbLane v] : Fin 3 → IVec S16 32) a x).toNat < S32x2x128.size a := by
  intro a x; fin_cases a
  · show (nbCol v x).toNat < 32
    rw [nbCol_apply]; exact Fin.isLt _
  · exact he
  · show (nbLane v x).toNat < 128
    rw [nbLane_apply]; exact Fin.isLt _

/-- What an indexed load of the spans reads: the word of the neighbour's own position. -/
theorem nb_load (b : Fin 8) (v : Vec F S1x1x1x16 .i32) (a : Fin 2) {e : BitVec 32} (he : e.toNat = a.val)
    (h : ∀ a x, ((![nbCol v, broadcast S16 e, nbLane v] : Fin 3 → IVec S16 32) a x).toNat < S32x2x128.size a) (x : Fin 16) :
    (loadIdx (lrOf LR b) ![nbCol v, broadcast S16 e, nbLane v] h : Vec F S16 .i32) (ix1 x)
      = LR (ix4 b (colOf (v (ix4 0 0 0 x))) a (laneOf (v (ix4 0 0 0 x)))) := by
  have e0 : idxAt ![nbCol v, broadcast S16 e, nbLane v] h (ix1 x) = ix3 (colOf (v (ix4 0 0 0 x))) a (laneOf (v (ix4 0 0 0 x))) := by
    funext c; apply Fin.ext; fin_cases c
    · exact nbCol_apply v (ix1 x)
    · exact he
    · exact nbLane_apply v (ix1 x)
  show lrOf LR b (idxAt _ h (ix1 x)) = _
  rw [e0]; rfl

theorem lut_load (w : IVec S16 32) (h : ∀ a x, ((![w] : Fin 1 → IVec S16 32) a x).toNat < S256.size a) (x : S16.Idx) :
    (loadIdx (lut TAB) ![w] h : Vec F S16 .f32) x = lutAt TAB (w x).toNat := rfl

/-! ## A task's working memory -/

/-- The tile's copies of the spans and the lookup table, slot `s` of the input buffers at column `t`'s words, and slot `s` of the
    staging buffer with the first `n` lane groups done. -/
def Work (t : Fin 8) (n : Nat) : sProp 𝕄 :=
  iprop(((tl d i).loc cc0_scratch0 ↦{fullShare} (lrOf LR (batF i)))
    ∗ ((tl d i).loc cc0_scratch2 ↦{fullShare} (lut TAB))
    ∗ (∃ f, ⌜InHolds NI (batF i) (colF i t) (slot t) f⌝ ∗ (tl d i).loc cc0_scratch3 ↦[slot4 (slot t)]{fullShare} f)
    ∗ (∃ f, ⌜InHolds NM (batF i) (colF i t) (slot t) f⌝ ∗ (tl d i).loc cc0_scratch4 ↦[slot4 (slot t)]{fullShare} f)
    ∗ ∃ f, ⌜StgDone LR NI NM TAB (batF i) (colF i t) (slot t) n f⌝ ∗ (tl d i).loc cc0_scratch5 ↦[slot3 (slot t)]{fullShare} f)

theorem Work.cast (t : Fin 8) {n n' : Nat} (e : n = n') : Work d i LR NI NM TAB t n ⊢ Work d i LR NI NM TAB t n' := by rw [e]

theorem group_wp (hLR : Spans LR) (t t2 t3 kr : Fin 8) (l r : Vec F S16 .i32)
    (hl : ∀ x : Fin 16, l (ix1 x) = LR (ix4 (batF i) (colF i t) 0 (lane t2 x)))
    (hr : ∀ x : Fin 16, r (ix1 x) = LR (ix4 (batF i) (colF i t) 1 (lane t2 x))) :
    Work d i LR NI NM TAB t (64 * t2.val + 8 * t3.val + kr.val)
      ⊢ wpT d i (group i (slot t) l r t2 t3 kr) fun _ => Work d i LR NI NM TAB t (64 * t2.val + 8 * t3.val + kr.val + 1) := by
  unfold Work wpT group
  simp only [Prog.lift, Prog.bind_op, Prog.bind_ret, Prog.pure_eq_ret]
  iintro ⟨Hlr, Hlut, ⟨%fi, %hi, Hi⟩, ⟨%fm, %hm, Hm⟩, ⟨%fs, %hs, Hs⟩⟩
  iapply (wp_load 𝒱₀ (tl d i) none Set.univ (m := idxV) (S := slot4 (slot t)) (setOn_sub (laneRect_sub (slot t) kr t2 t3))) $$ Hi; iintro Hi
  have hv : ∀ x : Fin 16, idxV.view.readAt (Elt F) (laneRect (slot t) kr t2 t3).toLoadRect fi (ix4 0 0 0 x)
      = NI (ix5 (batF i) t3 (colF i t) kr (lane t2 x)) := fun x =>
    (congrArg fi (laneRect_emb (slot t) kr t2 t3 x)).trans (hi t3 kr (lane t2 x))
  generalize idxV.view.readAt (Elt F) (laneRect (slot t) kr t2 t3).toLoadRect fi = v at hv ⊢
  have h17 : k0_chk17 (nbCol v) (nbLane v) (broadcast S16 0#32) := nb_inb v (by decide)
  have h18 : k0_chk18 (nbCol v) (nbLane v) (broadcast S16 1#32) := nb_inb v (by decide)
  rw [wp_assume_of _ _ _ _ h17]
  iapply (SparseCore.wp_vectorLoadIdx 𝒱₀ (tl d i) none Set.univ (base := lrV) (S := Finset.univ) (q := fullShare) (Finset.subset_univ _)) $$ Hlr; iintro Hlr
  have er : View.read (Elt F) (lrV.access (Rect.whole S32x2x128)) (lrOf LR (batF i)) = lrOf LR (batF i) := Memref.read_access_whole _ _ _
  rw [er]
  have hlj := fun x => nb_load LR (batF i) v 0 (e := 0#32) rfl (k0_idx17_inb _ _ _ h17) x
  generalize loadIdx (lrOf LR (batF i)) ![nbCol v, broadcast S16 0#32, nbLane v] (k0_idx17_inb _ _ _ h17) = lj at hlj ⊢
  rw [wp_assume_of _ _ _ _ h18]
  iapply (SparseCore.wp_vectorLoadIdx 𝒱₀ (tl d i) none Set.univ (base := lrV) (S := Finset.univ) (q := fullShare) (Finset.subset_univ _)) $$ Hlr; iintro Hlr
  rw [er]
  have hrj := fun x => nb_load LR (batF i) v 1 (e := 1#32) rfl (k0_idx18_inb _ _ _ h18) x
  generalize loadIdx (lrOf LR (batF i)) ![nbCol v, broadcast S16 1#32, nbLane v] (k0_idx18_inb _ _ _ h18) = rj at hrj ⊢
  have hd : ∀ x : Fin 16, distVec (F := F) l r lj rj (ix1 x) = dist (l (ix1 x)) (r (ix1 x)) (lj (ix1 x)) (rj (ix1 x)) := fun _ => rfl
  have h19 : k0_chk19 (distVec (F := F) l r lj rj) := by
    intro a x
    obtain rfl : a = 0 := Fin.fin_one_eq_zero a
    show (distVec (F := F) l r lj rj x).toNat < 256
    obtain ⟨y, rfl⟩ : ∃ y : Fin 16, x = ix1 y := ⟨x 0, ValueIdx.eq_ix1 x⟩
    rw [hd, hl, hr, hlj, hrj]
    exact dist_lt (hLR _) (hLR _) (hLR _) (hLR _)
  rw [wp_assume_of _ _ _ _ h19]
  iapply (SparseCore.wp_vectorLoadIdx 𝒱₀ (tl d i) none Set.univ (base := lutV) (S := Finset.univ) (q := fullShare) (Finset.subset_univ _)) $$ Hlut; iintro Hlut
  rw [show View.read (Elt F) (lutV.access (Rect.whole S256)) (lut TAB) = lut TAB from Memref.read_access_whole _ _ _]
  have hu : ∀ x : Fin 16, (loadIdx (lut TAB) ![distVec (F := F) l r lj rj] (k0_idx19_inb _ h19) : Vec F S16 .f32) (ix1 x)
      = lutAt TAB (distVec (F := F) l r lj rj (ix1 x)).toNat := fun _ => rfl
  generalize (loadIdx (lut TAB) ![distVec (F := F) l r lj rj] (k0_idx19_inb _ h19) : Vec F S16 .f32) = u at hu ⊢
  iapply (wp_load 𝒱₀ (tl d i) none Set.univ (m := mskV) (S := slot4 (slot t)) (setOn_sub (laneRect_sub (slot t) kr t2 t3))) $$ Hm; iintro Hm
  have hk : ∀ x : Fin 16, mskV.view.readAt (Elt F) (laneRect (slot t) kr t2 t3).toLoadRect fm (ix4 0 0 0 x)
      = NM (ix5 (batF i) t3 (colF i t) kr (lane t2 x)) := fun x =>
    (congrArg fm (laneRect_emb (slot t) kr t2 t3 x)).trans (hm t3 kr (lane t2 x))
  generalize mskV.view.readAt (Elt F) (laneRect (slot t) kr t2 t3).toLoadRect fm = k at hk ⊢
  iapply (wp_load 𝒱₀ (tl d i) none Set.univ (m := stgV) (S := slot3 (slot t)) (setOn_sub (stgRect_sub (slot t) kr t2 t3))) $$ Hs; iintro Hs
  iapply (wp_store 𝒱₀ (tl d i) none Set.univ (m := stgV) (r := stgRect (slot t) kr t2 t3) (Mk := Finset.univ) (S := slot3 (slot t)) (access_sub (stgRect_sub (slot t) kr t2 t3))) $$ Hs; iintro Hs
  rw [wp_ret]; imodintro
  isplitl [Hlr]; · iexact Hlr
  isplitl [Hlut]; · iexact Hlut
  isplitl [Hi]
  · iexists fi; isplitr; · ipureintro; exact hi
    iexact Hi
  isplitl [Hm]
  · iexists fm; isplitr; · ipureintro; exact hm
    iexact Hm
  iexists _; isplitr; swap; · iexact Hs
  ipureintro
  refine StgDone.step hs fun x => ?_
  rw [uncast3_apply]
  show FloatOps.mulf (u (ix1 x)) (FloatOps.sitofp .f32 (shapeCast S16 k shapeCasts_S1x1x1x16_S16 (ix1 x))) = _
  rw [hu, hd, hl, hr, hlj, hrj, cast4_apply]
  show FloatOps.mulf _ (FloatOps.sitofp .f32 (k (ix4 0 0 0 x))) = _
  rw [hk, hv]; rfl

/-- One row: its eight neighbours. -/
theorem row_wp (hLR : Spans LR) (t t2 t3 : Fin 8) (l r : Vec F S1x1x16 .i32)
    (hl : ∀ x : Fin 16, l (ix3 0 0 x) = LR (ix4 (batF i) (colF i t) 0 (lane t2 x)))
    (hr : ∀ x : Fin 16, r (ix3 0 0 x) = LR (ix4 (batF i) (colF i t) 1 (lane t2 x))) (a : PUnit) :
    Work d i LR NI NM TAB t (64 * t2.val + 8 * t3.val)
      ⊢ wpT d i (rowBody i (slot t) l r t2 t3 a) fun _ => Work d i LR NI NM TAB t (64 * t2.val + 8 * (t3.val + 1)) :=
  wp_run d i 8 _ (fun k => Work d i LR NI NM TAB t (64 * t2.val + 8 * t3.val + k)) fun kr =>
    group_wp d i LR NI NM TAB hLR t t2 t3 kr _ _ (fun x => (cast3_apply l _ _).trans (hl x)) fun x => (cast3_apply r _ _).trans (hr x)

theorem t2_trips : k0_t2_loop.trips = 8 := by decide +kernel
theorem t3_trips : k0_t3_loop.trips = 8 := by decide +kernel

/-- The eight rows of a lane group. -/
theorem rows_wp (hLR : Spans LR) (t t2 : Fin 8) (l r : Vec F S1x1x16 .i32)
    (hl : ∀ x : Fin 16, l (ix3 0 0 x) = LR (ix4 (batF i) (colF i t) 0 (lane t2 x)))
    (hr : ∀ x : Fin 16, r (ix3 0 0 x) = LR (ix4 (batF i) (colF i t) 1 (lane t2 x))) :
    Work d i LR NI NM TAB t (64 * t2.val)
      ⊢ wpT d i (Scf.Loop.for k0_t3_loop k0_t3_ok ⟨⟩ (rowBody i (slot t) l r t2)) fun _ => Work d i LR NI NM TAB t (64 * (t2.val + 1)) :=
  wp_loop d i k0_t3_loop k0_t3_ok (rowBody i (slot t) l r t2) (fun n => Work d i LR NI NM TAB t (64 * t2.val + 8 * n))
    (fun t3 a => row_wp d i LR NI NM TAB hLR t t2 t3 l r hl hr a) (Work.cast d i LR NI NM TAB t (by omega))
    (Work.cast d i LR NI NM TAB t (by rw [t3_trips]; omega))

/-- Loading the left (`a = 0`) or right (`a = 1`) ends of a lane group's own positions. -/
theorem ends_wp (t t2 : Fin 8) (a : Fin 2) (n : Nat) {α : Type} (p : Vec F S1x1x16 .i32 → TP F i α) (Q : α → sProp 𝕄)
    (hp : ∀ l : Vec F S1x1x16 .i32, (∀ x : Fin 16, l (ix3 0 0 x) = LR (ix4 (batF i) (colF i t) a (lane t2 x))) →
      Work d i LR NI NM TAB t n ⊢ wpT d i (p l) Q) :
    Work d i LR NI NM TAB t n ⊢ wpT d i (.op (.load lrV (endRect i t a t2).toLoadRect (View.loadsAt_vmem h_S1x1x16)) p) Q := by
  have h := hp (lrV.view.readAt (Elt F) (endRect i t a t2).toLoadRect (lrOf LR (batF i))) fun x => congrArg (lrOf LR (batF i)) (endRect_emb i t a t2 x)
  unfold Work at h ⊢
  iintro ⟨Hlr, H⟩
  iapply (wp_load 𝒱₀ (tl d i) none Set.univ (m := lrV) (S := Finset.univ) (Finset.subset_univ _)) $$ Hlr; iintro Hlr
  iapply h
  isplitl [Hlr]; · iexact Hlr
  iexact H

/-- One lane group: its positions' own ends, then the eight rows. -/
theorem laneBody_wp (hLR : Spans LR) (t t2 : Fin 8) (a : PUnit) :
    Work d i LR NI NM TAB t (64 * t2.val)
      ⊢ wpT d i (laneBody i t t2 a) fun _ => Work d i LR NI NM TAB t (64 * (t2.val + 1)) :=
  ends_wp d i LR NI NM TAB t t2 0 _ _ _ fun l hl => ends_wp d i LR NI NM TAB t t2 1 _ _ _ fun r hr =>
    wp_seq d i (rows_wp d i LR NI NM TAB hLR t t2 l r hl hr) (by rw [wpT, Prog.pure_eq_ret, wp_ret]; exact fupd_intro)

/-- A task's results: from a free slot of the staging buffer to one with every lane group done. -/
theorem lanes_wp (hLR : Spans LR) (t : Fin 8) :
    Work d i LR NI NM TAB t 0 ⊢ wpT d i (lanes i t) fun _ => Work d i LR NI NM TAB t 512 :=
  wp_loop d i k0_t2_loop k0_t2_ok (laneBody i t) (fun n => Work d i LR NI NM TAB t (64 * n))
    (fun t2 a => laneBody_wp d i LR NI NM TAB hLR t t2 a) (Work.cast d i LR NI NM TAB t rfl) (Work.cast d i LR NI NM TAB t (by rw [t2_trips]))

end Cert.Proof.Span

end
-- ==== Proof.Span.Blocks.lean ====
/-
  The windows the tile copies from and to: where each of their entries lies in its array, and what a copy leaves there.
-/
module

public import proofs.«01_k».proof.Proof.Span.Places

@[expose] public section

noncomputable section

namespace Cert.Proof.Span

open Cert.Kernel Cert.Kernel.Gen Idealize.SL.Sem Idealize.ShloMosaic.ValueIdx
open Idealize.ShloMosaic hiding ix1 ix2 ix3 ix4 ix5

attribute [local instance] Cert.Kernel.Gen.facts

variable {F : FTy → Type} [FloatOps F]

/-! ## Where a window's entries lie -/

theorem outWin_emb (i : grid0.Coords) (row : Nat) (hr : row + 8 ≤ 128) (t : Fin 8) (a : Fin 8) (b : Fin 1024) :
    (outWin i row hr t).view.emb (ix2 a b) = ix4 (batF i) ⟨row + a.val, by omega⟩ (colF i t) b := by
  show (Rect.unit (s := S8x128x32x1024) (outOff i row t.val) S1x8x1x1024.size (outOff_inb i row hr t)).emb
    (Shape.reshapeEquiv squeezes_S1x8x1x1024_S8x1024.numel_eq (ix2 a b)) = _
  rw [show Shape.reshapeEquiv squeezes_S1x8x1x1024_S8x1024.numel_eq (ix2 a b) = ix4 0 a 0 b from Shape.reshapeEquiv_eq_of_vals _ (ix2 a b) (ix4 0 a 0 b) (a.val * 1024 + b.val) (a.val * 1024 + b.val)
    ((Shape.rowMajor_val_four (d := ![1, 8, 1, 1024]) (ix4 0 a 0 b)).trans (by simp)) ((Shape.rowMajor_val_two (d := ![8, 1024]) (ix2 a b)).trans (by simp)) rfl]
  funext c; apply Fin.ext; rw [Rect.emb_apply]
  show outOff i row t.val c + 1 * _ = _
  rw [congrFun (outOff_eq i row t) c]; fin_cases c <;> simp

theorem stgSlot_emb (s : Fin 2) (a : Fin 8) (b : Fin 1024) : (stgSlot s).view.emb (ix2 a b) = ix3 s a b := by
  show (Rect.unit (s := S2x8x1024) ![s.val, 0, 0] S1x8x1024.size (slot3_inb s)).emb
    (Shape.reshapeEquiv squeezes_S1x8x1024_S8x1024.numel_eq (ix2 a b)) = _
  rw [show Shape.reshapeEquiv squeezes_S1x8x1024_S8x1024.numel_eq (ix2 a b) = ix3 0 a b from Shape.reshapeEquiv_eq_of_vals _ (ix2 a b) (ix3 0 a b) (a.val * 1024 + b.val) (a.val * 1024 + b.val)
    ((Shape.rowMajor_val_three (d := ![1, 8, 1024]) (ix3 0 a b)).trans (by simp)) ((Shape.rowMajor_val_two (d := ![8, 1024]) (ix2 a b)).trans (by simp)) rfl]
  funext c; apply Fin.ext; rw [Rect.emb_apply]
  show (![s.val, 0, 0] : Fin 3 → Nat) c + 1 * _ = _
  fin_cases c <;> simp

/-- A task's rectangle of an input array, and a slot's of an input buffer, read as eight rows of eight neighbours of 128 positions. -/
theorem inRect_emb (i : grid0.Coords) (t a b : Fin 8) (c : Fin 128) :
    (Rect.unit (s := S8x8x32x8x128) (inOff i t.val) S1x8x1x8x128.size (inOff_inb i t)).emb
      (Shape.reshapeEquiv squeezes_S1x8x1x8x128_S8x8x128.numel_eq (ix3 a b c)) = ix5 (batF i) a (colF i t) b c := by
  rw [show Shape.reshapeEquiv squeezes_S1x8x1x8x128_S8x8x128.numel_eq (ix3 a b c) = ix5 0 a 0 b c from Shape.reshapeEquiv_eq_of_vals _ (ix3 a b c) (ix5 0 a 0 b c) ((a.val * 8 + b.val) * 128 + c.val) ((a.val * 8 + b.val) * 128 + c.val)
    ((Shape.rowMajor_val_five (d := ![1, 8, 1, 8, 128]) (ix5 0 a 0 b c)).trans (by simp)) ((Shape.rowMajor_val_three (d := ![8, 8, 128]) (ix3 a b c)).trans (by simp)) rfl]
  funext e; apply Fin.ext; rw [Rect.emb_apply]
  show inOff i t.val e + 1 * _ = _
  rw [congrFun (inOff_eq i t) e]; fin_cases e <;> simp
theorem slotRect4_emb (s : Fin 2) (a b : Fin 8) (c : Fin 128) :
    (Rect.unit (s := S2x8x8x128) ![s.val, 0, 0, 0] S1x8x8x128.size (slot4_inb s)).emb
      (Shape.reshapeEquiv squeezes_S1x8x8x128_S8x8x128.numel_eq (ix3 a b c)) = ix4 s a b c := by
  rw [show Shape.reshapeEquiv squeezes_S1x8x8x128_S8x8x128.numel_eq (ix3 a b c) = ix4 0 a b c from Shape.reshapeEquiv_eq_of_vals _ (ix3 a b c) (ix4 0 a b c) ((a.val * 8 + b.val) * 128 + c.val) ((a.val * 8 + b.val) * 128 + c.val)
    ((Shape.rowMajor_val_four (d := ![1, 8, 8, 128]) (ix4 0 a b c)).trans (by simp)) ((Shape.rowMajor_val_three (d := ![8, 8, 128]) (ix3 a b c)).trans (by simp)) rfl]
  funext e; apply Fin.ext; rw [Rect.emb_apply]
  show (![s.val, 0, 0, 0] : Fin 4 → Nat) e + 1 * _ = _
  fin_cases e <;> simp

/-- The batch's window of the span array. -/
abbrev lrWin (i : grid0.Coords) : Memref sig .scVector .hbm S32x2x128 .i32 :=
  (lrH.slice (Rect.unit (s := S8x32x2x128) (lrOff i) S1x32x2x128.size (lrOff_inb i)) (fun _ => rfl)).squeeze S32x2x128 squeezes_S1x32x2x128_S32x2x128

theorem lrWin_emb (i : grid0.Coords) (a : Fin 32) (b : Fin 2) (c : Fin 128) : (lrWin i).view.emb (ix3 a b c) = ix4 (batF i) a b c := by
  show (Rect.unit (s := S8x32x2x128) (lrOff i) S1x32x2x128.size (lrOff_inb i)).emb
    (Shape.reshapeEquiv squeezes_S1x32x2x128_S32x2x128.numel_eq (ix3 a b c)) = _
  rw [show Shape.reshapeEquiv squeezes_S1x32x2x128_S32x2x128.numel_eq (ix3 a b c) = ix4 0 a b c from Shape.reshapeEquiv_eq_of_vals _ (ix3 a b c) (ix4 0 a b c) ((a.val * 2 + b.val) * 128 + c.val) ((a.val * 2 + b.val) * 128 + c.val)
    ((Shape.rowMajor_val_four (d := ![1, 32, 2, 128]) (ix4 0 a b c)).trans (by simp)) ((Shape.rowMajor_val_three (d := ![32, 2, 128]) (ix3 a b c)).trans (by simp)) rfl]
  funext e; apply Fin.ext; rw [Rect.emb_apply]
  show lrOff i e + 1 * _ = _
  rw [congrFun (lrOff_eq i) e]; fin_cases e <;> simp

/-! ## What the input copies leave -/

theorem lr_read (i : grid0.Coords) (LR : Vec F S8x32x2x128 .i32) : (lrWin i).view.read (Elt F) LR = lrOf LR (batF i) := by
  funext y
  obtain ⟨a, b, c, rfl⟩ : ∃ (a : Fin 32) (b : Fin 2) (c : Fin 128), y = ix3 a b c := ⟨y 0, y 1, y 2, ValueIdx.eq_ix3 y⟩
  exact congrArg LR (lrWin_emb i a b c)

theorem idx_holds (i : grid0.Coords) (t : Fin 8) (A : Vec F S8x8x32x8x128 .i32) (f : Vec F S2x8x8x128 .i32) :
    InHolds A (batF i) (colF i t) (slot t) ((inSlot idxV (slot t)).view.write (Elt F) f ((inWin i niH t).view.read (Elt F) A) Finset.univ) := by
  intro a b c
  have e : (inSlot idxV (slot t)).view.emb (ix3 a b c) = ix4 (slot t) a b c := slotRect4_emb (slot t) a b c
  rw [← e]
  refine (View.write_emb_of_mem (v := (inSlot idxV (slot t)).view) (Val := Elt F) f _ (Finset.mem_univ _)).trans ?_
  exact congrArg A (inRect_emb i t a b c)
theorem msk_holds (i : grid0.Coords) (t : Fin 8) (A : Vec F S8x8x32x8x128 .i32) (f : Vec F S2x8x8x128 .i32) :
    InHolds A (batF i) (colF i t) (slot t) ((inSlot mskV (slot t)).view.write (Elt F) f ((inWin i nmH t).view.read (Elt F) A) Finset.univ) := by
  intro a b c
  have e : (inSlot mskV (slot t)).view.emb (ix3 a b c) = ix4 (slot t) a b c := slotRect4_emb (slot t) a b c
  rw [← e]
  refine (View.write_emb_of_mem (v := (inSlot mskV (slot t)).view) (Val := Elt F) f _ (Finset.mem_univ _)).trans ?_
  exact congrArg A (inRect_emb i t a b c)

/-! ## The result's blocks -/

/-- Row block `rb` (eight rows) of tile `i`'s column at task `t`. -/
def blk (i : grid0.Coords) (rb : Nat) (t : Fin 8) : Finset S8x128x32x1024.Idx :=
  Finset.univ.filter fun j => (j 0).val = bat i ∧ (j 1).val / 8 = rb ∧ (j 2).val = col0 i + t.val

theorem mem_blk {i : grid0.Coords} {rb : Nat} {t : Fin 8} {j : S8x128x32x1024.Idx} :
    j ∈ blk i rb t ↔ (j 0).val = bat i ∧ (j 1).val / 8 = rb ∧ (j 2).val = col0 i + t.val := by simp [blk]

theorem outWin_set (i : grid0.Coords) (row : Nat) (hr : row + 8 ≤ 128) (t : Fin 8) {rb : Nat} (h : row = 8 * rb) :
    (outWin i row hr t).view.set = blk i rb t := by
  have e : (outWin i row hr t).view.set = (Rect.unit (s := S8x128x32x1024) (outOff i row t.val) S1x8x1x1024.size (outOff_inb i row hr t)).set := by
    show ((outH.view.slice (Rect.unit (s := S8x128x32x1024) (outOff i row t.val) S1x8x1x1024.size (outOff_inb i row hr t))).reshape S8x1024 squeezes_S1x8x1x1024_S8x1024.numel_eq).set = _
    rw [View.set_reshape, View.set_slice]; exact Finset.map_refl
  rw [e]; ext j; rw [mem_blk, Rect.mem_set_unit]
  have h3 : (j 3).val < 1024 := (j 3).isLt
  constructor
  · intro g; have g0 := g 0; have g1 := g 1; have g2 := g 2
    rw [outOff_eq] at g0 g1 g2; simp [S1x8x1x1024] at g0 g1 g2
    exact ⟨by omega, by omega, by omega⟩
  · rintro ⟨g0, g1, g2⟩ c; rw [outOff_eq]; fin_cases c
    · simp [S1x8x1x1024]; omega
    · simp [S1x8x1x1024]; omega
    · simp [S1x8x1x1024]; omega
    · simpa [S1x8x1x1024] using h3

theorem eight_le : 8 + 8 ≤ 128 := by decide

theorem zRow_eq (h : Fin 15) : zRow h.val = 8 * (zRow h.val / 8) := by revert h; decide

variable (LR : Vec F S8x32x2x128 .i32) (NI NM : Vec F S8x8x32x8x128 .i32) (TAB : Vec F S15 .f32)

/-- A copy of zeros leaves the result's entries. -/
theorem zero_copy (i : grid0.Coords) (t : Fin 8) (h : Fin 15) (f : Vec F S8x128x32x1024 .f32) :
    ∀ j ∈ blk i (zRow h.val / 8) t,
      (outWin i (zRow h.val) (zRow_le h) t).view.write (Elt F) f (zeroV.view.read (Elt F) fun _ => zeroF) Finset.univ j = result LR NI NM TAB j := by
  intro j hj
  have h1 : (j 1).val / 8 ≠ 1 := by
    rw [(mem_blk.mp hj).2.1]; clear hj; revert h; decide
  have hj : j ∈ (outWin i (zRow h.val) (zRow_le h) t).view.set := by rw [outWin_set i _ (zRow_le h) t (zRow_eq h)]; exact hj
  obtain ⟨x, -, rfl⟩ := Finset.mem_map.mp hj
  refine (View.write_emb_of_mem (v := (outWin i (zRow h.val) (zRow_le h) t).view) (Val := Elt F) f _ (Finset.mem_univ _)).trans ?_
  unfold result; rw [if_neg h1]; rfl

/-- A copy of a finished staging slot leaves the result's entries. -/
theorem head_copy (i : grid0.Coords) (t : Fin 8) (f : Vec F S8x128x32x1024 .f32) {g : Vec F S2x8x1024 .f32}
    (hg : StgDone LR NI NM TAB (batF i) (colF i t) (slot t) 512 g) :
    ∀ j ∈ blk i 1 t,
      (outWin i 8 eight_le t).view.write (Elt F) f ((stgSlot (slot t)).view.read (Elt F) g) Finset.univ j = result LR NI NM TAB j := by
  intro j hj
  have hj : j ∈ (outWin i 8 eight_le t).view.set := by rw [outWin_set i 8 eight_le t (rb := 1) rfl]; exact hj
  obtain ⟨x, -, rfl⟩ := Finset.mem_map.mp hj
  obtain ⟨a, b, rfl⟩ : ∃ (a : Fin 8) (b : Fin 1024), x = ix2 a b := ⟨x 0, x 1, ValueIdx.eq_ix2 x⟩
  refine (View.write_emb_of_mem (v := (outWin i 8 eight_le t).view) (Val := Elt F) f _ (Finset.mem_univ _)).trans ?_
  have hb : place ⟨b.val / 128, by omega⟩ ⟨b.val % 128, Nat.mod_lt _ (by decide)⟩ = b := by
    apply Fin.ext; show 128 * (b.val / 128) + b.val % 128 = b.val; omega
  have e1 : (stgSlot (slot t)).view.read (Elt F) g (ix2 a b) = g (ix3 (slot t) a b) := congrArg g (stgSlot_emb (slot t) a b)
  have e2 := hg a ⟨b.val / 128, by omega⟩ ⟨b.val % 128, Nat.mod_lt _ (by decide)⟩ (by unfold ord; simp; omega)
  rw [hb] at e2
  rw [e1, e2, outWin_emb]
  unfold result
  have hif : (8 + a.val) / 8 = 1 := by omega
  show _ = if (8 + a.val) / 8 = 1 then _ else _
  rw [if_pos hif]
  have ha : (Fin.ofNat 8 (8 + a.val) : Fin 8) = a := by apply Fin.ext; show (8 + a.val) % 8 = a.val; omega
  have hk : (Fin.ofNat 8 (b.val / 128) : Fin 8) = ⟨b.val / 128, by omega⟩ := by apply Fin.ext; show b.val / 128 % 8 = b.val / 128; omega
  show _ = headOne LR NI NM TAB (batF i) (Fin.ofNat 8 (8 + a.val)) (colF i t) (Fin.ofNat 8 (b.val / 128)) (Fin.ofNat 128 b.val)
  rw [ha, hk]; rfl

/-! ## The buffer of zeros -/

/-- The first `n` groups of sixteen places are zero. -/
def ZeroDone (n : Nat) (f : Vec F S8x1024 .f32) : Prop := ∀ (a : Fin 8) (b : Fin 1024), 64 * a.val + b.val / 16 < n → f (ix2 a b) = zeroF

theorem t1_trips : k0_t1_loop.trips = 512 := by decide +kernel

theorem zOff_eq (k : Fin 512) : k0_off2 (k.cast t1_trips.symm) = ![k.val / 64, 16 * (k.val % 64)] := by
  revert k; decide +kernel

end Cert.Proof.Span

end
-- ==== Proof.Span.Fill.lean ====
/-
  What the tile prepares in its own memory: the lookup table and the buffer of zeros.
-/
module

public import proofs.«01_k».proof.Proof.Span.Lanes
public import proofs.«01_k».proof.Proof.Span.Blocks

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

variable (d : Dev nD) (i : grid0.Coords) (TAB : Vec F S15 .f32)

/-! ## The lookup table -/

theorem bucket_ofNat (g x : Fin 16) : (bucket (BitVec.ofNat 32 (16 * g.val + x.val))).toNat < 15 := bucket_lt ⟨16 * g.val + x.val, by omega⟩

theorem bucketVec_inb (g : Fin 16) : ∀ a x, ((![bucketVec g.val] : Fin 1 → IVec S16 32) a x).toNat < S15.size a := by
  intro a x
  obtain rfl : a = 0 := Fin.fin_one_eq_zero a
  show (bucketVec g.val x).toNat < 15
  rw [bucketVec_apply]; exact bucket_ofNat g (x 0)

theorem tab_load (g : Fin 16) (h : ∀ a x, ((![bucketVec g.val] : Fin 1 → IVec S16 32) a x).toNat < S15.size a) (x : Fin 16) :
    scaled (loadIdx TAB ![bucketVec g.val] h : Vec F S16 .f32) (ix1 x) = lutAt TAB (16 * g.val + x.val) := by
  have e : idxAt ![bucketVec g.val] h (ix1 x) = ix1 (Fin.ofNat 15 (bucket (BitVec.ofNat 32 (16 * g.val + x.val))).toNat) := by
    funext c; apply Fin.ext
    obtain rfl : c = 0 := Fin.fin_one_eq_zero c
    show (bucketVec g.val (ix1 x)).toNat = (bucket (BitVec.ofNat 32 (16 * g.val + x.val))).toNat % 15
    rw [bucketVec_apply, Nat.mod_eq_of_lt (bucket_ofNat g x)]
  show FloatOps.mulf (TAB (idxAt _ h (ix1 x))) _ = _
  rw [e]; rfl

/-- The tile's copy of the table, and the lookup table with its first `16 * n` entries built. -/
def Lut (n : Nat) : sProp 𝕄 :=
  iprop(((tl d i).loc cc0_scratch1 ↦{fullShare} TAB) ∗ ∃ f, ⌜LutDone TAB n f⌝ ∗ (tl d i).loc cc0_scratch2 ↦{fullShare} f)

theorem lutStep_wp (g : Fin 16) : Lut d i TAB g.val ⊢ wpT d i (lutStep i g) fun _ => Lut d i TAB (g.val + 1) := by
  unfold Lut wpT lutStep
  simp only [Prog.lift, Prog.bind_op, Prog.bind_ret, Prog.pure_eq_ret]
  iintro ⟨Ht, ⟨%f, %hf, Hl⟩⟩
  have h1 : k0_chk1 (bucketVec g.val) := bucketVec_inb g
  rw [wp_assume_of _ _ _ _ h1]
  iapply (SparseCore.wp_vectorLoadIdx 𝒱₀ (tl d i) none Set.univ (base := tabV) (S := Finset.univ) (q := fullShare) (Finset.subset_univ _)) $$ Ht; iintro Ht
  rw [show View.read (Elt F) (tabV.access (Rect.whole S15)) TAB = TAB from Memref.read_access_whole _ _ _]
  have hw := tab_load TAB g (k0_idx1_inb _ h1)
  generalize (loadIdx TAB ![bucketVec g.val] (k0_idx1_inb _ h1) : Vec F S16 .f32) = v at hw ⊢
  iapply (wp_load 𝒱₀ (tl d i) none Set.univ (m := lutV) (S := Finset.univ) (Finset.subset_univ _)) $$ Hl; iintro Hl
  iapply (wp_store 𝒱₀ (tl d i) none Set.univ (m := lutV) (r := lutRect g) (Mk := Finset.univ) (S := Finset.univ) (Finset.subset_univ _)) $$ Hl; iintro Hl
  rw [wp_ret]; imodintro
  isplitl [Ht]; · iexact Ht
  iexists _; isplitr; swap; · iexact Hl
  ipureintro
  exact LutDone.step hf hw

/-- The lookup table, from whatever its buffer held. -/
theorem lut_wp (f : Vec F S256 .f32) :
    iprop(((tl d i).loc cc0_scratch1 ↦{fullShare} TAB) ∗ ((tl d i).loc cc0_scratch2 ↦{fullShare} f))
      ⊢ wpT d i (run 16 (lutStep i)) fun _ => iprop(((tl d i).loc cc0_scratch1 ↦{fullShare} TAB) ∗ ((tl d i).loc cc0_scratch2 ↦{fullShare} (lut TAB))) := by
  have h0 : iprop(((tl d i).loc cc0_scratch1 ↦{fullShare} TAB) ∗ ((tl d i).loc cc0_scratch2 ↦{fullShare} f)) ⊢ Lut d i TAB 0 := by
    unfold Lut
    iintro ⟨Ht, Hl⟩; isplitl [Ht]; · iexact Ht
    iexists f; isplitr; swap; · iexact Hl
    ipureintro; intro x h; omega
  refine (h0.trans (wp_run d i 16 (lutStep i) (Lut d i TAB) (lutStep_wp d i TAB))).trans (wp_mono frame _ _ fun _ => ?_)
  unfold Lut
  iintro ⟨Ht, ⟨%g, %hg, Hl⟩⟩
  have e : g = lut TAB := by
    funext x
    obtain ⟨y, rfl⟩ : ∃ y : Fin 256, x = ix1 y := ⟨x 0, ValueIdx.eq_ix1 x⟩
    exact hg y (by omega)
  subst e
  isplitl [Ht]; · iexact Ht
  iexact Hl

/-! ## The buffer of zeros -/

abbrev zRect (k : Fin k0_t1_loop.trips) : Rect S8x1024 := Rect.unit (s := S8x1024) (k0_off2 k) S1x16.size (k0_off2_inb k)

theorem ZeroDone.step {n : Nat} (hn : n < 512) (k : Fin k0_t1_loop.trips) (hk : k0_off2 k = ![n / 64, 16 * (n % 64)])
    {f : Vec F S8x1024 .f32} (hf : ZeroDone n f) {w : Vec F S1x16 .f32} (hw : ∀ y, w y = zeroF) :
    ZeroDone (n + 1) ((zeroV.access (zRect k)).write (Elt F) f w Finset.univ) := by
  intro a b h
  have hs : (zeroV.access (zRect k)).set = (zRect k).set := by
    show (zeroV.view.slice _).set = _
    rw [View.set_slice]; exact Finset.map_refl
  by_cases e : ix2 a b ∈ (zeroV.access (zRect k)).set
  · obtain ⟨x, -, hx⟩ := Finset.mem_map.mp e
    rw [← hx]
    exact (View.write_emb_of_mem (v := zeroV.access (zRect k)) (Val := Elt F) f w (Finset.mem_univ _)).trans (hw _)
  · refine (View.write_of_not_mem (v := zeroV.access (zRect k)) (Val := Elt F) f w Finset.univ e).trans (hf a b ?_)
    by_contra hc
    refine e ?_
    rw [hs, Rect.mem_set_unit, hk]
    have : a.val < 8 := a.isLt
    have : b.val < 1024 := b.isLt
    intro c; fin_cases c
    · show n / 64 ≤ a.val ∧ a.val < n / 64 + 1
      omega
    · show 16 * (n % 64) ≤ b.val ∧ b.val < 16 * (n % 64) + 16
      omega

/-- The buffer of zeros, its first `n` groups of sixteen written. -/
def Zero (n : Nat) : sProp 𝕄 := iprop(∃ f, ⌜ZeroDone n f⌝ ∗ (tl d i).loc cc0_scratch6 ↦{fullShare} f)

theorem zeroStep_wp (k : Fin k0_t1_loop.trips) (a : PUnit) : Zero (F := F) d i k.val ⊢ wpT d i (zeroStep i k a) fun _ => Zero (F := F) d i (k.val + 1) := by
  have hn : k.val < 512 := lt_of_lt_of_eq k.isLt t1_trips
  have hk := zOff_eq ⟨k.val, hn⟩
  unfold Zero wpT zeroStep
  simp only [Prog.lift, Prog.bind_op, Prog.bind_ret, Prog.pure_eq_ret]
  iintro ⟨%f, %hf, Hz⟩
  iapply (wp_load 𝒱₀ (tl d i) none Set.univ (m := zeroV) (S := Finset.univ) (Finset.subset_univ _)) $$ Hz; iintro Hz
  iapply (wp_store 𝒱₀ (tl d i) none Set.univ (m := zeroV) (r := zRect k) (Mk := Finset.univ) (S := Finset.univ) (Finset.subset_univ _)) $$ Hz; iintro Hz
  rw [wp_ret]; imodintro
  iexists _; isplitr; swap; · iexact Hz
  ipureintro
  exact ZeroDone.step hn k hk hf fun _ => rfl

/-- The buffer of zeros, from whatever it held. -/
theorem zero_wp (f : Vec F S8x1024 .f32) :
    ((tl d i).loc cc0_scratch6 ↦{fullShare} f : sProp 𝕄)
      ⊢ wpT d i (Scf.Loop.for k0_t1_loop k0_t1_ok ⟨⟩ (zeroStep i)) fun _ => ((tl d i).loc cc0_scratch6 ↦{fullShare} fun _ => zeroF : sProp 𝕄) := by
  refine wp_loop d i k0_t1_loop k0_t1_ok (zeroStep i) (Zero (F := F) d i) (zeroStep_wp d i) ?_ ?_
  · unfold Zero
    iintro Hz; iexists f; isplitr; swap; · iexact Hz
    ipureintro; intro a b h; omega
  · unfold Zero
    iintro ⟨%g, %hg, Hz⟩
    have e : g = fun _ => zeroF := by
      funext x
      obtain ⟨a, b, rfl⟩ : ∃ (a : Fin 8) (b : Fin 1024), x = ix2 a b := ⟨x 0, x 1, ValueIdx.eq_ix2 x⟩
      rw [t1_trips] at hg
      exact hg a b (by omega)
    subst e; iexact Hz

end Cert.Proof.Span

end
-- ==== Proof.Span.Copies.lean ====
/-
  The tile's copies: what each is lent, and what its wait hands back.

  Inputs are read at a share that is halved at every task, so that a task's copies keep the half they were lent. Copies
  of zeros complete on one semaphore, all of them waited for at the end: they are one batch of 120. Every other copy is
  waited for by itself, except that a task's two inputs complete on one semaphore and are a batch of two.
-/
module

public import proofs.«01_k».proof.Proof.Span.Fill

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

open Transfers

variable (d : Dev nD) (i : grid0.Coords)
  (LR : Vec F S8x32x2x128 .i32) (NI NM : Vec F S8x8x32x8x128 .i32) (TAB : Vec F S15 .f32)

/-! ## The arrays' places -/

abbrev loc2 (d : Dev nD) : Loc nD τ sig := (SparseCore.T d).loc main_v2
abbrev loc5 (d : Dev nD) : Loc nD τ sig := (SparseCore.T d).loc main_v5
abbrev loc8 (d : Dev nD) : Loc nD τ sig := (SparseCore.T d).loc main_v8
abbrev loc3 (d : Dev nD) : Loc nD τ sig := (SparseCore.T d).loc main_arg3
abbrev loc9 (d : Dev nD) : Loc nD τ sig := (SparseCore.T d).loc main_v9

/-- The copies' sizes, in the semaphores' unit. -/
abbrev nIn : ℕ := (inSlot idxV 0).view.dmaCredit
abbrev nOut : ℕ := sig.dmaCredit .scVector (Kind.scVector.table .hbm) (main_v9_scv : Ref sig .scVector).idx S8x1024 .f32
theorem nIn_pos : 0 < nIn := View.dmaCredit_pos _ (by decide)
theorem nOut_pos : 0 < nOut := sig.dmaCredit_pos _ _ _ _ _ (by decide)

/-- What the tile owes: what it owed before (`O`), having waited only where the launch's protocol does not (`W` aside). -/
def Owe (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (tl d i) O W')

variable {O : CellTallies nD τ sig (HIx 1)} {W : Waits sig (HIx 1)}

/-- A wait recorded. -/
theorem Owe.intro (sm : SemLoc sig) {W' : Waits sig (HIx 1)} (h : ∀ p ∈ W', p ∈ W ∨ p.2 = none) :
    iprop(levAts (K (F := F)).L (K (F := F)).lev ∗ owes (tl d i) O (insert (sm, none) W'))
      ⊢ (iprop(levAts (K (F := F)).L (K (F := F)).lev ∗ ∃ W', ⌜∀ p ∈ W', p ∈ W ∨ p.2 = none⌝ ∗ owes (tl d i) O W') : sProp 𝕄) := by
  iintro ⟨Hl, H⟩
  isplitl [Hl]; · iexact Hl
  iexists _; isplitr; swap; · iexact H
  ipureintro
  intro p hp
  rcases Finset.mem_insert.mp hp with rfl | hp
  · exact Or.inr rfl
  · exact h p hp

/-- A semaphore of the tile's, at zero. -/
abbrev sem0 (s : DmaSem sig) : sProp 𝕄 := semVal (tl d i, SemLoc.dma s) 0

/-- A ghost step after a fragment. -/
theorem wp_post {p : TP F i PUnit} {A B C : sProp 𝕄} (hp : A ⊢ wpT d i p fun _ => B) (h : B ⊢ |={Set.univ}=> C) : A ⊢ wpT d i p fun _ => C :=
  hp.trans ((wp_mono frame _ _ fun _ => h).trans (wp_fupd frame _ _ p fun _ => C))

/-- A fragment run with something kept aside, used once it is done. -/
theorem wp_frame_wand {p : TP F i PUnit} {A B C : sProp 𝕄} (hp : A ⊢ wpT d i p fun _ => B) :
    A ⊢ iprop((B -∗ C) -∗ wpT d i p fun _ => C) := by
  refine BI.wand_intro ((sep_mono_left hp).trans ((wp_frame_r frame _ _).trans (wp_mono frame _ _ fun _ => ?_)))
  iintro ⟨HB, Hk⟩; iapply Hk; iexact HB

/-- A fragment run with something kept aside. -/
theorem wp_keep {p : TP F i PUnit} {A B C : sProp 𝕄} (hp : A ⊢ wpT d i p fun _ => B) : iprop(A ∗ C) ⊢ wpT d i p fun _ => iprop(B ∗ C) :=
  (sep_mono_left hp).trans (wp_frame_r frame _ _)

/-- One wait for one copy. -/
theorem wait_one (hO : ∀ g, O g none = 0) {sp sp' : Space} {s s' : Shape} {e e' : EltTy} {κ' : Kind} {sem : DmaSem sig} {srcw : Memref sig .scVector sp' s' e'}
    {dstw : Memref sig κ' sp s e} {hsrc : srcw.view.WordExact} {hdst : dstw.view.WordExact} {N : ℕ} (hN : dstw.view.dmaCredit = N) {X : sProp 𝕄} :
    iprop(Flight EC (tl d i) (.dma sem) none N X ∗ Owe (F := F) d i O W)
      ⊢ wpT d i (Prog.lift (.waitDma2 sem srcw dstw hsrc hdst)) fun _ => iprop(X ∗ sem0 d i sem ∗ Owe (F := F) d i O W) := by
  unfold wpT; simp only [Prog.lift]
  unfold Owe
  iintro ⟨Hf, #Hl, %W', %h, HO⟩
  iapply (wp_waitLocalO EC 𝒱₀ (tl d i) none none hN) $$ [Hf HO]
  · isplitl [Hf]; · iexact Hf
    isplitl [HO]; · iexact HO
    iapply ((K (F := F)).mayWait_none (SemLoc.dma sem) hO); iexact Hl
  iintro ⟨HX, Hs, HO⟩
  rw [wp_ret]; imodintro
  isplitl [HX]; · iexact HX
  isplitl [Hs]; · iexact Hs
  iapply (Owe.intro (F := F) d i (SemLoc.dma sem) h)
  isplitr; · iexact Hl
  iexact HO

/-- One wait of a batch. -/
theorem wait_batch (hO : ∀ g, O g none = 0) {sp sp' : Space} {s s' : Shape} {e e' : EltTy} {κ' : Kind} {sem : DmaSem sig} {srcw : Memref sig .scVector sp' s' e'}
    {dstw : Memref sig κ' sp s e} {hsrc : srcw.view.WordExact} {hdst : dstw.view.WordExact} {n N : ℕ} (hN : dstw.view.dmaCredit = N) {X : Fin n → sProp 𝕄}
    (j u : ℕ) (hu : u < j) :
    iprop(Batch EC (tl d i) (.dma sem) none N X j (u * N) ∗ Owe (F := F) d i O W)
      ⊢ wpT d i (Prog.lift (.waitDma2 sem srcw dstw hsrc hdst)) fun _ => iprop(Batch EC (tl d i) (.dma sem) none N X j ((u + 1) * N) ∗ Owe (F := F) d i O W) := by
  unfold wpT; simp only [Prog.lift]
  unfold Owe
  iintro ⟨Hf, #Hl, %W', %h, HO⟩
  iapply (wp_waitBatchMulO EC 𝒱₀ (tl d i) none none 1 (hN.trans (Nat.one_mul N).symm) (j := j) (u := u * N)
    (by rw [Nat.one_mul, ← Nat.succ_mul, Nat.mul_comm N]; exact Nat.mul_le_mul_right N hu)) $$ [Hf HO]
  · isplitl [Hf]; · iexact Hf
    isplitl [HO]; · iexact HO
    iapply ((K (F := F)).mayWait_none (SemLoc.dma sem) hO); iexact Hl
  iintro ⟨Hf, HO⟩
  rw [wp_ret]; imodintro
  rw [show u * N + 1 * N = (u + 1) * N from (Nat.add_mul u 1 N).symm]
  isplitl [Hf]; · iexact Hf
  iapply (Owe.intro (F := F) d i (SemLoc.dma sem) h)
  isplitr; · iexact Hl
  iexact HO

/-! ## A task's inputs -/

/-- The input arrays, after the copies of `n` tasks have each kept a share of them. -/
def Src (q : PosShare TreeShare) (n : ℕ) : sProp 𝕄 :=
  iprop((loc5 d ↦{shareDrop q n} NI) ∗ loc8 d ↦{shareDrop q n} NM)

/-- Slot `s` of the input buffers, free. -/
def InFree (s : Fin 2) : sProp 𝕄 :=
  iprop((∃ f, (tl d i).loc cc0_scratch3 ↦[slot4 s]{fullShare} f) ∗ (∃ f, (tl d i).loc cc0_scratch4 ↦[slot4 s]{fullShare} f) ∗ sem0 (F := F) d i (isem s).sem)

/-- Task `t`'s indices, and its mask, in their slot. -/
def HaveIdx (t : Fin 8) : sProp 𝕄 :=
  iprop(∃ f, ⌜InHolds NI (batF i) (colF i t) (slot t) f⌝ ∗ (tl d i).loc cc0_scratch3 ↦[slot4 (slot t)]{fullShare} f)
def HaveMsk (t : Fin 8) : sProp 𝕄 :=
  iprop(∃ f, ⌜InHolds NM (batF i) (colF i t) (slot t) f⌝ ∗ (tl d i).loc cc0_scratch4 ↦[slot4 (slot t)]{fullShare} f)

/-- What task `t`'s two input copies deliver. -/
def inDel (t : Fin 8) (k : Fin 2) : sProp 𝕄 := if k = 0 then HaveIdx d i NI t else HaveMsk d i NM t

theorem inDel_zero (t : Fin 8) (h : 0 < 2) : inDel d i NI NM t ⟨0, h⟩ = HaveIdx d i NI t := if_pos rfl
theorem inDel_one (t : Fin 8) (h : 1 < 2) : inDel d i NI NM t ⟨1, h⟩ = HaveMsk d i NM t := if_neg fun e => Nat.one_ne_zero (congrArg Fin.val e)
theorem inDel_both (t : Fin 8) : bigSep Finset.univ (inDel d i NI NM t) = iprop(HaveIdx d i NI t ∗ HaveMsk d i NM t) :=
  (bigSep_fin_two _).trans (congrArg₂ BI.sep (inDel_zero d i NI NM t (by decide)) (inDel_one d i NI NM t (by decide)))

instance inDel_storable (t : Fin 8) (k : Fin 2) : BI.Storable (upEmb : UEmb _ 𝕄) (inDel d i NI NM t k) := by
  unfold inDel HaveIdx HaveMsk; split <;> infer_instance

/-- Task `t`'s input copies in flight. -/
def InFly (t : Fin 8) : sProp 𝕄 := Batch EC (tl d i) (.dma (isem (slot t)).sem) none nIn (inDel d i NI NM t) 2 (0 * nIn)

theorem issueIn_wp (q : PosShare TreeShare) (t : Fin 8) (n : ℕ) :
    iprop(Src d NI NM q n ∗ InFree (F := F) d i (slot t))
      ⊢ wpT d i (issueIn i t) fun _ => iprop(Src d NI NM q (n + 1) ∗ InFly d i NI NM t) := by
  unfold wpT issueIn Src InFree
  simp only [Prog.lift, Prog.bind_op, Prog.bind_ret, Prog.pure_eq_ret]
  iintro ⟨⟨H5, H8⟩, ⟨%fi, Hi⟩, ⟨%fm, Hm⟩, Hs⟩
  ihave H5' := ((pointsTo_share (PosShare.mem_left_op_right (shareDrop q n))).1) $$ H5
  icases H5' with ⟨H5, K5⟩
  ihave H8' := ((pointsTo_share (PosShare.mem_left_op_right (shareDrop q n))).1) $$ H8
  icases H8' with ⟨H8, K8⟩
  ihave K5' := ((pointsTo_split_subset (Finset.subset_univ (inWin i niH t).view.set)).1) $$ K5
  icases K5' with ⟨K5, -⟩
  ihave K8' := ((pointsTo_split_subset (Finset.subset_univ (inWin i nmH t).view.set)).1) $$ K8
  icases K8' with ⟨K8, -⟩
  imod (batch_alloc' EC (tl d i) none nIn (inDel d i NI NM t) (sm := .dma (isem (slot t)).sem) (E := Set.univ)) $$ Hs with Hb
  iapply (wp_dmaBatch EC 𝒱₀ (tl d i) none (src := inWin i niH t) (dst := inSlot idxV (slot t)) (sm := .dma (isem (slot t)).sem) (q := (shareDrop q n).right) (fs := NI) (fd := fi) (Sd := slot4 (slot t)) (D := inDel d i NI NM t) (j := 0) (u := 0)
    none nIn rfl (inSlot_set_idx (slot t)).le (by decide) (by omega) ?h1) $$ [K5 Hi Hb]
  case h1 =>
    rw [inDel_zero]; unfold HaveIdx
    iintro ⟨H, -⟩
    iexists _; isplitr; swap; · iexact H
    ipureintro; exact idx_holds i t NI fi
  · isplitl [K5]; · iexact K5
    isplitl [Hi]; · iexact Hi
    iexact Hb
  iintro Hb
  iapply (wp_dmaBatch EC 𝒱₀ (tl d i) none (src := inWin i nmH t) (dst := inSlot mskV (slot t)) (sm := .dma (isem (slot t)).sem) (q := (shareDrop q n).right) (fs := NM) (fd := fm) (Sd := slot4 (slot t)) (D := inDel d i NI NM t) (j := 1) (u := 0)
    none nIn rfl (inSlot_set_msk (slot t)).le (by decide) (by omega) ?h2) $$ [K8 Hm Hb]
  case h2 =>
    rw [inDel_one]; unfold HaveMsk
    iintro ⟨H, -⟩
    iexists _; isplitr; swap; · iexact H
    ipureintro; exact msk_holds i t NM fm
  · isplitl [K8]; · iexact K8
    isplitl [Hm]; · iexact Hm
    iexact Hb
  iintro Hb
  rw [wp_ret]; imodintro
  isplitl [H5 H8]
  · isplitl [H5]; · iexact H5
    iexact H8
  unfold InFly; rw [Nat.zero_mul]; iexact Hb

theorem waitIn_wp (hO : ∀ g, O g none = 0) (t : Fin 8) :
    iprop(InFly d i NI NM t ∗ Owe (F := F) d i O W)
      ⊢ wpT d i (waitIn i t) fun _ => iprop((HaveIdx d i NI t ∗ HaveMsk d i NM t ∗ sem0 (F := F) d i (isem (slot t)).sem) ∗ Owe (F := F) d i O W) := by
  unfold InFly
  refine wp_seq d i (wait_batch (F := F) d i hO (dstw := inSlot idxV (slot t)) rfl 2 0 (by decide)) ?_
  refine wp_post d i (wait_batch (F := F) d i hO (dstw := inSlot mskV (slot t)) rfl 2 1 (by decide)) ?_
  rw [show (1 + 1) * nIn = nIn * 2 from Nat.mul_comm _ _]
  iintro ⟨Hb, HO⟩
  imod (batch_collect' EC (tl d i) nIn_pos) $$ Hb with ⟨HD, Hs⟩
  imodintro
  isplitr [HO]; swap; · iexact HO
  ihave HD' := (Entails.of_eq (inDel_both d i NI NM t)) $$ HD
  icases HD' with ⟨Hi, Hm⟩
  isplitl [Hi]; · iexact Hi
  isplitl [Hm]; · iexact Hm
  iexact Hs

end Cert.Proof.Span

end
-- ==== Proof.Span.Out.lean ====
/-
  The copies into the result: a task's staged results, and the zeros of the other heads.
-/
module

public import proofs.«01_k».proof.Proof.Span.Copies

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

open Transfers

variable (d : Dev nD) (i : grid0.Coords)
  (LR : Vec F S8x32x2x128 .i32) (NI NM : Vec F S8x8x32x8x128 .i32) (TAB : Vec F S15 .f32) (f0 : Vec F S8x128x32x1024 .f32)

/-! ## The tile's part of the result -/

/-- Head 1's rows of the tile's columns `a`, …, `b - 1`. -/
def hd (i : grid0.Coords) (a b : Nat) : Finset S8x128x32x1024.Idx :=
  Finset.univ.filter fun j => (j 0).val = bat i ∧ (j 1).val / 8 = 1 ∧ col0 i + a ≤ (j 2).val ∧ (j 2).val < col0 i + b

/-- The other heads' rows, from zero copy number `k` on: copies go by column, then by head. -/
def zk (i : grid0.Coords) (k : Nat) : Finset S8x128x32x1024.Idx :=
  Finset.univ.filter fun j => (j 0).val = bat i ∧ (j 1).val / 8 ≠ 1 ∧ col0 i ≤ (j 2).val ∧ (j 2).val < col0 i + 8
    ∧ k ≤ 15 * ((j 2).val - col0 i) + ((j 1).val / 8 - 1)

/-- All the tile fills. -/
def tileSet (i : grid0.Coords) : Finset S8x128x32x1024.Idx :=
  Finset.univ.filter fun j => (j 0).val = bat i ∧ col0 i ≤ (j 2).val ∧ (j 2).val < col0 i + 8

theorem mem_hd {a b : Nat} {j : S8x128x32x1024.Idx} :
    j ∈ hd i a b ↔ (j 0).val = bat i ∧ (j 1).val / 8 = 1 ∧ col0 i + a ≤ (j 2).val ∧ (j 2).val < col0 i + b := by simp [hd]
theorem mem_zk {k : Nat} {j : S8x128x32x1024.Idx} :
    j ∈ zk i k ↔ (j 0).val = bat i ∧ (j 1).val / 8 ≠ 1 ∧ col0 i ≤ (j 2).val ∧ (j 2).val < col0 i + 8
      ∧ k ≤ 15 * ((j 2).val - col0 i) + ((j 1).val / 8 - 1) := by simp [zk]
theorem mem_tileSet {j : S8x128x32x1024.Idx} :
    j ∈ tileSet i ↔ (j 0).val = bat i ∧ col0 i ≤ (j 2).val ∧ (j 2).val < col0 i + 8 := by simp [tileSet]

theorem row_lt (j : S8x128x32x1024.Idx) : (j 1).val < 128 := (j 1).isLt

theorem hd_disj (n : Nat) : Disjoint (hd i 0 8) (zk i n) := by
  rw [Finset.disjoint_left]; intro j h h'
  rw [mem_hd] at h; rw [mem_zk] at h'; exact h'.2.1 h.2.1
theorem tile_parts : hd i 0 8 ∪ zk i 0 = tileSet i := by
  ext j; rw [Finset.mem_union, mem_hd, mem_zk, mem_tileSet]; omega

theorem hd_sub (t : Fin 8) : blk i 1 t ⊆ hd i t.val 8 := by
  intro j h; rw [mem_blk] at h; rw [mem_hd]; omega
theorem hd_rest (t : Fin 8) : hd i t.val 8 \ blk i 1 t = hd i (t.val + 1) 8 := by
  ext j; rw [Finset.mem_sdiff, mem_blk, mem_hd, mem_hd]; omega
theorem hd_more (t : Fin 8) : hd i 0 t.val ∪ blk i 1 t = hd i 0 (t.val + 1) := by
  ext j; rw [Finset.mem_union, mem_blk, mem_hd, mem_hd]; omega
theorem hd_next (t : Fin 8) : Disjoint (hd i 0 t.val) (blk i 1 t) := by
  rw [Finset.disjoint_left]; intro j h h'
  rw [mem_hd] at h; rw [mem_blk] at h'; omega
theorem hd_none : hd i 0 0 = ∅ := by
  ext j; rw [mem_hd]; simp only [Finset.notMem_empty, iff_false]; omega

/-- The row block of head number `h` among the fifteen. -/
theorem zBlock (h : Fin 15) : (h.val = 0 ∧ zRow h.val / 8 = 0) ∨ (0 < h.val ∧ zRow h.val / 8 = h.val + 1) := by revert h; decide

/-- The block that zero copy number `k` fills. -/
abbrev zCol (k : Fin 120) : Fin 8 := ⟨k.val / 15, by omega⟩
abbrev zHead (k : Fin 120) : Fin 15 := ⟨k.val % 15, Nat.mod_lt _ (by decide)⟩
def zb (i : grid0.Coords) (k : Fin 120) : Finset S8x128x32x1024.Idx := blk i (zRow (zHead k).val / 8) (zCol k)

theorem mem_zb {k : Fin 120} {j : S8x128x32x1024.Idx} :
    j ∈ zb i k ↔ (j 0).val = bat i ∧ (j 1).val / 8 ≠ 1 ∧ col0 i ≤ (j 2).val ∧ (j 2).val < col0 i + 8
      ∧ k.val = 15 * ((j 2).val - col0 i) + ((j 1).val / 8 - 1) := by
  have h := zBlock (zHead k)
  have hj := row_lt j
  unfold zb; rw [mem_blk]
  show (_ ∧ _ ∧ (j 2).val = col0 i + k.val / 15) ↔ _
  have hh : (zHead k).val = k.val % 15 := rfl
  rw [hh] at h ⊢
  omega

theorem zk_sub (k : Fin 120) : zb i k ⊆ zk i k.val := by
  intro j h; rw [mem_zb] at h; rw [mem_zk]; omega
theorem zk_rest (k : Fin 120) : zk i k.val \ zb i k = zk i (k.val + 1) := by
  ext j; rw [Finset.mem_sdiff, mem_zb, mem_zk, mem_zk]; omega
theorem zb_disj : ∀ a ∈ (Finset.univ : Finset (Fin 120)), ∀ b ∈ (Finset.univ : Finset (Fin 120)), a ≠ b → Disjoint (zb i a) (zb i b) := by
  intro a _ b _ hab
  rw [Finset.disjoint_left]; intro j h h'
  rw [mem_zb] at h h'; exact hab (Fin.ext (by omega))
theorem zb_all : (Finset.univ : Finset (Fin 120)).biUnion (zb i) = zk i 0 := by
  ext j; rw [Finset.mem_biUnion, mem_zk]
  have hj := row_lt j
  constructor
  · rintro ⟨k, -, h⟩; rw [mem_zb] at h; omega
  · intro h
    refine ⟨⟨15 * ((j 2).val - col0 i) + ((j 1).val / 8 - 1), by omega⟩, Finset.mem_univ _, ?_⟩
    rw [mem_zb]; exact ⟨h.1, h.2.1, h.2.2.1, h.2.2.2.1, rfl⟩

/-! ## A task's results -/

/-- Slot `s` of the staging buffer, free. -/
def OutFree (s : Fin 2) : sProp 𝕄 := iprop((∃ f, (tl d i).loc cc0_scratch5 ↦[slot3 s]{fullShare} f) ∗ sem0 (F := F) d i (osem s).sem)

/-- Task `t`'s results staged, and their copy in flight. -/
def Staged (t : Fin 8) : sProp 𝕄 :=
  iprop(∃ f, ⌜StgDone LR NI NM TAB (batF i) (colF i t) (slot t) 512 f⌝ ∗ (tl d i).loc cc0_scratch5 ↦[slot3 (slot t)]{fullShare} f)
def OutFly (t : Fin 8) : sProp 𝕄 :=
  Flight EC (tl d i) (.dma (osem (slot t)).sem) none nOut
    iprop((loc9 d ↦[blk i 1 t]{fullShare} (result LR NI NM TAB)) ∗ ∃ f, (tl d i).loc cc0_scratch5 ↦[slot3 (slot t)]{fullShare} f)

theorem issueOut_wp (t : Fin 8) :
    iprop(Staged d i LR NI NM TAB t ∗ (loc9 d ↦[hd i t.val 8]{fullShare} f0) ∗ sem0 (F := F) d i (osem (slot t)).sem)
      ⊢ wpT d i (issueOut i t) fun _ => iprop(OutFly d i LR NI NM TAB t ∗ loc9 d ↦[hd i (t.val + 1) 8]{fullShare} f0) := by
  unfold wpT issueOut Staged
  simp only [Prog.lift]
  iintro ⟨⟨%f, %hf, Hg⟩, Ho, Hs⟩
  ihave Ho' := ((pointsTo_split_subset (hd_sub i t)).1) $$ Ho
  icases Ho' with ⟨Ho, Hrest⟩
  rw [hd_rest]
  iapply (wp_dmaLocal EC 𝒱₀ (tl d i) none (src := stgSlot (slot t)) (dst := outWin i 8 eight_le t) (sm := .dma (osem (slot t)).sem) (q := fullShare) (fs := f) (fd := f0) (Sd := blk i 1 t)
    none nOut rfl nOut_pos (outWin_set i 8 eight_le t (rb := 1) rfl).le) $$ [Hg Ho Hs]
  · isplitl [Hg]; · rw [stgSlot_set]; iexact Hg
    isplitl [Ho]; · iexact Ho
    iexact Hs
  iintro Hf
  rw [wp_ret]; imodintro
  isplitl [Hf]; swap; · iexact Hrest
  unfold OutFly
  iapply (Flight_mono EC (tl d i) ?h) $$ Hf
  case h =>
    iintro ⟨Ho, Hg⟩
    isplitl [Ho]
    · ihave Ho' := (Entails.of_eq (pointsTo_congr (head_copy LR NI NM TAB i t f0 hf))) $$ Ho
      iexact Ho'
    · iexists f; rw [stgSlot_set]; iexact Hg

variable {O : CellTallies nD τ sig (HIx 1)} {W : Waits sig (HIx 1)}

theorem waitOut_wp (hO : ∀ g, O g none = 0) (t : Fin 8) :
    iprop((OutFly d i LR NI NM TAB t ∗ loc9 d ↦[hd i 0 t.val]{fullShare} (result LR NI NM TAB)) ∗ Owe (F := F) d i O W)
      ⊢ wpT d i (waitOut i t) fun _ => iprop((OutFree (F := F) d i (slot t) ∗ loc9 d ↦[hd i 0 (t.val + 1)]{fullShare} (result LR NI NM TAB)) ∗ Owe (F := F) d i O W) := by
  unfold OutFly OutFree
  have h := wait_one (F := F) d i (O := O) (W := W) hO (sem := (osem (slot t)).sem) (srcw := stgSlot (slot t)) (dstw := outWin i 8 eight_le t)
    (hsrc := (View.wordExact_bits rfl).reshape _ _) (hdst := (View.wordExact_bits rfl).reshape _ _) (N := nOut) rfl
    (X := iprop((loc9 d ↦[blk i 1 t]{fullShare} (result LR NI NM TAB)) ∗ ∃ f, (tl d i).loc cc0_scratch5 ↦[slot3 (slot t)]{fullShare} f))
  iintro ⟨⟨Hf, Hd⟩, HO⟩
  iapply (wp_frame_wand (F := F) d i h) $$ [Hf HO]
  · isplitl [Hf]; · iexact Hf
    iexact HO
  iintro ⟨⟨Ho, Hg⟩, Hs, HO⟩
  isplitr [HO]; swap; · iexact HO
  isplitl [Hg Hs]
  · isplitl [Hg]; · iexact Hg
    iexact Hs
  rw [← hd_more]
  iapply (pointsTo_union (hd_next i t)).2
  isplitl [Hd]; · iexact Hd
  iexact Ho

/-! ## The zeros -/

/-- What zero copy number `k` delivers: its block, zero, and the share of the buffer of zeros it was lent. -/
def zDel (k : Fin 120) : sProp 𝕄 :=
  iprop((loc9 d ↦[zb i k]{fullShare} (result LR NI NM TAB)) ∗ (tl d i).loc cc0_scratch6 ↦{shareTok fullShare 120 k} fun _ => zeroF)

instance zDel_storable (k : Fin 120) : BI.Storable (upEmb : UEmb _ 𝕄) (zDel d i LR NI NM TAB k) := by
  unfold zDel; infer_instance

/-- The first `k` zero copies started. -/
def Zs (k : ℕ) : sProp 𝕄 :=
  iprop(((tl d i).loc cc0_scratch6 ↦{shareDrop fullShare k} fun _ => zeroF) ∗ (loc9 d ↦[zk i k]{fullShare} f0)
    ∗ Batch EC (tl d i) (.dma zsem.sem) none nOut (zDel d i LR NI NM TAB) k (0 * nOut))

theorem Zs.cast {k k' : ℕ} (e : k = k') : Zs d i LR NI NM TAB f0 k ⊢ Zs d i LR NI NM TAB f0 k' := by rw [e]

theorem pts_zero (q : PosShare TreeShare) (f : Buf (Elt F) ((tl d i).loc cc0_scratch6)) :
    (zeroV.view.loc (tl d i) ↦[zeroV.view.set]{q} f : sProp 𝕄) = (tl d i).loc cc0_scratch6 ↦{q} f := by
  rw [show zeroV.view.set = Finset.univ from View.set_whole _]

theorem issueZero_wp (t : Fin 8) (h : Fin 15) (k : Fin 120) (ht : zCol k = t) (hh : zHead k = h) :
    Zs d i LR NI NM TAB f0 k.val ⊢ wpT d i (issueZero i t h) fun _ => Zs d i LR NI NM TAB f0 (k.val + 1) := by
  subst ht hh
  unfold wpT issueZero Zs
  simp only [Prog.lift]
  iintro ⟨Hz, Ho, Hb⟩
  ihave Ho' := ((pointsTo_split_subset (zk_sub i k)).1) $$ Ho
  icases Ho' with ⟨Ho, Hrest⟩
  rw [zk_rest]
  ihave Hz' := ((pointsTo_share (PosShare.mem_left_op_right (shareDrop fullShare k.val))).1) $$ Hz
  icases Hz' with ⟨Hz, Ht⟩
  iapply (wp_dmaBatch EC 𝒱₀ (tl d i) none (src := zeroV) (dst := outWin i (zRow (zHead k).val) (zRow_le (zHead k)) (zCol k)) (sm := .dma zsem.sem)
    (q := shareTok fullShare 120 k) (fs := fun _ => zeroF) (fd := f0) (Sd := zb i k) (D := zDel d i LR NI NM TAB) (j := k.val) (u := 0 * nOut)
    none nOut rfl (outWin_set i _ (zRow_le (zHead k)) (zCol k) (zRow_eq (zHead k))).le k.isLt (by rw [Nat.zero_mul]; exact Nat.zero_le _) ?h) $$ [Ht Ho Hb]
  case h =>
    unfold zDel
    iintro ⟨Ho, Hz⟩
    isplitl [Ho]
    · ihave Ho' := (Entails.of_eq (pointsTo_congr (zero_copy LR NI NM TAB i (zCol k) (zHead k) f0))) $$ Ho
      iexact Ho'
    · ihave Hz' := (Entails.of_eq (pts_zero d i _ _)) $$ Hz
      iexact Hz'
  · isplitl [Ht]; · iapply (Entails.of_eq (pts_zero d i _ _).symm); iexact Ht
    isplitl [Ho]; · iexact Ho
    iexact Hb
  iintro Hb
  rw [wp_ret]; imodintro
  isplitl [Hz]; · iexact Hz
  isplitl [Hrest]; · iexact Hrest
  iexact Hb

/-- The first `k` zero copies waited for, all of them started. -/
def Zw (O : CellTallies nD τ sig (HIx 1)) (W : Waits sig (HIx 1)) (k : ℕ) : sProp 𝕄 :=
  iprop(Batch EC (tl d i) (.dma zsem.sem) none nOut (zDel d i LR NI NM TAB) 120 (k * nOut) ∗ Owe (F := F) d i O W)

theorem waitZero_wp (hO : ∀ g, O g none = 0) (t : Fin 8) (h : Fin 15) (k : ℕ) (hk : k < 120) :
    Zw d i LR NI NM TAB O W k ⊢ wpT d i (waitZero i t h) fun _ => Zw d i LR NI NM TAB O W (k + 1) :=
  wait_batch (F := F) d i hO (dstw := outWin i (zRow h.val) (zRow_le h) t) rfl 120 k hk

/-- All the zero copies collected: their blocks hold zero, and the buffer of zeros is whole again. -/
theorem zeros_back :
    iprop(Batch EC (tl d i) (.dma zsem.sem) none nOut (zDel d i LR NI NM TAB) 120 (120 * nOut)
        ∗ (tl d i).loc cc0_scratch6 ↦{shareDrop fullShare 120} fun _ => zeroF)
      ⊢ (|={Set.univ}=> iprop((loc9 d ↦[zk i 0]{fullShare} (result LR NI NM TAB)) ∗ ((tl d i).loc cc0_scratch6 ↦{fullShare} fun _ => zeroF) ∗ sem0 (F := F) d i zsem.sem) : sProp 𝕄) := by
  rw [Nat.mul_comm 120 nOut]
  iintro ⟨Hb, Hz⟩
  imod (batch_collect' EC (tl d i) nOut_pos) $$ Hb with ⟨HD, Hs⟩
  imodintro
  ihave HD' := (Entails.of_eq (show bigSep Finset.univ (zDel d i LR NI NM TAB) = _ from bigSep_sep' _ _ _)) $$ HD
  icases HD' with ⟨Ho, Ht⟩
  isplitl [Ho]
  · rw [← zb_all, pointsTo_biUnion _ _ (zb_disj i)]; iexact Ho
  isplitl [Hz Ht]
  · iapply (pointsTo_toks_join fullShare 120)
    isplitl [Hz]; · iexact Hz
    iexact Ht
  iexact Hs

end Cert.Proof.Span

end
-- ==== Proof.Span.Tasks.lean ====
/-
  The tile's eight tasks, by one invariant between tasks.
-/
module

public import proofs.«01_k».proof.Proof.Span.Out

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

open Transfers

variable (d : Dev nD) (i : grid0.Coords)
  (LR : Vec F S8x32x2x128 .i32) (NI NM : Vec F S8x8x32x8x128 .i32) (TAB : Vec F S15 .f32) (f0 : Vec F S8x128x32x1024 .f32)
  (q : PosShare TreeShare) {O : CellTallies nD τ sig (HIx 1)} {W : Waits sig (HIx 1)}

/-- A fragment, then the rest of the program from what it leaves. -/
theorem wp_then {p : TP F i PUnit} {r : PUnit → TP F i PUnit} {A B C : sProp 𝕄} (hp : A ⊢ wpT d i p fun _ => B) :
    A ⊢ iprop((B -∗ wpT d i (r ⟨⟩) fun _ => C) -∗ wpT d i (p >>= r) fun _ => C) := by
  rw [show wpT d i (p >>= r) (fun _ => C) = wpT d i p fun _ => wpT d i (r ⟨⟩) fun _ => C from wp_bind _ _ _ _ _ _]
  exact wp_frame_wand d i hp

/-! ## The states between tasks -/

/-- One of two. -/
abbrev par (n : ℕ) : Fin 2 := ⟨n % 2, Nat.mod_lt _ (by decide)⟩

/-- Task `n`'s inputs in flight, or their slot free when there is no task `n`. -/
def InAt (n : ℕ) : sProp 𝕄 := if h : n < 8 then InFly d i NI NM ⟨n, h⟩ else InFree (F := F) d i (par n)

/-- The output copy of the task two before `n` in flight, or its slot free when there is none. -/
def OutAt (n : ℕ) : sProp 𝕄 := if h : 2 ≤ n ∧ n < 10 then OutFly d i LR NI NM TAB ⟨n - 2, by omega⟩ else OutFree (F := F) d i (par n)

/-- The input arrays, at what is left of the share `q`. -/
def Srcs : sProp 𝕄 := iprop(∃ n, Src d NI NM q n)

/-- Before task `n`. -/
def Before (O : CellTallies nD τ sig (HIx 1)) (W : Waits sig (HIx 1)) (n : ℕ) : sProp 𝕄 :=
  iprop(Zs d i LR NI NM TAB f0 (15 * n) ∗ Srcs d NI NM q ∗ InAt d i NI NM n ∗ InFree (F := F) d i (par (n + 1))
    ∗ OutAt d i LR NI NM TAB n ∗ OutAt d i LR NI NM TAB (n + 1)
    ∗ (loc9 d ↦[hd i 0 (n - 2)]{fullShare} (result LR NI NM TAB)) ∗ (loc9 d ↦[hd i n 8]{fullShare} f0)
    ∗ ((tl d i).loc cc0_scratch0 ↦{fullShare} (lrOf LR (batF i))) ∗ ((tl d i).loc cc0_scratch2 ↦{fullShare} (lut TAB)) ∗ Owe (F := F) d i O W)

/-! ## The fragments of a task -/

theorem zeros_start (t : Fin 8) :
    Zs d i LR NI NM TAB f0 (15 * t.val) ⊢ wpT d i (run 15 (issueZero i t)) fun _ => Zs d i LR NI NM TAB f0 (15 * (t.val + 1)) :=
  (wp_run d i 15 (issueZero i t) (fun h => Zs d i LR NI NM TAB f0 (15 * t.val + h)) fun h =>
    issueZero_wp d i LR NI NM TAB f0 t h ⟨15 * t.val + h.val, by omega⟩ (Fin.ext (show (15 * t.val + h.val) / 15 = t.val by omega))
      (Fin.ext (show (15 * t.val + h.val) % 15 = h.val by omega))).trans
    (wp_mono frame _ _ fun _ => Zs.cast d i LR NI NM TAB f0 (by omega))

theorem ahead_wp (t : Fin 8) :
    iprop(Srcs d NI NM q ∗ InFree (F := F) d i (par (t.val + 1)))
      ⊢ wpT d i (ahead i t) fun _ => iprop(Srcs d NI NM q ∗ InAt d i NI NM (t.val + 1)) := by
  unfold ahead InAt Srcs
  split
  · rename_i h
    iintro ⟨⟨%n, Hs⟩, Hf⟩
    iapply (wp_frame_wand d i (issueIn_wp d i NI NM q ⟨t.val + 1, h⟩ n)) $$ [Hs Hf]
    · isplitl [Hs]; · iexact Hs
      iexact Hf
    iintro ⟨Hs, Hf⟩
    isplitl [Hs]; · iexists _; iexact Hs
    iexact Hf
  · rw [wpT, wp_ret]; exact fupd_intro

theorem behind_wp (hO : ∀ g, O g none = 0) (t : Fin 8) :
    iprop((OutAt d i LR NI NM TAB t.val ∗ loc9 d ↦[hd i 0 (t.val - 2)]{fullShare} (result LR NI NM TAB)) ∗ Owe (F := F) d i O W)
      ⊢ wpT d i (behind i t) fun _ => iprop((OutFree (F := F) d i (slot t) ∗ loc9 d ↦[hd i 0 (t.val + 1 - 2)]{fullShare} (result LR NI NM TAB)) ∗ Owe (F := F) d i O W) := by
  unfold behind OutAt
  by_cases h : 2 ≤ t.val
  · rw [dif_pos h, dif_pos ⟨h, by omega⟩]
    have hw := waitOut_wp d i LR NI NM TAB (W := W) hO ⟨t.val - 2, by omega⟩
    have e1 : slot ⟨t.val - 2, by omega⟩ = slot t := Fin.ext (show (t.val - 2) % 2 = t.val % 2 by omega)
    have e2 : t.val + 1 - 2 = t.val - 2 + 1 := by omega
    rw [e1] at hw; rw [e2]; exact hw
  · rw [dif_neg h, dif_neg (fun e => h e.1), wpT, wp_ret, show t.val + 1 - 2 = t.val - 2 by omega]; exact fupd_intro

/-- A free staging slot has no lane group done. -/
theorem stg_start (t : Fin 8) (f : Vec F S2x8x1024 .f32) : StgDone LR NI NM TAB (batF i) (colF i t) (slot t) 0 f := fun _ _ _ h => absurd h (Nat.not_lt_zero _)

theorem step_wp (hLR : Spans LR) (hO : ∀ g, O g none = 0) (t : Fin 8) :
    Before d i LR NI NM TAB f0 q O W t.val ⊢ wpT d i (step i t) fun _ => Before d i LR NI NM TAB f0 q O W (t.val + 1) := by
  have hin : InAt d i NI NM t.val = InFly d i NI NM t := dif_pos t.isLt
  have hout : OutAt d i LR NI NM TAB (t.val + 1 + 1) = OutFly d i LR NI NM TAB t :=
    (dif_pos (⟨by omega, by omega⟩ : 2 ≤ t.val + 1 + 1 ∧ t.val + 1 + 1 < 10)).trans (congrArg _ (Fin.ext (show t.val + 1 + 1 - 2 = t.val by omega)))
  have hpar : par (t.val + 1 + 1) = slot t := Fin.ext (show (t.val + 1 + 1) % 2 = t.val % 2 by omega)
  unfold Before step
  rw [hin, hout, hpar]
  iintro ⟨Hz, Hs, Hi, Hf, Ho, Ho', Hd, Hp, Hlr, Hlut, HO⟩
  iapply (wp_then d i (zeros_start d i LR NI NM TAB f0 t)) $$ [Hz]
  · iexact Hz
  iintro Hz
  iapply (wp_then d i (ahead_wp d i NI NM q t)) $$ [Hs Hf]
  · isplitl [Hs]; · iexact Hs
    iexact Hf
  iintro ⟨Hs, Hf⟩
  iapply (wp_then d i (waitIn_wp d i NI NM (W := W) hO t)) $$ [Hi HO]
  · isplitl [Hi]; · iexact Hi
    iexact HO
  iintro ⟨⟨Hi, Hm, Hsi⟩, HO⟩
  iapply (wp_then d i (behind_wp d i LR NI NM TAB (W := W) hO t)) $$ [Ho Hd HO]
  · isplitr [HO]; swap; · iexact HO
    isplitl [Ho]; · iexact Ho
    iexact Hd
  unfold OutFree
  iintro ⟨⟨⟨⟨%f, Hg⟩, Hso⟩, Hd⟩, HO⟩
  iapply (wp_then d i (lanes_wp d i LR NI NM TAB hLR t)) $$ [Hlr Hlut Hi Hm Hg]
  · unfold Work
    isplitl [Hlr]; · iexact Hlr
    isplitl [Hlut]; · iexact Hlut
    isplitl [Hi]; · unfold HaveIdx; iexact Hi
    isplitl [Hm]; · unfold HaveMsk; iexact Hm
    iexists f; isplitr; swap; · iexact Hg
    ipureintro; exact stg_start i LR NI NM TAB t f
  unfold Work
  iintro ⟨Hlr, Hlut, ⟨%fi, -, Hi⟩, ⟨%fm, -, Hm⟩, Hg⟩
  iapply (wp_frame_wand d i (issueOut_wp d i LR NI NM TAB f0 t)) $$ [Hg Hp Hso]
  · isplitl [Hg]; · unfold Staged; iexact Hg
    isplitl [Hp]; · iexact Hp
    iexact Hso
  iintro ⟨Ho, Hp⟩
  isplitl [Hz]; · iexact Hz
  isplitl [Hs]; · iexact Hs
  isplitl [Hf]; · iexact Hf
  isplitl [Hi Hm Hsi]
  · unfold InFree
    isplitl [Hi]; · iexists fi; iexact Hi
    isplitl [Hm]; · iexists fm; iexact Hm
    iexact Hsi
  isplitl [Ho']; · iexact Ho'
  isplitl [Ho]; · iexact Ho
  isplitl [Hd]; · iexact Hd
  isplitl [Hp]; · iexact Hp
  isplitl [Hlr]; · iexact Hlr
  isplitl [Hlut]; · iexact Hlut
  iexact HO

end Cert.Proof.Span

end
-- ==== Proof.Span.Tile.lean ====
/-
  The whole tile: from the tile's part of the result at whatever it held, to the same part at the result's entries.
-/
module

public import proofs.«01_k».proof.Proof.Span.Tasks

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

open Transfers

variable (d : Dev nD) (i : grid0.Coords)
  (LR : Vec F S8x32x2x128 .i32) (NI NM : Vec F S8x8x32x8x128 .i32) (TAB : Vec F S15 .f32) (f0 : Vec F S8x128x32x1024 .f32)
  (q q2 q3 : PosShare TreeShare) {O : CellTallies nD τ sig (HIx 1)} {W : Waits sig (HIx 1)}

/-! ## The spans and the table -/

/-- One copy, waited for at once. -/
theorem syncIn_wp (hO : ∀ g, O g none = 0) (fl : Buf (Elt F) ((tl d i).loc cc0_scratch0)) (ft : Buf (Elt F) ((tl d i).loc cc0_scratch1)) :
    iprop(((loc2 d ↦{q2} LR) ∗ (loc3 d ↦{q3} TAB) ∗ ((tl d i).loc cc0_scratch0 ↦{fullShare} fl) ∗ ((tl d i).loc cc0_scratch1 ↦{fullShare} ft)
        ∗ sem0 (F := F) d i cc0_scoped0.sem ∗ sem0 (F := F) d i cc0_scoped1.sem) ∗ Owe (F := F) d i O W)
      ⊢ wpT d i (syncIn i) fun _ => iprop((((tl d i).loc cc0_scratch0 ↦{fullShare} (lrOf LR (batF i))) ∗ ((tl d i).loc cc0_scratch1 ↦{fullShare} TAB)
        ∗ sem0 (F := F) d i cc0_scoped0.sem ∗ sem0 (F := F) d i cc0_scoped1.sem) ∗ Owe (F := F) d i O W) := by
  have h0 := fun X => wait_one (F := F) d i (O := O) (W := W) hO (sem := cc0_scoped0.sem) (srcw := lrWin i) (dstw := lrV)
    (hsrc := (View.wordExact_bits rfl).reshape _ _) (hdst := (Memref.isWhole_whole _).wordExact) (N := lrV.view.dmaCredit) rfl (X := X)
  have h1 := fun X => wait_one (F := F) d i (O := O) (W := W) hO (sem := cc0_scoped1.sem) (srcw := tabH) (dstw := tabV)
    (hsrc := (Memref.isWhole_whole _).wordExact) (hdst := (Memref.isWhole_whole _).wordExact) (N := tabV.view.dmaCredit) rfl (X := X)
  have e0 : lrV.view.write (Elt F) fl ((lrWin i).view.read (Elt F) LR) Finset.univ = lrOf LR (batF i) :=
    (View.write_whole_univ _ _ _).trans (lr_read i LR)
  have e1 : tabV.view.write (Elt F) ft (tabH.view.read (Elt F) TAB) Finset.univ = TAB :=
    (View.write_whole_univ _ _ _).trans (View.read_whole _ _)
  unfold wpT syncIn at *
  simp only [Prog.lift, Prog.bind_op, Prog.bind_ret, Prog.pure_eq_ret] at *
  iintro ⟨⟨H2, H3, Hl, Ht, Hs0, Hs1⟩, HO⟩
  ihave H2' := ((pointsTo_split_subset (Finset.subset_univ (lrWin i).view.set)).1) $$ H2
  icases H2' with ⟨H2, -⟩
  ihave H3' := ((pointsTo_split_subset (Finset.subset_univ tabH.view.set)).1) $$ H3
  icases H3' with ⟨H3, -⟩
  unfold Owe
  icases HO with ⟨#Hv, %W1, %hW1, HO⟩
  iapply (wp_dmaLocal EC 𝒱₀ (tl d i) none (src := lrWin i) (dst := lrV) (sm := .dma cc0_scoped0.sem) (q := q2) (fs := LR) (fd := fl) (Sd := Finset.univ)
    none lrV.view.dmaCredit rfl (View.dmaCredit_pos _ (by decide)) (Finset.subset_univ _)) $$ [H2 Hl Hs0]
  · isplitl [H2]; · iexact H2
    isplitl [Hl]; · iexact Hl
    iexact Hs0
  iintro Hf
  iapply (wp_waitLocalO EC 𝒱₀ (tl d i) none none (N := lrV.view.dmaCredit) rfl) $$ [Hf HO]
  · isplitl [Hf]; · iexact Hf
    isplitl [HO]; · iexact HO
    iapply ((K (F := F)).mayWait_none (SemLoc.dma cc0_scoped0.sem) hO); iexact Hv
  iintro ⟨⟨Hl, -⟩, Hs0, HO⟩
  iapply (wp_dmaLocal EC 𝒱₀ (tl d i) none (src := tabH) (dst := tabV) (sm := .dma cc0_scoped1.sem) (q := q3) (fs := TAB) (fd := ft) (Sd := Finset.univ)
    none tabV.view.dmaCredit rfl (View.dmaCredit_pos _ (by decide)) (Finset.subset_univ _)) $$ [H3 Ht Hs1]
  · isplitl [H3]; · iexact H3
    isplitl [Ht]; · iexact Ht
    iexact Hs1
  iintro Hf
  iapply (wp_waitLocalO EC 𝒱₀ (tl d i) none none (N := tabV.view.dmaCredit) rfl) $$ [Hf HO]
  · isplitl [Hf]; · iexact Hf
    isplitl [HO]; · iexact HO
    iapply ((K (F := F)).mayWait_none (SemLoc.dma cc0_scoped1.sem) hO); iexact Hv
  iintro ⟨⟨Ht, -⟩, Hs1, HO⟩
  rw [wp_ret]; imodintro
  isplitr [HO]
  · isplitl [Hl]
    · ihave Hl' := (Entails.of_eq (congrArg (fun f => ((tl d i).loc cc0_scratch0 ↦{fullShare} f : sProp 𝕄)) e0)) $$ Hl
      iexact Hl'
    isplitl [Ht]
    · ihave Ht' := (Entails.of_eq (congrArg (fun f => ((tl d i).loc cc0_scratch1 ↦{fullShare} f : sProp 𝕄)) e1)) $$ Ht
      iexact Ht'
    isplitl [Hs0]; · iexact Hs0
    iexact Hs1
  isplitr; · iexact Hv
  iexists _; isplitr; swap; · iexact HO
  ipureintro
  intro p hp
  rcases Finset.mem_insert.mp hp with rfl | hp
  · exact Or.inr rfl
  rcases Finset.mem_insert.mp hp with rfl | hp
  · exact Or.inr rfl
  · exact hW1 p hp

/-! ## Buffers of two slots -/

theorem slots4 : slot4 0 ∪ slot4 1 = Finset.univ := by
  ext j; rw [Finset.mem_union, mem_slot4, mem_slot4]
  have : (j 0).val < 2 := (j 0).isLt
  simp only [Finset.mem_univ, iff_true]; show (j 0).val = 0 ∨ (j 0).val = 1; omega
theorem slots4_disj : Disjoint (slot4 0) (slot4 1) := by
  rw [Finset.disjoint_left]; intro j h h'
  rw [mem_slot4] at h h'; rw [h] at h'; exact absurd h' (by decide)
theorem slots3 : slot3 0 ∪ slot3 1 = Finset.univ := by
  ext j; rw [Finset.mem_union, mem_slot3, mem_slot3]
  have : (j 0).val < 2 := (j 0).isLt
  simp only [Finset.mem_univ, iff_true]; show (j 0).val = 0 ∨ (j 0).val = 1; omega
theorem slots3_disj : Disjoint (slot3 0) (slot3 1) := by
  rw [Finset.disjoint_left]; intro j h h'
  rw [mem_slot3] at h h'; rw [h] at h'; exact absurd h' (by decide)

/-- A place held in two parts that make all of it, each at any contents, is held whole. -/
theorem two_join {ℓ : Loc nD τ sig} {A B : Finset (Idx ℓ)} (hd : Disjoint A B) (hu : A ∪ B = Finset.univ) :
    (iprop((∃ f, ℓ ↦[A]{fullShare} f) ∗ ∃ f, ℓ ↦[B]{fullShare} f) : sProp 𝕄) ⊢ iprop(∃ f, ℓ ↦{fullShare} f) := by
  iintro ⟨⟨%f, Hf⟩, ⟨%g, Hg⟩⟩
  ihave H := (pointsTo_join hd) $$ [Hf Hg]
  · isplitl [Hf]; · iexact Hf
    iexact Hg
  rw [hu]
  iexists _; iexact H
theorem two_split {ℓ : Loc nD τ sig} {A B : Finset (Idx ℓ)} (hd : Disjoint A B) (hu : A ∪ B = Finset.univ) (f : Buf (Elt F) ℓ) :
    (ℓ ↦{fullShare} f : sProp 𝕄) ⊢ iprop((∃ f, ℓ ↦[A]{fullShare} f) ∗ ∃ f, ℓ ↦[B]{fullShare} f) := by
  have h := (pointsTo_union (q := fullShare) (f := f) hd (Ix := HIx 1) (Name := ℕ) (U := UU) (Lvl := ℕ)).1
  rw [hu] at h
  iintro H
  ihave H' := h $$ H
  icases H' with ⟨Ha, Hb⟩
  isplitl [Ha]; · iexists f; iexact Ha
  iexists f; iexact Hb

/-! ## The tile -/

/-- The tile's own memory: its seven buffers at whatever they hold, its seven semaphores at zero. -/
def Mine : sProp 𝕄 :=
  iprop((∃ f, (tl d i).loc cc0_scratch0 ↦{fullShare} f) ∗ (∃ f, (tl d i).loc cc0_scratch1 ↦{fullShare} f) ∗ (∃ f, (tl d i).loc cc0_scratch2 ↦{fullShare} f)
    ∗ (∃ f, (tl d i).loc cc0_scratch3 ↦{fullShare} f) ∗ (∃ f, (tl d i).loc cc0_scratch4 ↦{fullShare} f) ∗ (∃ f, (tl d i).loc cc0_scratch5 ↦{fullShare} f)
    ∗ (∃ f, (tl d i).loc cc0_scratch6 ↦{fullShare} f))
def Sems : sProp 𝕄 :=
  iprop(sem0 (F := F) d i cc0_scratch7.sem ∗ sem0 (F := F) d i cc0_scratch8.sem ∗ sem0 (F := F) d i cc0_scratch9.sem ∗ sem0 (F := F) d i cc0_scratch10.sem
    ∗ sem0 (F := F) d i cc0_scratch11.sem ∗ sem0 (F := F) d i cc0_scoped0.sem ∗ sem0 (F := F) d i cc0_scoped1.sem)

theorem Zw.cast {a b : ℕ} (h : a = b) : Zw d i LR NI NM TAB O W a ⊢ Zw d i LR NI NM TAB O W b :=
  Entails.of_eq (congrArg (Zw d i LR NI NM TAB O W) h)

/-- The fifteen waits of one row. -/
theorem zeros_row (hO : ∀ g, O g none = 0) (t : Fin 8) (k : ℕ) (hk : k = 15 * t.val) :
    Zw d i LR NI NM TAB O W k ⊢ wpT d i (run 15 (waitZero i t)) fun _ => Zw d i LR NI NM TAB O W (k + 15) := by
  refine (Zw.cast d i LR NI NM TAB (Nat.add_zero k).symm).trans ?_
  refine wp_run d i 15 (waitZero i t) (fun h => Zw d i LR NI NM TAB O W (k + h)) fun h => ?_
  have ht := t.isLt
  have hh := h.isLt
  exact waitZero_wp d i LR NI NM TAB hO t h (k + h.val) (by omega)

theorem zeros_wait (hO : ∀ g, O g none = 0) :
    Zw d i LR NI NM TAB O W 0 ⊢ wpT d i (run 8 fun t => run 15 (waitZero i t)) fun _ => Zw d i LR NI NM TAB O W 120 := by
  have h := wp_run d i 8 (fun t => run 15 (waitZero i t)) (fun n => Zw d i LR NI NM TAB O W (15 * n)) fun t =>
    (zeros_row d i LR NI NM TAB (W := W) hO t (15 * t.val) rfl).trans (wp_mono frame _ _ fun _ => Zw.cast d i LR NI NM TAB (Nat.mul_succ 15 t.val).symm)
  exact ((Zw.cast d i LR NI NM TAB (Nat.mul_zero 15).symm).trans h).trans (wp_mono frame _ _ fun _ => Zw.cast d i LR NI NM TAB (by norm_num))

theorem tile_wp (hLR : Spans LR) (hO : ∀ g, O g none = 0) :
    iprop(((loc2 d ↦{q2} LR) ∗ (loc3 d ↦{q3} TAB) ∗ (loc5 d ↦{q} NI) ∗ loc8 d ↦{q} NM) ∗ (loc9 d ↦[tileSet i]{fullShare} f0)
        ∗ Mine (F := F) d i ∗ Sems (F := F) d i ∗ Owe (F := F) d i O W)
      ⊢ wpT d i (tile i) fun _ => iprop((loc9 d ↦[tileSet i]{fullShare} (result LR NI NM TAB)) ∗ Mine (F := F) d i ∗ Sems (F := F) d i ∗ Owe (F := F) d i O W) := by
  unfold Mine Sems tile
  iintro ⟨⟨H2, H3, H5, H8⟩, Ho, ⟨⟨%fl, Hlr⟩, ⟨%ft, Htab⟩, ⟨%fu, Hlut⟩, ⟨%fi, Hi⟩, ⟨%fm, Hm⟩, ⟨%fg, Hg⟩, ⟨%fz, Hz⟩⟩, ⟨S7, S8, S9, S10, S11, T0, T1⟩, HO⟩
  iapply (wp_then d i (syncIn_wp d i LR TAB q2 q3 (W := W) hO fl ft)) $$ [H2 H3 Hlr Htab T0 T1 HO]
  · isplitr [HO]; swap; · iexact HO
    isplitl [H2]; · iexact H2
    isplitl [H3]; · iexact H3
    isplitl [Hlr]; · iexact Hlr
    isplitl [Htab]; · iexact Htab
    isplitl [T0]; · iexact T0
    iexact T1
  iintro ⟨⟨Hlr, Htab, T0, T1⟩, HO⟩
  iapply (wp_then d i (lut_wp d i TAB fu)) $$ [Htab Hlut]
  · isplitl [Htab]; · iexact Htab
    iexact Hlut
  iintro ⟨Htab, Hlut⟩
  iapply (wp_then d i (zero_wp d i fz)) $$ [Hz]
  · iexact Hz
  iintro Hz
  ihave Hi' := (two_split slots4_disj slots4 fi) $$ Hi
  icases Hi' with ⟨Hi0, Hi1⟩
  ihave Hm' := (two_split slots4_disj slots4 fm) $$ Hm
  icases Hm' with ⟨Hm0, Hm1⟩
  ihave Hg' := (two_split slots3_disj slots3 fg) $$ Hg
  icases Hg' with ⟨Hg0, Hg1⟩
  iapply (wp_then d i (issueIn_wp d i NI NM q 0 0)) $$ [H5 H8 Hi0 Hm0 S7]
  · unfold Src InFree
    isplitl [H5 H8]
    · isplitl [H5]; · iexact H5
      iexact H8
    isplitl [Hi0]; · iexact Hi0
    isplitl [Hm0]; · iexact Hm0
    iexact S7
  iintro ⟨Hs, Hf⟩
  rw [← tile_parts]
  ihave Ho' := ((pointsTo_union (hd_disj i 0)).1) $$ Ho
  icases Ho' with ⟨Hp, Hr⟩
  imod (batch_alloc' EC (tl d i) none nOut (zDel d i LR NI NM TAB) (sm := .dma zsem.sem) (E := Set.univ)) $$ S11 with Hb
  iapply (wp_then d i (wp_run d i 8 (step i) (Before d i LR NI NM TAB f0 q O W) (step_wp d i LR NI NM TAB f0 q hLR hO))) $$ [Hz Hr Hb Hs Hf Hi1 Hm1 S8 Hg0 Hg1 S9 S10 Hp Hlr Hlut HO]
  · unfold Before
    isplitl [Hz Hr Hb]
    · unfold Zs
      isplitl [Hz]; · iexact Hz
      isplitl [Hr]; · iexact Hr
      rw [Nat.zero_mul]; iexact Hb
    isplitl [Hs]; · unfold Srcs; iexists _; iexact Hs
    isplitl [Hf]; · rw [show InAt d i NI NM 0 = InFly d i NI NM 0 from dif_pos (by decide)]; iexact Hf
    isplitl [Hi1 Hm1 S8]
    · unfold InFree
      isplitl [Hi1]; · iexact Hi1
      isplitl [Hm1]; · iexact Hm1
      iexact S8
    isplitl [Hg0 S9]
    · rw [show OutAt d i LR NI NM TAB 0 = OutFree (F := F) d i 0 from dif_neg (by decide)]
      unfold OutFree
      isplitl [Hg0]; · iexact Hg0
      iexact S9
    isplitl [Hg1 S10]
    · rw [show OutAt d i LR NI NM TAB (0 + 1) = OutFree (F := F) d i 1 from dif_neg (by decide)]
      unfold OutFree
      isplitl [Hg1]; · iexact Hg1
      iexact S10
    isplitr
    · rw [show hd i 0 (0 - 2) = ∅ from hd_none i, pointsTo_empty]; iempintro
    isplitl [Hp]; · iexact Hp
    isplitl [Hlr]; · iexact Hlr
    isplitl [Hlut]; · iexact Hlut
    iexact HO
  unfold Before
  rw [show InAt d i NI NM 8 = InFree (F := F) d i 0 from dif_neg (by decide),
    show OutAt d i LR NI NM TAB 8 = OutFly d i LR NI NM TAB 6 from dif_pos (by decide),
    show OutAt d i LR NI NM TAB (8 + 1) = OutFly d i LR NI NM TAB 7 from dif_pos (by decide)]
  iintro ⟨Hz, -, Hi0, Hi1, Ho6, Ho7, Hd, -, Hlr, Hlut, HO⟩
  iapply (wp_then d i (waitOut_wp d i LR NI NM TAB (W := W) hO 6)) $$ [Ho6 Hd HO]
  · isplitr [HO]; swap; · iexact HO
    isplitl [Ho6]; · iexact Ho6
    iexact Hd
  iintro ⟨⟨Hg0, Hd⟩, HO⟩
  iapply (wp_then d i (waitOut_wp d i LR NI NM TAB (W := W) hO 7)) $$ [Ho7 Hd HO]
  · isplitr [HO]; swap; · iexact HO
    isplitl [Ho7]; · iexact Ho7
    iexact Hd
  iintro ⟨⟨Hg1, Hd⟩, HO⟩
  unfold Zs
  icases Hz with ⟨Hz, -, Hb⟩
  iapply (wp_frame_wand d i (wp_post d i (C := iprop((loc9 d ↦[zk i 0]{fullShare} (result LR NI NM TAB)) ∗ ((tl d i).loc cc0_scratch6 ↦{fullShare} fun _ => zeroF) ∗ sem0 (F := F) d i zsem.sem ∗ Owe (F := F) d i O W))
    (A := iprop(Zw d i LR NI NM TAB O W 0 ∗ (tl d i).loc cc0_scratch6 ↦{shareDrop fullShare 120} fun _ => zeroF))
    (wp_keep d i (zeros_wait d i LR NI NM TAB hO)) ?hc)) $$ [Hb HO Hz]
  case hc =>
    unfold Zw
    iintro ⟨⟨Hb, HO⟩, Hz⟩
    imod (zeros_back d i LR NI NM TAB) $$ [Hb Hz] with ⟨H9, Hz, Hs⟩
    · isplitl [Hb]; · iexact Hb
      iexact Hz
    imodintro
    isplitl [H9]; · iexact H9
    isplitl [Hz]; · iexact Hz
    isplitl [Hs]; · iexact Hs
    iexact HO
  · isplitr [Hz]
    · unfold Zw
      isplitl [Hb]; · iexact Hb
      iexact HO
    · iexact Hz
  iintro ⟨H9, Hz, S11, HO⟩
  unfold InFree OutFree
  icases Hi0 with ⟨Hi0, Hm0, S7⟩
  icases Hi1 with ⟨Hi1, Hm1, S8⟩
  icases Hg0 with ⟨Hg0, S9⟩
  icases Hg1 with ⟨Hg1, S10⟩
  isplitl [H9 Hd]
  · iapply ((pointsTo_union (hd_disj i 0)).2)
    isplitl [Hd]; · iexact Hd
    iexact H9
  isplitl [Hlr Htab Hlut Hi0 Hi1 Hm0 Hm1 Hg0 Hg1 Hz]
  · isplitl [Hlr]; · iexists _; iexact Hlr
    isplitl [Htab]; · iexists _; iexact Htab
    isplitl [Hlut]; · iexists _; iexact Hlut
    isplitl [Hi0 Hi1]
    · iapply (two_join slots4_disj slots4)
      isplitl [Hi0]; · iexact Hi0
      iexact Hi1
    isplitl [Hm0 Hm1]
    · iapply (two_join slots4_disj slots4)
      isplitl [Hm0]; · iexact Hm0
      iexact Hm1
    isplitl [Hg0 Hg1]
    · iapply (two_join slots3_disj slots3)
      isplitl [Hg0]; · iexact Hg0
      iexact Hg1
    iexists _; iexact Hz
  isplitr [HO]; swap; · iexact HO
  isplitl [S7]; · iexact S7
  isplitl [S8]; · iexact S8
  isplitl [S9]; · iexact S9
  isplitl [S10]; · iexact S10
  isplitl [S11]; · iexact S11
  isplitl [T0]; · iexact T0
  iexact T1

end Cert.Proof.Span

end
-- ==== Proof.Span.Lanes1.lean ====
/-
  The printed lane loops of tasks 0 to 3 have the bodies `laneBody` writes: by unfolding both.
-/
module

public import proofs.«01_k».proof.Proof.Span.Model

@[expose] public section

noncomputable section

namespace Cert.Proof.Span

open Cert.Kernel Cert.Kernel.Gen Idealize.ShloMosaic Idealize.SL.Sem

attribute [local instance] Cert.Kernel.Gen.facts

variable {F : FTy → Type} [FloatOps F]

set_option maxRecDepth 65536
set_option maxHeartbeats 8000000

theorem lanes0 (i : grid0.Coords) (a b : BitVec 32) :
    k0_t2_body (F := F) i lrH (Memref.isWhole_whole _) niH (Memref.isWhole_whole _) nmH (Memref.isWhole_whole _) tabH (Memref.isWhole_whole _) outH (Memref.isWhole_whole _)
      lrV (Memref.isWhole_whole _) tabV (Memref.isWhole_whole _) lutV (Memref.isWhole_whole _) idxV (Memref.isWhole_whole _) mskV (Memref.isWhole_whole _) stgV (Memref.isWhole_whole _) zeroV (Memref.isWhole_whole _)
      cc0_scratch7 cc0_scratch8 cc0_scratch9 cc0_scratch10 cc0_scratch11 cc0_scoped0 cc0_scoped1 a b = laneBody i 0 := rfl

theorem lanes1 (i : grid0.Coords) (a b : BitVec 32) :
    k0_t4_body (F := F) i lrH (Memref.isWhole_whole _) niH (Memref.isWhole_whole _) nmH (Memref.isWhole_whole _) tabH (Memref.isWhole_whole _) outH (Memref.isWhole_whole _)
      lrV (Memref.isWhole_whole _) tabV (Memref.isWhole_whole _) lutV (Memref.isWhole_whole _) idxV (Memref.isWhole_whole _) mskV (Memref.isWhole_whole _) stgV (Memref.isWhole_whole _) zeroV (Memref.isWhole_whole _)
      cc0_scratch7 cc0_scratch8 cc0_scratch9 cc0_scratch10 cc0_scratch11 cc0_scoped0 cc0_scoped1 a b = laneBody i 1 := rfl

theorem lanes2 (i : grid0.Coords) (a : BitVec 32) :
    k0_t6_body (F := F) i lrH (Memref.isWhole_whole _) niH (Memref.isWhole_whole _) nmH (Memref.isWhole_whole _) tabH (Memref.isWhole_whole _) outH (Memref.isWhole_whole _)
      lrV (Memref.isWhole_whole _) tabV (Memref.isWhole_whole _) lutV (Memref.isWhole_whole _) idxV (Memref.isWhole_whole _) mskV (Memref.isWhole_whole _) stgV (Memref.isWhole_whole _) zeroV (Memref.isWhole_whole _)
      cc0_scratch7 cc0_scratch8 cc0_scratch9 cc0_scratch10 cc0_scratch11 cc0_scoped0 cc0_scoped1 a = laneBody i 2 := rfl

theorem lanes3 (i : grid0.Coords) (a b : BitVec 32) :
    k0_t8_body (F := F) i lrH (Memref.isWhole_whole _) niH (Memref.isWhole_whole _) nmH (Memref.isWhole_whole _) tabH (Memref.isWhole_whole _) outH (Memref.isWhole_whole _)
      lrV (Memref.isWhole_whole _) tabV (Memref.isWhole_whole _) lutV (Memref.isWhole_whole _) idxV (Memref.isWhole_whole _) mskV (Memref.isWhole_whole _) stgV (Memref.isWhole_whole _) zeroV (Memref.isWhole_whole _)
      cc0_scratch7 cc0_scratch8 cc0_scratch9 cc0_scratch10 cc0_scratch11 cc0_scoped0 cc0_scoped1 a b = laneBody i 3 := rfl

end Cert.Proof.Span

end
-- ==== Proof.Span.Lanes2.lean ====
/-
  The printed lane loops of tasks 4 to 7 have the bodies `laneBody` writes: by unfolding both.
-/
module

public import proofs.«01_k».proof.Proof.Span.Model

@[expose] public section

noncomputable section

namespace Cert.Proof.Span

open Cert.Kernel Cert.Kernel.Gen Idealize.ShloMosaic Idealize.SL.Sem

attribute [local instance] Cert.Kernel.Gen.facts

variable {F : FTy → Type} [FloatOps F]

set_option maxRecDepth 65536
set_option maxHeartbeats 8000000

theorem lanes4 (i : grid0.Coords) (a : BitVec 32) :
    k0_t10_body (F := F) i lrH (Memref.isWhole_whole _) niH (Memref.isWhole_whole _) nmH (Memref.isWhole_whole _) tabH (Memref.isWhole_whole _) outH (Memref.isWhole_whole _)
      lrV (Memref.isWhole_whole _) tabV (Memref.isWhole_whole _) lutV (Memref.isWhole_whole _) idxV (Memref.isWhole_whole _) mskV (Memref.isWhole_whole _) stgV (Memref.isWhole_whole _) zeroV (Memref.isWhole_whole _)
      cc0_scratch7 cc0_scratch8 cc0_scratch9 cc0_scratch10 cc0_scratch11 cc0_scoped0 cc0_scoped1 a = laneBody i 4 := rfl

theorem lanes5 (i : grid0.Coords) (a b : BitVec 32) :
    k0_t12_body (F := F) i lrH (Memref.isWhole_whole _) niH (Memref.isWhole_whole _) nmH (Memref.isWhole_whole _) tabH (Memref.isWhole_whole _) outH (Memref.isWhole_whole _)
      lrV (Memref.isWhole_whole _) tabV (Memref.isWhole_whole _) lutV (Memref.isWhole_whole _) idxV (Memref.isWhole_whole _) mskV (Memref.isWhole_whole _) stgV (Memref.isWhole_whole _) zeroV (Memref.isWhole_whole _)
      cc0_scratch7 cc0_scratch8 cc0_scratch9 cc0_scratch10 cc0_scratch11 cc0_scoped0 cc0_scoped1 a b = laneBody i 5 := rfl

theorem lanes6 (i : grid0.Coords) (a : BitVec 32) :
    k0_t14_body (F := F) i lrH (Memref.isWhole_whole _) niH (Memref.isWhole_whole _) nmH (Memref.isWhole_whole _) tabH (Memref.isWhole_whole _) outH (Memref.isWhole_whole _)
      lrV (Memref.isWhole_whole _) tabV (Memref.isWhole_whole _) lutV (Memref.isWhole_whole _) idxV (Memref.isWhole_whole _) mskV (Memref.isWhole_whole _) stgV (Memref.isWhole_whole _) zeroV (Memref.isWhole_whole _)
      cc0_scratch7 cc0_scratch8 cc0_scratch9 cc0_scratch10 cc0_scratch11 cc0_scoped0 cc0_scoped1 a = laneBody i 6 := rfl

theorem lanes7 (i : grid0.Coords) (a : BitVec 32) :
    k0_t16_body (F := F) i lrH (Memref.isWhole_whole _) niH (Memref.isWhole_whole _) nmH (Memref.isWhole_whole _) tabH (Memref.isWhole_whole _) outH (Memref.isWhole_whole _)
      lrV (Memref.isWhole_whole _) tabV (Memref.isWhole_whole _) lutV (Memref.isWhole_whole _) idxV (Memref.isWhole_whole _) mskV (Memref.isWhole_whole _) stgV (Memref.isWhole_whole _) zeroV (Memref.isWhole_whole _)
      cc0_scratch7 cc0_scratch8 cc0_scratch9 cc0_scratch10 cc0_scratch11 cc0_scoped0 cc0_scoped1 a = laneBody i 7 := rfl

end Cert.Proof.Span

end
-- ==== Proof.Span.Same.lean ====
/-
  The printed tile program is the one written as loops.

  Both are unfolded to chains of operations, which are matched one by one; the lane loops match by `lanes0`, …, `lanes7`.
-/
module

public import proofs.«01_k».proof.Proof.Span.Lanes1
public import proofs.«01_k».proof.Proof.Span.Lanes2

@[expose] public section

noncomputable section

namespace Cert.Proof.Span

open Cert.Kernel Cert.Kernel.Gen Idealize.ShloMosaic Idealize.SL.Sem

attribute [local instance] Cert.Kernel.Gen.facts

variable {F : FTy → Type} [FloatOps F]

/-- A run of eight, spelled out. -/
theorem run_eight {i : grid0.Coords} (f : Fin 8 → TP F i PUnit) : run 8 f = (do f 0; f 1; f 2; f 3; f 4; f 5; f 6; f 7) := by
  rw [← Prog.bind_pure (f 7)]; rfl

/-- Chains that begin with the same operation and go on the same. -/
theorem op_congr {i : grid0.Coords} {α β : Type} {e e' : TpuEff nD τ sig (Elt F) Λ₀ (.scVector ((i 0).castLE hcore0) ((i 1).castLE hsub0)) β}
    {k k' : β → TP F i α} (he : e = e') (hk : ∀ x, k x = k' x) : (Prog.op e k : TP F i α) = Prog.op e' k' := by
  subst he; exact congrArg _ (funext hk)

/-- Chains that begin with loops of the same body and go on the same. -/
theorem for_congr {i : grid0.Coords} {α : Type} {l : Scf.Loop 32} {ok : l.OK} {b b' : Fin l.trips → PUnit → TP F i PUnit} {k k' : PUnit → TP F i α}
    (he : b = b') (hk : ∀ x, k x = k' x) : (Scf.Loop.for l ok ⟨⟩ b >>= k : TP F i α) = Scf.Loop.for l ok ⟨⟩ b' >>= k' := by
  subst he; exact congrArg _ (funext hk)

set_option maxRecDepth 65536
set_option maxHeartbeats 8000000

theorem tile_eq (i : grid0.Coords) : printed (F := F) i = tile i := by
  simp only [printed, cc0__sc_span_bias, k0_part144_eq_skeleton, k0_part144_skel, k0_part90_eq_skeleton, k0_part90_skel, k0_part95_eq_skeleton,
    k0_part95_skel, k0_part99_eq_skeleton, k0_part99_skel, k0_part103_eq_skeleton, k0_part103_skel, k0_part108_eq_skeleton, k0_part108_skel,
    k0_part112_eq_skeleton, k0_part112_skel, k0_part117_eq_skeleton, k0_part117_skel, k0_part121_eq_skeleton, k0_part121_skel,
    k0_part125_eq_skeleton, k0_part125_skel, tile, run_eight, step, Prog.bind_assoc]
  iterate 68 refine op_congr (F := F) rfl fun _ => ?_
  refine for_congr (F := F) (l := k0_t1_loop) rfl fun _ => ?_
  iterate 21 refine op_congr (F := F) rfl fun _ => ?_
  refine for_congr (F := F) (l := k0_t2_loop) (lanes0 i _ _) fun _ => ?_
  iterate 20 refine op_congr (F := F) rfl fun _ => ?_
  refine for_congr (F := F) (l := k0_t4_loop) (lanes1 i _ _) fun _ => ?_
  iterate 21 refine op_congr (F := F) rfl fun _ => ?_
  refine for_congr (F := F) (l := k0_t6_loop) (lanes2 i _) fun _ => ?_
  iterate 21 refine op_congr (F := F) rfl fun _ => ?_
  refine for_congr (F := F) (l := k0_t8_loop) (lanes3 i _ _) fun _ => ?_
  iterate 21 refine op_congr (F := F) rfl fun _ => ?_
  refine for_congr (F := F) (l := k0_t10_loop) (lanes4 i _) fun _ => ?_
  iterate 21 refine op_congr (F := F) rfl fun _ => ?_
  refine for_congr (F := F) (l := k0_t12_loop) (lanes5 i _ _) fun _ => ?_
  iterate 21 refine op_congr (F := F) rfl fun _ => ?_
  refine for_congr (F := F) (l := k0_t14_loop) (lanes6 i _) fun _ => ?_
  iterate 19 refine op_congr (F := F) rfl fun _ => ?_
  refine for_congr (F := F) (l := k0_t16_loop) (lanes7 i _) fun _ => ?_
  iterate 123 refine op_congr (F := F) rfl fun _ => ?_
  rfl

end Cert.Proof.Span

end
-- ==== Proof.Span.Launch.lean ====
/-
  What the call hands the tiles and gets back, and the tile's run as the call sees it.
-/
module

public import proofs.«01_k».proof.Proof.Span.Tile
public import proofs.«01_k».proof.Proof.Span.Same
public import Idealize.ShloMosaic.Lib.ShareLeaves
public import Idealize.ShloMosaic.Lib.Pipeline.Kit

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

open Transfers
open Idealize.ShloMosaic.ShareLeaves (leaf pointsTo_leaves)

/-! ## A tile's own memory among all it may use -/

section Own
variable (d : Dev nD) (i : grid0.Coords)

/-- The seven buffers, by name. -/
def bufNames : Finset (Ref sig .scVector) :=
  {cc0_scratch0, cc0_scratch1, cc0_scratch2, cc0_scratch3, cc0_scratch4, cc0_scratch5, cc0_scratch6}
/-- The seven semaphores, by name. -/
def semNames : Finset (SemLoc sig) :=
  {.dma cc0_scratch7.sem, .dma cc0_scratch8.sem, .dma cc0_scratch9.sem, .dma cc0_scratch10.sem, .dma cc0_scratch11.sem,
    .dma cc0_scoped0.sem, .dma cc0_scoped1.sem}

/-- The buffers' places on the device, and the semaphores' cells. -/
def bufsAt : Finset (DevRef τ sig) := bufNames.map ⟨fun r => (Proc.scVector (cV i) (jV i)).devRef r, Proc.devRef_injective _⟩
def semsAt : Finset (GSem nD τ sig) := semNames.map ⟨fun s => (tl d i, s), fun _ _ h => (Prod.mk.inj h).2⟩

theorem bufsAt_sub : bufsAt i ⊆ ownRefs (τ := τ) (.scVector (cV i) (jV i)) := by
  intro b hb
  obtain ⟨r, hr, rfl⟩ := Finset.mem_map.mp hb
  simp only [bufNames, Finset.mem_insert, Finset.mem_singleton] at hr
  rcases hr with rfl | rfl | rfl | rfl | rfl | rfl | rfl <;> exact SparseCore.Cfg.mem_ownRefs_of_owner rfl
theorem semNames_scoped : ∀ s ∈ semNames, s.isScoped .scVector = true := by decide
theorem semsAt_sub : semsAt d i ⊆ ownCells (tl d i) := by
  intro g hg
  obtain ⟨s, hs, rfl⟩ := Finset.mem_map.mp hg
  exact mem_ownCells.mpr ⟨rfl, semNames_scoped s hs⟩

theorem seven (Φ : Ref sig .scVector → sProp 𝕄) : bigSep bufNames Φ
    = iprop(Φ cc0_scratch0 ∗ Φ cc0_scratch1 ∗ Φ cc0_scratch2 ∗ Φ cc0_scratch3 ∗ Φ cc0_scratch4 ∗ Φ cc0_scratch5 ∗ Φ cc0_scratch6) := by
  unfold bufNames
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
theorem mine_eq : (bigSep (bufsAt i) fun b => (iprop(∃ f, ((d, b) : Loc nD τ sig) ↦{fullShare} f) : sProp 𝕄)) = Mine (F := F) d i := by
  unfold bufsAt
  rw [bigSep_map]
  exact seven (F := F) fun r => iprop(∃ f, (tl d i).loc r ↦{fullShare} f)
theorem sems_eq : (bigSep (semsAt d i) fun g => (semVal g 0 : sProp 𝕄)) = Sems (F := F) d i := by
  unfold semsAt
  rw [bigSep_map]
  unfold semNames Sems
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem ownBufs_eq : (ownBufs (tl d i) : sProp 𝕄)
    = iprop(Mine (F := F) d i ∗ bigSep (ownRefs (τ := τ) (.scVector (cV i) (jV i)) \ bufsAt i) fun b => iprop(∃ f, ((d, b) : Loc nD τ sig) ↦{fullShare} f)) := by
  rw [← mine_eq, ← SparseCore.bigSep_union' Finset.disjoint_sdiff, Finset.union_sdiff_of_subset (bufsAt_sub i)]
  rfl
theorem ownSems_eq : (ownSems0 (tl d i) : sProp 𝕄)
    = iprop(Sems (F := F) d i ∗ bigSep (ownCells (tl d i) \ semsAt d i) fun g => semVal g 0) := by
  rw [← sems_eq, ← SparseCore.bigSep_union' Finset.disjoint_sdiff, Finset.union_sdiff_of_subset (semsAt_sub d i)]
  rfl

end Own

/-! ## What the call hands over -/

/-- The arrays at the call: the spans, the ids, the masks, the table, the result's place as it stands. -/
structure Args (F : FTy → Type) where
  lr : Vec F S8x32x2x128 .i32
  ni : Vec F S8x8x32x8x128 .i32
  nm : Vec F S8x8x32x8x128 .i32
  tab : Vec F S15 .f32
  out : Vec F S8x128x32x1024 .f32

/-- What the tiles leave. -/
abbrev Args.res (A : Args F) : Vec F S8x128x32x1024 .f32 := result A.lr A.ni A.nm A.tab

/-- The read arrays, each at a share. -/
def Ins (d : Dev nD) (A : Args F) (q q3 : PosShare TreeShare) : sProp 𝕄 :=
  iprop((loc2 d ↦{q} A.lr) ∗ (loc3 d ↦{q3} A.tab) ∗ (loc5 d ↦{q} A.ni) ∗ loc8 d ↦{q} A.nm)

/-- Core `c`'s shares, and those of its tile `s`; of the table one half stays behind. -/
abbrev cq (c : Fin 2) : PosShare TreeShare := leaf 1 fullShare c
abbrev cq3 (c : Fin 2) : PosShare TreeShare := leaf 1 fullShare.right c
abbrev tq (c : Fin 2) (s : Fin 16) : PosShare TreeShare := leaf 4 (cq c) s
abbrev tq3 (c : Fin 2) (s : Fin 16) : PosShare TreeShare := leaf 4 (cq3 c) s

/-- Core `c`'s part of the result. -/
def coreSet (c : Fin 2) : Finset S8x128x32x1024.Idx := Finset.univ.biUnion fun s : Fin 16 => tileSet (pt c s)

theorem bat_pt (c : Fin 2) (s : Fin 16) : bat (pt c s) = (2 * s.val + c.val) / 4 := rfl
theorem col0_pt (c : Fin 2) (s : Fin 16) : col0 (pt c s) = 8 * ((2 * s.val + c.val) % 4) := rfl

theorem tiles_disj (c : Fin 2) : ∀ s ∈ (Finset.univ : Finset (Fin 16)), ∀ s' ∈ (Finset.univ : Finset (Fin 16)), s ≠ s' →
    Disjoint (tileSet (pt c s)) (tileSet (pt c s')) := by
  intro s _ s' _ h
  rw [Finset.disjoint_left]; intro j hj hj'
  rw [mem_tileSet, bat_pt, col0_pt] at hj hj'
  exact h (Fin.ext (by omega))
theorem mem_coreSet {c : Fin 2} {j : S8x128x32x1024.Idx} : j ∈ coreSet c ↔ ((j 2).val / 8) % 2 = c.val := by
  have h0 : (j 0).val < 8 := (j 0).isLt
  have h2 : (j 2).val < 32 := (j 2).isLt
  have hc := c.isLt
  unfold coreSet; rw [Finset.mem_biUnion]
  constructor
  · rintro ⟨s, -, hj⟩
    rw [mem_tileSet, bat_pt, col0_pt] at hj; omega
  · intro h
    refine ⟨⟨2 * (j 0).val + ((j 2).val / 8) / 2, by omega⟩, Finset.mem_univ _, ?_⟩
    rw [mem_tileSet, bat_pt, col0_pt]; dsimp only; omega
theorem cores_disj : Disjoint (coreSet 0) (coreSet 1) := by
  rw [Finset.disjoint_left]; intro j h h'
  rw [mem_coreSet] at h h'; rw [h] at h'; exact absurd h' (by decide)
theorem cores_cover : coreSet 0 ∪ coreSet 1 = Finset.univ := by
  ext j; rw [Finset.mem_union, mem_coreSet, mem_coreSet]
  have h0 : ((0 : Fin 2) : ℕ) = 0 := rfl
  have h1 : ((1 : Fin 2) : ℕ) = 1 := rfl
  simp only [Finset.mem_univ, iff_true]; omega

theorem ins_tiles (d : Dev nD) (A : Args F) (c : Fin 2) :
    (Ins d A (cq c) (cq3 c) : sProp 𝕄) = bigSep Finset.univ fun s : Fin 16 => Ins d A (tq c s) (tq3 c s) := by
  unfold Ins
  rw [bigSep_sep', bigSep_sep', bigSep_sep']
  congr 1
  · exact pointsTo_leaves Finset.univ _ 4 (cq c)
  congr 1
  · exact pointsTo_leaves Finset.univ _ 4 (cq3 c)
  congr 1
  · exact pointsTo_leaves Finset.univ _ 4 (cq c)
  · exact pointsTo_leaves Finset.univ _ 4 (cq c)
theorem out_tiles (d : Dev nD) (f : Vec F S8x128x32x1024 .f32) (c : Fin 2) :
    (loc9 d ↦[coreSet c]{fullShare} f : sProp 𝕄) = bigSep Finset.univ fun s : Fin 16 => loc9 d ↦[tileSet (pt c s)]{fullShare} f :=
  pointsTo_biUnion Finset.univ (ℓ := loc9 d) (fun s => tileSet (pt c s)) (tiles_disj c)

theorem nCore_zero : (K (F := F)).nCore 0 = 2 := rfl

def P (A : Dev nD → Args F) : (K (F := F)).Pay (nD := nD) (Val := Elt F) (Name := ℕ) (U := UU) where
  st := fun n d c => match n with
    | 0 => iprop(Ins d (A d) (cq (Fin.cast nCore_zero c)) (cq3 (Fin.cast nCore_zero c)) ∗ loc9 d ↦[coreSet (Fin.cast nCore_zero c)]{fullShare} (A d).out)
  dn := fun n d c => match n with
    | 0 => iprop(loc9 d ↦[coreSet (Fin.cast nCore_zero c)]{fullShare} (A d).res)
  go := fun n d c i => match n with
    | 0 => iprop(Ins d (A d) (tq (Fin.cast nCore_zero c) (Fin.cast nSub_zero i)) (tq3 (Fin.cast nCore_zero c) (Fin.cast nSub_zero i))
        ∗ loc9 d ↦[tileSet (pt (Fin.cast nCore_zero c) (Fin.cast nSub_zero i))]{fullShare} (A d).out)
  td := fun n d c i => match n with
    | 0 => iprop(loc9 d ↦[tileSet (pt (Fin.cast nCore_zero c) (Fin.cast nSub_zero i))]{fullShare} (A d).res)
  x := fun _ _ => iprop(emp)

instance P_storable (A : Dev nD → Args F) : (P A).IsStorable where
  st n d c := match n with
    | 0 => (by unfold Ins; infer_instance : BI.Storable (upEmb : UEmb _ 𝕄)
      iprop(Ins d (A d) (cq (Fin.cast nCore_zero c)) (cq3 (Fin.cast nCore_zero c)) ∗ loc9 d ↦[coreSet (Fin.cast nCore_zero c)]{fullShare} (A d).out))
  dn n d c := match n with
    | 0 => (inferInstance : BI.Storable (upEmb : UEmb _ 𝕄) iprop(loc9 d ↦[coreSet (Fin.cast nCore_zero c)]{fullShare} (A d).res))
  go n d c i := match n with
    | 0 => (by unfold Ins; infer_instance : BI.Storable (upEmb : UEmb _ 𝕄)
      iprop(Ins d (A d) (tq (Fin.cast nCore_zero c) (Fin.cast nSub_zero i)) (tq3 (Fin.cast nCore_zero c) (Fin.cast nSub_zero i))
        ∗ loc9 d ↦[tileSet (pt (Fin.cast nCore_zero c) (Fin.cast nSub_zero i))]{fullShare} (A d).out))
  td n d c i := match n with
    | 0 => (inferInstance : BI.Storable (upEmb : UEmb _ 𝕄)
      iprop(loc9 d ↦[tileSet (pt (Fin.cast nCore_zero c) (Fin.cast nSub_zero i))]{fullShare} (A d).res))

/-! ## The tile's run -/

theorem tile_body (A : Args F) (d : Dev nD) (i : grid0.Coords) (q q3 : PosShare TreeShare) (hA : Spans A.lr)
    (O : CellTallies nD τ sig (HIx 1)) (W : Waits sig (HIx 1)) (hO : ∀ g, O g none = 0) :
    iprop(levAts (K (F := F)).L (K (F := F)).lev ∗ emp ∗ (Ins d A q q3 ∗ loc9 d ↦[tileSet i]{fullShare} A.out)
        ∗ scopedBufs (tl d i) ∗ scopedSems0 (tl d i) ∗ owes (tl d i) O W)
      ⊢ wpT d i (printed i) fun _ => iprop((loc9 d ↦[tileSet i]{fullShare} A.res) ∗ scopedBufs (tl d i) ∗ scopedSems0 (tl d i)
        ∗ ∃ W', ⌜∀ p ∈ W', p ∈ W ∨ p.2 = none⌝ ∗ owes (tl d i) O W') := by
  rw [(K (F := F)).scopedBufs_V launchFacts d (cV i) (jV i), SparseCore.Cfg.scopedSems0_V (Val := Elt F) d (cV i) (jV i), ownSems_eq, ownBufs_eq, tile_eq]
  iintro ⟨Hv, -, ⟨Hin, Ho⟩, ⟨Hm, Hmr⟩, ⟨Hs, Hsr⟩, HO⟩
  iapply (wp_frame_wand d i (tile_wp d i A.lr A.ni A.nm A.tab A.out q q q3 (W := W) hA hO)) $$ [Hv Hin Ho Hm Hs HO]
  · isplitl [Hin]; · unfold Ins; iexact Hin
    isplitl [Ho]; · iexact Ho
    isplitl [Hm]; · iexact Hm
    isplitl [Hs]; · iexact Hs
    unfold Owe
    isplitl [Hv]; · iexact Hv
    iexists W; isplitr
    · ipureintro; exact fun _ h => Or.inl h
    · iexact HO
  unfold Owe
  iintro ⟨Ho, Hm, Hs, -, HO⟩
  isplitl [Ho]; · iexact Ho
  isplitl [Hm Hmr]
  · isplitl [Hm]; · iexact Hm
    iexact Hmr
  isplitl [Hs Hsr]
  · isplitl [Hs]; · iexact Hs
    iexact Hsr
  iexact HO

theorem defs₀_vector (c : Fin τ.nSC) (s : Fin τ.nSub) :
    defs₀ (F := F) (.scVector c s) 0 () = SparseCore.onTile hcore0 hsub0 (fun c s => printed (pt c s)) ⟨⟩ c s := rfl

theorem obl_post {thr : Thread nD τ} {A B C : sProp 𝕄} {O : CellTallies nD τ sig (HIx 1)} {W : Waits sig (HIx 1)} {n : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some n⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (A : Dev nD → Args F) (hA : ∀ d, Spans (A d).lr) : (K (F := F)).TileObl (D (F := F)) 𝒱 (P A) v₀ 0 := by
  intro d c i O W hO _ _
  simp only [show (P A).ox = fun _ _ => 0 from rfl, add_zero]
  have hc : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hc, and_self, ↓reduceDIte]
  exact (tile_body (A d) d (pt ⟨_, hc.1⟩ ⟨_, hc.2⟩) _ _ (hA d) O W hO).trans (wp_mono frame _ _ fun _ => obl_post)

/-! ## The core's deal -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (A : Dev nD → Args F) : (K (F := F)).VecSplit' (P A) 0 := by
  intro d c
  show iprop(Ins d (A d) (cq (Fin.cast nCore_zero c)) (cq3 (Fin.cast nCore_zero c)) ∗ loc9 d ↦[coreSet (Fin.cast nCore_zero c)]{fullShare} (A d).out)
    ⊢ |={Set.univ}=> iprop(
      (bigSep Finset.univ fun i : Fin ((K (F := F)).nSub 0) =>
        iprop(Ins d (A d) (tq (Fin.cast nCore_zero c) (Fin.cast nSub_zero i)) (tq3 (Fin.cast nCore_zero c) (Fin.cast nSub_zero i))
          ∗ loc9 d ↦[tileSet (pt (Fin.cast nCore_zero c) (Fin.cast nSub_zero i))]{fullShare} (A d).out))
      ∗ ((bigSep Finset.univ fun i : Fin ((K (F := F)).nSub 0) =>
          iprop(loc9 d ↦[tileSet (pt (Fin.cast nCore_zero c) (Fin.cast nSub_zero i))]{fullShare} (A d).res))
        -∗ loc9 d ↦[coreSet (Fin.cast nCore_zero c)]{fullShare} (A d).res))
  generalize Fin.cast nCore_zero c = c'
  rw [bigSep_tasks (F := F) (fun s => iprop(Ins d (A d) (tq c' s) (tq3 c' s) ∗ loc9 d ↦[tileSet (pt c' s)]{fullShare} (A d).out)),
    bigSep_tasks (F := F) (fun s => iprop(loc9 d ↦[tileSet (pt c' s)]{fullShare} (A d).res)), bigSep_sep', ← ins_tiles, ← out_tiles, ← out_tiles]
  iintro H; imodintro
  isplitl [H]; · iexact H
  iintro H; iexact H

/-! ## The ghost state at the launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (A : Dev nD → Args F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), bigSep_emp']
  iempintro

end Cert.Proof.Span

end
-- ==== Proof.Span.Host.lean ====
/-
  The whole program: the host's arrangement of the arrays, the call, the host's arrangement of the result.
-/
module

public import proofs.«01_k».proof.Proof.Span.Launch

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

open Idealize.ShloMosaic.StableHlo (held wp_hlo_within seq after)

/-! ## The host's arrangement, as functions -/

/-- The spans, their two ends side by side over lines of 128 ids. -/
def arrSpan (x : Vec F S8x4096x2 .i32) : Vec F S8x32x2x128 .i32 :=
  transpose S8x32x2x128 [0, 2, 1, 3]
    (shapeCast S8x2x32x128 (transpose S8x2x4096 [0, 2, 1] x transposes_S8x4096x2_S8x2x4096_0_2_1) shapeCasts_S8x2x4096_S8x2x32x128)
    transposes_S8x2x32x128_S8x32x2x128_0_2_1_3
/-- The ids (and the masks), eight neighbours by 128 ids to a block. -/
def arrIds (x : Vec F S8x4096x64 .i32) : Vec F S8x8x32x8x128 .i32 :=
  transpose S8x8x32x8x128 [0, 1, 3, 2, 4]
    (shapeCast S8x8x8x32x128 (transpose S8x64x4096 [0, 2, 1] x transposes_S8x4096x64_S8x64x4096_0_2_1) shapeCasts_S8x64x4096_S8x8x8x32x128)
    transposes_S8x8x8x32x128_S8x8x32x8x128_0_1_3_2_4
/-- The result, from blocks to rows. -/
def arrOut (x : Vec F S8x128x32x1024 .f32) : Vec F S8x4096x16x64 .f32 :=
  shapeCast S8x4096x16x64
    (transpose S8x32x128x16x8x8 [0, 3, 5, 1, 2, 4] (shapeCast S8x16x8x32x8x128 x shapeCasts_S8x128x32x1024_S8x16x8x32x8x128)
      transposes_S8x16x8x32x8x128_S8x32x128x16x8x8_0_3_5_1_2_4)
    shapeCasts_S8x32x128x16x8x8_S8x4096x16x64

/-! ## The host's lines -/

/-- Before the call. -/
abbrev opsA : List (HloOp τ sig (Elt F)) :=
  [ StableHlo.unary main_arg0 main_v0 ((transpose S8x2x4096 [0, 2, 1] · transposes_S8x4096x2_S8x2x4096_0_2_1) : (⟨S8x4096x2, .i32⟩ : BufTy).Contents (Elt F) → (⟨S8x2x4096, .i32⟩ : BufTy).Contents (Elt F)),
    StableHlo.reshape main_v0 main_v1 (rfl : (.i32 : EltTy) = .i32) shapeCasts_S8x2x4096_S8x2x32x128,
    StableHlo.unary main_v1 main_v2 ((transpose S8x32x2x128 [0, 2, 1, 3] · transposes_S8x2x32x128_S8x32x2x128_0_2_1_3) : (⟨S8x2x32x128, .i32⟩ : BufTy).Contents (Elt F) → (⟨S8x32x2x128, .i32⟩ : BufTy).Contents (Elt F)),
    StableHlo.unary main_arg1 main_v3 ((transpose S8x64x4096 [0, 2, 1] · transposes_S8x4096x64_S8x64x4096_0_2_1) : (⟨S8x4096x64, .i32⟩ : BufTy).Contents (Elt F) → (⟨S8x64x4096, .i32⟩ : BufTy).Contents (Elt F)),
    StableHlo.reshape main_v3 main_v4 (rfl : (.i32 : EltTy) = .i32) shapeCasts_S8x64x4096_S8x8x8x32x128,
    StableHlo.unary main_v4 main_v5 ((transpose S8x8x32x8x128 [0, 1, 3, 2, 4] · transposes_S8x8x8x32x128_S8x8x32x8x128_0_1_3_2_4) : (⟨S8x8x8x32x128, .i32⟩ : BufTy).Contents (Elt F) → (⟨S8x8x32x8x128, .i32⟩ : BufTy).Contents (Elt F)),
    StableHlo.unary main_arg2 main_v6 ((transpose S8x64x4096 [0, 2, 1] · transposes_S8x4096x64_S8x64x4096_0_2_1) : (⟨S8x4096x64, .i32⟩ : BufTy).Contents (Elt F) → (⟨S8x64x4096, .i32⟩ : BufTy).Contents (Elt F)),
    StableHlo.reshape main_v6 main_v7 (rfl : (.i32 : EltTy) = .i32) shapeCasts_S8x64x4096_S8x8x8x32x128,
    StableHlo.unary main_v7 main_v8 ((transpose S8x8x32x8x128 [0, 1, 3, 2, 4] · transposes_S8x8x8x32x128_S8x8x32x8x128_0_1_3_2_4) : (⟨S8x8x8x32x128, .i32⟩ : BufTy).Contents (Elt F) → (⟨S8x8x32x8x128, .i32⟩ : BufTy).Contents (Elt F)) ]

/-- After the call. -/
abbrev opsB : List (HloOp τ sig (Elt F)) :=
  [ StableHlo.reshape main_v9 main_v10 (rfl : (.f32 : EltTy) = .f32) shapeCasts_S8x128x32x1024_S8x16x8x32x8x128,
    StableHlo.unary main_v10 main_v11 ((transpose S8x32x128x16x8x8 [0, 3, 5, 1, 2, 4] · transposes_S8x16x8x32x8x128_S8x32x128x16x8x8_0_3_5_1_2_4) : (⟨S8x16x8x32x8x128, .f32⟩ : BufTy).Contents (Elt F) → (⟨S8x32x128x16x8x8, .f32⟩ : BufTy).Contents (Elt F)),
    StableHlo.reshape main_v11 main_v12 (rfl : (.f32 : EltTy) = .f32) shapeCasts_S8x32x128x16x8x8_S8x4096x16x64 ]

theorem main_eq (d : Dev nD) : main (F := F) d = (seq opsA >>= fun _ => (K (F := F)).run d 0 >>= fun _ => seq opsB >>= fun _ => Prog.ret ⟨⟩) := rfl

variable (m : (ℓ : Loc nD τ sig) → Buf (Elt F) ℓ) (ρ : Dev nD → PrngReg)

/-- The device's arrays at the launch, and at the call. -/
def V0 (d : Dev nD) : Valuation τ sig (Elt F) := fun b => m (d, b)
def V1 (d : Dev nD) : Valuation τ sig (Elt F) := after opsA (V0 m d)

/-- What the call is given. -/
def args (d : Dev nD) : Args F where
  lr := V1 m d (Proc.devRef .tc main_v2)
  ni := V1 m d (Proc.devRef .tc main_v5)
  nm := V1 m d (Proc.devRef .tc main_v8)
  tab := V1 m d (Proc.devRef .tc main_arg3)
  out := V1 m d (Proc.devRef .tc main_v9)

/-- After the call, and at the end. -/
def V2 (d : Dev nD) : Valuation τ sig (Elt F) := Function.update (V1 m d) (Proc.devRef .tc main_v9) (args m d).res
def V3 (d : Dev nD) : Valuation τ sig (Elt F) := after opsB (V2 m d)

open Idealize.ShloMosaic.StableHlo in
theorem args_lr (d : Dev nD) : (args m d).lr = arrSpan (m ((SparseCore.T d).loc main_arg0)) := by
  show V1 m d (Proc.devRef .tc main_v2) = _
  unfold V1; after_results <;> rfl
open Idealize.ShloMosaic.StableHlo in
theorem args_ni (d : Dev nD) : (args m d).ni = arrIds (m ((SparseCore.T d).loc main_arg1)) := by
  show V1 m d (Proc.devRef .tc main_v5) = _
  unfold V1; after_results <;> rfl
open Idealize.ShloMosaic.StableHlo in
theorem args_nm (d : Dev nD) : (args m d).nm = arrIds (m ((SparseCore.T d).loc main_arg2)) := by
  show V1 m d (Proc.devRef .tc main_v8) = _
  unfold V1; after_results <;> rfl
open Idealize.ShloMosaic.StableHlo in
theorem args_tab (d : Dev nD) : (args m d).tab = m ((SparseCore.T d).loc main_arg3) := by
  show V1 m d (Proc.devRef .tc main_arg3) = _
  unfold V1; after_results <;> rfl
open Idealize.ShloMosaic.StableHlo in
theorem V3_out (d : Dev nD) : V3 m d (Proc.devRef .tc main_v12) = arrOut (args m d).res := by
  have h : V2 m d (Proc.devRef .tc main_v9) = (args m d).res := Function.update_self _ _ _
  unfold V3; after_results; rw [h]; rfl

/-- An array the host's lines do not write and the call does not touch. -/
theorem V3_keep (d : Dev nD) (r : Ref sig .tc) (hA : r ∉ [main_v0, main_v1, main_v2, main_v3, main_v4, main_v5, main_v6, main_v7, main_v8])
    (h9 : r ≠ main_v9) (hB : r ∉ [main_v10, main_v11, main_v12]) : V3 m d (Proc.devRef .tc r) = m ((SparseCore.T d).loc r) := by
  unfold V3
  rw [StableHlo.after_of_writes_sub opsB (V2 m d) (StableHlo.forall_writes_sub_of_map rfl) hB]
  unfold V2
  rw [Function.update_of_ne (StableHlo.devRef_ne_of_ne h9)]
  unfold V1
  rw [StableHlo.after_of_writes_sub opsA (V0 m d) (StableHlo.forall_writes_sub_of_map rfl) hA]
  rfl

/-! ## The arrays held -/

/-- The arrays by name: all of them; those the call takes; those that stay; those the last lines work on. -/
def allNames : Finset (Ref sig .tc) := Finset.univ.filter fun b => ¬ b.isScoped
def callNames : Finset (Ref sig .tc) := {main_v2, main_arg3, main_v5, main_v8, main_v9}
def restNames : Finset (Ref sig .tc) := allNames \ callNames

/-- The arrays of the given names, at a valuation's contents. -/
def Held (d : Dev nD) (N : Finset (Ref sig .tc)) (X : Valuation τ sig (Elt F)) : sProp 𝕄 :=
  held (SparseCore.T d) (N.map ⟨fun r => (Proc.tc : Proc τ).devRef r, Proc.devRef_injective _⟩) X
theorem Held_eq (d : Dev nD) (N : Finset (Ref sig .tc)) (X : Valuation τ sig (Elt F)) :
    (Held d N X : sProp 𝕄) = bigSep N fun r => (SparseCore.T d).loc r ↦{fullShare} X (Proc.devRef .tc r) := by
  unfold Held held; rw [bigSep_map]; rfl

theorem call_sub : callNames ⊆ allNames := by decide
theorem launch_held (d : Dev nD) : (unscopedBufs d (fun b => m ((SparseCore.T d).loc b)) : sProp 𝕄) = Held d allNames (V0 m d) := by
  rw [Held_eq]; rfl
theorem Held_split (d : Dev nD) (X : Valuation τ sig (Elt F)) : (Held d allNames X : sProp 𝕄) = iprop(Held d callNames X ∗ Held d restNames X) := by
  rw [Held_eq, Held_eq, Held_eq]; unfold restNames
  rw [← SparseCore.bigSep_union' Finset.disjoint_sdiff, Finset.union_sdiff_of_subset call_sub]
theorem Held_call (d : Dev nD) (X : Valuation τ sig (Elt F)) : (Held d callNames X : sProp 𝕄)
    = iprop((loc2 d ↦{fullShare} X (Proc.devRef .tc main_v2)) ∗ (loc3 d ↦{fullShare} X (Proc.devRef .tc main_arg3))
      ∗ (loc5 d ↦{fullShare} X (Proc.devRef .tc main_v5)) ∗ (loc8 d ↦{fullShare} X (Proc.devRef .tc main_v8)) ∗ loc9 d ↦{fullShare} X (Proc.devRef .tc main_v9)) := by
  rw [Held_eq]; unfold callNames
  rw [SparseCore.bigSep_insert' (by decide), SparseCore.bigSep_insert' (by decide), SparseCore.bigSep_insert' (by decide),
    SparseCore.bigSep_insert' (by decide), bigSep_singleton]
theorem rest_fresh : main_v9 ∉ restNames := by decide
theorem Held_back (d : Dev nD) : (Held d (insert main_v9 restNames) (V2 m d) : sProp 𝕄)
    = iprop((loc9 d ↦{fullShare} (args m d).res) ∗ Held d restNames (V1 m d)) := by
  rw [Held_eq, SparseCore.bigSep_insert' rest_fresh, Held_eq]
  congr 1
/-- The ones the claim reads. -/
theorem Held_end (d : Dev nD) (X : Valuation τ sig (Elt F)) : (Held d (insert main_v9 restNames) X : sProp 𝕄)
    ⊢ iprop(((SparseCore.T d).loc main_arg0 ↦{fullShare} X (Proc.devRef .tc main_arg0)) ∗ ((SparseCore.T d).loc main_arg1 ↦{fullShare} X (Proc.devRef .tc main_arg1))
      ∗ ((SparseCore.T d).loc main_arg2 ↦{fullShare} X (Proc.devRef .tc main_arg2)) ∗ (SparseCore.T d).loc main_v12 ↦{fullShare} X (Proc.devRef .tc main_v12)) := by
  rw [Held_eq]
  refine (BI.bigSep_subset (show ({main_arg0, main_arg1, main_arg2, main_v12} : Finset (Ref sig .tc)) ⊆ insert main_v9 restNames by decide)).trans ?_
  rw [SparseCore.bigSep_insert' (by decide), SparseCore.bigSep_insert' (by decide), SparseCore.bigSep_insert' (by decide), bigSep_singleton]
  exact Entails.of_eq (PROP := sProp 𝕄) rfl

/-! ## The call's two cores -/

theorem leaves_one {ℓ : Loc nD τ sig} (q : PosShare TreeShare) (f : Buf (Elt F) ℓ) :
    (ℓ ↦{q} f : sProp 𝕄) = iprop((ℓ ↦{ShareLeaves.leaf 1 q (0 : Fin 2)} f) ∗ ℓ ↦{ShareLeaves.leaf 1 q (1 : Fin 2)} f) :=
  (ShareLeaves.pointsTo_leaves Finset.univ f 1 q).trans (bigSep_fin_two fun c : Fin 2 => (ℓ ↦{ShareLeaves.leaf 1 q c} f : sProp 𝕄))

theorem st_eq (A : Dev nD → Args F) (d : Dev nD) : (bigSep Finset.univ fun c : Fin ((K (F := F)).nCore 0) => (P A).st 0 d c)
    = iprop((Ins d (A d) (cq 0) (cq3 0) ∗ loc9 d ↦[coreSet 0]{fullShare} (A d).out) ∗ (Ins d (A d) (cq 1) (cq3 1) ∗ loc9 d ↦[coreSet 1]{fullShare} (A d).out)) :=
  bigSep_fin_two fun c : Fin 2 => (P A).st 0 d c
theorem dn_eq (A : Dev nD → Args F) (d : Dev nD) : (bigSep Finset.univ fun c : Fin ((K (F := F)).nCore 0) => (P A).dn 0 d c)
    = iprop((loc9 d ↦[coreSet 0]{fullShare} (A d).res) ∗ loc9 d ↦[coreSet 1]{fullShare} (A d).res) :=
  bigSep_fin_two fun c : Fin 2 => (P A).dn 0 d c
theorem out_cores (d : Dev nD) (f : Vec F S8x128x32x1024 .f32) :
    (loc9 d ↦{fullShare} f : sProp 𝕄) = iprop((loc9 d ↦[coreSet 0]{fullShare} f) ∗ loc9 d ↦[coreSet 1]{fullShare} f) := by
  have h := pointsTo_union (ℓ := loc9 d) (q := fullShare) (f := f) cores_disj (Ix := HIx 1) (Name := ℕ) (U := UU) (Lvl := ℕ)
  rw [cores_cover] at h
  exact BI.Entails.antisymm h.1 h.2

/-- The call's arrays dealt to the two cores, half of the table kept. -/
theorem deal (d : Dev nD) :
    (Held d callNames (V1 m d) : sProp 𝕄)
      ⊢ iprop((bigSep Finset.univ fun c : Fin ((K (F := F)).nCore 0) => (P (args m)).st 0 d c) ∗ loc3 d ↦{fullShare.left} (args m d).tab) := by
  rw [Held_call, st_eq]
  unfold Ins
  iintro ⟨H2, H3, H5, H8, H9⟩
  ihave H2' := (Entails.of_eq (leaves_one fullShare _)) $$ H2
  icases H2' with ⟨H2a, H2b⟩
  ihave H5' := (Entails.of_eq (leaves_one fullShare _)) $$ H5
  icases H5' with ⟨H5a, H5b⟩
  ihave H8' := (Entails.of_eq (leaves_one fullShare _)) $$ H8
  icases H8' with ⟨H8a, H8b⟩
  ihave H3' := (pointsTo_share (PosShare.mem_left_op_right fullShare)).1 $$ H3
  icases H3' with ⟨H3, H3r⟩
  ihave H3r' := (Entails.of_eq (leaves_one fullShare.right _)) $$ H3r
  icases H3r' with ⟨H3a, H3b⟩
  ihave H9' := (Entails.of_eq (out_cores d _)) $$ H9
  icases H9' with ⟨H9a, H9b⟩
  isplitr [H3]; swap; · iexact H3
  isplitl [H2a H3a H5a H8a H9a]
  · isplitr [H9a]; swap; · iexact H9a
    isplitl [H2a]; · iexact H2a
    isplitl [H3a]; · iexact H3a
    isplitl [H5a]; · iexact H5a
    iexact H8a
  · isplitr [H9b]; swap; · iexact H9b
    isplitl [H2b]; · iexact H2b
    isplitl [H3b]; · iexact H3b
    isplitl [H5b]; · iexact H5b
    iexact H8b

/-! ## The program -/

/-- What the program leaves the claim. -/
def FIN (d : Dev nD) : sProp 𝕄 := iprop(Held d (insert main_v9 restNames) (V3 m d) ∗ loc3 d ↦{fullShare.left} (args m d).tab)

/-- A line over two named arrays stays within the names. -/
theorem two_sub {N : Finset (Ref sig .tc)} (x y : Ref sig .tc) (h : x ∈ N ∧ y ∈ N) :
    ({(Proc.tc : Proc τ).devRef x, (Proc.tc : Proc τ).devRef y} : Finset (DevRef τ sig)) ⊆ N.map ⟨fun r => (Proc.tc : Proc τ).devRef r, Proc.devRef_injective _⟩ := by
  intro b hb
  rcases Finset.mem_insert.mp hb with rfl | hb
  · exact Finset.mem_map.mpr ⟨x, h.1, rfl⟩
  · exact Finset.mem_map.mpr ⟨y, h.2, (Finset.mem_singleton.mp hb).symm⟩
theorem opsA_sub : ∀ op ∈ (opsA : List (HloOp τ sig (Elt F))), op.bufs ⊆ allNames.map ⟨fun r => (Proc.tc : Proc τ).devRef r, Proc.devRef_injective _⟩ :=
  List.forall_iff_forall_mem.mp
    ⟨two_sub main_arg0 main_v0 (by decide), two_sub main_v0 main_v1 (by decide), two_sub main_v1 main_v2 (by decide),
      two_sub main_arg1 main_v3 (by decide), two_sub main_v3 main_v4 (by decide), two_sub main_v4 main_v5 (by decide),
      two_sub main_arg2 main_v6 (by decide), two_sub main_v6 main_v7 (by decide), two_sub main_v7 main_v8 (by decide)⟩
theorem opsB_sub : ∀ op ∈ (opsB : List (HloOp τ sig (Elt F))), op.bufs ⊆ (insert main_v9 restNames).map ⟨fun r => (Proc.tc : Proc τ).devRef r, Proc.devRef_injective _⟩ :=
  List.forall_iff_forall_mem.mp
    ⟨two_sub main_v9 main_v10 (by decide), two_sub main_v10 main_v11 (by decide), two_sub main_v11 main_v12 (by decide)⟩

theorem hmain (κ : GSem nD τ sig → ℕ) (d : Dev nD) :
    iprop((K (F := F)).ctx EH (P (args m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hh, Hts, -⟩, -⟩
  iapply (StableHlo.wp_seq 𝒱 none Set.univ d _ _ opsA opsA_sub (List.forall_iff_forall_mem.mp (StableHlo.forall_fresh_of_map rfl)) (V0 m d)) $$ [Hb Hh]
  · isplitl [Hb]; · iexact Hb
    unfold Held; iexact Hh
  iintro ⟨Hb, Hh⟩
  ihave Hh' := (show (held (SparseCore.T d) (allNames.map ⟨fun r => (Proc.tc : Proc τ).devRef r, Proc.devRef_injective _⟩) (after opsA (V0 m d)) : sProp 𝕄)
    ⊢ iprop(Held d callNames (V1 m d) ∗ Held d restNames (V1 m d)) from Entails.of_eq (Held_split d (V1 m d))) $$ Hh
  icases Hh' with ⟨Hc, Hr⟩
  ihave Hc' := (deal m d) $$ Hc
  icases Hc' with ⟨Hc, H3⟩
  rw [wp_bind]
  iapply ((K (F := F)).wp_run (D (F := F)) 𝒱 (EH := EH) (P := P (args m)) κ d 0) $$ [Hst Hc Hb Hr H3 Hts]
  isplitr; · iexact Hctx
  isplitl [Hst]; · iexact Hst
  isplitl [Hc]; · iexact Hc
  iintro ⟨Hst, Hdn⟩
  ihave Hdn' := (Entails.of_eq ((dn_eq (args m) d).trans (out_cores d (args m d).res).symm)) $$ Hdn
  iapply (StableHlo.wp_seq 𝒱 none Set.univ d _ _ opsB opsB_sub (List.forall_iff_forall_mem.mp (StableHlo.forall_fresh_of_map rfl)) (V2 m d)) $$ [Hb Hdn' Hr]
  · isplitl [Hb]; · iexact Hb
    iapply (show iprop((loc9 d ↦{fullShare} (args m d).res) ∗ Held d restNames (V1 m d)) ⊢ (held (SparseCore.T d) ((insert main_v9 restNames).map ⟨fun r => (Proc.tc : Proc τ).devRef r, Proc.devRef_injective _⟩) (V2 m d) : sProp 𝕄)
      from Entails.of_eq (Held_back m d).symm)
    isplitl [Hdn']; · iexact Hdn'
    iexact Hr
  iintro ⟨Hb, Hh⟩
  rw [wp_ret]; imodintro
  isplitl [Hst]; · iexact Hst
  isplitr [Hb Hts]
  · unfold FIN Held
    isplitl [Hh]; · iexact Hh
    iexact H3
  isplitl [Hb] <;> iassumption

/-! ## What the claim reads of the final state -/

/-- The arguments as they were, the result arranged from what the tiles leave. -/
def fq (d : Dev nD) (s : Phys nD τ sig (Elt F)) : Prop :=
  s.mem.mem ((SparseCore.T d).loc main_arg0) = m ((SparseCore.T d).loc main_arg0) ∧ s.mem.mem ((SparseCore.T d).loc main_arg1) = m ((SparseCore.T d).loc main_arg1)
    ∧ s.mem.mem ((SparseCore.T d).loc main_arg2) = m ((SparseCore.T d).loc main_arg2) ∧ s.mem.mem ((SparseCore.T d).loc main_arg3) = m ((SparseCore.T d).loc main_arg3)
    ∧ s.mem.mem ((SparseCore.T d).loc main_v12) = arrOut (args m d).res

/-- A place held is read. -/
theorem reads {ℓ : Loc nD τ sig} {q : PosShare TreeShare} {f : Buf (Elt F) ℓ} {s : Phys nD τ sig (Elt F)} :
    (iprop((ℓ ↦{q} f) ∗ SI s) : sProp 𝕄) ⊢ iprop(⌜s.mem.mem ℓ = f⌝ ∗ SI s) := by
  iintro ⟨H, HS⟩
  ihave H' := (persistent_entails_right (SI_pointsTo_agree (st := s) (ℓ := ℓ) (I := Finset.univ) (q := q) (f := f))) $$ [HS H]
  · isplitl [HS] <;> iassumption
  icases H' with ⟨%h, HS, -⟩
  isplitr; · ipureintro; exact funext fun j => h j (Finset.mem_univ j)
  iexact HS

theorem hfin (d : Dev nD) (s : Phys nD τ sig (Elt F)) : iprop(FIN m d ∗ SI s) ⊢ (⌜fq m d s⌝ : sProp 𝕄) := by
  unfold FIN
  iintro ⟨⟨Hh, H3⟩, HS⟩
  ihave Hh' := (Held_end d (V3 m d)) $$ Hh
  icases Hh' with ⟨Ha, Hb, Hc, Ho⟩
  ihave R := reads $$ [Ha HS]
  · isplitl [Ha] <;> iassumption
  icases R with ⟨%h0, HS⟩
  ihave R := reads $$ [Hb HS]
  · isplitl [Hb] <;> iassumption
  icases R with ⟨%h1, HS⟩
  ihave R := reads $$ [Hc HS]
  · isplitl [Hc] <;> iassumption
  icases R with ⟨%h2, HS⟩
  ihave R := reads $$ [H3 HS]
  · isplitl [H3] <;> iassumption
  icases R with ⟨%h3, HS⟩
  ihave R := reads $$ [Ho HS]
  · isplitl [Ho] <;> iassumption
  icases R with ⟨%h4, -⟩
  ipureintro
  exact ⟨h0.trans (V3_keep m d main_arg0 (by decide) (by decide) (by decide)), h1.trans (V3_keep m d main_arg1 (by decide) (by decide) (by decide)),
    h2.trans (V3_keep m d main_arg2 (by decide) (by decide) (by decide)), h3.trans (args_tab m d), h4.trans (V3_out m d)⟩

/-- The program's run, from spans all in range. -/
theorem run_main [∀ e, Nonempty (Elt F e)] (hA : ∀ d, Spans (args m d).lr) :
    θ_run (Cert.Kernel.defs (F := F)) (Cert.Kernel.threads (F := F)) ⟨m, fun _ => 0, ρ⟩ fun r =>
      (∀ d : Dev nD, r.2.mem ((SparseCore.T d).loc main_arg0) = m ((SparseCore.T d).loc main_arg0) ∧ r.2.mem ((SparseCore.T d).loc main_arg1) = m ((SparseCore.T d).loc main_arg1)
        ∧ r.2.mem ((SparseCore.T d).loc main_arg2) = m ((SparseCore.T d).loc main_arg2) ∧ r.2.mem ((SparseCore.T d).loc main_arg3) = m ((SparseCore.T d).loc main_arg3)
        ∧ r.2.mem ((SparseCore.T d).loc main_v12) = arrOut (args m d).res) ∧ r.2.sem = fun _ => 0 :=
  SparseCore.Cfg.θ_run_sc_quiescent (K := K (F := F)) (D := D (F := F)) (𝒱 := 𝒱) (EH := EH) (P := P (args m)) (A := ∅) launchFacts v₀
    (fun q hq => match q with | 0 => nomatch hq)
    (fun q _ => match q with | 0 => tileObl (args m) hA)
    (fun q _ => match q with | 0 => SparseCore.Cfg.VecSplit.of_plain (vecSplit (args m)))
    m ρ main (fun _ => iprop(emp)) (FIN m) (u₀ (F := F)) (sep_elim_left.trans (hu₀ (args m))) (hmain m ρ) (fq m) (hfin m) _ (fun _ h hz => ⟨h, hz⟩)

end Cert.Proof.Span

end
-- ==== Proof.Span.Claims.lean ====
/-
  From the claims' precondition to the spans' range; the frames.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_spans_in_range
public import proofs.«01_k».proof.Proof.Span.Host
public import Idealize.ShloMosaic.Lib.ReduceAll

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

local notation "𝕄" => MT nD τ sig (HIx 1) (Elt F) ℕ UU ℕ

attribute [local instance] Cert.KernelIdeal.Gen.facts Cert.ReferenceIdeal.Gen.facts Cert.Pre_spans_in_range.Gen.facts

/-! ## The precondition -/

/-- The precondition bounds every word of the spans. -/
theorem spans_of_pre {x : Vec F S8x4096x2 .i32} {y z : Vec F S8x4096x64 .i32} {t : Vec F S15 .f32}
    (h : Cert.Pre_spans_in_range.fn (F := F) x y z t = fun _ => 1#1) (i : S8x4096x2.Idx) : (x i : BitVec 32).toNat < 4096 := by
  haveI : Subsingleton Cert.Pre_spans_in_range.S_.Idx := ⟨fun a b => funext fun i => i.elim0⟩
  have e := Host.reduce_andi_all _ _ _ _ (fun i => i.elim0) (congrFun h fun i => i.elim0) i
  obtain ⟨h1, h2⟩ := IntOp.andi_eq_one.1 e
  have h1 : (0#32).toInt ≤ (x i : BitVec 32).toInt := IntOp.cmpi_sge.1 h1
  have h2 : (x i : BitVec 32).toInt < (4096#32).toInt := IntOp.cmpi_slt.1 h2
  rw [show (0#32 : BitVec 32).toInt = 0 by decide] at h1
  rw [show (4096#32 : BitVec 32).toInt = 4096 by decide] at h2
  rw [BitVec.toInt_eq_toNat_cond] at h1 h2
  split_ifs at h1 h2 <;> omega

/-- So do the words the host arranges for the tiles. -/
theorem args_spans {m : (ℓ : Loc nD τ sig) → Buf (Elt F) ℓ}
    (h : ∀ d : Dev nD, Cert.Pre_spans_in_range.fn (F := F) (m ((SparseCore.T d).loc main_arg0)) (m ((SparseCore.T d).loc main_arg1))
      (m ((SparseCore.T d).loc main_arg2)) (m ((SparseCore.T d).loc main_arg3)) = fun _ => 1#1) (d : Dev nD) : Spans (args m d).lr := by
  rw [args_lr]
  intro j
  unfold arrSpan transpose shapeCast
  exact spans_of_pre (h d) _

/-! ## The frames -/

/-- The kernel ends without fault, its arguments unchanged, its counters at zero. -/
theorem frame_kernel : Cert.quiescent_Kernel := fun m ρ h =>
  (θ_run Cert.Kernel.defs _ _).mono (fun _ r => ⟨fun c => ⟨(r.1 c).1, (r.1 c).2.1, (r.1 c).2.2.1, (r.1 c).2.2.2.1⟩, r.2⟩)
    (run_main (F := Bits) m ρ (args_spans h))

/-- The idealized program is the program, read over the extended reals. -/
theorem frame_kernelIdeal : Cert.quiescent_KernelIdeal := fun m ρ h =>
  (θ_run Cert.KernelIdeal.defs _ _).mono (fun _ r => ⟨fun c => ⟨(r.1 c).1, (r.1 c).2.1, (r.1 c).2.2.1, (r.1 c).2.2.2.1⟩, r.2⟩)
    (run_main (F := Ideal) m ρ (args_spans h))

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_spans_in_range := fun m ρ _ => frame_reference m ρ trivial

end Cert.Proof.Span

end
-- ==== Proof.Span.Ref.lean ====
/-
  What the reference computes, entry by entry.

  The reference's composed term is cut into its named steps, and each step is read at an index: the neighbour clipped, the
  two ends gathered at it, the distance, its bucket, the table's entry, and head 1 written over zeros.
-/
module

public import proofs.«01_k».proof.Proof.Gen.ReferenceIdeal.Run
public import proofs.«01_k».proof.Proof.Span.Value
public import Idealize.ShloMosaic.Lib.ReduceAll
public import Idealize.ShloMosaic.Lib.Pipeline.Value
public import Idealize.ShloMosaic.Lib.Routing.OpsSet
public import Idealize.ShloMosaic.Lib.Routing.OpsPair

@[expose] public section

noncomputable section

namespace Cert.Proof.Span.Ref

open Cert.ReferenceIdeal Cert.ReferenceIdeal.Gen Idealize.ShloMosaic.ValueIdx
open Idealize.ShloMosaic hiding ix1 ix2 ix3 ix4 ix5

attribute [local instance] Cert.ReferenceIdeal.Gen.facts

variable {F : FTy → Type} [FloatOps F]

/-! ## The steps -/

/-- One word everywhere. -/
def every (n : BitVec 32) : IVec S8x4096x64 32 := broadcastInDim S8x4096x64 ![] bcast_S_S8x4096x64 (constantI S_ 32 n)
/-- The neighbours, clipped. -/
def nbr (x1 : IVec S8x4096x64 32) : IVec S8x4096x64 32 := minsi (every 4095#32) (maxsi (every 0#32) x1)
/-- Negative indices counted from the end `n`. -/
def wrapped (n : BitVec 32) (x : IVec S8x4096x64 32) : IVec S8x4096x64 32 := select (cmpi .slt x (every 0#32)) (addi x (every n)) x
/-- The rows to gather. -/
def rows (x1 : IVec S8x4096x64 32) : IVec S8x4096x64x1 32 := shapeCast S8x4096x64x1 (wrapped 4096#32 (nbr x1)) shapeCasts_S8x4096x64_S8x4096x64x1
/-- Whether each row is one of the array's. -/
def inRange (x1 : IVec S8x4096x64 32) : IVec S8x4096x64 1 :=
  Host.reduce IntOp.andi
    (andi (cmpi .sge (rows x1) (broadcastInDim S8x4096x64x1 ![] bcast_S_S8x4096x64x1 (constantI S_ 32 0#32)))
      (cmpi .sle (rows x1) (broadcastInDim S8x4096x64x1 ![0, 1, 2, 3] bcast_S1x1x1x1_S8x4096x64x1_0_1_2_3
        (broadcastInDim S1x1x1x1 ![3] bcast_S1_S1x1x1x1_3 (constantI S1 32 4095#32)))))
    (constantI S_ 1 1#1) reducesTo_S8x4096x64x1_S8x4096x64_d3 h_S_
/-- A word per position, for every neighbour. -/
def spread (y : IVec S8x4096 32) : IVec S8x4096x64 32 :=
  broadcastInDim S8x4096x64 ![0, 1, 2] bcast_S8x4096x1_S8x4096x64_0_1_2 (broadcastInDim S8x4096x1 ![0, 1] bcast_S8x4096_S8x4096x1_0_1 y)
/-- The left and the right ends. -/
def leftEnd (x0 : IVec S8x4096x2 32) : IVec S8x4096 32 :=
  shapeCast S8x4096 (extractStridedSlice S8x4096x1 ![0, 0, 0] x0 slices_S8x4096x2_S8x4096x1_0_0_0) shapeCasts_S8x4096x1_S8x4096
def rightEnd (x0 : IVec S8x4096x2 32) : IVec S8x4096 32 :=
  shapeCast S8x4096 (extractStridedSlice S8x4096x1 ![0, 0, 1] x0 slices_S8x4096x2_S8x4096x1_0_0_1) shapeCasts_S8x4096x1_S8x4096
/-- The neighbours' ends. -/
def atNbr (y : IVec S8x4096 32) (x1 : IVec S8x4096x64 32) : IVec S8x4096x64 32 :=
  select (inRange x1) (Host.gather gather_S8x4096x64_S8x4096x64x1_S8x4096x64_n_1_02_02_1_3_111 (spread y) (rows x1)) (every 2147483648#32)
/-- How far apart an end and its neighbours' are. -/
def apart (y : IVec S8x4096 32) (x1 : IVec S8x4096x64 32) : IVec S8x4096x64 32 := absi (subi (spread y) (atNbr y x1))
/-- The larger of the two. -/
def far (x0 : IVec S8x4096x2 32) (x1 : IVec S8x4096x64 32) : IVec S8x4096x64 32 := maxsi (apart (leftEnd x0) x1) (apart (rightEnd x0) x1)
/-- Which of the fifteen boundaries lie below. -/
def below (x : IVec S8x4096x64 32) : IVec S8x4096x64x15 32 :=
  extui 32 (cmpi .slt
    (broadcastInDim S8x4096x64x15 ![0, 1, 2, 3] bcast_S1x1x1x15_S8x4096x64x15_0_1_2_3
      (broadcastInDim S1x1x1x15 ![3] bcast_S15_S1x1x1x15_3 (fun i => lit0 (S15.rowMajor i))))
    (broadcastInDim S8x4096x64x15 ![0, 1, 2, 3] bcast_S8x4096x64x1_S8x4096x64x15_0_1_2_3
      (broadcastInDim S8x4096x64x1 ![0, 1, 2] bcast_S8x4096x64_S8x4096x64x1_0_1_2 x))) natLt_1_32
/-- How many. -/
def count (x : IVec S8x4096x64 32) : IVec S8x4096x64 32 :=
  Host.reduce IntOp.addi (below x) (constantI S_ 32 0#32) reducesTo_S8x4096x64x15_S8x4096x64_d3 h_S_
/-- The buckets. -/
def buckets (x : IVec S8x4096x64 32) : IVec S8x4096x64x1 32 :=
  broadcastInDim S8x4096x64x1 ![0, 1, 2] bcast_S8x4096x64_S8x4096x64x1_0_1_2 (wrapped 15#32 (minsi (every 14#32) (maxsi (every 0#32) (count x))))
/-- The biases, masked. -/
def biasOf (x0 : IVec S8x4096x2 32) (x1 x2 : IVec S8x4096x64 32) (x3 : FVec F S15 .f32) : FVec F S8x4096x64 .f32 :=
  mulf (mulf (Host.gather gather_S15_S8x4096x64x1_S8x4096x64_n_0_n_n_0_3_1 x3 (buckets (far x0 x1)))
      (broadcastInDim S8x4096x64 ![] bcast_S_S8x4096x64 (constant S_ .f32 0x3E4CCCCD#32)))
    (sitofp .f32 x2)
/-- The result. -/
def out (x0 : IVec S8x4096x2 32) (x1 x2 : IVec S8x4096x64 32) (x3 : FVec F S15 .f32) : FVec F S8x4096x16x64 .f32 :=
  Host.scatter scatter_S8x4096x16x64_S1_S8x4096x64_012_2_2_0 (fun _ b => b)
    (broadcastInDim S8x4096x16x64 ![] bcast_S_S8x4096x16x64 (constant S_ .f32 0x00000000#32))
    (broadcastInDim S1 ![] bcast_S_S1 (constantI S_ 32 1#32)) (biasOf x0 x1 x2 x3)

/-- The reference's result is these steps of its arguments. -/
theorem res_eq (m : (ℓ : Loc nD τ sig) → Buf (Elt F) ℓ) (c : Dev nD) :
    Cert.ReferenceIdeal.Value.res_out0 m c
      = out (m ((c.tc : Thread nD τ).loc main_arg0)) (m ((c.tc : Thread nD τ).loc main_arg1)) (m ((c.tc : Thread nD τ).loc main_arg2)) (m ((c.tc : Thread nD τ).loc main_arg3)) := rfl

/-! ## The steps read at an index -/

/-- A word that is not negative is not wrapped. -/
theorem wrapped_apply {n : BitVec 32} {x : IVec S8x4096x64 32} {j : S8x4096x64.Idx} (h : (x j).toNat < 2 ^ 31) : wrapped n x j = x j := by
  show (if IntOp.cmpi .slt (x j) 0#32 = 1 then IntOp.addi (x j) n else x j) = x j
  refine if_neg fun e => ?_
  have e := IntOp.cmpi_slt.1 e
  rw [BitVec.toInt_eq_toNat_cond, if_pos (by omega)] at e
  have : (0#32 : BitVec 32).toInt = 0 := by decide
  omega

/-- The rows gathered are the clipped neighbours, -/
theorem rows_apply (x1 : IVec S8x4096x64 32) (b : Fin 8) (p : Fin 4096) (k : Fin 64) (z : Fin 1) : rows x1 (ix4 b p k z) = clip (x1 (ix3 b p k)) := by
  unfold rows
  rw [shapeCast_apply _ _ (ix4 b p k z) (ix3 b p k) (by
    rw [rowMajor_val3 _ 262144 64 rfl rfl, rowMajor_val4 _ 262144 64 1 rfl rfl rfl]
    show b.val * 262144 + p.val * 64 + k.val = b.val * 262144 + p.val * 64 + k.val * 1 + z.val
    omega)]
  have e : nbr x1 (ix3 b p k) = clip (x1 (ix3 b p k)) := rfl
  rw [wrapped_apply (by rw [e]; have := clip_lt (x1 (ix3 b p k)); omega), e]

/-- which are below 4096, -/
theorem rows_lt (x1 : IVec S8x4096x64 32) (i : S8x4096x64x1.Idx) : (rows x1 i).toNat < 4096 := by
  have e : rows x1 i = clip (x1 (ix3 (i 0) (i 1) (i 2))) :=
    (congrArg (rows x1) (ValueIdx.eq_ix4 i)).trans (rows_apply x1 (i 0) (i 1) (i 2) (i 3))
  exact e ▸ clip_lt _

/-- so the range test always holds. -/
theorem inRange_apply (x1 : IVec S8x4096x64 32) (j : S8x4096x64.Idx) : inRange x1 j = 1#1 := by
  refine Host.reduce_andi_one _ _ _ _ _ rfl fun i => ?_
  have h := rows_lt x1 i
  have e : (rows x1 i).toInt = (rows x1 i).toNat := by rw [BitVec.toInt_eq_toNat_cond, if_pos (by omega)]
  refine IntOp.andi_eq_one.2 ⟨IntOp.cmpi_sge.2 ?_, IntOp.cmpi_sle.2 ?_⟩
  · show (0#32 : BitVec 32).toInt ≤ (rows x1 i).toInt
    have : (0#32 : BitVec 32).toInt = 0 := by decide
    omega
  · show (rows x1 i).toInt ≤ (4095#32 : BitVec 32).toInt
    have : (4095#32 : BitVec 32).toInt = 4095 := by decide
    omega

/-- A word spread over the neighbours is the position's. -/
theorem spread_apply (y : IVec S8x4096 32) (b : Fin 8) (p : Fin 4096) (k : Fin 64) : spread y (ix3 b p k) = y (ix2 b p) := by
  unfold spread broadcastInDim
  refine congrArg y (funext fun a => ?_)
  match a with
  | ⟨0, _⟩ => rfl
  | ⟨1, _⟩ => rfl

/-- The left end is the span's first word, -/
theorem leftEnd_apply (x0 : IVec S8x4096x2 32) (b : Fin 8) (p : Fin 4096) : leftEnd x0 (ix2 b p) = x0 (ix3 b p 0) := by
  unfold leftEnd
  rw [shapeCast_apply _ _ (ix2 b p) (ix3 b p 0) (by
    rw [rowMajor_val3 _ 4096 1 rfl rfl, rowMajor_val2 _ 4096 rfl]
    show b.val * 4096 + p.val * 1 + 0 = b.val * 4096 + p.val
    omega)]
  unfold extractStridedSlice
  refine congrArg x0 (funext fun a => Fin.ext ?_)
  match a with
  | ⟨0, _⟩ => exact Nat.zero_add _
  | ⟨1, _⟩ => exact Nat.zero_add _
  | ⟨2, _⟩ => rfl

/-- the right end its second. -/
theorem rightEnd_apply (x0 : IVec S8x4096x2 32) (b : Fin 8) (p : Fin 4096) : rightEnd x0 (ix2 b p) = x0 (ix3 b p 1) := by
  unfold rightEnd
  rw [shapeCast_apply _ _ (ix2 b p) (ix3 b p 0) (by
    rw [rowMajor_val3 _ 4096 1 rfl rfl, rowMajor_val2 _ 4096 rfl]
    show b.val * 4096 + p.val * 1 + 0 = b.val * 4096 + p.val
    omega)]
  unfold extractStridedSlice
  refine congrArg x0 (funext fun a => Fin.ext ?_)
  match a with
  | ⟨0, _⟩ => exact Nat.zero_add _
  | ⟨1, _⟩ => exact Nat.zero_add _
  | ⟨2, _⟩ => rfl

/-- The gather along the positions: batch and neighbour kept, the position looked up. -/
theorem gather_rows (y : IVec S8x4096x64 32) (idx : IVec S8x4096x64x1 32) (b : Fin 8) (p : Fin 4096) (k : Fin 64) (q : Fin 4096)
    (h : (idx (ix4 b p k 0)).toInt.toNat = q.val) :
    Host.gather gather_S8x4096x64_S8x4096x64x1_S8x4096x64_n_1_02_02_1_3_111 y idx (ix3 b p k) = y (ix3 b q k) := by
  unfold Host.gather
  refine congrArg y (funext fun a => Fin.ext ?_)
  generalize hd : gather_S8x4096x64_S8x4096x64x1_S8x4096x64_n_1_02_02_1_3_111 = d
  show d.start (ix3 b p k) idx a + d.batchCoord (ix3 b p k) a + d.offCoord (ix3 b p k) a = (ix3 b q k a).val
  subst hd
  match a with
  | ⟨0, _⟩ =>
    rw [GatherDims.start_batching _ _ _ _ (by decide +revert), GatherDims.offCoord_eq_zero _ _ _ (by decide +revert), Nat.zero_add, Nat.add_zero]
    rfl
  | ⟨2, _⟩ =>
    rw [GatherDims.start_batching _ _ _ _ (by decide +revert), GatherDims.offCoord_eq_zero _ _ _ (by decide +revert), Nat.zero_add, Nat.add_zero]
    rfl
  | ⟨1, _⟩ =>
    rw [GatherDims.batchCoord_eq_zero _ _ _ (by decide +revert), GatherDims.offCoord_eq_zero _ _ _ (by decide +revert), Nat.add_zero]
    unfold GatherDims.start
    rw [dif_pos (by decide +revert)]
    have e : ∀ c, GatherDims.siIdx gather_S8x4096x64_S8x4096x64x1_S8x4096x64_n_1_02_02_1_3_111 (ix3 b p k) c = ix4 b p k 0 := fun c => by
      funext a; refine Fin.ext ?_
      match a with
      | ⟨0, _⟩ => rfl
      | ⟨1, _⟩ => rfl
      | ⟨2, _⟩ => rfl
      | ⟨3, _⟩ => have := c.isLt; exact Nat.lt_one_iff.1 this
    rw [e, h]
    show min q.val (4096 - 1) = q.val
    omega

/-- The gather of the table. -/
theorem gather_tab (x : FVec F S15 .f32) (idx : IVec S8x4096x64x1 32) (b : Fin 8) (p : Fin 4096) (k : Fin 64) (q : Fin 15)
    (h : (idx (ix4 b p k 0)).toInt.toNat = q.val) :
    Host.gather gather_S15_S8x4096x64x1_S8x4096x64_n_0_n_n_0_3_1 x idx (ix3 b p k) = x (ix1 q) := by
  unfold Host.gather
  refine congrArg x (funext fun a => Fin.ext ?_)
  generalize hd : gather_S15_S8x4096x64x1_S8x4096x64_n_0_n_n_0_3_1 = d
  show d.start (ix3 b p k) idx a + d.batchCoord (ix3 b p k) a + d.offCoord (ix3 b p k) a = (ix1 q a).val
  subst hd
  match a with
  | ⟨0, _⟩ =>
    rw [GatherDims.batchCoord_eq_zero _ _ _ (by decide +revert), GatherDims.offCoord_eq_zero _ _ _ (by decide +revert), Nat.add_zero]
    unfold GatherDims.start
    rw [dif_pos (by decide +revert)]
    have e : ∀ c, GatherDims.siIdx gather_S15_S8x4096x64x1_S8x4096x64_n_0_n_n_0_3_1 (ix3 b p k) c = ix4 b p k 0 := fun c => by
      funext a; refine Fin.ext ?_
      match a with
      | ⟨0, _⟩ => rfl
      | ⟨1, _⟩ => rfl
      | ⟨2, _⟩ => rfl
      | ⟨3, _⟩ => have := c.isLt; exact Nat.lt_one_iff.1 this
    rw [e, h]
    show min q.val (15 - 1) = q.val
    omega

/-- A clipped neighbour as a position. -/
def posOf (n : BitVec 32) : Fin 4096 := ⟨(clip n).toNat, clip_lt n⟩

/-- The neighbour's end is the one at the clipped position. -/
theorem atNbr_apply (y : IVec S8x4096 32) (x1 : IVec S8x4096x64 32) (b : Fin 8) (p : Fin 4096) (k : Fin 64) :
    atNbr y x1 (ix3 b p k) = y (ix2 b (posOf (x1 (ix3 b p k)))) := by
  have e : atNbr y x1 (ix3 b p k) = (if inRange x1 (ix3 b p k) = 1#1
      then Host.gather gather_S8x4096x64_S8x4096x64x1_S8x4096x64_n_1_02_02_1_3_111 (spread y) (rows x1) (ix3 b p k)
      else every 2147483648#32 (ix3 b p k)) := rfl
  rw [e, if_pos (inRange_apply x1 _), gather_rows _ _ b p k (posOf (x1 (ix3 b p k))) ?_, spread_apply]
  rw [rows_apply, BitVec.toInt_eq_toNat_cond, if_pos (by have := clip_lt (x1 (ix3 b p k)); omega)]
  rfl

/-- The larger of the two ends' distances. -/
def gap (l r lj rj : BitVec 32) : BitVec 32 := IntOp.maxsi (IntOp.absi (IntOp.subi l lj)) (IntOp.absi (IntOp.subi r rj))

/-- Ends below 4096 lie less than 4096 apart. -/
theorem gap_lt {l r lj rj : BitVec 32} (hl : l.toNat < 4096) (hr : r.toNat < 4096) (hlj : lj.toNat < 4096) (hrj : rj.toNat < 4096) :
    (gap l r lj rj).toNat < 4096 := by
  unfold gap IntOp.maxsi
  split_ifs
  · exact abs_lt hl hlj
  · exact abs_lt hr hrj

/-- How far apart an end and its neighbour's are, at an index, -/
theorem apart_apply (y : IVec S8x4096 32) (x1 : IVec S8x4096x64 32) (b : Fin 8) (p : Fin 4096) (k : Fin 64) :
    apart y x1 (ix3 b p k) = IntOp.absi (IntOp.subi (y (ix2 b p)) (y (ix2 b (posOf (x1 (ix3 b p k)))))) := by
  rw [← atNbr_apply y x1 b p k, ← spread_apply y b p k]
  rfl

/-- and the larger of the two. -/
theorem far_apply (x0 : IVec S8x4096x2 32) (x1 : IVec S8x4096x64 32) (b : Fin 8) (p : Fin 4096) (k : Fin 64) :
    far x0 x1 (ix3 b p k) = gap (x0 (ix3 b p 0)) (x0 (ix3 b p 1)) (x0 (ix3 b (posOf (x1 (ix3 b p k))) 0)) (x0 (ix3 b (posOf (x1 (ix3 b p k))) 1)) := by
  have e : far x0 x1 (ix3 b p k) = IntOp.maxsi (apart (leftEnd x0) x1 (ix3 b p k)) (apart (rightEnd x0) x1 (ix3 b p k)) := rfl
  rw [e, apart_apply, apart_apply, leftEnd_apply, leftEnd_apply, rightEnd_apply, rightEnd_apply]
  rfl

/-- The count of one word's boundaries. -/
def countOf (d : BitVec 32) : BitVec 32 :=
  (Finset.univ : Finset (Fin 15)).fold IntOp.addi 0#32 fun i => (IntOp.cmpi .slt (lit0 i) d).setWidth 32

/-- Whether boundary `i` lies below the word, as 0 or 1. -/
theorem below_apply (x : IVec S8x4096x64 32) (b : Fin 8) (p : Fin 4096) (k : Fin 64) (i : Fin 15) :
    below x (ix4 b p k i) = (IntOp.cmpi .slt (lit0 i) (x (ix3 b p k))).setWidth 32 := by
  have e : S15.rowMajor (ix1 i) = i := Fin.ext (rowMajor_val1 _)
  have e1 : broadcastInDim S8x4096x64x15 ![0, 1, 2, 3] bcast_S1x1x1x15_S8x4096x64x15_0_1_2_3
      (broadcastInDim S1x1x1x15 ![3] bcast_S15_S1x1x1x15_3 (fun i => lit0 (S15.rowMajor i))) (ix4 b p k i) = lit0 i := by
    refine Eq.trans ?_ (congrArg lit0 e)
    unfold broadcastInDim
    refine congrArg (fun i => lit0 (S15.rowMajor i)) (funext fun a => ?_)
    match a with
    | ⟨0, _⟩ => rfl
  have e2 : broadcastInDim S8x4096x64x15 ![0, 1, 2, 3] bcast_S8x4096x64x1_S8x4096x64x15_0_1_2_3
      (broadcastInDim S8x4096x64x1 ![0, 1, 2] bcast_S8x4096x64_S8x4096x64x1_0_1_2 x) (ix4 b p k i) = x (ix3 b p k) := by
    unfold broadcastInDim
    refine congrArg x (funext fun a => ?_)
    match a with
    | ⟨0, _⟩ => rfl
    | ⟨1, _⟩ => rfl
    | ⟨2, _⟩ => rfl
  rw [← e2]
  conv_rhs => rw [← e1]
  rfl

instance : Std.Commutative (IntOp.addi (w := 32)) := ⟨fun a b => BitVec.add_comm a b⟩
instance : Std.Associative (IntOp.addi (w := 32)) := ⟨fun a b c => BitVec.add_assoc a b c⟩

/-- The count at an index is the word's. -/
theorem count_apply (x : IVec S8x4096x64 32) (b : Fin 8) (p : Fin 4096) (k : Fin 64) : count x (ix3 b p k) = countOf (x (ix3 b p k)) := by
  have hr : S8x4096x64x15.Reduces [3] S8x4096x64 := by decide
  unfold count countOf
  rw [Host.reduce_eq_fold_single IntOp.addi _ _ _ hr h_S_]
  refine Finset.fold_congr fun (i : Fin 15) _ => ?_
  have e : hr.lift (ix3 b p k) i = ix4 b p k i := by
    funext a; refine Fin.ext ?_
    match a with
    | ⟨0, _⟩ => rfl
    | ⟨1, _⟩ => rfl
    | ⟨2, _⟩ => rfl
    | ⟨3, _⟩ => rfl
  show below x (hr.lift (ix3 b p k) i) = _
  rw [e, below_apply]

/-! ## The bucket -/

/-- The count, wrapped and clamped as the table's index. -/
def slot (n : BitVec 32) : BitVec 32 :=
  let c := IntOp.minsi 14#32 (IntOp.maxsi 0#32 n)
  if IntOp.cmpi .slt c 0#32 = 1#1 then IntOp.addi c 15#32 else c

/-- The sum of the fifteen, written out. -/
theorem countOf_eq (d : BitVec 32) :
    countOf d = (List.ofFn fun i : Fin 15 => (IntOp.cmpi .slt (lit0 i) d).setWidth 32).foldr IntOp.addi 0#32 := by
  unfold countOf
  rw [Finset.fold, Fin.univ_val_map, Multiset.coe_fold_r]

/-- Each distance below 4096: the reference's slot is the kernel's bucket of the distance clamped to 255. -/
theorem slot_small : ∀ n : Fin 4096,
    (slot ((List.ofFn fun i : Fin 15 => (IntOp.cmpi .slt (lit0 i) (BitVec.ofNat 32 n.val)).setWidth 32).foldr IntOp.addi 0#32)).toInt.toNat
      = (bucket (BitVec.ofNat 32 (min n.val 255))).toNat := by
  decide +kernel

/-- The same for a distance as a word. -/
theorem slot_eq {d : BitVec 32} (h : d.toNat < 4096) : (slot (countOf d)).toInt.toNat = (bucket (IntOp.minsi d 255#32)).toNat := by
  have e : d = BitVec.ofNat 32 d.toNat := BitVec.eq_of_toNat_eq (by rw [BitVec.toNat_ofNat, Nat.mod_eq_of_lt (by omega)])
  have e' : IntOp.minsi d 255#32 = BitVec.ofNat 32 (min d.toNat 255) := by
    have h1 : d.toInt = d.toNat := by rw [BitVec.toInt_eq_toNat_cond, if_pos (by omega)]
    have h2 : (255#32 : BitVec 32).toInt = 255 := by decide
    refine BitVec.eq_of_toNat_eq ?_
    rw [BitVec.toNat_ofNat, Nat.mod_eq_of_lt (by omega)]
    unfold IntOp.minsi
    simp only [BitVec.slt_eq_decide, decide_eq_true_eq, h1, h2]
    split_ifs
    · omega
    · show 255 = _; omega
  rw [e', countOf_eq, ← slot_small ⟨d.toNat, h⟩]
  show _ = (slot ((List.ofFn fun i : Fin 15 => (IntOp.cmpi .slt (lit0 i) (BitVec.ofNat 32 d.toNat)).setWidth 32).foldr IntOp.addi 0#32)).toInt.toNat
  rw [← e]

/-- The table's index at an index is the word's slot. -/
theorem buckets_apply (x : IVec S8x4096x64 32) (b : Fin 8) (p : Fin 4096) (k : Fin 64) : buckets x (ix4 b p k 0) = slot (countOf (x (ix3 b p k))) := by
  have e : buckets x (ix4 b p k 0) = wrapped 15#32 (minsi (every 14#32) (maxsi (every 0#32) (count x))) (ix3 b p k) := by
    unfold buckets broadcastInDim
    refine congrArg (wrapped 15#32 _) (funext fun a => ?_)
    match a with
    | ⟨0, _⟩ => rfl
    | ⟨1, _⟩ => rfl
    | ⟨2, _⟩ => rfl
  rw [e, ← count_apply]
  rfl

/-! ## The result -/

/-- One neighbour's bias, masked, given its bucket. -/
theorem biasOf_apply (x0 : IVec S8x4096x2 32) (x1 x2 : IVec S8x4096x64 32) (x3 : FVec F S15 .f32) (b : Fin 8) (p : Fin 4096) (k : Fin 64) (q : Fin 15)
    (hq : (slot (countOf (gap (x0 (ix3 b p 0)) (x0 (ix3 b p 1)) (x0 (ix3 b (posOf (x1 (ix3 b p k))) 0)) (x0 (ix3 b (posOf (x1 (ix3 b p k))) 1))))).toInt.toNat = q.val) :
    biasOf x0 x1 x2 x3 (ix3 b p k)
      = FloatOps.mulf (FloatOps.mulf (x3 (ix1 q)) (Scalar.ofBits .f32 0x3E4CCCCD#32)) (FloatOps.sitofp .f32 (x2 (ix3 b p k))) := by
  rw [← gather_tab x3 (buckets (far x0 x1)) b p k q (by rw [buckets_apply, far_apply]; exact hq)]
  rfl

/-- Head 1 holds the biases and the other heads zero. -/
theorem out_apply (x0 : IVec S8x4096x2 32) (x1 x2 : IVec S8x4096x64 32) (x3 : FVec F S15 .f32) (b : Fin 8) (p : Fin 4096) (h : Fin 16) (k : Fin 64) :
    out x0 x1 x2 x3 (ix4 b p h k) = if h.val = 1 then biasOf x0 x1 x2 x3 (ix3 b p k) else Scalar.ofBits .f32 0x00000000#32 := by
  have key : ∀ j : S8x4096x64.Idx, (scatter_S8x4096x16x64_S1_S8x4096x64_012_2_2_0).resultIdx? j (broadcastInDim S1 ![] bcast_S_S1 (constantI S_ 32 1#32)) = some (ix4 b p h k)
      ↔ (j 0).val = b.val ∧ (j 1).val = p.val ∧ h.val = 1 ∧ (j 2).val = k.val := fun j => by
    rw [Routing.resultIdx?_eq_some]
    constructor
    · intro e
      have e0 := e 0; have e1 := e 1; have e2 := e 2; have e3 := e 3
      change (0 : Int) + ((j 0).val : Int) = (b.val : Int) at e0
      change (0 : Int) + ((j 1).val : Int) = (p.val : Int) at e1
      change (1 : Int) + ((0 : Nat) : Int) = (h.val : Int) at e2
      change (0 : Int) + ((j 2).val : Int) = (k.val : Int) at e3
      omega
    · rintro ⟨h0, h1, h2, h3⟩ a
      match a with
      | ⟨0, _⟩ => show (0 : Int) + ((j 0).val : Int) = (b.val : Int); omega
      | ⟨1, _⟩ => show (0 : Int) + ((j 1).val : Int) = (p.val : Int); omega
      | ⟨2, _⟩ => show (1 : Int) + ((0 : Nat) : Int) = (h.val : Int); omega
      | ⟨3, _⟩ => show (0 : Int) + ((j 2).val : Int) = (k.val : Int); omega
  unfold out
  by_cases hh : h.val = 1
  · rw [if_pos hh]
    refine Routing.scatter_set_hit _ _ _ _ _ _ (fun j hj => ?_) (ix3 b p k) ((key _).2 ⟨rfl, rfl, hh, rfl⟩)
    obtain ⟨h0, h1, -, h2⟩ := (key j).1 hj
    refine congrArg _ (funext fun a => Fin.ext ?_)
    match a with
    | ⟨0, _⟩ => exact h0
    | ⟨1, _⟩ => exact h1
    | ⟨2, _⟩ => exact h2
  · rw [if_neg hh]
    exact Routing.scatter_set_miss _ _ _ _ _ fun j hj => hh ((key j).1 hj).2.2.1

end Cert.Proof.Span.Ref

end
-- ==== Proof.Span.Algebra.lean ====
/-
  The kernel's result is the reference's: the arrangements read at an index, the two results compared entry by entry, and
  the value claim.
-/
module

public import proofs.«01_k».proof.Proof.Span.Claims
public import proofs.«01_k».proof.Proof.Span.Ref
public import Idealize.ShloMosaic.Lib.ValueIdxRank6

@[expose] public section

noncomputable section

namespace Cert.Proof.Span

open Cert.Kernel Cert.Kernel.Gen
open Idealize.ShloMosaic hiding ix1 ix2 ix3 ix4 ix5
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel.Gen.facts

variable {F : FTy → Type} [FloatOps F]

attribute [local instance] Cert.KernelIdeal.Gen.facts Cert.ReferenceIdeal.Gen.facts Cert.Pre_spans_in_range.Gen.facts

/-! ## The arrangements at an index -/

/-- Position `ln` of column `tc`. -/
def posAt (tc : Fin 32) (ln : Fin 128) : Fin 4096 := ⟨128 * tc.val + ln.val, by omega⟩
/-- Neighbour `kr` of block `kb`. -/
def nbAt (kb kr : Fin 8) : Fin 64 := ⟨8 * kb.val + kr.val, by omega⟩

/-- End `e` of the span at a position lies in the position's column and lane. -/
theorem arrSpan_apply (x : Vec F S8x4096x2 .i32) (b : Fin 8) (tc : Fin 32) (e : Fin 2) (ln : Fin 128) :
    arrSpan x (ix4 b tc e ln) = x (ix3 b (posAt tc ln) e) := by
  unfold arrSpan
  rw [transpose_apply _ _ _ (ix4 b tc e ln) (ix4 b e tc ln) (fun a => by match a with | ⟨0, _⟩ => rfl | ⟨1, _⟩ => rfl | ⟨2, _⟩ => rfl | ⟨3, _⟩ => rfl),
    shapeCast_apply _ _ (ix4 b e tc ln) (ix3 b e (posAt tc ln)) (by
      rw [rowMajor_val3 _ 8192 4096 rfl rfl, rowMajor_val4 _ 8192 4096 128 rfl rfl rfl]
      show b.val * 8192 + e.val * 4096 + (128 * tc.val + ln.val) = b.val * 8192 + e.val * 4096 + tc.val * 128 + ln.val
      omega),
    transpose_apply _ _ _ (ix3 b e (posAt tc ln)) (ix3 b (posAt tc ln) e) (fun a => by match a with | ⟨0, _⟩ => rfl | ⟨1, _⟩ => rfl | ⟨2, _⟩ => rfl)]

/-- A neighbour of a position lies in its block and row, in the position's column and lane. -/
theorem arrIds_apply (x : Vec F S8x4096x64 .i32) (b kb : Fin 8) (tc : Fin 32) (kr : Fin 8) (ln : Fin 128) :
    arrIds x (ix5 b kb tc kr ln) = x (ix3 b (posAt tc ln) (nbAt kb kr)) := by
  unfold arrIds
  rw [transpose_apply _ _ _ (ix5 b kb tc kr ln) (ix5 b kb kr tc ln)
      (fun a => by match a with | ⟨0, _⟩ => rfl | ⟨1, _⟩ => rfl | ⟨2, _⟩ => rfl | ⟨3, _⟩ => rfl | ⟨4, _⟩ => rfl),
    shapeCast_apply _ _ (ix5 b kb kr tc ln) (ix3 b (nbAt kb kr) (posAt tc ln)) (by
      rw [rowMajor_val3 _ 262144 4096 rfl rfl, rowMajor_val5 _ 262144 32768 4096 128 rfl rfl rfl rfl]
      show b.val * 262144 + (8 * kb.val + kr.val) * 4096 + (128 * tc.val + ln.val) = b.val * 262144 + kb.val * 32768 + kr.val * 4096 + tc.val * 128 + ln.val
      omega),
    transpose_apply _ _ _ (ix3 b (nbAt kb kr) (posAt tc ln)) (ix3 b (posAt tc ln) (nbAt kb kr)) (fun a => by match a with | ⟨0, _⟩ => rfl | ⟨1, _⟩ => rfl | ⟨2, _⟩ => rfl)]

/-- Row `kb` of head `h`. -/
def rowAt (h : Fin 16) (kb : Fin 8) : Fin 128 := ⟨8 * h.val + kb.val, by omega⟩

/-- A head's entry for a position and a neighbour comes from the head's row of the neighbour's block. -/
theorem arrOut_apply (y : Vec F S8x128x32x1024 .f32) (b : Fin 8) (tc : Fin 32) (ln : Fin 128) (h : Fin 16) (kb kr : Fin 8) :
    arrOut y (ix4 b (posAt tc ln) h (nbAt kb kr)) = y (ix4 b (rowAt h kb) tc (place kr ln)) := by
  unfold arrOut
  rw [shapeCast_apply _ _ (ix4 b (posAt tc ln) h (nbAt kb kr)) (ValueIdx.ix6 b tc ln h kb kr) (by
      rw [rowMajor_val4 _ 4194304 1024 64 rfl rfl rfl, rowMajor_val6 _ 4194304 131072 1024 64 8 rfl rfl rfl rfl rfl]
      show b.val * 4194304 + tc.val * 131072 + ln.val * 1024 + h.val * 64 + kb.val * 8 + kr.val
        = b.val * 4194304 + (128 * tc.val + ln.val) * 1024 + h.val * 64 + (8 * kb.val + kr.val)
      omega),
    transpose_apply _ _ _ (ValueIdx.ix6 b tc ln h kb kr) (ValueIdx.ix6 b h kb tc kr ln)
      (fun a => by match a with | ⟨0, _⟩ => rfl | ⟨1, _⟩ => rfl | ⟨2, _⟩ => rfl | ⟨3, _⟩ => rfl | ⟨4, _⟩ => rfl | ⟨5, _⟩ => rfl),
    shapeCast_apply _ _ (ValueIdx.ix6 b h kb tc kr ln) (ix4 b (rowAt h kb) tc (place kr ln)) (by
      rw [rowMajor_val4 _ 4194304 32768 1024 rfl rfl rfl, rowMajor_val6 _ 4194304 262144 32768 1024 128 rfl rfl rfl rfl rfl]
      show b.val * 4194304 + (8 * h.val + kb.val) * 32768 + tc.val * 1024 + (128 * kr.val + ln.val)
        = b.val * 4194304 + h.val * 262144 + kb.val * 32768 + tc.val * 1024 + kr.val * 128 + ln.val
      omega)]

/-! ## The two results -/

/-- The neighbour's column and lane are those of its clipped position. -/
theorem posAt_nb (n : BitVec 32) : posAt (colOf n) (laneOf n) = Ref.posOf n := Fin.ext (Nat.div_add_mod (clip n).toNat 128)

/-- Head 1's entry is the reference's bias. -/
theorem headOne_eq (x0 : Vec F S8x4096x2 .i32) (x1 x2 : Vec F S8x4096x64 .i32) (x3 : Vec F S15 .f32) (hx : ∀ i, (x0 i : BitVec 32).toNat < 4096)
    (b kb : Fin 8) (tc : Fin 32) (kr : Fin 8) (ln : Fin 128) :
    headOne (arrSpan x0) (arrIds x1) (arrIds x2) x3 b kb tc kr ln = Ref.biasOf x0 x1 x2 x3 (ix3 b (posAt tc ln) (nbAt kb kr)) := by
  unfold headOne
  simp only [arrSpan_apply, arrIds_apply, posAt_nb]
  generalize hp : posAt tc ln = p
  generalize hk : nbAt kb kr = k
  have hd := dist_lt (hx (ix3 b p 0)) (hx (ix3 b p 1)) (hx (ix3 b (Ref.posOf (x1 (ix3 b p k))) 0)) (hx (ix3 b (Ref.posOf (x1 (ix3 b p k))) 1))
  have hg := Ref.gap_lt (hx (ix3 b p 0)) (hx (ix3 b p 1)) (hx (ix3 b (Ref.posOf (x1 (ix3 b p k))) 0)) (hx (ix3 b (Ref.posOf (x1 (ix3 b p k))) 1))
  have hs := Ref.slot_eq hg
  have hb := bucket_lt ⟨_, hd⟩
  unfold lutAt
  rw [Ref.biasOf_apply x0 x1 x2 x3 b p k (Fin.ofNat 15 (bucket (BitVec.ofNat 32 (dist (x0 (ix3 b p 0)) (x0 (ix3 b p 1)) (x0 (ix3 b (Ref.posOf (x1 (ix3 b p k))) 0)) (x0 (ix3 b (Ref.posOf (x1 (ix3 b p k))) 1))).toNat)).toNat) ?_]
  rw [hs]
  show _ = _ % 15
  rw [Nat.mod_eq_of_lt hb]
  have e : ∀ w : BitVec 32, BitVec.ofNat 32 w.toNat = w := fun w => BitVec.eq_of_toNat_eq (by rw [BitVec.toNat_ofNat, Nat.mod_eq_of_lt w.isLt])
  rw [e]
  rfl

/-- What the tiles leave, arranged, is the reference's result. -/
theorem arrOut_eq (x0 : Vec F S8x4096x2 .i32) (x1 x2 : Vec F S8x4096x64 .i32) (x3 : Vec F S15 .f32) (hx : ∀ i, (x0 i : BitVec 32).toNat < 4096) :
    arrOut (result (arrSpan x0) (arrIds x1) (arrIds x2) x3) = Ref.out x0 x1 x2 x3 := by
  funext j
  obtain ⟨b, p, h, k, rfl⟩ : ∃ (b : Fin 8) (p : Fin 4096) (h : Fin 16) (k : Fin 64), j = ix4 b p h k := ⟨j 0, j 1, j 2, j 3, ValueIdx.eq_ix4 j⟩
  obtain ⟨tc, ln, rfl⟩ : ∃ tc ln, p = posAt tc ln :=
    ⟨⟨p.val / 128, by omega⟩, ⟨p.val % 128, by omega⟩, Fin.ext (Nat.div_add_mod p.val 128).symm⟩
  obtain ⟨kb, kr, rfl⟩ : ∃ kb kr, k = nbAt kb kr :=
    ⟨⟨k.val / 8, by omega⟩, ⟨k.val % 8, by omega⟩, Fin.ext (Nat.div_add_mod k.val 8).symm⟩
  rw [arrOut_apply, Ref.out_apply]
  unfold result
  have e : (rowAt h kb).val / 8 = h.val := by show (8 * h.val + kb.val) / 8 = _; omega
  show (if (rowAt h kb).val / 8 = 1 then headOne (arrSpan x0) (arrIds x1) (arrIds x2) x3 b (Fin.ofNat 8 (rowAt h kb).val) tc
    (Fin.ofNat 8 ((place kr ln).val / 128)) (Fin.ofNat 128 (place kr ln).val) else zeroF) = _
  rw [e]
  have e1 : Fin.ofNat 8 (rowAt h kb).val = kb := Fin.ext (by show (8 * h.val + kb.val) % 8 = _; omega)
  have e2 : Fin.ofNat 8 ((place kr ln).val / 128) = kr := Fin.ext (by show ((128 * kr.val + ln.val) / 128) % 8 = _; omega)
  have e3 : Fin.ofNat 128 (place kr ln).val = ln := Fin.ext (by show (128 * kr.val + ln.val) % 128 = _; omega)
  rw [e1, e2, e3, headOne_eq x0 x1 x2 x3 hx]
  rfl

/-- So is the result the host hands back, of the arguments it was given. -/
theorem res_args (m : (ℓ : Loc nD τ sig) → Buf (Elt F) ℓ) (d : Dev nD)
    (hx : ∀ i : S8x4096x2.Idx, ((m ((SparseCore.T d).loc main_arg0) : Vec F S8x4096x2 .i32) i : BitVec 32).toNat < 4096) :
    arrOut (args m d).res = Ref.out (m ((SparseCore.T d).loc main_arg0) : Vec F S8x4096x2 .i32) (m ((SparseCore.T d).loc main_arg1) : Vec F S8x4096x64 .i32)
      (m ((SparseCore.T d).loc main_arg2) : Vec F S8x4096x64 .i32) (m ((SparseCore.T d).loc main_arg3) : Vec F S15 .f32) := by
  unfold Args.res
  rw [args_lr, args_ni, args_nm, args_tab]
  exact arrOut_eq _ _ _ _ hx

/-! ## The value claim -/

/-- Over the extended reals, from the same arguments, kernel and reference end with the same result. -/
theorem algebraic : Cert.algebraic_KernelIdeal_ReferenceIdeal := fun m g m' g' hpre hagree => by
  refine ⟨fun c => arrOut (args (F := Ideal) m c).res,
    (θ_run Cert.KernelIdeal.defs _ _).mono (fun _ r c => ⟨(r.1 c).2.2.2.2, (r.1 c).1, (r.1 c).2.1, (r.1 c).2.2.1, (r.1 c).2.2.2.1⟩)
      (run_main (F := Ideal) m g (args_spans hpre)),
    (θ_run Cert.ReferenceIdeal.defs _ _).mono (fun r h c => ⟨(h c).1.trans ?_, (h c).2⟩) (Cert.ReferenceIdeal.Value.run (F := Ideal) m' g')⟩
  obtain ⟨a0, a1, a2, a3⟩ := hagree c
  refine (Ref.res_eq m' c).trans ?_
  rw [a0, a1, a2, a3]
  exact (res_args (F := Ideal) m c (spans_of_pre (hpre c))).symm

end Cert.Proof.Span

end
-- ==== Proof.lean ====
/-
  The certificate: every claim of Defs.lean, from the modules under Proof/Span/.
-/
module

public import proofs.«01_k».proof.Defs
public import proofs.«01_k».proof.Proof.Span.Algebra

@[expose] public section

noncomputable section

namespace Cert.Proof

/-- Every claim. -/
theorem claim : Cert.Claim :=
  ⟨Cert.Kernel.Gen.facts, Cert.KernelIdeal.Gen.facts, Cert.ReferenceIdeal.Gen.facts, Cert.Pre_spans_in_range.Gen.facts,
    Span.frame_kernel, Span.frame_kernelIdeal, Span.frame_reference, Span.frame_reference_pre,
    trivial, Span.algebraic⟩

end Cert.Proof

end
